-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_block [hPre_finite_block : Cert.Pre_finite_block.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2.1 = (fun _ => 1#1)
    ∧ (Cert.Pre_finite_block.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_block [hPre_finite_block : Cert.Pre_finite_block.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2.1 = (fun _ => 1#1)
    ∧ (Cert.Pre_finite_block.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_projection [hPre_finite_projection : Cert.Pre_finite_projection.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_projection [hPre_finite_projection : Cert.Pre_finite_projection.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_block [hKernel3Ideal : Cert.Kernel3Ideal.Facts] [hPre_finite_block : Cert.Pre_finite_block.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_block m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_block [hReference3Ideal : Cert.Reference3Ideal.Facts] [hPre_finite_block : Cert.Pre_finite_block.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_block m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_projection [hKernel4Ideal : Cert.Kernel4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_projection m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_projection [hReference4Ideal : Cert.Reference4Ideal.Facts] [hPre_finite_projection : Cert.Pre_finite_projection.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_projection m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v3)) (v3 : (c : Dev Cert.Kernel2Ideal.nD) → Buf (Elt Ideal) ((c.tc : Thread Cert.Kernel2Ideal.nD Cert.Kernel2Ideal.τ).loc Cert.Kernel2Ideal.main_v5)) (v4 : (c : Dev Cert.Kernel2Ideal.nD) → Buf (Elt Ideal) ((c.tc : Thread Cert.Kernel2Ideal.nD Cert.Kernel2Ideal.τ).loc Cert.Kernel2Ideal.main_v6)) (v5 : (c : Dev Cert.Kernel2Ideal.nD) → Buf (Elt Ideal) ((c.tc : Thread Cert.Kernel2Ideal.nD Cert.Kernel2Ideal.τ).loc Cert.Kernel2Ideal.main_v7_0)) (v6 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_v5) = v3 c
          ∧ r.2.mem ((c.tc : Thread Cert.Kernel2Ideal.nD Cert.Kernel2Ideal.τ).loc Cert.Kernel2Ideal.main_v6) = v4 c
          ∧ r.2.mem ((c.tc : Thread Cert.Kernel2Ideal.nD Cert.Kernel2Ideal.τ).loc Cert.Kernel2Ideal.main_v7_0) = v5 c
          ∧ r.2.mem ((c.tc : Thread Cert.Kernel2Ideal.nD Cert.Kernel2Ideal.τ).loc Cert.Kernel2Ideal.main_v7_1) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v109) = v2 c
          ∧ r.2.mem ((c.tc : Thread Cert.Reference2Ideal.nD Cert.Reference2Ideal.τ).loc Cert.Reference2Ideal.main_v111) = v3 c
          ∧ r.2.mem ((c.tc : Thread Cert.Reference2Ideal.nD Cert.Reference2Ideal.τ).loc Cert.Reference2Ideal.main_v113) = v4 c
          ∧ r.2.mem ((c.tc : Thread Cert.Reference2Ideal.nD Cert.Reference2Ideal.τ).loc Cert.Reference2Ideal.main_v114) = v5 c
          ∧ r.2.mem ((c.tc : Thread Cert.Reference2Ideal.nD Cert.Reference2Ideal.τ).loc Cert.Reference2Ideal.main_v91) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_block [hKernel3Ideal : Cert.Kernel3Ideal.Facts] [hReference3Ideal : Cert.Reference3Ideal.Facts] [hPre_finite_block : Cert.Pre_finite_block.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_block m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v14)) (v2 : (c : Dev Cert.Kernel3Ideal.nD) → Buf (Elt Ideal) ((c.tc : Thread Cert.Kernel3Ideal.nD Cert.Kernel3Ideal.τ).loc Cert.Kernel3Ideal.main_v15_0)) (v3 : (c : Dev Cert.Kernel3Ideal.nD) → Buf (Elt Ideal) ((c.tc : Thread Cert.Kernel3Ideal.nD Cert.Kernel3Ideal.τ).loc Cert.Kernel3Ideal.main_v15_1)) (v4 : (c : Dev Cert.Kernel3Ideal.nD) → Buf (Elt Ideal) ((c.tc : Thread Cert.Kernel3Ideal.nD Cert.Kernel3Ideal.τ).loc Cert.Kernel3Ideal.main_v16)) (v5 : (c : Dev Cert.Kernel3Ideal.nD) → Buf (Elt Ideal) ((c.tc : Thread Cert.Kernel3Ideal.nD Cert.Kernel3Ideal.τ).loc Cert.Kernel3Ideal.main_v17_1)) (v6 : (c : Dev Cert.Kernel3Ideal.nD) → Buf (Elt Ideal) ((c.tc : Thread Cert.Kernel3Ideal.nD Cert.Kernel3Ideal.τ).loc Cert.Kernel3Ideal.main_v19)) (v7 : (c : Dev Cert.Kernel3Ideal.nD) → Buf (Elt Ideal) ((c.tc : Thread Cert.Kernel3Ideal.nD Cert.Kernel3Ideal.τ).loc Cert.Kernel3Ideal.main_v21)) (v8 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v14) = v1 c
          ∧ r.2.mem ((c.tc : Thread Cert.Kernel3Ideal.nD Cert.Kernel3Ideal.τ).loc Cert.Kernel3Ideal.main_v15_0) = v2 c
          ∧ r.2.mem ((c.tc : Thread Cert.Kernel3Ideal.nD Cert.Kernel3Ideal.τ).loc Cert.Kernel3Ideal.main_v15_1) = v3 c
          ∧ r.2.mem ((c.tc : Thread Cert.Kernel3Ideal.nD Cert.Kernel3Ideal.τ).loc Cert.Kernel3Ideal.main_v16) = v4 c
          ∧ r.2.mem ((c.tc : Thread Cert.Kernel3Ideal.nD Cert.Kernel3Ideal.τ).loc Cert.Kernel3Ideal.main_v17_1) = v5 c
          ∧ r.2.mem ((c.tc : Thread Cert.Kernel3Ideal.nD Cert.Kernel3Ideal.τ).loc Cert.Kernel3Ideal.main_v19) = v6 c
          ∧ r.2.mem ((c.tc : Thread Cert.Kernel3Ideal.nD Cert.Kernel3Ideal.τ).loc Cert.Kernel3Ideal.main_v21) = v7 c
          ∧ r.2.mem ((c.tc : Thread Cert.Kernel3Ideal.nD Cert.Kernel3Ideal.τ).loc Cert.Kernel3Ideal.main_v22) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v169) = v0 c
          ∧ r.2.mem ((c.tc : Thread Cert.Reference3Ideal.nD Cert.Reference3Ideal.τ).loc Cert.Reference3Ideal.main_v170) = v1 c
          ∧ r.2.mem ((c.tc : Thread Cert.Reference3Ideal.nD Cert.Reference3Ideal.τ).loc Cert.Reference3Ideal.main_v171) = v2 c
          ∧ r.2.mem ((c.tc : Thread Cert.Reference3Ideal.nD Cert.Reference3Ideal.τ).loc Cert.Reference3Ideal.main_v148) = v3 c
          ∧ r.2.mem ((c.tc : Thread Cert.Reference3Ideal.nD Cert.Reference3Ideal.τ).loc Cert.Reference3Ideal.main_v172) = v4 c
          ∧ r.2.mem ((c.tc : Thread Cert.Reference3Ideal.nD Cert.Reference3Ideal.τ).loc Cert.Reference3Ideal.main_v125) = v5 c
          ∧ r.2.mem ((c.tc : Thread Cert.Reference3Ideal.nD Cert.Reference3Ideal.τ).loc Cert.Reference3Ideal.main_v174) = v6 c
          ∧ r.2.mem ((c.tc : Thread Cert.Reference3Ideal.nD Cert.Reference3Ideal.τ).loc Cert.Reference3Ideal.main_v176) = v7 c
          ∧ r.2.mem ((c.tc : Thread Cert.Reference3Ideal.nD Cert.Reference3Ideal.τ).loc Cert.Reference3Ideal.main_v177) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite_projection [hKernel4Ideal : Cert.Kernel4Ideal.Facts] [hReference4Ideal : Cert.Reference4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_projection m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v7)) (v2 : (c : Dev Cert.Kernel4Ideal.nD) → Buf (Elt Ideal) ((c.tc : Thread Cert.Kernel4Ideal.nD Cert.Kernel4Ideal.τ).loc Cert.Kernel4Ideal.main_v8)) (v3 : (c : Dev Cert.Kernel4Ideal.nD) → Buf (Elt Ideal) ((c.tc : Thread Cert.Kernel4Ideal.nD Cert.Kernel4Ideal.τ).loc Cert.Kernel4Ideal.main_v10)) (v4 : (c : Dev Cert.Kernel4Ideal.nD) → Buf (Elt Ideal) ((c.tc : Thread Cert.Kernel4Ideal.nD Cert.Kernel4Ideal.τ).loc Cert.Kernel4Ideal.main_v11_0)) (v5 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v7) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_v10) = v3 c
          ∧ r.2.mem ((c.tc : Thread Cert.Kernel4Ideal.nD Cert.Kernel4Ideal.τ).loc Cert.Kernel4Ideal.main_v11_0) = v4 c
          ∧ r.2.mem ((c.tc : Thread Cert.Kernel4Ideal.nD Cert.Kernel4Ideal.τ).loc Cert.Kernel4Ideal.main_v11_1) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v45) = v4 c
          ∧ r.2.mem ((c.tc : Thread Cert.Reference4Ideal.nD Cert.Reference4Ideal.τ).loc Cert.Reference4Ideal.main_v28) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v47) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v34) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_inputs : Cert.Pre_finite_inputs.Facts) (hPre_finite_block : Cert.Pre_finite_block.Facts) (hPre_finite_projection : Cert.Pre_finite_projection.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Kernel3Ideal_pre_finite_block (hKernel3Ideal := hKernel3Ideal) (hPre_finite_block := hPre_finite_block)
    ∧ quiescent_Reference3Ideal (hReference3Ideal := hReference3Ideal)
    ∧ quiescent_Reference3Ideal_pre_finite_block (hReference3Ideal := hReference3Ideal) (hPre_finite_block := hPre_finite_block)
    ∧ quiescent_Kernel4 (hKernel4 := hKernel4)
    ∧ quiescent_Kernel4Ideal (hKernel4Ideal := hKernel4Ideal)
    ∧ quiescent_Kernel4Ideal_pre_finite_projection (hKernel4Ideal := hKernel4Ideal) (hPre_finite_projection := hPre_finite_projection)
    ∧ quiescent_Reference4Ideal (hReference4Ideal := hReference4Ideal)
    ∧ quiescent_Reference4Ideal_pre_finite_projection (hReference4Ideal := hReference4Ideal) (hPre_finite_projection := hPre_finite_projection)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal_pre_finite_block (hKernel3Ideal := hKernel3Ideal) (hReference3Ideal := hReference3Ideal) (hPre_finite_block := hPre_finite_block)
    ∧ preserves_Kernel4_Kernel4Ideal
    ∧ algebraic_Kernel4Ideal_Reference4Ideal_pre_finite_projection (hKernel4Ideal := hKernel4Ideal) (hReference4Ideal := hReference4Ideal) (hPre_finite_projection := hPre_finite_projection)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_block.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x512 : S_.BroadcastsInDim S4096x512 (![] : Fin 0 → Fin S4096x512.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x2048 : S_.BroadcastsInDim S1024x2048 (![] : Fin 0 → Fin S1024x2048.rank)

variable [Facts]

def fn_part2 {F : FTy → Type} [FloatOps F] (main_v2 : IVec S4096x1024 1) (main_v6 : IVec S4096x512 1) (main_v10 : IVec S4096x512 1) (main_v13 : IVec S512x1024 1) (main_v17 : IVec S4096x1024 1) (main_v21 : IVec S1024x1024 1) (main_v24 : IVec S1x1024 1) (main_v28 : IVec S1024x1024 1) (main_v31 : IVec S1x1024 1) (main_v35 : IVec S1024x2048 1) (main_v37 : FVec F S1024x1024 .f32) : IVec S4096x1024 1 × IVec S4096x512 1 × IVec S4096x512 1 × IVec S512x1024 1 × IVec S4096x1024 1 × IVec S1024x1024 1 × IVec S1x1024 1 × IVec S1024x1024 1 × IVec S1x1024 1 × IVec S1024x2048 1 × IVec S1024x1024 1 :=
  let main_cst_9 : FVec F S_ .f32 := constant S_ .f32 0x7F800000#32
  let main_v38 : FVec F S1024x1024 .f32 := broadcastInDim S1024x1024 ![] bcast_S_S1024x1024 main_cst_9
  let main_v39 : IVec S1024x1024 1 := cmpf .olt main_v37 main_v38
  (main_v2, main_v6, main_v10, main_v13, main_v17, main_v21, main_v24, main_v28, main_v31, main_v35, main_v39)

def fn_part1 {F : FTy → Type} [FloatOps F] (main_arg6 : FVec F S1x1024 .f32) (main_arg7 : FVec F S1024x1024 .bf16) (main_arg8 : FVec F S1x1024 .f32) (main_arg9 : FVec F S1024x2048 .bf16) (main_arg10 : FVec F S1024x1024 .bf16) (main_v2 : IVec S4096x1024 1) (main_v6 : IVec S4096x512 1) (main_v10 : IVec S4096x512 1) (main_v13 : IVec S512x1024 1) (main_v17 : IVec S4096x1024 1) (main_v18 : FVec F S1024x1024 .f32) : IVec S4096x1024 1 × IVec S4096x512 1 × IVec S4096x512 1 × IVec S512x1024 1 × IVec S4096x1024 1 × IVec S1024x1024 1 × IVec S1x1024 1 × IVec S1024x1024 1 × IVec S1x1024 1 × IVec S1024x2048 1 × IVec S1024x1024 1 :=
  let main_v19 : FVec F S1024x1024 .f32 := Host.absf main_v18
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_v22 : FVec F S1x1024 .f32 := Host.absf main_arg6
  let main_cst_5 : FVec F S_ .f32 := constant S_ .f32 0x7F800000#32
  let main_v23 : FVec F S1x1024 .f32 := broadcastInDim S1x1024 ![] bcast_S_S1x1024 main_cst_5
  let main_v24 : IVec S1x1024 1 := cmpf .olt main_v22 main_v23
  let main_v25 : FVec F S1024x1024 .f32 := (extf .f32 · bitsLt_bf16_f32) main_arg7
  let main_v26 : FVec F S1024x1024 .f32 := Host.absf main_v25
  let main_cst_6 : FVec F S_ .f32 := constant S_ .f32 0x7F800000#32
  let main_v27 : FVec F S1024x1024 .f32 := broadcastInDim S1024x1024 ![] bcast_S_S1024x1024 main_cst_6
  let main_v28 : IVec S1024x1024 1 := cmpf .olt main_v26 main_v27
  let main_v29 : FVec F S1x1024 .f32 := Host.absf main_arg8
  let main_cst_7 : FVec F S_ .f32 := constant S_ .f32 0x7F800000#32
  let main_v30 : FVec F S1x1024 .f32 := broadcastInDim S1x1024 ![] bcast_S_S1x1024 main_cst_7
  let main_v31 : IVec S1x1024 1 := cmpf .olt main_v29 main_v30
  let main_v32 : FVec F S1024x2048 .f32 := (extf .f32 · bitsLt_bf16_f32) main_arg9
  let main_v33 : FVec F S1024x2048 .f32 := Host.absf main_v32
  let main_cst_8 : FVec F S_ .f32 := constant S_ .f32 0x7F800000#32
  let main_v34 : FVec F S1024x2048 .f32 := broadcastInDim S1024x2048 ![] bcast_S_S1024x2048 main_cst_8
  let main_v35 : IVec S1024x2048 1 := cmpf .olt main_v33 main_v34
  let main_v36 : FVec F S1024x1024 .f32 := (extf .f32 · bitsLt_bf16_f32) main_arg10
  let main_v37 : FVec F S1024x1024 .f32 := Host.absf main_v36
  fn_part2 (F := F) main_v2 main_v6 main_v10 main_v13 main_v17 main_v21 main_v24 main_v28 main_v31 main_v35 main_v37

def fn {F : FTy → Type} [FloatOps F] (main_arg0 : FVec F S4096x1024 .f32) (main_arg1 : FVec F S4096x512 .bf16) (main_arg2 : FVec F S4096x512 .bf16) (main_arg3 : FVec F S512x1024 .f32) (main_arg4 : FVec F S4096x1024 .bf16) (main_arg5 : FVec F S1024x1024 .bf16) (main_arg6 : FVec F S1x1024 .f32) (main_arg7 : FVec F S1024x1024 .bf16) (main_arg8 : FVec F S1x1024 .f32) (main_arg9 : FVec F S1024x2048 .bf16) (main_arg10 : FVec F S1024x1024 .bf16) : IVec S4096x1024 1 × IVec S4096x512 1 × IVec S4096x512 1 × IVec S512x1024 1 × IVec S4096x1024 1 × IVec S1024x1024 1 × IVec S1x1024 1 × IVec S1024x1024 1 × IVec S1x1024 1 × IVec S1024x2048 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := (extf .f32 · bitsLt_bf16_f32) main_arg1
  let main_v4 : FVec F S4096x512 .f32 := Host.absf main_v3
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S4096x512 .f32 := (extf .f32 · bitsLt_bf16_f32) main_arg2
  let main_v8 : FVec F S4096x512 .f32 := Host.absf main_v7
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  let main_v11 : FVec F S512x1024 .f32 := Host.absf main_arg3
  let main_cst_2 : FVec F S_ .f32 := constant S_ .f32 0x7F800000#32
  let main_v12 : FVec F S512x1024 .f32 := broadcastInDim S512x1024 ![] bcast_S_S512x1024 main_cst_2
  let main_v13 : IVec S512x1024 1 := cmpf .olt main_v11 main_v12
  let main_v14 : FVec F S4096x1024 .f32 := (extf .f32 · bitsLt_bf16_f32) main_arg4
  let main_v15 : FVec F S4096x1024 .f32 := Host.absf main_v14
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  let main_v18 : FVec F S1024x1024 .f32 := (extf .f32 · bitsLt_bf16_f32) main_arg5
  fn_part1 (F := F) main_arg6 main_arg7 main_arg8 main_arg9 main_arg10 main_v2 main_v6 main_v10 main_v13 main_v17 main_v18
-- ==== Pre_finite_inputs.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2816x1024 .bf16) (main_arg7 : FVec F S1x1024 .f32) (main_v3 : IVec S4096x1024 1) (main_v6 : IVec S4096x1024 1) (main_v9 : IVec S4096x1024 1) (main_v13 : IVec S1024x1024 1) (main_v16 : IVec S1x1024 1) (main_v18 : FVec F S1024x5632 .f32) : IVec S4096x1024 1 × IVec S4096x1024 1 × IVec S4096x1024 1 × IVec S1024x1024 1 × IVec S1x1024 1 × IVec S1024x5632 1 × IVec S2816x1024 1 × IVec S1x1024 1 :=
  let main_cst_4 : FVec F S_ .f32 := constant S_ .f32 0x7F800000#32
  let main_v19 : FVec F S1024x5632 .f32 := broadcastInDim S1024x5632 ![] bcast_S_S1024x5632 main_cst_4
  let main_v20 : IVec S1024x5632 1 := cmpf .olt main_v18 main_v19
  let main_v21 : FVec F S2816x1024 .f32 := (extf .f32 · bitsLt_bf16_f32) main_arg6
  let main_v22 : FVec F S2816x1024 .f32 := Host.absf main_v21
  let main_cst_5 : FVec F S_ .f32 := constant S_ .f32 0x7F800000#32
  let main_v23 : FVec F S2816x1024 .f32 := broadcastInDim S2816x1024 ![] bcast_S_S2816x1024 main_cst_5
  let main_v24 : IVec S2816x1024 1 := cmpf .olt main_v22 main_v23
  let main_v25 : FVec F S1x1024 .f32 := Host.absf main_arg7
  let main_cst_6 : FVec F S_ .f32 := constant S_ .f32 0x7F800000#32
  let main_v26 : FVec F S1x1024 .f32 := broadcastInDim S1x1024 ![] bcast_S_S1x1024 main_cst_6
  let main_v27 : IVec S1x1024 1 := cmpf .olt main_v25 main_v26
  (main_v3, main_v6, main_v9, main_v13, main_v16, main_v20, main_v24, main_v27)

def fn {F : FTy → Type} [FloatOps F] (main_arg0 : FVec F S4096x1024 .bf16) (main_arg1 : FVec F S4096x1024 .f32) (main_arg2 : FVec F S4096x1024 .f32) (main_arg3 : FVec F S1024x1024 .bf16) (main_arg4 : FVec F S1x1024 .f32) (main_arg5 : FVec F S1024x5632 .bf16) (main_arg6 : FVec F S2816x1024 .bf16) (main_arg7 : FVec F S1x1024 .f32) : IVec S4096x1024 1 × IVec S4096x1024 1 × IVec S4096x1024 1 × IVec S1024x1024 1 × IVec S1x1024 1 × IVec S1024x5632 1 × IVec S2816x1024 1 × IVec S1x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1024x1024 .f32 := (extf .f32 · bitsLt_bf16_f32) main_arg3
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1024x5632 .f32 := (extf .f32 · bitsLt_bf16_f32) main_arg5
  let main_v18 : FVec F S1024x5632 .f32 := Host.absf main_v17
  fn_part1 (F := F) main_arg6 main_arg7 main_v3 main_v6 main_v9 main_v13 main_v16 main_v18
-- ==== Pre_finite_projection.lean ====
abbrev S4096x1024 : Shape := ⟨2, ![4096, 1024]⟩
abbrev S4096x1536 : Shape := ⟨2, ![4096, 1536]⟩
abbrev S4096x128 : Shape := ⟨2, ![4096, 128]⟩
abbrev S1x1024 : Shape := ⟨2, ![1, 1024]⟩
abbrev S1024x2568 : Shape := ⟨2, ![1024, 2568]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x1536 : S_.BroadcastsInDim S4096x1536 (![] : Fin 0 → Fin S4096x1536.rank)
  bcast_S_S4096x128 : S_.BroadcastsInDim S4096x128 (![] : Fin 0 → Fin S4096x128.rank)
  bcast_S_S1x1024 : S_.BroadcastsInDim S1x1024 (![] : Fin 0 → Fin S1x1024.rank)
  bcast_S_S1024x2568 : S_.BroadcastsInDim S1024x2568 (![] : Fin 0 → Fin S1024x2568.rank)

variable [Facts]

def fn_part1 {F : FTy → Type} [FloatOps F] (main_arg5 : FVec F S1x1024 .f32) (main_arg6 : FVec F S1024x2568 .bf16) (main_v2 : IVec S4096x1024 1) (main_v6 : IVec S4096x1024 1) (main_v10 : IVec S4096x1536 1) (main_v14 : IVec S4096x128 1) (main_v18 : IVec S4096x1024 1) : IVec S4096x1024 1 × IVec S4096x1024 1 × IVec S4096x1536 1 × IVec S4096x128 1 × IVec S4096x1024 1 × IVec S1x1024 1 × IVec S1024x2568 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S1024x2568 .f32 := (extf .f32 · bitsLt_bf16_f32) main_arg6
  let main_v23 : FVec F S1024x2568 .f32 := Host.absf main_v22
  let main_cst_5 : FVec F S_ .f32 := constant S_ .f32 0x7F800000#32
  let main_v24 : FVec F S1024x2568 .f32 := broadcastInDim S1024x2568 ![] bcast_S_S1024x2568 main_cst_5
  let main_v25 : IVec S1024x2568 1 := cmpf .olt main_v23 main_v24
  (main_v2, main_v6, main_v10, main_v14, main_v18, main_v21, main_v25)

def fn {F : FTy → Type} [FloatOps F] (main_arg0 : FVec F S4096x1024 .f32) (main_arg1 : FVec F S4096x1024 .bf16) (main_arg2 : FVec F S4096x1536 .bf16) (main_arg3 : FVec F S4096x128 .bf16) (main_arg4 : FVec F S4096x1024 .bf16) (main_arg5 : FVec F S1x1024 .f32) (main_arg6 : FVec F S1024x2568 .bf16) : IVec S4096x1024 1 × IVec S4096x1024 1 × IVec S4096x1536 1 × IVec S4096x128 1 × IVec S4096x1024 1 × IVec S1x1024 1 × IVec S1024x2568 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1536 .f32 := (extf .f32 · bitsLt_bf16_f32) main_arg2
  let main_v8 : FVec F S4096x1536 .f32 := Host.absf main_v7
  let main_cst_1 : FVec F S_ .f32 := constant S_ .f32 0x7F800000#32
  let main_v9 : FVec F S4096x1536 .f32 := broadcastInDim S4096x1536 ![] bcast_S_S4096x1536 main_cst_1
  let main_v10 : IVec S4096x1536 1 := cmpf .olt main_v8 main_v9
  let main_v11 : FVec F S4096x128 .f32 := (extf .f32 · bitsLt_bf16_f32) main_arg3
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_v15 : FVec F S4096x1024 .f32 := (extf .f32 · bitsLt_bf16_f32) main_arg4
  let main_v16 : FVec F S4096x1024 .f32 := Host.absf main_v15
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg5 main_arg6 main_v2 main_v6 main_v10 main_v14 main_v18
-- ==== Pre_finite_scores.lean ====
abbrev S2x2048x1024 : Shape := ⟨3, ![2, 2048, 1024]⟩
abbrev S2x256x2048 : Shape := ⟨3, ![2, 256, 2048]⟩
abbrev S_ : Shape := ⟨0, ![]⟩
abbrev S2x256x1024 : Shape := ⟨3, ![2, 256, 1024]⟩

class Facts : Prop where
  bitsLt_bf16_f32 : FTy.bits .bf16 < FTy.bits .f32
  bcast_S_S2x2048x1024 : S_.BroadcastsInDim S2x2048x1024 (![] : Fin 0 → Fin S2x2048x1024.rank)
  slices_S2x256x2048_S2x256x1024_0_0_0 : S2x256x2048.Slices ![0, 0, 0] S2x256x1024
  bcast_S_S2x256x1024 : S_.BroadcastsInDim S2x256x1024 (![] : Fin 0 → Fin S2x256x1024.rank)

variable [Facts]

def fn {F : FTy → Type} [FloatOps F] (main_arg0 : FVec F S2x2048x1024 .bf16) (main_arg1 : FVec F S2x256x2048 .bf16) (main_arg2 : FVec F S2x2048x1024 .bf16) : IVec S2x2048x1024 1 × IVec S2x256x1024 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_v4 : FVec F S2x256x1024 .bf16 := (extractStridedSlice S2x256x1024 ![0, 0, 0] · slices_S2x256x2048_S2x256x1024_0_0_0) main_arg1
  let main_v5 : FVec F S2x256x1024 .f32 := (extf .f32 · bitsLt_bf16_f32) main_v4
  let main_v6 : FVec F S2x256x1024 .f32 := Host.absf main_v5
  let main_cst_0 : FVec F S_ .f32 := constant S_ .f32 0x7F800000#32
  let main_v7 : FVec F S2x256x1024 .f32 := broadcastInDim S2x256x1024 ![] bcast_S_S2x256x1024 main_cst_0
  let main_v8 : IVec S2x256x1024 1 := cmpf .olt main_v6 main_v7
  (main_v3, main_v8)
-- ==== Kernel.lean ====
abbrev S2x2048x1024 : Shape := ⟨3, ![2, 2048, 1024]⟩
abbrev S2x256x2048 : Shape := ⟨3, ![2, 256, 2048]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x2048x1024, .bf16⟩
  | .hbm, ⟨1, _⟩ => ⟨S2x256x2048, .bf16⟩
  | .hbm, ⟨2, _⟩ => ⟨S2x2048x1024, .bf16⟩
  | .hbm, ⟨3, _⟩ => ⟨S2x2048x1024, .bf16⟩
  | .hbm, ⟨4, _⟩ => ⟨S2x256x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x256x2048, .f32⟩
  | .local _ .vmem, ⟨9, _⟩ => ⟨S1x256x2048, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S2x2048x1024 : Shape := ⟨3, ![2, 2048, 1024]⟩
abbrev S2x256x2048 : Shape := ⟨3, ![2, 256, 2048]⟩
abbrev S2x2048x4x256 : Shape := ⟨4, ![2, 2048, 4, 256]⟩
abbrev S2x256x1024 : Shape := ⟨3, ![2, 256, 1024]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x256x2048, .bf16⟩
  | .hbm, ⟨2, _⟩ => ⟨S2x2048x1024, .bf16⟩
  | .hbm, ⟨3, _⟩ => ⟨S2x2048x1024, .f32⟩
  | .hbm, ⟨4, _⟩ => ⟨S2x256x2048, .f32⟩
  | .hbm, ⟨5, _⟩ => ⟨S2x2048x4x256, .f32⟩
  | .hbm, ⟨6, _⟩ => ⟨S2x256x1024, .f32⟩
  | .hbm, ⟨7, _⟩ => ⟨S2x256x4x256, .f32⟩
  | .hbm, ⟨8, _⟩ => ⟨S2x256x1024, .f32⟩
  | .hbm, ⟨9, _⟩ => ⟨S2x256x4x256, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x256x2048, .f32⟩
  | .hbm, ⟨53, _⟩ => ⟨S2x2048x4x256, .f32⟩
  | .hbm, ⟨54, _⟩ => ⟨S2x2048x1024, .f32⟩
  | .hbm, ⟨55, _⟩ => ⟨S2x2048x1024, .f32⟩
  | .hbm, ⟨56, _⟩ => ⟨S2x2048x4x256, .f32⟩
  | .hbm, ⟨57, _⟩ => ⟨S2x4x256x2048, .f32⟩
  | .hbm, ⟨58, _⟩ => ⟨S2x4x2048x256, .f32⟩
  | .hbm, ⟨59, _⟩ => ⟨S2x4x256x256, .f32⟩
  | .hbm, ⟨60, _⟩ => ⟨S2x256x4x256, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x256, .f32⟩
  | .hbm, ⟨79, _⟩ => ⟨S2x256x4x256, .f32⟩
  | .hbm, ⟨80, _⟩ => ⟨S2x4x2048x256, .f32⟩
  | .hbm, ⟨81, _⟩ => ⟨S2x2048x4x256, .f32⟩
  | .hbm, ⟨82, _⟩ => ⟨S2x256x1024, .f32⟩
  | .hbm, ⟨83, _⟩ => ⟨S_, .f32⟩
  | .hbm, ⟨84, _⟩ => ⟨S2x256x2048, .f32⟩
  | .hbm, ⟨85, _⟩ => ⟨S2x256x1024, .f32⟩
  | .hbm, ⟨86, _⟩ => ⟨S_, .f32⟩
  | .hbm, ⟨87, _⟩ => ⟨S2x256x2048, .f32⟩
  | .hbm, ⟨88, _⟩ => ⟨S2x256x2048, .f32⟩
  | .hbm, ⟨89, _⟩ => ⟨S2x2048x1024, .f32⟩
  | .hbm, ⟨90, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S4096x2816 : Shape := ⟨2, ![4096, 2816]⟩
abbrev S2816x4096 : Shape := ⟨2, ![2816, 4096]⟩
abbrev S256x1024 : Shape := ⟨2, ![256, 1024]⟩
abbrev S1024x2816 : Shape := ⟨2, ![1024, 2816]⟩
abbrev S256x2816 : Shape := ⟨2, ![256, 2816]⟩
abbrev S2816x256 : Shape := ⟨2, ![2816, 256]⟩
abbrev S1024x256 : Shape := ⟨2, ![1024, 256]⟩
abbrev S256x256 : Shape := ⟨2, ![256, 256]⟩
abbrev S1x128 : Shape := ⟨2, ![1, 128]⟩
abbrev S512x2816 : Shape := ⟨2, ![512, 2816]⟩
abbrev S1 : Shape := ⟨1, ![1]⟩
abbrev S1x1 : Shape := ⟨2, ![1, 1]⟩
abbrev S1024 : Shape := ⟨1, ![1024]⟩
abbrev S1408x4096 : Shape := ⟨2, ![1408, 4096]⟩
abbrev S4096x512 : Shape := ⟨2, ![4096, 512]⟩
abbrev S1408x512 : Shape := ⟨2, ![1408, 512]⟩
abbrev S512x4096 : Shape := ⟨2, ![512, 4096]⟩
abbrev S4096x1408 : Shape := ⟨2, ![4096, 1408]⟩
abbrev S512x1408 : Shape := ⟨2, ![512, 1408]⟩
abbrev S256 : Shape := ⟨1, ![256]⟩
abbrev S256x1 : Shape := ⟨2, ![256, 1]⟩
abbrev S_ : Shape := ⟨0, ![]⟩

abbrev nBuf : Space → Nat
  | .hbm => 27
  | .vmem => 79
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x1024, .bf16⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1024x4096, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S2816x4096, .bf16⟩
  | .hbm, ⟨15, _⟩ => ⟨S4096x1024, .bf16⟩
  | .hbm, ⟨16, _⟩ => ⟨S1x1024, .f32⟩
  | .hbm, ⟨17, _⟩ => ⟨S1x128, .f32⟩
  | .hbm, ⟨18, _⟩ => ⟨S2816x1024, .bf16⟩
  | .hbm, ⟨19, _⟩ => ⟨S4096x2816, .bf16⟩
  | .hbm, ⟨20, _⟩ => ⟨S4096x2816, .bf16⟩
  | .hbm, ⟨21, _⟩ => ⟨S1024x2816, .bf16⟩
  | .hbm, ⟨22, _⟩ => ⟨S1024x2816, .bf16⟩
  | .hbm, ⟨23, _⟩ => ⟨S4096x1024, .bf16⟩
  | .hbm, ⟨24, _⟩ => ⟨S1x1024, .f32⟩
  | .hbm, ⟨25, _⟩ => ⟨S1x1, .f32⟩
  | .hbm, ⟨26, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S256x1024, .bf16⟩
  | .local _ .vmem, ⟨13, _⟩ => ⟨S256x1024, .bf16⟩
  | .local _ .vmem, ⟨14, _⟩ => ⟨S1024x2816, .bf16⟩
  | .local _ .vmem, ⟨15, _⟩ => ⟨S1024x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S2816x256, .bf16⟩
  | .local _ .vmem, ⟨23, _⟩ => ⟨S2816x256, .bf16⟩
  | .local _ .vmem, ⟨24, _⟩ => ⟨S512x2816, .bf16⟩
  | .local _ .vmem, ⟨25, _⟩ => ⟨S512x2816, .bf16⟩
  | .local _ .vmem, ⟨26, _⟩ => ⟨S2816x1024, .bf16⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S1x1024, .f32⟩
  | .local _ .vmem, ⟨35, _⟩ => ⟨S1x128, .f32⟩
  | .local _ .vmem, ⟨36, _⟩ => ⟨S1408x4096, .bf16⟩
  | .local _ .vmem, ⟨37, _⟩ => ⟨S1408x4096, .bf16⟩
  | .local _ .vmem, ⟨38, _⟩ => ⟨S4096x512, .bf16⟩
  | .local _ .vmem, ⟨39, _⟩ => ⟨S4096x512, .bf16⟩
  | .local _ .vmem, ⟨40, _⟩ => ⟨S1408x512, .bf16⟩
  | .local _ .vmem, ⟨41, _⟩ => ⟨S1408x512, .bf16⟩
  | .local _ .vmem, ⟨42, _⟩ => ⟨S256x1024, .bf16⟩
  | .local _ .vmem, ⟨43, _⟩ => ⟨S256x1024, .bf16⟩
  | .local _ .vmem, ⟨44, _⟩ => ⟨S2816x1024, .bf16⟩
  | .local _ .vmem, ⟨45, _⟩ => ⟨S256x2816, .bf16⟩
  | .local _ .vmem, ⟨46, _⟩ => ⟨S256x2816, .bf16⟩
  | .local _ .vmem, ⟨47, _⟩ => ⟨S256x2816, .bf16⟩
  | .local _ .vmem, ⟨48, _⟩ => ⟨S256x2816, .bf16⟩
  | .local _ .vmem, ⟨49, _⟩ => ⟨S256x2816, .bf16⟩
  | .local _ .vmem, ⟨50, _⟩ => ⟨S256x2816, .bf16⟩
  | .local _ .vmem, ⟨51, _⟩ => ⟨S256x2816, .bf16⟩
  | .local _ .vmem, ⟨52, _⟩ => ⟨S256x2816, .bf16⟩
  | .local _ .vmem, ⟨53, _⟩ => ⟨S512x4096, .bf16⟩
  | .local _ .vmem, ⟨54, _⟩ => ⟨S512x4096, .bf16⟩
  | .local _ .vmem, ⟨55, _⟩ => ⟨S4096x1408, .bf16⟩
  | .local _ .vmem, ⟨56, _⟩ => ⟨S4096x1408, .bf16⟩
  | .local _ .vmem, ⟨57, _⟩ => ⟨S512x1408, .bf16⟩
  | .local _ .vmem, ⟨58, _⟩ => ⟨S512x1408, .bf16⟩
  | .local _ .vmem, ⟨59, _⟩ => ⟨S512x4096, .bf16⟩
  | .local _ .vmem, ⟨60, _⟩ => ⟨S512x4096, .bf16⟩
  | .local _ .vmem, ⟨61, _⟩ => ⟨S4096x1408, .bf16⟩
  | .local _ .vmem, ⟨62, _⟩ => ⟨S4096x1408, .bf16⟩
  | .local _ .vmem, ⟨63, _⟩ => ⟨S512x1408, .bf16⟩
  | .local _ .vmem, ⟨64, _⟩ => ⟨S512x1408, .bf16⟩
  | .local _ .vmem, ⟨65, _⟩ => ⟨S256x2816, .bf16⟩
  | .local _ .vmem, ⟨66, _⟩ => ⟨S256x2816, .bf16⟩
  | .local _ .vmem, ⟨67, _⟩ => ⟨S256x2816, .bf16⟩
  | .local _ .vmem, ⟨68, _⟩ => ⟨S256x2816, .bf16⟩
  | .local _ .vmem, ⟨69, _⟩ => ⟨S1024x2816, .bf16⟩
  | .local _ .vmem, ⟨70, _⟩ => ⟨S1024x2816, .bf16⟩
  | .local _ .vmem, ⟨71, _⟩ => ⟨S256x1024, .f32⟩
  | .local _ .vmem, ⟨72, _⟩ => ⟨S256x1024, .f32⟩
  | .local _ .vmem, ⟨73, _⟩ => ⟨S1x1024, .f32⟩
  | .local _ .vmem, ⟨74, _⟩ => ⟨S256x1024, .bf16⟩
  | .local _ .vmem, ⟨75, _⟩ => ⟨S256x1024, .bf16⟩
  | .local _ .vmem, ⟨76, _⟩ => ⟨S256x1024, .bf16⟩
  | .local _ .vmem, ⟨77, _⟩ => ⟨S256x1024, .bf16⟩
  | .local _ .vmem, ⟨78, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg3_1 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg5_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg4_1 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg6_1 : Ref sig .tc := ⟨.vmem, 75, rfl⟩
abbrev cc7_stg7_0 : Ref sig .tc := ⟨.vmem, 76, rfl⟩
abbrev cc7_stg7_1 : Ref sig .tc := ⟨.vmem, 77, rfl⟩
abbrev cc7_stg8_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem7_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem2_1 : DmaSem sig := 46
abbrev cc4_sem3_0 : DmaSem sig := 47
abbrev cc4_sem3_1 : DmaSem sig := 48
abbrev cc4_sem4_0 : DmaSem sig := 49
abbrev cc4_sem4_1 : DmaSem sig := 50
abbrev cc4_sem5_0 : DmaSem sig := 51
abbrev cc4_sem5_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem2_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem3_0 : DmaSem sig := 70
abbrev cc7_sem4_0 : DmaSem sig := 71
abbrev cc7_sem4_1 : DmaSem sig := 72
abbrev cc7_sem5_0 : DmaSem sig := 73
abbrev cc7_sem6_0 : DmaSem sig := 74
abbrev cc7_sem6_1 : DmaSem sig := 75
abbrev cc7_sem7_0 : DmaSem sig := 76
abbrev cc7_sem7_1 : DmaSem sig := 77
abbrev cc7_sem8_0 : DmaSem sig := 78

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1024x2816 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2816x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1408x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![16, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x2816 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x2816 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S256x2816 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S256x2816 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![16, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S256x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 1 → Memref sig .tc .vmem S1024x2816 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true]

abbrev stage7_3 : Fin 1 → Memref sig .tc .vmem S1024x2816 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 2 → Memref sig .tc .vmem S256x1024 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev stage7_7 : Fin 2 → Memref sig .tc .vmem S256x1024 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, false]

abbrev stage7_8 : Fin 1 → Memref sig .tc .vmem S1x1024 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false, false]
-- ==== Reference2Ideal.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S1024x2816 : Shape := ⟨2, ![1024, 2816]⟩
abbrev S5632x1024 : Shape := ⟨2, ![5632, 1024]⟩

abbrev nBuf : Space → Nat
  | .hbm => 164
  | .vmem => 0
  | .smem => 0
  | _ => 0

abbrev hbmTy0_0 (i : Nat) : BufTy := match i % 128 with
  | 0 => ⟨S4096x1024, .bf16⟩
  | 1 => ⟨S4096x1024, .f32⟩
  | 2 => ⟨S4096x1024, .f32⟩
  | 3 => ⟨S1024x1024, .bf16⟩
  | 4 => ⟨S1x1024, .f32⟩
  | 5 => ⟨S1024x5632, .bf16⟩
  | 6 => ⟨S2816x1024, .bf16⟩
  | 7 => ⟨S1x1024, .f32⟩
  | 8 => ⟨S4096x1024, .f32⟩
  | 9 => ⟨S1024x1024, .f32⟩
  | 10 => ⟨S4096x1024, .f32⟩
  | 11 => ⟨S4096x1024, .f32⟩
  | 12 => ⟨S1024x5632, .f32⟩
  | 13 => ⟨S2816x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S4096x1024, .f32⟩
  | 33 => ⟨S4096x5632, .f32⟩
  | 34 => ⟨S4096x2816, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x2816, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S4096x1024, .f32⟩
  | 105 => ⟨S4096x1024, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S1024x2816, .f32⟩
  | 118 => ⟨S2816x1024, .f32⟩
  | 119 => ⟨S4096x2816, .f32⟩
  | 120 => ⟨S4096x2816, .f32⟩
  | 121 => ⟨S4096x2816, .f32⟩
  | 122 => ⟨S_, .f32⟩
  | 123 => ⟨S4096x5632, .f32⟩
  | 124 => ⟨S4096x2816, .f32⟩
  | 125 => ⟨S4096x2816, .f32⟩
  | 126 => ⟨S4096x2816, .f32⟩
  | 127 => ⟨S4096x2816, .f32⟩
  | _ => ⟨S4096x1024, .bf16⟩

abbrev hbmTy0_1 (i : Nat) : BufTy := match i % 128 with
  | 0 => ⟨S_, .f32⟩
  | 1 => ⟨S4096x5632, .f32⟩
  | 2 => ⟨S4096x5632, .f32⟩
  | 3 => ⟨S5632x1024, .f32⟩
  | 4 => ⟨S1024x5632, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1024, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S2816x1024, .bf16⟩
  | 31 => ⟨S1024x2816, .f32⟩
  | 32 => ⟨S1024x2816, .bf16⟩
  | 33 => ⟨S1024x2816, .f32⟩
  | 34 => ⟨S1024x2816, .bf16⟩
  | 35 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_cst_12 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_cst_14 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_16 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_17 : Ref sig .tc := ⟨.hbm, 107, rfl⟩
abbrev main_v69 : Ref sig .tc := ⟨.hbm, 108, rfl⟩
abbrev main_v70 : Ref sig .tc := ⟨.hbm, 109, rfl⟩
abbrev main_cst_18 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v83 : Ref sig .tc := ⟨.hbm, 127, rfl⟩
abbrev main_cst_20 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_21 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_22 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_23 : Ref sig .tc := ⟨.hbm, 148, rfl⟩
abbrev main_v101 : Ref sig .tc := ⟨.hbm, 149, rfl⟩
abbrev main_v102 : Ref sig .tc := ⟨.hbm, 150, rfl⟩
abbrev main_cst_24 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S1024x4096 : Shape := ⟨2, ![1024, 4096]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S512x2048 : Shape := ⟨2, ![512, 2048]⟩
abbrev S2x256x2048 : Shape := ⟨3, ![2, 256, 2048]⟩
abbrev S2x2048x1024 : Shape := ⟨3, ![2, 2048, 1024]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S256x512 : Shape := ⟨2, ![256, 512]⟩
abbrev S512x4096 : Shape := ⟨2, ![512, 4096]⟩
abbrev S1024 : Shape := ⟨1, ![1024]⟩

abbrev nBuf : Space → Nat
  | .hbm => 41
  | .vmem => 94
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S512x1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S1024x1024, .bf16⟩
  | .hbm, ⟨8, _⟩ => ⟨S1x1024, .f32⟩
  | .hbm, ⟨9, _⟩ => ⟨S1024x2048, .bf16⟩
  | .hbm, ⟨10, _⟩ => ⟨S1024x1024, .bf16⟩
  | .hbm, ⟨11, _⟩ => ⟨S4096x1024, .f32⟩
  | .hbm, ⟨12, _⟩ => ⟨S4096x1024, .bf16⟩
  | .hbm, ⟨13, _⟩ => ⟨S1024x4096, .bf16⟩
  | .hbm, ⟨14, _⟩ => ⟨S4096x1024, .bf16⟩
  | .hbm, ⟨15, _⟩ => ⟨S512x1024, .bf16⟩
  | .hbm, ⟨16, _⟩ => ⟨S1024x512, .bf16⟩
  | .hbm, ⟨17, _⟩ => ⟨S512x2048, .bf16⟩
  | .hbm, ⟨18, _⟩ => ⟨S2x256x2048, .bf16⟩
  | .hbm, ⟨19, _⟩ => ⟨S2x2048x1024, .bf16⟩
  | .hbm, ⟨20, _⟩ => ⟨S2x2048x1024, .bf16⟩
  | .hbm, ⟨21, _⟩ => ⟨S1024x4096, .bf16⟩
  | .hbm, ⟨22, _⟩ => ⟨S1024x1024, .bf16⟩
  | .hbm, ⟨23, _⟩ => ⟨S4096x1024, .bf16⟩
  | .hbm, ⟨24, _⟩ => ⟨S2x2048x1024, .bf16⟩
  | .hbm, ⟨25, _⟩ => ⟨S2x2048x1024, .bf16⟩
  | .hbm, ⟨26, _⟩ => ⟨S2x2048x1024, .bf16⟩
  | .hbm, ⟨27, _⟩ => ⟨S2x256x2048, .f32⟩
  | .hbm, ⟨28, _⟩ => ⟨S4096x1024, .bf16⟩
  | .hbm, ⟨29, _⟩ => ⟨S512x2048, .f32⟩
  | .hbm, ⟨30, _⟩ => ⟨S1024x1024, .bf16⟩
  | .hbm, ⟨31, _⟩ => ⟨S4096x1024, .bf16⟩
  | .hbm, ⟨32, _⟩ => ⟨S1x1024, .f32⟩
  | .hbm, ⟨33, _⟩ => ⟨S1024x2048, .bf16⟩
  | .hbm, ⟨34, _⟩ => ⟨S512x1024, .bf16⟩
  | .hbm, ⟨35, _⟩ => ⟨S1x1024, .f32⟩
  | .hbm, ⟨36, _⟩ => ⟨S512x4096, .bf16⟩
  | .hbm, ⟨37, _⟩ => ⟨S512x1024, .bf16⟩
  | .hbm, ⟨38, _⟩ => ⟨S512x4096, .bf16⟩
  | .hbm, ⟨39, _⟩ => ⟨S512x1024, .bf16⟩
  | .hbm, ⟨40, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S1x1024, .f32⟩
  | .local _ .vmem, ⟨22, _⟩ => ⟨S512x1024, .bf16⟩
  | .local _ .vmem, ⟨23, _⟩ => ⟨S1024x512, .bf16⟩
  | .local _ .vmem, ⟨24, _⟩ => ⟨S512x1024, .bf16⟩
  | .local _ .vmem, ⟨25, _⟩ => ⟨S1024x2048, .bf16⟩
  | .local _ .vmem, ⟨26, _⟩ => ⟨S512x2048, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x256x2048, .bf16⟩
  | .local _ .vmem, ⟨30, _⟩ => ⟨S1x256x2048, .bf16⟩
  | .local _ .vmem, ⟨31, _⟩ => ⟨S1x512x1024, .bf16⟩
  | .local _ .vmem, ⟨32, _⟩ => ⟨S1x512x1024, .bf16⟩
  | .local _ .vmem, ⟨33, _⟩ => ⟨S1024x512, .bf16⟩
  | .local _ .vmem, ⟨34, _⟩ => ⟨S1024x512, .bf16⟩
  | .local _ .vmem, ⟨35, _⟩ => ⟨S512x4096, .bf16⟩
  | .local _ .vmem, ⟨36, _⟩ => ⟨S512x4096, .bf16⟩
  | .local _ .vmem, ⟨37, _⟩ => ⟨S4096x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S1024x1024, .bf16⟩
  | .local _ .vmem, ⟨43, _⟩ => ⟨S512x1024, .bf16⟩
  | .local _ .vmem, ⟨44, _⟩ => ⟨S512x1024, .bf16⟩
  | .local _ .vmem, ⟨45, _⟩ => ⟨S1x512x1024, .bf16⟩
  | .local _ .vmem, ⟨46, _⟩ => ⟨S1x512x1024, .bf16⟩
  | .local _ .vmem, ⟨47, _⟩ => ⟨S1x256x2048, .bf16⟩
  | .local _ .vmem, ⟨48, _⟩ => ⟨S1x256x2048, .bf16⟩
  | .local _ .vmem, ⟨49, _⟩ => ⟨S1x512x1024, .bf16⟩
  | .local _ .vmem, ⟨50, _⟩ => ⟨S1x512x1024, .bf16⟩
  | .local _ .vmem, ⟨51, _⟩ => ⟨S1x512x1024, .bf16⟩
  | .local _ .vmem, ⟨52, _⟩ => ⟨S1x512x1024, .bf16⟩
  | .local _ .vmem, ⟨53, _⟩ => ⟨S1x256x2048, .f32⟩
  | .local _ .vmem, ⟨54, _⟩ => ⟨S1x256x2048, .f32⟩
  | .local _ .vmem, ⟨55, _⟩ => ⟨S512x4096, .bf16⟩
  | .local _ .vmem, ⟨56, _⟩ => ⟨S512x4096, .bf16⟩
  | .local _ .vmem, ⟨57, _⟩ => ⟨S4096x1024, .bf16⟩
  | .local _ .vmem, ⟨58, _⟩ => ⟨S512x1024, .bf16⟩
  | .local _ .vmem, ⟨59, _⟩ => ⟨S512x1024, .bf16⟩
  | .local _ .vmem, ⟨60, _⟩ => ⟨S512x1024, .bf16⟩
  | .local _ .vmem, ⟨61, _⟩ => ⟨S512x1024, .bf16⟩
  | .local _ .vmem, ⟨62, _⟩ => ⟨S1024x1024, .bf16⟩
  | .local _ .vmem, ⟨63, _⟩ => ⟨S512x1024, .f32⟩
  | .local _ .vmem, ⟨64, _⟩ => ⟨S512x1024, .f32⟩
  | .local _ .vmem, ⟨65, _⟩ => ⟨S1x1024, .f32⟩
  | .local _ .vmem, ⟨66, _⟩ => ⟨S512x1024, .bf16⟩
  | .local _ .vmem, ⟨67, _⟩ => ⟨S512x1024, .bf16⟩
  | .local _ .vmem, ⟨68, _⟩ => ⟨S512x1024, .bf16⟩
  | .local _ .vmem, ⟨69, _⟩ => ⟨S512x1024, .bf16⟩
  | .local _ .vmem, ⟨70, _⟩ => ⟨S1x1024, .f32⟩
  | .local _ .vmem, ⟨71, _⟩ => ⟨S512x512, .bf16⟩
  | .local _ .vmem, ⟨72, _⟩ => ⟨S512x512, .bf16⟩
  | .local _ .vmem, ⟨73, _⟩ => ⟨S512x1024, .f32⟩
  | .local _ .vmem, ⟨74, _⟩ => ⟨S512x1024, .f32⟩
  | .local _ .vmem, ⟨75, _⟩ => ⟨S512x1024, .bf16⟩
  | .local _ .vmem, ⟨76, _⟩ => ⟨S512x1024, .bf16⟩
  | .local _ .vmem, ⟨77, _⟩ => ⟨S512x2048, .f32⟩
  | .local _ .vmem, ⟨78, _⟩ => ⟨S1024x2048, .bf16⟩
  | .local _ .vmem, ⟨79, _⟩ => ⟨S512x1024, .f32⟩
  | .local _ .vmem, ⟨80, _⟩ => ⟨S1x1024, .f32⟩
  | .local _ .vmem, ⟨81, _⟩ => ⟨S512x1024, .bf16⟩
  | .local _ .vmem, ⟨82, _⟩ => ⟨S1x1024, .f32⟩
  | .local _ .vmem, ⟨83, _⟩ => ⟨S512x4096, .bf16⟩
  | .local _ .vmem, ⟨84, _⟩ => ⟨S4096x1024, .bf16⟩
  | .local _ .vmem, ⟨85, _⟩ => ⟨S512x1024, .bf16⟩
  | .local _ .vmem, ⟨86, _⟩ => ⟨S512x4096, .bf16⟩
  | .local _ .vmem, ⟨87, _⟩ => ⟨S4096x1024, .bf16⟩
  | .local _ .vmem, ⟨88, _⟩ => ⟨S512x1024, .bf16⟩
  | .local _ .vmem, ⟨89, _⟩ => ⟨S512x1024, .bf16⟩
  | .local _ .vmem, ⟨90, _⟩ => ⟨S512x1024, .bf16⟩
  | .local _ .vmem, ⟨91, _⟩ => ⟨S1024x1024, .bf16⟩
  | .local _ .vmem, ⟨92, _⟩ => ⟨S512x1024, .bf16⟩
  | .local _ .vmem, ⟨93, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg3_1 : Ref sig .tc := ⟨.vmem, 52, rfl⟩
abbrev cc7_stg4_0 : Ref sig .tc := ⟨.vmem, 53, rfl⟩
abbrev cc7_stg4_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg2_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc9_stg3_0 : Ref sig .tc := ⟨.vmem, 65, rfl⟩
abbrev cc9_stg4_0 : Ref sig .tc := ⟨.vmem, 66, rfl⟩
abbrev cc9_stg4_1 : Ref sig .tc := ⟨.vmem, 67, rfl⟩
abbrev cc9_stg5_0 : Ref sig .tc := ⟨.vmem, 68, rfl⟩
abbrev cc9_stg5_1 : Ref sig .tc := ⟨.vmem, 69, rfl⟩
abbrev cc9_stg6_0 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc10_stg2_1 : Ref sig .tc := ⟨.vmem, 76, rfl⟩
abbrev cc11_stg0_0 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg3_0 : Ref sig .tc := ⟨.vmem, 80, rfl⟩
abbrev cc11_stg4_0 : Ref sig .tc := ⟨.vmem, 81, rfl⟩
abbrev cc11_stg5_0 : Ref sig .tc := ⟨.vmem, 82, rfl⟩
abbrev cc12_stg0_0 : Ref sig .tc := ⟨.vmem, 83, rfl⟩
abbrev cc12_stg1_0 : Ref sig .tc := ⟨.vmem, 84, rfl⟩
abbrev cc12_stg2_0 : Ref sig .tc := ⟨.vmem, 85, rfl⟩
abbrev cc13_stg0_0 : Ref sig .tc := ⟨.vmem, 86, rfl⟩
abbrev cc13_stg1_0 : Ref sig .tc := ⟨.vmem, 87, rfl⟩
abbrev cc13_stg2_0 : Ref sig .tc := ⟨.vmem, 88, rfl⟩
abbrev cc14_stg0_0 : Ref sig .tc := ⟨.vmem, 89, rfl⟩
abbrev cc14_stg0_1 : Ref sig .tc := ⟨.vmem, 90, rfl⟩
abbrev cc14_stg1_0 : Ref sig .tc := ⟨.vmem, 91, rfl⟩
abbrev cc14_stg2_0 : Ref sig .tc := ⟨.vmem, 92, rfl⟩
abbrev cc14_stg2_1 : Ref sig .tc := ⟨.vmem, 93, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc3_sem0_0 : DmaSem sig := 24
abbrev cc3_sem1_0 : DmaSem sig := 25
abbrev cc3_sem2_0 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc7_sem3_0 : DmaSem sig := 51
abbrev cc7_sem3_1 : DmaSem sig := 52
abbrev cc7_sem4_0 : DmaSem sig := 53
abbrev cc7_sem4_1 : DmaSem sig := 54
abbrev cc8_sem0_0 : DmaSem sig := 55
abbrev cc8_sem0_1 : DmaSem sig := 56
abbrev cc8_sem1_0 : DmaSem sig := 57
abbrev cc8_sem2_0 : DmaSem sig := 58
abbrev cc8_sem2_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc9_sem3_0 : DmaSem sig := 65
abbrev cc9_sem4_0 : DmaSem sig := 66
abbrev cc9_sem4_1 : DmaSem sig := 67
abbrev cc9_sem5_0 : DmaSem sig := 68
abbrev cc9_sem5_1 : DmaSem sig := 69
abbrev cc9_sem6_0 : DmaSem sig := 70
abbrev cc10_sem0_0 : DmaSem sig := 71
abbrev cc10_sem0_1 : DmaSem sig := 72
abbrev cc10_sem1_0 : DmaSem sig := 73
abbrev cc10_sem1_1 : DmaSem sig := 74
abbrev cc10_sem2_0 : DmaSem sig := 75
abbrev cc10_sem2_1 : DmaSem sig := 76
abbrev cc11_sem0_0 : DmaSem sig := 77
abbrev cc11_sem1_0 : DmaSem sig := 78
abbrev cc11_sem2_0 : DmaSem sig := 79
abbrev cc11_sem3_0 : DmaSem sig := 80
abbrev cc11_sem4_0 : DmaSem sig := 81
abbrev cc11_sem5_0 : DmaSem sig := 82
abbrev cc12_sem0_0 : DmaSem sig := 83
abbrev cc12_sem1_0 : DmaSem sig := 84
abbrev cc12_sem2_0 : DmaSem sig := 85
abbrev cc13_sem0_0 : DmaSem sig := 86
abbrev cc13_sem1_0 : DmaSem sig := 87
abbrev cc13_sem2_0 : DmaSem sig := 88
abbrev cc14_sem0_0 : DmaSem sig := 89
abbrev cc14_sem0_1 : DmaSem sig := 90
abbrev cc14_sem1_0 : DmaSem sig := 91
abbrev cc14_sem2_0 : DmaSem sig := 92
abbrev cc14_sem2_1 : DmaSem sig := 93

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1024x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S512x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage4_0 : Fin 2 → Memref sig .tc .vmem S1x512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 4], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x256x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1x256x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev grid8 : Pipeline.Grid := ⟨2, ![2, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 2 → Memref sig .tc .vmem S512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![8, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S1024x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 1 → Memref sig .tc .vmem S1x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S512x1024 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, false]

abbrev stage9_5 : Fin 2 → Memref sig .tc .vmem S512x1024 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

abbrev stage9_6 : Fin 1 → Memref sig .tc .vmem S1x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S512x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S512x1024 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S512x2048 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 1 → Memref sig .tc .vmem S1024x2048 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 1 → Memref sig .tc .vmem S512x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true, false]

abbrev stage11_3 : Fin 1 → Memref sig .tc .vmem S1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, false]

abbrev stage11_4 : Fin 1 → Memref sig .tc .vmem S512x1024 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true, false]

abbrev stage11_5 : Fin 1 → Memref sig .tc .vmem S1x1024 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false, false]

abbrev grid12 : Pipeline.Grid := ⟨2, ![1, 1], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 1 → Memref sig .tc .vmem S512x4096 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false]

abbrev stage12_1 : Fin 1 → Memref sig .tc .vmem S4096x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 1 → Memref sig .tc .vmem S512x1024 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, true]

abbrev grid13 : Pipeline.Grid := ⟨2, ![1, 1], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 1 → Memref sig .tc .vmem S512x4096 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false]

abbrev stage13_1 : Fin 1 → Memref sig .tc .vmem S4096x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true]

abbrev stage13_2 : Fin 1 → Memref sig .tc .vmem S512x1024 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true, true]

abbrev grid14 : Pipeline.Grid := ⟨2, ![8, 1], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 2 → Memref sig .tc .vmem S512x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 1 → Memref sig .tc .vmem S1024x1024 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true]

abbrev stage14_2 : Fin 2 → Memref sig .tc .vmem S512x1024 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]
-- ==== Reference3Ideal.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S2x2048x1024 : Shape := ⟨3, ![2, 2048, 1024]⟩
abbrev S512 : Shape := ⟨1, ![512]⟩
abbrev S512x1 : Shape := ⟨2, ![512, 1]⟩
abbrev S512x2048 : Shape := ⟨2, ![512, 2048]⟩
abbrev S2x256x2048 : Shape := ⟨3, ![2, 256, 2048]⟩
abbrev S2x2048x4x256 : Shape := ⟨4, ![2, 2048, 4, 256]⟩
abbrev S2x256x1024 : Shape := ⟨3, ![2, 256, 1024]⟩
abbrev S2x256x4x256 : Shape := ⟨4, ![2, 256, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S2048x1024 : Shape := ⟨2, ![2048, 1024]⟩
abbrev S1024 : Shape := ⟨1, ![1024]⟩

abbrev nBuf : Space → Nat
  | .hbm => 221
  | .vmem => 0
  | .smem => 0
  | _ => 0

abbrev hbmTy0_0 (i : Nat) : BufTy := match i % 128 with
  | 0 => ⟨S4096x1024, .f32⟩
  | 1 => ⟨S4096x512, .bf16⟩
  | 2 => ⟨S4096x512, .bf16⟩
  | 3 => ⟨S512x1024, .f32⟩
  | 4 => ⟨S4096x1024, .bf16⟩
  | 5 => ⟨S1024x1024, .bf16⟩
  | 6 => ⟨S1x1024, .f32⟩
  | 7 => ⟨S1024x1024, .bf16⟩
  | 8 => ⟨S1x1024, .f32⟩
  | 9 => ⟨S1024x2048, .bf16⟩
  | 10 => ⟨S1024x1024, .bf16⟩
  | 11 => ⟨S4096x512, .f32⟩
  | 12 => ⟨S4096x512, .f32⟩
  | 13 => ⟨S4096x1024, .f32⟩
  | 14 => ⟨S1024x1024, .f32⟩
  | 15 => ⟨S1024x1024, .f32⟩
  | 16 => ⟨S1024x2048, .f32⟩
  | 17 => ⟨S1024x1024, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S2x2048x1024, .f32⟩
  | 41 => ⟨S512x1024, .f32⟩
  | 42 => ⟨S_, .f32⟩
  | 43 => ⟨S512, .f32⟩
  | 44 => ⟨S512x1, .f32⟩
  | 45 => ⟨S_, .f32⟩
  | 46 => ⟨S512x1, .f32⟩
  | 47 => ⟨S512x1, .f32⟩
  | 48 => ⟨S_, .f32⟩
  | 49 => ⟨S512x1, .f32⟩
  | 50 => ⟨S512x1, .f32⟩
  | 51 => ⟨S512x1, .f32⟩
  | 52 => ⟨S512x1, .f32⟩
  | 53 => ⟨S_, .f32⟩
  | 54 => ⟨S512x1, .f32⟩
  | 55 => ⟨S512x1, .f32⟩
  | 56 => ⟨S512x1024, .f32⟩
  | 57 => ⟨S512x1024, .f32⟩
  | 58 => ⟨S512x1024, .f32⟩
  | 59 => ⟨S512x1024, .f32⟩
  | 60 => ⟨S512x2048, .f32⟩
  | 61 => ⟨S2x256x2048, .f32⟩
  | 62 => ⟨S2x2048x4x256, .f32⟩
  | 63 => ⟨S2x256x1024, .f32⟩
  | 64 => ⟨S2x256x4x256, .f32⟩
  | 65 => ⟨S2x256x1024, .f32⟩
  | 66 => ⟨S2x256x4x256, .f32⟩
  | 67 => ⟨S2x4x2048x256, .f32⟩
  | 68 => ⟨S_, .f32⟩
  | 69 => ⟨S2x4x2048x256, .f32⟩
  | 70 => ⟨S2x4x2048x256, .f32⟩
  | 71 => ⟨S_, .f32⟩
  | 72 => ⟨S2x4x2048, .f32⟩
  | 73 => ⟨S2x4x2048x1, .f32⟩
  | 74 => ⟨S2x4x2048x256, .f32⟩
  | 75 => ⟨S2x4x2048x256, .i1⟩
  | 76 => ⟨S2x4x2048x256, .f32⟩
  | 77 => ⟨S_, .f32⟩
  | 78 => ⟨S2x4x2048, .f32⟩
  | 79 => ⟨S_, .f32⟩
  | 80 => ⟨S2x4x2048, .f32⟩
  | 81 => ⟨S2x4x2048, .f32⟩
  | 82 => ⟨S_, .f32⟩
  | 83 => ⟨S2x4x2048, .f32⟩
  | 84 => ⟨S2x4x2048, .i1⟩
  | 85 => ⟨S_, .f32⟩
  | 86 => ⟨S2x4x2048, .f32⟩
  | 87 => ⟨S2x4x2048, .i1⟩
  | 88 => ⟨S_, .f32⟩
  | 89 => ⟨S2x4x2048, .f32⟩
  | 90 => ⟨S_, .f32⟩
  | 91 => ⟨S2x4x2048, .f32⟩
  | 92 => ⟨S_, .f32⟩
  | 93 => ⟨S2x4x2048, .f32⟩
  | 94 => ⟨S2x4x2048, .f32⟩
  | 95 => ⟨S2x4x2048, .f32⟩
  | 96 => ⟨S2x4x2048x1, .f32⟩
  | 97 => ⟨S2x4x2048x256, .f32⟩
  | 98 => ⟨S2x4x2048x256, .f32⟩
  | 99 => ⟨S2x4x2048x256, .f32⟩
  | 100 => ⟨S_, .f32⟩
  | 101 => ⟨S2x4x2048, .f32⟩
  | 102 => ⟨S2x4x2048x1, .f32⟩
  | 103 => ⟨S2x4x2048x256, .f32⟩
  | 104 => ⟨S2x4x2048x256, .f32⟩
  | 105 => ⟨S2x4x2048x1, .f32⟩
  | 106 => ⟨S_, .f32⟩
  | 107 => ⟨S2x4x2048x1, .f32⟩
  | 108 => ⟨S2x4x2048x1, .f32⟩
  | 109 => ⟨S2x4x256x2048, .f32⟩
  | 110 => ⟨S2x2048x4x256, .f32⟩
  | 111 => ⟨S2x2048x1024, .f32⟩
  | 112 => ⟨S4096x1024, .f32⟩
  | 113 => ⟨S4096x1024, .f32⟩
  | 114 => ⟨S4096x1024, .f32⟩
  | 115 => ⟨S4096x1024, .f32⟩
  | 116 => ⟨S1024x1024, .f32⟩
  | 117 => ⟨S1024x1024, .f32⟩
  | 118 => ⟨S4096x1024, .f32⟩
  | 119 => ⟨S2x2048x1024, .f32⟩
  | 120 => ⟨S2x2048x4x256, .f32⟩
  | 121 => ⟨S2x4x256x2048, .f32⟩
  | 122 => ⟨S2x4x2048x256, .f32⟩
  | 123 => ⟨S2x4x256x256, .f32⟩
  | 124 => ⟨S2x256x4x256, .f32⟩
  | 125 => ⟨S2x4x2048x256, .f32⟩
  | 126 => ⟨S2x4x2048x256, .f32⟩
  | 127 => ⟨S2x4x2048x256, .f32⟩
  | _ => ⟨S4096x1024, .f32⟩

abbrev hbmTy0_1 (i : Nat) : BufTy := match i % 128 with
  | 0 => ⟨S_, .f32⟩
  | 1 => ⟨S2x4x2048, .f32⟩
  | 2 => ⟨S2x4x2048x1, .f32⟩
  | 3 => ⟨S2x4x2048x1, .f32⟩
  | 4 => ⟨S2x4x2048x256, .f32⟩
  | 5 => ⟨S2x4x2048x256, .f32⟩
  | 6 => ⟨S_, .f32⟩
  | 7 => ⟨S2x4x2048, .f32⟩
  | 8 => ⟨S2x4x2048x256, .f32⟩
  | 9 => ⟨S2x4x2048x256, .f32⟩
  | 10 => ⟨S2x4x2048x256, .f32⟩
  | 11 => ⟨S_, .f32⟩
  | 12 => ⟨S2x4x2048x256, .f32⟩
  | 13 => ⟨S2x4x2048x256, .f32⟩
  | 14 => ⟨S2x4x256x256, .f32⟩
  | 15 => ⟨S2x256x4x256, .f32⟩
  | 16 => ⟨S2x4x2048x256, .f32⟩
  | 17 => ⟨S2x2048x4x256, .f32⟩
  | 18 => ⟨S2x256x1024, .f32⟩
  | 19 => ⟨S_, .f32⟩
  | 20 => ⟨S2x256x2048, .f32⟩
  | 21 => ⟨S2x256x1024, .f32⟩
  | 22 => ⟨S_, .f32⟩
  | 23 => ⟨S2x256x2048, .f32⟩
  | 24 => ⟨S2x256x2048, .f32⟩
  | 25 => ⟨S2x2048x1024, .f32⟩
  | 26 => ⟨S512x2048, .f32⟩
  | 27 => ⟨S2048x1024, .f32⟩
  | 28 => ⟨S1024x2048, .f32⟩
  | 29 => ⟨S512x1024, .f32⟩
  | 30 => ⟨S512x1024, .f32⟩
  | 31 => ⟨S_, .f32⟩
  | 32 => ⟨S1024, .f32⟩
  | 33 => ⟨S1x1024, .f32⟩
  | 34 => ⟨S512x1024, .f32⟩
  | 35 => ⟨S512x1024, .f32⟩
  | 36 => ⟨S512x1024, .f32⟩
  | 37 => ⟨S_, .f32⟩
  | 38 => ⟨S512, .f32⟩
  | 39 => ⟨S512x1, .f32⟩
  | 40 => ⟨S512x1024, .f32⟩
  | 41 => ⟨S512x1024, .f32⟩
  | 42 => ⟨S512x1, .f32⟩
  | 43 => ⟨S_, .f32⟩
  | 44 => ⟨S512x1, .f32⟩
  | 45 => ⟨S512x1, .f32⟩
  | 46 => ⟨S_, .f32⟩
  | 47 => ⟨S512, .f32⟩
  | 48 => ⟨S512x1024, .f32⟩
  | 49 => ⟨S512x1024, .f32⟩
  | 50 => ⟨S512x1024, .f32⟩
  | 51 => ⟨S512x1024, .f32⟩
  | 52 => ⟨S512x1024, .f32⟩
  | 53 => ⟨S4096x1024, .f32⟩
  | 54 => ⟨S1024x1024, .f32⟩
  | 55 => ⟨S1024x1024, .f32⟩
  | 56 => ⟨S4096x1024, .f32⟩
  | 57 => ⟨S4096x1024, .f32⟩
  | 58 => ⟨S_, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S4096x1024, .f32⟩
  | 68 => ⟨S4096x1024, .f32⟩
  | 69 => ⟨S4096x1024, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S1024x1024, .f32⟩
  | 82 => ⟨S1024x1024, .f32⟩
  | 83 => ⟨S4096x1024, .f32⟩
  | 84 => ⟨S1024x1024, .bf16⟩
  | 85 => ⟨S1024x1024, .bf16⟩
  | 86 => ⟨S4096x1024, .bf16⟩
  | 87 => ⟨S1024x2048, .bf16⟩
  | 88 => ⟨S512x1024, .f32⟩
  | 89 => ⟨S512x1024, .bf16⟩
  | 90 => ⟨S512x1024, .f32⟩
  | 91 => ⟨S512x1024, .bf16⟩
  | 92 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_18 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_19 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_v115 : Ref sig .tc := ⟨.hbm, 149, rfl⟩
abbrev main_cst_22 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_23 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_cst_26 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_27 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_cst_28 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_29 : Ref sig .tc := ⟨.hbm, 199, rfl⟩
abbrev main_v158 : Ref sig .tc := ⟨.hbm, 200, rfl⟩
abbrev main_v159 : Ref sig .tc := ⟨.hbm, 201, rfl⟩
abbrev main_cst_30 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩

abbrev nD : Nat := 1
abbrev τ : Topo := Topo.v7x

variable {F : FTy → Type} [FloatOps F]
-- ==== Kernel4.lean ====
abbrev S4096x1024 : Shape := ⟨2, ![4096, 1024]⟩
abbrev S4096x1536 : Shape := ⟨2, ![4096, 1536]⟩
abbrev S4096x128 : Shape := ⟨2, ![4096, 128]⟩
abbrev S1x1024 : Shape := ⟨2, ![1, 1024]⟩
abbrev S1024x2568 : Shape := ⟨2, ![1024, 2568]⟩
abbrev S1024x2560 : Shape := ⟨2, ![1024, 2560]⟩
abbrev S1024x1024 : Shape := ⟨2, ![1024, 1024]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S4096x2560 : Shape := ⟨2, ![4096, 2560]⟩
abbrev S512x2560 : Shape := ⟨2, ![512, 2560]⟩
abbrev S512x4096 : Shape := ⟨2, ![512, 4096]⟩
abbrev S512x1536 : Shape := ⟨2, ![512, 1536]⟩
abbrev S512x128 : Shape := ⟨2, ![512, 128]⟩
abbrev S1024 : Shape := ⟨1, ![1024]⟩

abbrev nBuf : Space → Nat
  | .hbm => 23
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1536, .bf16⟩
  | .hbm, ⟨3, _⟩ => ⟨S4096x128, .bf16⟩
  | .hbm, ⟨4, _⟩ => ⟨S4096x1024, .bf16⟩
  | .hbm, ⟨5, _⟩ => ⟨S1x1024, .f32⟩
  | .hbm, ⟨6, _⟩ => ⟨S1024x2568, .bf16⟩
  | .hbm, ⟨7, _⟩ => ⟨S1024x2560, .bf16⟩
  | .hbm, ⟨8, _⟩ => ⟨S1024x1024, .bf16⟩
  | .hbm, ⟨9, _⟩ => ⟨S1024x1536, .bf16⟩
  | .hbm, ⟨10, _⟩ => ⟨S1024x8, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S4096x1024, .bf16⟩
  | .hbm, ⟨15, _⟩ => ⟨S1024x4096, .bf16⟩
  | .hbm, ⟨16, _⟩ => ⟨S4096x2560, .bf16⟩
  | .hbm, ⟨17, _⟩ => ⟨S1024x1024, .bf16⟩
  | .hbm, ⟨18, _⟩ => ⟨S1024x1536, .bf16⟩
  | .hbm, ⟨19, _⟩ => ⟨S1024x128, .bf16⟩
  | .hbm, ⟨20, _⟩ => ⟨S1024x8, .bf16⟩
  | .hbm, ⟨21, _⟩ => ⟨S4096x1024, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x2560, .bf16⟩
  | .local _ .vmem, ⟨10, _⟩ => ⟨S512x2560, .bf16⟩
  | .local _ .vmem, ⟨11, _⟩ => ⟨S512x2560, .bf16⟩
  | .local _ .vmem, ⟨12, _⟩ => ⟨S512x4096, .bf16⟩
  | .local _ .vmem, ⟨13, _⟩ => ⟨S512x4096, .bf16⟩
  | .local _ .vmem, ⟨14, _⟩ => ⟨S4096x1024, .bf16⟩
  | .local _ .vmem, ⟨15, _⟩ => ⟨S512x1024, .bf16⟩
  | .local _ .vmem, ⟨16, _⟩ => ⟨S512x1024, .bf16⟩
  | .local _ .vmem, ⟨17, _⟩ => ⟨S512x4096, .bf16⟩
  | .local _ .vmem, ⟨18, _⟩ => ⟨S512x4096, .bf16⟩
  | .local _ .vmem, ⟨19, _⟩ => ⟨S4096x1536, .bf16⟩
  | .local _ .vmem, ⟨20, _⟩ => ⟨S512x1536, .bf16⟩
  | .local _ .vmem, ⟨21, _⟩ => ⟨S512x1536, .bf16⟩
  | .local _ .vmem, ⟨22, _⟩ => ⟨S512x4096, .bf16⟩
  | .local _ .vmem, ⟨23, _⟩ => ⟨S512x4096, .bf16⟩
  | .local _ .vmem, ⟨24, _⟩ => ⟨S4096x128, .bf16⟩
  | .local _ .vmem, ⟨25, _⟩ => ⟨S512x128, .bf16⟩
  | .local _ .vmem, ⟨26, _⟩ => ⟨S512x128, .bf16⟩
  | .local _ .vmem, ⟨27, _⟩ => ⟨S512x1024, .bf16⟩
  | .local _ .vmem, ⟨28, _⟩ => ⟨S512x1024, .bf16⟩
  | .local _ .vmem, ⟨29, _⟩ => ⟨S512x1536, .bf16⟩
  | .local _ .vmem, ⟨30, _⟩ => ⟨S512x1536, .bf16⟩
  | .local _ .vmem, ⟨31, _⟩ => ⟨S512x128, .bf16⟩
  | .local _ .vmem, ⟨32, _⟩ => ⟨S512x128, .bf16⟩
  | .local _ .vmem, ⟨33, _⟩ => ⟨S1024x1024, .bf16⟩
  | .local _ .vmem, ⟨34, _⟩ => ⟨S1024x1536, .bf16⟩
  | .local _ .vmem, ⟨35, _⟩ => ⟨S1024x128, .bf16⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S512x1024, .bf16⟩
  | .local _ .vmem, ⟨40, _⟩ => ⟨S512x1024, .bf16⟩
  | .local _ .vmem, ⟨41, _⟩ => ⟨S512x1024, .f32⟩
  | .local _ .vmem, ⟨42, _⟩ => ⟨S512x1024, .f32⟩
  | .local _ .vmem, ⟨43, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc5_stg7_0 : Ref sig .tc := ⟨.vmem, 38, rfl⟩
abbrev cc5_stg8_0 : Ref sig .tc := ⟨.vmem, 39, rfl⟩
abbrev cc5_stg8_1 : Ref sig .tc := ⟨.vmem, 40, rfl⟩
abbrev cc5_stg9_0 : Ref sig .tc := ⟨.vmem, 41, rfl⟩
abbrev cc5_stg9_1 : Ref sig .tc := ⟨.vmem, 42, rfl⟩
abbrev cc5_stg10_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc5_sem7_0 : DmaSem sig := 38
abbrev cc5_sem8_0 : DmaSem sig := 39
abbrev cc5_sem8_1 : DmaSem sig := 40
abbrev cc5_sem9_0 : DmaSem sig := 41
abbrev cc5_sem9_1 : DmaSem sig := 42
abbrev cc5_sem10_0 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x2560 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1536 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1536 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x1536 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S1024x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true]

abbrev stage5_4 : Fin 1 → Memref sig .tc .vmem S1024x1536 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, true]

abbrev stage5_5 : Fin 1 → Memref sig .tc .vmem S1024x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, true]

abbrev stage5_6 : Fin 2 → Memref sig .tc .vmem S512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev stage5_7 : Fin 1 → Memref sig .tc .vmem S1x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 2 → Memref sig .tc .vmem S512x1024 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev stage5_9 : Fin 2 → Memref sig .tc .vmem S512x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, false]

abbrev stage5_10 : Fin 1 → Memref sig .tc .vmem S1x1024 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false, false]
-- ==== Reference4Ideal.lean ====
abbrev S4096x1024 : Shape := ⟨2, ![4096, 1024]⟩
abbrev S4096x1536 : Shape := ⟨2, ![4096, 1536]⟩
abbrev S4096x128 : Shape := ⟨2, ![4096, 128]⟩
abbrev S1x1024 : Shape := ⟨2, ![1, 1024]⟩
abbrev S1024x2568 : Shape := ⟨2, ![1024, 2568]⟩
abbrev S_ : Shape := ⟨0, ![]⟩
abbrev S4096 : Shape := ⟨1, ![4096]⟩
abbrev S4096x1 : Shape := ⟨2, ![4096, 1]⟩
abbrev S4096x2568 : Shape := ⟨2, ![4096, 2568]⟩
abbrev S4096x8 : Shape := ⟨2, ![4096, 8]⟩
abbrev S2568x1024 : Shape := ⟨2, ![2568, 1024]⟩
abbrev S1024 : Shape := ⟨1, ![1024]⟩
abbrev S4096x2560 : Shape := ⟨2, ![4096, 2560]⟩
abbrev S1024x1024 : Shape := ⟨2, ![1024, 1024]⟩
abbrev S1024x1536 : Shape := ⟨2, ![1024, 1536]⟩
abbrev S1024x8 : Shape := ⟨2, ![1024, 8]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1536, .bf16⟩
  | .hbm, ⟨3, _⟩ => ⟨S4096x128, .bf16⟩
  | .hbm, ⟨4, _⟩ => ⟨S4096x1024, .bf16⟩
  | .hbm, ⟨5, _⟩ => ⟨S1x1024, .f32⟩
  | .hbm, ⟨6, _⟩ => ⟨S1024x2568, .bf16⟩
  | .hbm, ⟨7, _⟩ => ⟨S1024x2568, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2568, .f32⟩
  | .hbm, ⟨28, _⟩ => ⟨S4096x1024, .f32⟩
  | .hbm, ⟨29, _⟩ => ⟨S4096x1536, .f32⟩
  | .hbm, ⟨30, _⟩ => ⟨S4096x8, .bf16⟩
  | .hbm, ⟨31, _⟩ => ⟨S4096x8, .f32⟩
  | .hbm, ⟨32, _⟩ => ⟨S4096x2568, .f32⟩
  | .hbm, ⟨33, _⟩ => ⟨S4096x1024, .f32⟩
  | .hbm, ⟨34, _⟩ => ⟨S2568x1024, .f32⟩
  | .hbm, ⟨35, _⟩ => ⟨S1024x2568, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x2560, .f32⟩
  | .hbm, ⟨62, _⟩ => ⟨S4096x2560, .bf16⟩
  | .hbm, ⟨63, _⟩ => ⟨S1024x1024, .f32⟩
  | .hbm, ⟨64, _⟩ => ⟨S1024x1024, .bf16⟩
  | .hbm, ⟨65, _⟩ => ⟨S1024x1536, .f32⟩
  | .hbm, ⟨66, _⟩ => ⟨S1024x1536, .bf16⟩
  | .hbm, ⟨67, _⟩ => ⟨S1024x8, .f32⟩
  | .hbm, ⟨68, _⟩ => ⟨S1024x8, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel5.lean ====
abbrev S1x1024 : Shape := ⟨2, ![1, 1024]⟩
abbrev S1x512 : Shape := ⟨2, ![1, 512]⟩

abbrev nBuf : Space → Nat
  | .hbm => 14
  | .vmem => 14
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x512, .f32⟩
  | .hbm, ⟨12, _⟩ => ⟨S1x512, .f32⟩
  | .hbm, ⟨13, _⟩ => ⟨S1x512, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Kernel5Ideal.lean ====
abbrev S1x1024 : Shape := ⟨2, ![1, 1024]⟩
abbrev S1x512 : Shape := ⟨2, ![1, 512]⟩

abbrev nBuf : Space → Nat
  | .hbm => 14
  | .vmem => 14
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x512, .f32⟩
  | .hbm, ⟨12, _⟩ => ⟨S1x512, .f32⟩
  | .hbm, ⟨13, _⟩ => ⟨S1x512, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference5Ideal.lean ====
abbrev S1x1024 : Shape := ⟨2, ![1, 1024]⟩
abbrev S1x512 : Shape := ⟨2, ![1, 512]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S_, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel6.lean ====
abbrev S4x128x1024 : Shape := ⟨3, ![4, 128, 1024]⟩
abbrev S1x128x1024 : Shape := ⟨3, ![1, 128, 1024]⟩
abbrev S_ : Shape := ⟨0, ![]⟩
abbrev S1 : Shape := ⟨1, ![1]⟩
abbrev S128x1024 : Shape := ⟨2, ![128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S_, .i32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .local _ .vmem, ⟨0, _⟩ => ⟨S1x128x1024, .bf16⟩
  | .local _ .vmem, ⟨1, _⟩ => ⟨S4x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S4x128x1024 : Shape := ⟨3, ![4, 128, 1024]⟩
abbrev S1x128x1024 : Shape := ⟨3, ![1, 128, 1024]⟩
abbrev S3x128x1024 : Shape := ⟨3, ![3, 128, 1024]⟩
abbrev S_ : Shape := ⟨0, ![]⟩
abbrev S128x1024 : Shape := ⟨2, ![128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .bf16⟩
  | .hbm, ⟨6, _⟩ => ⟨S1x128x1024, .f32⟩
  | .hbm, ⟨7, _⟩ => ⟨S3x128x1024, .bf16⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S_, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S_, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | .hbm, ⟨42, _⟩ => ⟨S1x128x1024, .f32⟩
  | .hbm, ⟨43, _⟩ => ⟨S_, .f32⟩
  | .hbm, ⟨44, _⟩ => ⟨S1x128x1024, .f32⟩
  | .hbm, ⟨45, _⟩ => ⟨S1x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel7.lean ====
abbrev S1x8 : Shape := ⟨2, ![1, 8]⟩
abbrev S31x64 : Shape := ⟨2, ![31, 64]⟩

abbrev nBuf : Space → Nat
  | .hbm => 14
  | .vmem => 14
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S31x64, .f32⟩
  | .hbm, ⟨12, _⟩ => ⟨S31x64, .f32⟩
  | .hbm, ⟨13, _⟩ => ⟨S31x64, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | .local _ .vmem, ⟨7, _⟩ => ⟨S31x64, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S31x64, .f32⟩
  | .local _ .vmem, ⟨12, _⟩ => ⟨S31x64, .f32⟩
  | .local _ .vmem, ⟨13, _⟩ => ⟨S31x64, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S31x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S31x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference7Ideal.lean ====
abbrev S1x8 : Shape := ⟨2, ![1, 8]⟩
abbrev S31x64 : Shape := ⟨2, ![31, 64]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .hbm, ⟨8, _⟩ => ⟨S_, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S1x8, .f32⟩
  | .hbm, ⟨23, _⟩ => ⟨S_, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | .hbm, ⟨37, _⟩ => ⟨S1x8, .f32⟩
  | .hbm, ⟨38, _⟩ => ⟨S_, .f32⟩
  | .hbm, ⟨39, _⟩ => ⟨S1x8, .f32⟩
  | .hbm, ⟨40, _⟩ => ⟨S1x8, .f32⟩
  | .hbm, ⟨41, _⟩ => ⟨S_, .f32⟩
  | .hbm, ⟨42, _⟩ => ⟨S31x64, .f32⟩
  | .hbm, ⟨43, _⟩ => ⟨S31x64, .f32⟩
  | .hbm, ⟨44, _⟩ => ⟨S_, .f32⟩
  | .hbm, ⟨45, _⟩ => ⟨S31x64, .f32⟩
  | .hbm, ⟨46, _⟩ => ⟨S31x64, .f32⟩
  | .hbm, ⟨47, _⟩ => ⟨S31x64, .f32⟩
  | .hbm, ⟨48, _⟩ => ⟨S_, .f32⟩
  | .hbm, ⟨49, _⟩ => ⟨S31x64, .f32⟩
  | .hbm, ⟨50, _⟩ => ⟨S31x64, .f32⟩
  | .hbm, ⟨51, _⟩ => ⟨S31x64, .f32⟩
  | .hbm, ⟨52, _⟩ => ⟨S_, .f32⟩
  | .hbm, ⟨53, _⟩ => ⟨S31x64, .f32⟩
  | .hbm, ⟨54, _⟩ => ⟨S31x64, .f32⟩
  | .hbm, ⟨55, _⟩ => ⟨S31x64, .f32⟩
  | .hbm, ⟨56, _⟩ => ⟨S_, .f32⟩
  | .hbm, ⟨57, _⟩ => ⟨S31x64, .f32⟩
  | .hbm, ⟨58, _⟩ => ⟨S31x64, .f32⟩
  | .hbm, ⟨59, _⟩ => ⟨S_, .f32⟩
  | .hbm, ⟨60, _⟩ => ⟨S31x64, .f32⟩
  | .hbm, ⟨61, _⟩ => ⟨S31x64, .f32⟩
  | .hbm, ⟨62, _⟩ => ⟨S31x64, .f32⟩
  | .hbm, ⟨63, _⟩ => ⟨S_, .f32⟩
  | .hbm, ⟨64, _⟩ => ⟨S31x64, .f32⟩
  | .hbm, ⟨65, _⟩ => ⟨S31x64, .f32⟩
  | .hbm, ⟨66, _⟩ => ⟨S31x64, .f32⟩
  | .hbm, ⟨67, _⟩ => ⟨S_, .f32⟩
  | .hbm, ⟨68, _⟩ => ⟨S31x64, .f32⟩
  | .hbm, ⟨69, _⟩ => ⟨S31x64, .f32⟩
  | .hbm, ⟨70, _⟩ => ⟨S31x64, .f32⟩
  | .hbm, ⟨71, _⟩ => ⟨S_, .f32⟩
  | .hbm, ⟨72, _⟩ => ⟨S31x64, .f32⟩
  | .hbm, ⟨73, _⟩ => ⟨S31x64, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.RowMath.lean ====
/- One row of the attention and its gradient, over the extended reals: what the kernel writes, what the
   reference writes, and that they are one value when the queries and the keys are real. No program occurs here. -/
module

public import Idealize.ShloMosaic.PureOps.Ideal
public import Idealize.ShloMosaic.PureOps.Ideal.Laws
public import Idealize.ShloMosaic.Lib.Pointwise.Tactic

@[expose] public section

noncomputable section

namespace Attn

open Idealize.ShloMosaic
open scoped BigOperators

/-! ## Literals -/

/-- The scale the kernel multiplies by. -/
theorem scale_val : Ideal.ofBits .f32 0x3D800000#32 = ((1 / 16 : ℝ) : EReal) := by
  simp [Ideal.ofBits, Ideal.ieee, -EReal.coe_mul]; norm_num

/-- The root of the head's width, as the reference divides by it. -/
theorem sixteen_val : Ideal.ofBits .f32 0x41800000#32 = ((16 : ℝ) : EReal) := by
  simp [Ideal.ofBits, Ideal.ieee, -EReal.coe_mul]; norm_num

/-- What a maximum starts from. -/
theorem bot_val : Ideal.ofBits .f32 0xFF800000#32 = (⊥ : EReal) := by
  simp [Ideal.ofBits, Ideal.ieee]

/-! ## Multiplying a sum by a real that is not negative -/

theorem sum_mul_real {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## A row's probabilities and the gradient of its scores -/

section Row

variable {ι : Type*} [Fintype ι]

/-- The greatest score of a row. -/
def mx (s : ι → EReal) : EReal := Finset.univ.fold max (Ideal.ofBits .f32 0xFF800000#32) s

/-- The exponentials of a row's scores, from the greatest. -/
def ex (s : ι → EReal) (j : ι) : EReal := Ideal.exp (s j - mx s)

/-- A row's probabilities. -/
def sm (s : ι → EReal) (j : ι) : EReal := Ideal.div (ex s j) (∑ i, ex s i)

/-- The gradient of a row's scores, for scores `s` and the gradient `p` of the probabilities: as the kernel has it. -/
def ds (s p : ι → EReal) (j : ι) : EReal := sm s j * (p j - ∑ i, sm s i * p i)

/-- The same as the reference has it: the quotient differentiated by numerator and by denominator. -/
def dsRef (s p : ι → EReal) (j : ι) : EReal :=
  (Ideal.div (p j) (∑ i, ex s i)
    + -(∑ i, p i * Ideal.div 1 ((∑ i, ex s i) * ∑ i, ex s i) * ex s i)) * ex s j

theorem mx_mem [Nonempty ι] (s : ι → EReal) : ∃ i, mx s = s i := by
  obtain ⟨i, -, h⟩ := Finset.exists_mem_eq_sup (Finset.univ : Finset ι) Finset.univ_nonempty s
  refine ⟨i, ?_⟩
  rw [← h, mx, bot_val]
  rfl

/-- Real scores have real exponentials, all positive. -/
theorem ex_real [Nonempty ι] (s : ι → ℝ) : ∃ e : ι → ℝ, (∀ j, 0 < e j) ∧ ∀ j, ex (fun i => (s i : EReal)) j = (e j : EReal) := by
  obtain ⟨i, h⟩ := mx_mem (fun i => (s i : EReal))
  refine ⟨fun j => Real.exp (s j - s i), fun j => Real.exp_pos _, fun j => ?_⟩
  rw [ex, h, ← EReal.coe_sub]
  rfl

theorem div_pos_real (x : EReal) {z : ℝ} (hz : 0 < z) : Ideal.div x (z : EReal) = x * ((1 / z : ℝ) : EReal) :=
  Ideal.div_coe hz.ne' x

/-- Where the scores are real, the two gradients are one value, whatever the gradient of the probabilities is. -/
theorem dsRef_eq [Nonempty ι] (s : ι → EReal) (hs : ∀ j, ∃ x : ℝ, s j = (x : EReal)) (p : ι → EReal) (j : ι) :
    dsRef s p j = ds s p j := by
  choose s' hs' using hs
  obtain rfl : s = fun i => (s' i : EReal) := funext hs'
  obtain ⟨e, he, hex⟩ := ex_real s'
  have hz : 0 < ∑ i, e i := Finset.sum_pos (fun i _ => he i) Finset.univ_nonempty
  have hZ : (∑ i, ex (fun i => (s' i : EReal)) i) = ((∑ i, e i : ℝ) : EReal) := by
    rw [coe_sum]; exact Finset.sum_congr rfl fun i _ => hex i
  generalize (∑ i, e i : ℝ) = z at hz hZ
  have hsm : ∀ i, sm (fun i => (s' i : EReal)) i = (e i : EReal) * ((1 / z : ℝ) : EReal) := fun i => by
    rw [sm, hZ, hex, div_pos_real _ hz]
  unfold dsRef ds
  rw [hZ, div_pos_real _ hz, ← EReal.coe_mul, div_pos_real _ (mul_pos hz hz)]
  simp only [hex, hsm, one_mul]
  have ha : (0 : ℝ) ≤ 1 / z := (div_pos one_pos hz).le
  have hsum : (∑ i, p i * ((1 / (z * z) : ℝ) : EReal) * (e i : EReal))
      = (∑ i, (e i : EReal) * ((1 / z : ℝ) : EReal) * p i) * ((1 / z : ℝ) : EReal) := by
    rw [sum_mul_real _ _ ha]
    refine Finset.sum_congr rfl fun i _ => ?_
    rw [show (1 / (z * z) : ℝ) = 1 / z * (1 / z) by field_simp, EReal.coe_mul]
    ac_rfl
  rw [hsum, ← EReal.neg_mul, ← EReal.right_distrib_of_nonneg_of_ne_top (by exact_mod_cast ha) (EReal.coe_ne_top _), sub_eq_add_neg]
  ac_rfl

end Row

/-! ## Scores -/

/-- The scores of a row `q` against the rows of `K`, scaled. -/
def rowS (q : Fin 256 → EReal) (K : Fin 256 → Fin 256 → EReal) (j : Fin 256) : EReal :=
  (∑ d, q d * K j d) * Ideal.ofBits .f32 0x3D800000#32

/-- A row's probabilities from the row itself, -/
def prob (q : Fin 256 → EReal) (K : Fin 256 → Fin 256 → EReal) : Fin 256 → EReal := sm (rowS q K)

/-- and the gradient of its scores, for a row `g` of cotangents. -/
def gradS (q : Fin 256 → EReal) (K V : Fin 256 → Fin 256 → EReal) (g : Fin 256 → EReal) : Fin 256 → EReal :=
  ds (rowS q K) fun j => ∑ d, g d * V j d

/-- Real rows have real scores. -/
theorem rowS_real (q : Fin 256 → EReal) (K : Fin 256 → Fin 256 → EReal) (hq : ∀ d, ∃ x : ℝ, q d = (x : EReal))
    (hK : ∀ j d, ∃ x : ℝ, K j d = (x : EReal)) (j : Fin 256) : ∃ x : ℝ, rowS q K j = (x : EReal) := by
  choose q' hq' using hq
  choose K' hK' using hK
  refine ⟨(∑ d, q' d * K' j d) * (1 / 16), ?_⟩
  rw [rowS, scale_val, EReal.coe_mul, coe_sum]
  simp only [hq', hK', EReal.coe_mul]

/-- Dividing by sixteen is scaling. -/
theorem div_sixteen (x : EReal) : Ideal.div x (Ideal.ofBits .f32 0x41800000#32) = x * Ideal.ofBits .f32 0x3D800000#32 := by
  rw [sixteen_val, scale_val]
  exact Ideal.div_coe (by norm_num) x

/-- Scaling a sum is scaling its terms. -/
theorem sum_scale {ι : Type*} (s : Finset ι) (f : ι → EReal) :
    (∑ i ∈ s, f i) * Ideal.ofBits .f32 0x3D800000#32 = ∑ i ∈ s, f i * Ideal.ofBits .f32 0x3D800000#32 := by
  rw [scale_val]; exact sum_mul_real s f (by norm_num)

/-- The greatest score taken once more with the start is itself. -/
theorem max_mx {ι : Type*} [Fintype ι] (s : ι → EReal) : max (Ideal.ofBits .f32 0xFF800000#32) (mx s) = mx s := by
  rw [bot_val]; exact max_bot_left _

end Attn

end
-- ==== Proof.Heads.lean ====
/- What the kernel computes for one head of one tile: the queries' gradient it stores and what it adds to the keys'
   and the values' gradients, each read at an index as a row's arithmetic (RowMath). The four heads' stores are one
   function of the head's columns. -/
module

public import proofs.«01_k».proof.Proof.RowMath
public import proofs.«01_k».proof.Proof.Gen.KernelIdeal.Skeleton
public import Idealize.ShloMosaic.Lib.Pointwise.Tactic
public import Idealize.ShloMosaic.Lib.Pointwise

@[expose] public section

set_option maxRecDepth 16384

noncomputable section

namespace Attn

open Idealize.ShloMosaic Cert.KernelIdeal Cert.KernelIdeal.Gen

/-- A head's queries, keys, values and cotangents as a tile holds them. -/
abbrev Rows : Type := Vec Ideal S1x512x256 .bf16
abbrev Keys : Type := Vec Ideal S1x256x256 .bf16

variable (q : Rows) (k v : Keys) (g : Rows)

/-- A head's row of queries or of cotangents, and its table of keys or of values. -/
abbrev row (q : Rows) (i : Fin 512) (d : Fin 256) : EReal := q (ix3 0 i d)
abbrev tab (k : Keys) (j d : Fin 256) : EReal := k (ix3 0 j d)

theorem pay7_at (i : Fin 512) (j : Fin 256) : k0_pay7 q k (ix2 i j) = prob (row q i) (tab k) j := by
  pointwise [k0_pay7, k0_pay4, k0_pay5]
  rfl

theorem pay8_at (i : Fin 512) (j : Fin 256) : k0_pay8 q k v g (ix2 i j) = gradS (row q i) (tab k) (tab v) (row g i) j := by
  pointwise [k0_pay8, k0_pay6, pay7_at]
  rfl

/-- The queries' gradient, as head 0 stores it. -/
def headDq : Rows := k0_pay10 (k0_pay9 q k v g)

/-- What a head adds to the keys' gradient, as head 0 stores it over what was there. -/
def headDk (old : Vec Ideal S1x256x256 .f32) : Vec Ideal S1x256x256 .f32 := k0_pay11 (k0_pay4 q) (k0_pay8 q k v g) old

/-- What a head adds to the values' gradient, likewise. -/
def headDv (old : Vec Ideal S1x256x256 .f32) : Vec Ideal S1x256x256 .f32 := k0_pay12 (k0_pay6 g) (k0_pay7 q k) old

theorem headDq_at (i : Fin 512) (d : Fin 256) : headDq q k v g (ix3 0 i d)
    = (∑ j, gradS (row q i) (tab k) (tab v) (row g i) j * k (ix3 0 j d)) * Ideal.ofBits .f32 0x3D800000#32 := by
  pointwise [headDq, k0_pay10, k0_pay9, k0_pay5, pay8_at]

theorem headDk_at (old : Vec Ideal S1x256x256 .f32) (j d : Fin 256) : headDk q k v g old (ix3 0 j d)
    = old (ix3 0 j d) + (∑ i, gradS (row q i) (tab k) (tab v) (row g i) j * q (ix3 0 i d)) * Ideal.ofBits .f32 0x3D800000#32 := by
  pointwise [headDk, k0_pay11, k0_pay4, pay8_at]

theorem headDv_at (old : Vec Ideal S1x256x256 .f32) (j d : Fin 256) : headDv q k g old (ix3 0 j d)
    = old (ix3 0 j d) + ∑ i, prob (row q i) (tab k) j * g (ix3 0 i d) := by
  pointwise [headDv, k0_pay12, k0_pay6, pay7_at]

end Attn

end
-- ==== Proof.Tile.lean ====
/- What one grid point of the kernel leaves in its two output blocks: the tile's queries' gradient, and the keys' and
   values' gradients with the tile's share added to what was there (to zero, at the first tile of a sequence). -/
module

public import proofs.«01_k».proof.Proof.Heads
public import proofs.«01_k».proof.Proof.Gen.KernelIdeal.Value
public import Idealize.ShloMosaic.Lib.Pipeline.ReadBack

@[expose] public section

set_option maxRecDepth 16384

noncomputable section

namespace Attn

open Idealize.ShloMosaic Idealize.ShloMosaic.TcCoe Idealize.ShloMosaic.Tactic Cert.KernelIdeal Cert.KernelIdeal.Gen Idealize.SL.Sem

/-! ## Columns -/

/-- Column `d` of head `h` among the queries' columns and among the keys', -/
def col (h : Fin 4) (d : Fin 256) : Fin 1024 := ⟨256 * h.val + d.val, by have := h.isLt; have := d.isLt; omega⟩
def kcol (h : Fin 4) (d : Fin 256) : Fin 2048 := ⟨256 * h.val + d.val, by have := h.isLt; have := d.isLt; omega⟩

/-- and among the values'. -/
def vcol (h : Fin 4) (d : Fin 256) : Fin 2048 := ⟨1024 + 256 * h.val + d.val, by have := h.isLt; have := d.isLt; omega⟩

/-- Every column is some head's. -/
theorem col_onto (c : Fin 1024) : ∃ h d, col h d = c :=
  ⟨⟨c.val / 256, by have := c.isLt; omega⟩, ⟨c.val % 256, by omega⟩, Fin.ext (by simp only [col]; omega)⟩

theorem kvcol_onto (c : Fin 2048) : (∃ h d, kcol h d = c) ∨ ∃ h d, vcol h d = c := by
  by_cases hc : c.val < 1024
  · exact .inl ⟨⟨c.val / 256, by omega⟩, ⟨c.val % 256, by omega⟩, Fin.ext (by simp only [kcol]; omega)⟩
  · exact .inr ⟨⟨(c.val - 1024) / 256, by have := c.isLt; omega⟩, ⟨c.val % 256, by omega⟩, Fin.ext (by simp only [vcol]; have := c.isLt; omega)⟩

/-- A function of the heads' columns, as a function of the column. -/
def byCol {α : Type} (f : Fin 4 → Fin 256 → α) (c : Fin 1024) : α :=
  f ⟨c.val / 256, by have := c.isLt; omega⟩ ⟨c.val % 256, by omega⟩

theorem byCol_col {α : Type} (f : Fin 4 → Fin 256 → α) (h : Fin 4) (d : Fin 256) : byCol f (col h d) = f h d := by
  have := h.isLt; have := d.isLt
  unfold byCol col
  congr 1 <;> apply Fin.ext <;> dsimp only <;> omega

/-- Two functions of the heads' columns, the keys' and the values', likewise. -/
def byKvCol {α : Type} (f g : Fin 4 → Fin 256 → α) (c : Fin 2048) : α :=
  if c.val < 1024 then f ⟨c.val / 256 % 4, by omega⟩ ⟨c.val % 256, by omega⟩ else g ⟨c.val / 256 % 4, by omega⟩ ⟨c.val % 256, by omega⟩

theorem byKvCol_kcol {α : Type} (f g : Fin 4 → Fin 256 → α) (h : Fin 4) (d : Fin 256) : byKvCol f g (kcol h d) = f h d := by
  have := h.isLt; have := d.isLt
  unfold byKvCol kcol
  rw [if_pos (by dsimp only; omega)]
  congr 1 <;> apply Fin.ext <;> dsimp only <;> omega

theorem byKvCol_vcol {α : Type} (f g : Fin 4 → Fin 256 → α) (h : Fin 4) (d : Fin 256) : byKvCol f g (vcol h d) = g h d := by
  have := h.isLt; have := d.isLt
  unfold byKvCol vcol
  rw [if_neg (by dsimp only; omega)]
  congr 1 <;> apply Fin.ext <;> dsimp only <;> omega

/-! ## A tile -/

section Tile

variable (Q : Vec Ideal S1x512x1024 .bf16) (KV : Vec Ideal S1x256x2048 .bf16) (G : Vec Ideal S1x512x1024 .bf16)

abbrev tq (h : Fin 4) (i : Fin 512) (d : Fin 256) : EReal := Q (ix3 0 i (col h d))
abbrev tk (h : Fin 4) (j d : Fin 256) : EReal := KV (ix3 0 j (kcol h d))
abbrev tv (h : Fin 4) (j d : Fin 256) : EReal := KV (ix3 0 j (vcol h d))

/-- The tile's gradient of the scores. -/
abbrev tS (h : Fin 4) (i : Fin 512) : Fin 256 → EReal := gradS (tq Q h i) (tk KV h) (tv KV h) (tq G h i)

/-- The tile's queries' gradient. -/
def tileDq : Vec Ideal S1x512x1024 .bf16 := fun x =>
  byCol (fun h d => (∑ j, tS Q KV G h (x 1) j * tk KV h j d) * Ideal.ofBits .f32 0x3D800000#32) (x 2)

/-- The tile's share of the keys' and of the values' gradients. -/
def tileDkv : Vec Ideal S1x256x2048 .f32 := fun x =>
  byKvCol (fun h d => (∑ i, tS Q KV G h i (x 1) * tq Q h i d) * Ideal.ofBits .f32 0x3D800000#32)
    (fun h d => ∑ i, prob (tq Q h i) (tk KV h) (x 1) * tq G h i d) (x 2)

/-! ## Loads and stores of a head's columns -/

theorem emb_at {A B b : Nat} (o : Nat) (inb : ∀ a, (![0, 0, o] : Fin 3 → Nat) a + (![1, A, b] : Fin 3 → Nat) a ≤ (⟨3, ![1, A, B]⟩ : Shape).size a)
    (i : Fin A) (d : Fin b) (c : Fin B) (hc : c.val = o + d.val) :
    (Rect.unit (s := ⟨3, ![1, A, B]⟩) ![0, 0, o] ![1, A, b] inb).emb (ix3 0 i d) = ix3 0 i c := by
  funext a
  apply Fin.ext
  match a with
  | ⟨0, _⟩ => rfl
  | ⟨1, _⟩ => show 0 + 1 * i.val = i.val; omega
  | ⟨2, _⟩ => show o + 1 * d.val = c.val; omega

theorem ld_at {A B b : Nat} {φ : EltTy} (X : Vec Ideal ⟨3, ![1, A, B]⟩ φ) (o : Nat)
    (inb : ∀ a, (![0, 0, o] : Fin 3 → Nat) a + (![1, A, b] : Fin 3 → Nat) a ≤ (⟨3, ![1, A, B]⟩ : Shape).size a)
    (i : Fin A) (d : Fin b) (c : Fin B) (hc : c.val = o + d.val) :
    View.ld (Val := Elt Ideal) X (Rect.unit (s := ⟨3, ![1, A, B]⟩) ![0, 0, o] ![1, A, b] inb) (ix3 0 i d) = X (ix3 0 i c) :=
  congrArg X (emb_at o inb i d c hc)

variable (h : Fin 4) (o o' : Nat) (ho : o = 256 * h.val) (ho' : o' = 1024 + 256 * h.val)
variable (inbQ : ∀ a, (![0, 0, o] : Fin 3 → Nat) a + (![1, 512, 256] : Fin 3 → Nat) a ≤ S1x512x1024.size a)
variable (inbK : ∀ a, (![0, 0, o] : Fin 3 → Nat) a + (![1, 256, 256] : Fin 3 → Nat) a ≤ S1x256x2048.size a)
variable (inbV : ∀ a, (![0, 0, o'] : Fin 3 → Nat) a + (![1, 256, 256] : Fin 3 → Nat) a ≤ S1x256x2048.size a)

/-- The head's columns of a block. -/
def ldQ (X : Vec Ideal S1x512x1024 .bf16) : Rows := View.ld (Val := Elt Ideal) X (Rect.unit ![0, 0, o] ![1, 512, 256] inbQ)
def ldK {φ : EltTy} (X : Vec Ideal S1x256x2048 φ) : Vec Ideal S1x256x256 φ :=
  View.ld (Val := Elt Ideal) X (Rect.unit ![0, 0, o] ![1, 256, 256] inbK)

include ho in
theorem row_ld (X : Vec Ideal S1x512x1024 .bf16) (i : Fin 512) : row (ldQ o inbQ X) i = tq X h i :=
  funext fun d => ld_at X o inbQ i d (col h d) (by rw [ho]; rfl)

include ho in
theorem tab_ldK (X : Vec Ideal S1x256x2048 .bf16) : tab (ldK o inbK X) = tk X h :=
  funext fun j => funext fun d => ld_at X o inbK j d (kcol h d) (by rw [ho]; rfl)

include ho' in
theorem tab_ldV (X : Vec Ideal S1x256x2048 .bf16) : tab (ldK o' inbV X) = tv X h :=
  funext fun j => funext fun d => ld_at X o' inbV j d (vcol h d) (by rw [ho']; rfl)

include ho ho' in
/-- The head's store of the queries' gradient is the head's columns of the tile's. -/
theorem piece_dq (x : S1x512x256.Idx) : headDq (ldQ o inbQ Q) (ldK o inbK KV) (ldK o' inbV KV) (ldQ o inbQ G) x
    = tileDq Q KV G ((Rect.unit (s := S1x512x1024) ![0, 0, o] ![1, 512, 256] inbQ).emb x) := by
  obtain ⟨i, d, rfl⟩ : ∃ i d, x = ix3 0 i d := ⟨x 1, x 2, by rw [eq_ix3 x]; congr 1; exact Subsingleton.elim _ _⟩
  rw [headDq_at, emb_at o inbQ i d (col h d) (by rw [ho]; rfl)]
  rw [row_ld h o ho, row_ld h o ho, tab_ldK h o ho, tab_ldV h o' ho']
  refine Eq.trans ?_ (byCol_col (fun h d => (∑ j, tS Q KV G h i j * tk KV h j d) * Ideal.ofBits .f32 0x3D800000#32) h d).symm
  exact congrArg (· * _) (Finset.sum_congr rfl fun j _ => congrArg (_ * ·) (congrFun (congrFun (tab_ldK h o ho inbK KV) j) d))

include ho ho' in
/-- The head's store of the keys' gradient is its columns of what was there with the tile's share added, -/
theorem piece_dk (old : Vec Ideal S1x256x2048 .f32) (x : S1x256x256.Idx) :
    headDk (ldQ o inbQ Q) (ldK o inbK KV) (ldK o' inbV KV) (ldQ o inbQ G) (ldK o inbK old) x
      = old ((Rect.unit (s := S1x256x2048) ![0, 0, o] ![1, 256, 256] inbK).emb x)
        + tileDkv Q KV G ((Rect.unit (s := S1x256x2048) ![0, 0, o] ![1, 256, 256] inbK).emb x) := by
  obtain ⟨j, d, rfl⟩ : ∃ i d, x = ix3 0 i d := ⟨x 1, x 2, by rw [eq_ix3 x]; congr 1; exact Subsingleton.elim _ _⟩
  rw [headDk_at, emb_at o inbK j d (kcol h d) (by rw [ho]; rfl), tab_ldK h o ho, tab_ldV h o' ho']
  refine congr (congrArg _ (ld_at old o inbK j d (kcol h d) (by rw [ho]; rfl))) ?_
  refine Eq.trans ?_ (byKvCol_kcol (fun h d => (∑ i, tS Q KV G h i j * tq Q h i d) * Ideal.ofBits .f32 0x3D800000#32)
    (fun h d => ∑ i, prob (tq Q h i) (tk KV h) j * tq G h i d) h d).symm
  exact congrArg (· * _) (Finset.sum_congr rfl fun i _ => by
    rw [row_ld h o ho, row_ld h o ho]; exact congrArg (_ * ·) (congrFun (row_ld h o ho inbQ Q i) d))

include ho ho' in
/-- and so is its store of the values'. -/
theorem piece_dv (old : Vec Ideal S1x256x2048 .f32) (x : S1x256x256.Idx) :
    headDv (ldQ o inbQ Q) (ldK o inbK KV) (ldQ o inbQ G) (ldK o' inbV old) x
      = old ((Rect.unit (s := S1x256x2048) ![0, 0, o'] ![1, 256, 256] inbV).emb x)
        + tileDkv Q KV G ((Rect.unit (s := S1x256x2048) ![0, 0, o'] ![1, 256, 256] inbV).emb x) := by
  obtain ⟨j, d, rfl⟩ : ∃ i d, x = ix3 0 i d := ⟨x 1, x 2, by rw [eq_ix3 x]; congr 1; exact Subsingleton.elim _ _⟩
  rw [headDv_at, emb_at o' inbV j d (vcol h d) (by rw [ho']; rfl), tab_ldK h o ho]
  refine congr (congrArg _ (ld_at old o' inbV j d (vcol h d) (by rw [ho']; rfl))) ?_
  refine Eq.trans ?_ (byKvCol_vcol (fun h d => (∑ i, tS Q KV G h i j * tq Q h i d) * Ideal.ofBits .f32 0x3D800000#32)
    (fun h d => ∑ i, prob (tq Q h i) (tk KV h) j * tq G h i d) h d).symm
  exact Finset.sum_congr rfl fun i _ => by
    rw [row_ld h o ho]; exact congrArg (_ * ·) (congrFun (row_ld h o ho inbQ G i) d)

end Tile

/-! ## The two cases' blocks -/

theorem canon_whole {s : Shape} {e : EltTy} (T : s.Idx → Elt Ideal e) (L : List (View.Piece (Elt Ideal) s e))
    (hp : View.PiecesOf T L) (hc : ∀ y, ∃ p ∈ L, y ∈ p.1.set) : View.canon L = T :=
  funext fun y => View.canon_apply_of_pieces T L hp.mem y (hc y)

theorem canon_over {s : Shape} {e : EltTy} (T : s.Idx → Elt Ideal e) (L' L : List (View.Piece (Elt Ideal) s e))
    (hp : View.PiecesOf T L) (hc : ∀ y, ∃ p ∈ L, y ∈ p.1.set) : View.canon (L ++ L') = T :=
  funext fun y => View.canon_append_of_piecesOf T L' L hp y (hc y)

section Blocks

variable (c : Dev nD) (i : grid0.Coords) (arg2 : Memref sig .tc .vmem S1x512x1024 .bf16) (harg2 : arg2.IsWhole) (arg3 : Memref sig .tc .vmem S1x256x2048 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x256x2048 .f32) (harg6 : arg6.IsWhole)
variable (x0 : Vec Ideal S1x512x1024 .bf16) (x1 : Vec Ideal S1x256x2048 .bf16) (x2 : Vec Ideal S1x512x1024 .bf16) (xo4 : Vec Ideal S1x256x2048 .f32)

theorem out_B_4 (hc0 : ¬cond0_0 i) : out0_B_4 c i arg2 harg2 arg3 harg3 arg4 harg4 arg5 harg5 arg6 harg6 hc0 x0 x1 x2 xo4
    = fun y => xo4 y + tileDkv x0 x1 x2 y := by
  have hcov := cover0_B_4 c i arg2 harg2 arg3 harg3 arg4 harg4 arg5 harg5 arg6 harg6 hc0 x0 x1 x2 xo4
  unfold out0_B_4
  rw [View.read_writes_eq_canon _ _ _ hcov]
  refine canon_whole _ _ ?_ hcov
  unfold kernelRun0_B
  dsimp only
  sl_unfold_words
  simp only [View.readAt_eq_ld, harg2.read_unread, harg3.read_unread, harg4.read_unread, harg6.read_unread]
  exact ⟨piece_dv x0 x1 x2 3 768 1792 rfl rfl _ _ _ xo4, piece_dk x0 x1 x2 3 768 1792 rfl rfl _ _ _ xo4,
    piece_dv x0 x1 x2 2 512 1536 rfl rfl _ _ _ xo4, piece_dk x0 x1 x2 2 512 1536 rfl rfl _ _ _ xo4,
    piece_dv x0 x1 x2 1 256 1280 rfl rfl _ _ _ xo4, piece_dk x0 x1 x2 1 256 1280 rfl rfl _ _ _ xo4,
    piece_dv x0 x1 x2 0 0 1024 rfl rfl _ _ _ xo4, piece_dk x0 x1 x2 0 0 1024 rfl rfl _ _ _ xo4, trivial⟩

theorem out_B_3 (hc0 : ¬cond0_0 i) : out0_B_3 c i arg2 harg2 arg3 harg3 arg4 harg4 arg5 harg5 arg6 harg6 hc0 x0 x1 x2 xo4
    = tileDq x0 x1 x2 := by
  have hcov := cover0_B_3 c i arg2 harg2 arg3 harg3 arg4 harg4 arg5 harg5 arg6 harg6 hc0 x0 x1 x2 xo4
  unfold out0_B_3
  rw [View.read_writes_eq_canon _ _ _ hcov]
  refine canon_whole _ _ ?_ hcov
  unfold kernelRun0_B
  dsimp only
  sl_unfold_words
  simp only [View.readAt_eq_ld, harg2.read_unread, harg3.read_unread, harg4.read_unread, harg6.read_unread]
  exact ⟨piece_dq x0 x1 x2 3 768 1792 rfl rfl _ _ _, piece_dq x0 x1 x2 2 512 1536 rfl rfl _ _ _,
    piece_dq x0 x1 x2 1 256 1280 rfl rfl _ _ _, piece_dq x0 x1 x2 0 0 1024 rfl rfl _ _ _, trivial⟩

theorem out_A_3 (hc0 : cond0_0 i) : out0_A_3 c i arg2 harg2 arg3 harg3 arg4 harg4 arg5 harg5 arg6 harg6 hc0 x0 x1 x2
    = tileDq x0 x1 x2 := by
  have hcov := cover0_A_3 c i arg2 harg2 arg3 harg3 arg4 harg4 arg5 harg5 arg6 harg6 hc0 x0 x1 x2
  unfold out0_A_3
  rw [View.read_writes_eq_canon _ _ _ hcov]
  refine canon_whole _ _ ?_ hcov
  unfold kernelRun0_A
  dsimp only
  sl_unfold_words
  simp only [View.readAt_eq_ld, harg2.read_unread, harg3.read_unread, harg4.read_unread]
  exact ⟨piece_dq x0 x1 x2 3 768 1792 rfl rfl _ _ _, piece_dq x0 x1 x2 2 512 1536 rfl rfl _ _ _,
    piece_dq x0 x1 x2 1 256 1280 rfl rfl _ _ _, piece_dq x0 x1 x2 0 0 1024 rfl rfl _ _ _, trivial⟩

theorem out_A_4 (hc0 : cond0_0 i) : out0_A_4 c i arg2 harg2 arg3 harg3 arg4 harg4 arg5 harg5 arg6 harg6 hc0 x0 x1 x2
    = fun y => k0_pay3 (F := Ideal) y + tileDkv x0 x1 x2 y := by
  have hcov := cover0_A_4 c i arg2 harg2 arg3 harg3 arg4 harg4 arg5 harg5 arg6 harg6 hc0 x0 x1 x2
  unfold out0_A_4
  rw [View.read_writes_eq_canon _ _ _ hcov]
  clear hcov
  unfold kernelRun0_A
  dsimp only
  sl_unfold_words
  simp only [View.readAt_eq_ld, harg2.read_unread, harg3.read_unread, harg4.read_unread]
  simp (disch := decide) only [↓ View.readCov_skip, ↓ View.readCov_cons_toLoadRect, ↓ View.readCov_fill]
  show View.canon ([_, _, _, _, _, _, _, _] ++ [_]) = _
  refine canon_over _ _ _ ?_ (View.cover_of_tiledL _ S1x256x256.size (by sl_kernel_rfl))
  exact ⟨piece_dv x0 x1 x2 3 768 1792 rfl rfl _ _ _ (k0_pay3 (F := Ideal)), piece_dk x0 x1 x2 3 768 1792 rfl rfl _ _ _ (k0_pay3 (F := Ideal)),
    piece_dv x0 x1 x2 2 512 1536 rfl rfl _ _ _ (k0_pay3 (F := Ideal)), piece_dk x0 x1 x2 2 512 1536 rfl rfl _ _ _ (k0_pay3 (F := Ideal)),
    piece_dv x0 x1 x2 1 256 1280 rfl rfl _ _ _ (k0_pay3 (F := Ideal)), piece_dk x0 x1 x2 1 256 1280 rfl rfl _ _ _ (k0_pay3 (F := Ideal)),
    piece_dv x0 x1 x2 0 0 1024 rfl rfl _ _ _ (k0_pay3 (F := Ideal)), piece_dk x0 x1 x2 0 0 1024 rfl rfl _ _ _ (k0_pay3 (F := Ideal)), trivial⟩

end Blocks

end Attn

end
-- ==== Proof.Arrays.lean ====
/- The two result arrays of the kernel as functions of its arguments: the queries' gradient, row by row, and the keys' and
   values' gradients, each a sum over the whole sequence that the kernel gathers tile by tile. -/
module

public import proofs.«01_k».proof.Proof.Tile

@[expose] public section

set_option maxRecDepth 16384

noncomputable section

namespace Attn

open Idealize.ShloMosaic Idealize.ShloMosaic.TcCoe Idealize.ShloMosaic.Tactic Cert.KernelIdeal Cert.KernelIdeal.Gen Idealize.SL.Sem

/-! ## The arrays -/

section Specs

variable (Q : S2x2048x1024.Idx → EReal) (KV : S2x256x2048.Idx → EReal) (G : S2x2048x1024.Idx → EReal)

/-- Sequence `b`, head `h`: the queries (and the cotangents), the keys and the values. -/
def aq (b : Fin 2) (h : Fin 4) (r : Fin 2048) (d : Fin 256) : EReal := Q (ix3 b r (col h d))
def ak (b : Fin 2) (h : Fin 4) (j d : Fin 256) : EReal := KV (ix3 b j (kcol h d))
def av (b : Fin 2) (h : Fin 4) (j d : Fin 256) : EReal := KV (ix3 b j (vcol h d))

/-- The gradient of a row's scores. -/
def aS (b : Fin 2) (h : Fin 4) (r : Fin 2048) : Fin 256 → EReal := gradS (aq Q b h r) (ak KV b h) (av KV b h) (aq G b h r)

/-- The queries' gradient. -/
def dqArr : S2x2048x1024.Idx → EReal := fun x =>
  byCol (fun h d => (∑ j, aS Q KV G (x 0) h (x 1) j * ak KV (x 0) h j d) * Ideal.ofBits .f32 0x3D800000#32) (x 2)

/-- The keys' and the values' gradients. -/
def dkvArr : S2x256x2048.Idx → EReal := fun x =>
  byKvCol (fun h d => (∑ r, aS Q KV G (x 0) h r (x 1) * aq Q (x 0) h r d) * Ideal.ofBits .f32 0x3D800000#32)
    (fun h d => ∑ r, prob (aq Q (x 0) h r) (ak KV (x 0) h) (x 1) * aq G (x 0) h r d) (x 2)

end Specs

/-- Row `i` of tile `k`. -/
def trow (k : Fin 4) (i : Fin 512) : Fin 2048 := ⟨512 * k.val + i.val, by have := k.isLt; have := i.isLt; omega⟩

/-- A sum over the rows, tile by tile. -/
theorem sum_rows {α : Type} [AddCommMonoid α] (f : Fin 2048 → α) : ∑ k, ∑ i, f (trow k i) = ∑ r, f r := by
  rw [← Fintype.sum_prod_type' (f := fun k i => f (trow k i))]
  refine Fintype.sum_equiv (finProdFinEquiv (m := 4) (n := 512)) _ _ fun ⟨k, i⟩ => congrArg f (Fin.ext ?_)
  show 512 * k.val + i.val = i.val + 512 * k.val
  omega

section Run

variable (m : (ℓ : Loc nD τ sig) → Buf (Elt Ideal) ℓ) (c : Dev nD)

abbrev qA : S2x2048x1024.Idx → EReal := m ((c : Thread nD τ).loc main_arg0)
abbrev kvA : S2x256x2048.Idx → EReal := m ((c : Thread nD τ).loc main_arg1)
abbrev gA : S2x2048x1024.Idx → EReal := m ((c : Thread nD τ).loc main_arg2)

/-- A point's sequence and its tile of rows. -/
def seqOf (t : Fin cfg0.N) : Fin 2 := ⟨t.val / 4, by have := t.isLt; have : cfg0.N = 8 := N_0; omega⟩
def tileOf (t : Fin cfg0.N) : Fin 4 := ⟨t.val % 4, by omega⟩

theorem index_q : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index_kv : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem index_g : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem index_dq : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
theorem index_dkv : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-- A point's block of the queries is its tile's rows, -/
theorem blk_q (t : Fin cfg0.N) (i : Fin 512) (d : Fin 1024) :
    (iblk m c 0 t : Vec Ideal S1x512x1024 .bf16) (ix3 0 i d) = qA m c (ix3 (seqOf t) (trow (tileOf t) i) d) := by
  unfold iblk
  rw [View.read_apply]
  show m ((c : Thread nD τ).loc main_arg0) _ = m ((c : Thread nD τ).loc main_arg0) _
  congr 1
  obtain ⟨h0, h1, h2⟩ := index_q t
  funext a
  apply Fin.ext
  match a with
  | ⟨0, _⟩ => show win0_0.index t 0 * 1 + 1 * 0 = t.val / 4; rw [h0]; omega
  | ⟨1, _⟩ => show win0_0.index t 1 * 512 + 1 * i.val = 512 * (t.val % 4) + i.val; rw [h1]; omega
  | ⟨2, _⟩ => show win0_0.index t 2 * 1024 + 1 * d.val = d.val; rw [h2]; omega

/-- its block of the keys and values its sequence's, -/
theorem blk_kv (t : Fin cfg0.N) (j : Fin 256) (d : Fin 2048) :
    (iblk m c 1 t : Vec Ideal S1x256x2048 .bf16) (ix3 0 j d) = kvA m c (ix3 (seqOf t) j d) := by
  unfold iblk
  rw [View.read_apply]
  show m ((c : Thread nD τ).loc main_arg1) _ = m ((c : Thread nD τ).loc main_arg1) _
  congr 1
  obtain ⟨h0, h1, h2⟩ := index_kv t
  funext a
  apply Fin.ext
  match a with
  | ⟨0, _⟩ => show win0_1.index t 0 * 1 + 1 * 0 = t.val / 4; rw [h0]; omega
  | ⟨1, _⟩ => show win0_1.index t 1 * 256 + 1 * j.val = j.val; rw [h1]; omega
  | ⟨2, _⟩ => show win0_1.index t 2 * 2048 + 1 * d.val = d.val; rw [h2]; omega

/-- and its block of the cotangents its tile's rows. -/
theorem blk_g (t : Fin cfg0.N) (i : Fin 512) (d : Fin 1024) :
    (iblk m c 2 t : Vec Ideal S1x512x1024 .bf16) (ix3 0 i d) = gA m c (ix3 (seqOf t) (trow (tileOf t) i) d) := by
  unfold iblk
  rw [View.read_apply]
  show m ((c : Thread nD τ).loc main_arg2) _ = m ((c : Thread nD τ).loc main_arg2) _
  congr 1
  obtain ⟨h0, h1, h2⟩ := index_g t
  funext a
  apply Fin.ext
  match a with
  | ⟨0, _⟩ => show win0_2.index t 0 * 1 + 1 * 0 = t.val / 4; rw [h0]; omega
  | ⟨1, _⟩ => show win0_2.index t 1 * 512 + 1 * i.val = 512 * (t.val % 4) + i.val; rw [h1]; omega
  | ⟨2, _⟩ => show win0_2.index t 2 * 1024 + 1 * d.val = d.val; rw [h2]; omega

theorem tq_blk (t : Fin cfg0.N) (h : Fin 4) (i : Fin 512) : tq (iblk m c 0 t) h i = aq (qA m c) (seqOf t) h (trow (tileOf t) i) :=
  funext fun d => blk_q m c t i (col h d)
theorem tg_blk (t : Fin cfg0.N) (h : Fin 4) (i : Fin 512) : tq (iblk m c 2 t) h i = aq (gA m c) (seqOf t) h (trow (tileOf t) i) :=
  funext fun d => blk_g m c t i (col h d)
theorem tk_blk (t : Fin cfg0.N) (h : Fin 4) : tk (iblk m c 1 t) h = ak (kvA m c) (seqOf t) h :=
  funext fun j => funext fun d => blk_kv m c t j (kcol h d)
theorem tv_blk (t : Fin cfg0.N) (h : Fin 4) : tv (iblk m c 1 t) h = av (kvA m c) (seqOf t) h :=
  funext fun j => funext fun d => blk_kv m c t j (vcol h d)
theorem tS_blk (t : Fin cfg0.N) (h : Fin 4) (i : Fin 512) : tS (iblk m c 0 t) (iblk m c 1 t) (iblk m c 2 t) h i
    = aS (qA m c) (kvA m c) (gA m c) (seqOf t) h (trow (tileOf t) i) := by
  unfold aS; rw [tS, tq_blk, tg_blk, tk_blk, tv_blk]

/-! ## What a point leaves -/

theorem outs_A (t : Fin cfg0.N) (h0 : t.val % 4 = 0) : outsAt0 m c t.val t.isLt
    = (tileDq (iblk m c 0 t) (iblk m c 1 t) (iblk m c 2 t),
       fun y => k0_pay3 (F := Ideal) y + tileDkv (iblk m c 0 t) (iblk m c 1 t) (iblk m c 2 t) y) := by
  have e := outsAt0_A m c t h0
  simp only [out_A_3, out_A_4] at e
  exact e

theorem outs_B (t : Fin cfg0.N) (h0 : ¬t.val % 4 = 0) : outsAt0 m c t.val t.isLt
    = (tileDq (iblk m c 0 t) (iblk m c 1 t) (iblk m c 2 t),
       fun y => (outsAt0 m c (t.val - 1) (Nat.lt_of_le_of_lt (Nat.sub_le _ _) t.isLt)).2 y
         + tileDkv (iblk m c 0 t) (iblk m c 1 t) (iblk m c 2 t) y) := by
  have e := outsAt0_B m c t h0
  simp only [out_B_3, out_B_4] at e
  exact e

/-- The start of a sequence's sum is zero. -/
theorem start_zero (y : S1x256x2048.Idx) : k0_pay3 (F := Ideal) y = 0 := Ideal.ofBits_zero_f32

/-! ## The queries' gradient -/

/-- What a point writes back of the queries' gradient is the tile's. -/
theorem after_dq (t : Fin cfg0.N) : (outsAt0 m c t.val t.isLt).1 = tileDq (iblk m c 0 t) (iblk m c 1 t) (iblk m c 2 t) := by
  by_cases h0 : t.val % 4 = 0
  · exact congrArg Prod.fst (outs_A m c t h0)
  · exact congrArg Prod.fst (outs_B m c t h0)

/-- A tile's queries' gradient, in the arrays. -/
theorem tileDq_blk (t : Fin cfg0.N) (i : Fin 512) (d : Fin 1024) : tileDq (iblk m c 0 t) (iblk m c 1 t) (iblk m c 2 t) (ix3 0 i d)
    = dqArr (qA m c) (kvA m c) (gA m c) (ix3 (seqOf t) (trow (tileOf t) i) d) := by
  refine congrArg (fun f => byCol f d) (funext fun h => funext fun d' => ?_)
  refine congrArg (· * _) (Finset.sum_congr rfl fun j _ => ?_)
  exact congr (congrArg _ (congrFun (tS_blk m c t h i) j)) (congrFun (congrFun (tk_blk m c t h) j) d')

theorem final_dq : (Cert.KernelIdeal.Gen.dats m 0 c).arrAt 3 cfg0.N = dqArr (qA m c) (kvA m c) (gA m c) := by
  refine (dats m 0 c).arrAt_eq_of_cover 3 (dqArr (qA m c) (kvA m c) (gA m c)) (fun t _ => ?_) fun i => ?_
  · rw [Cert.KernelIdeal.Value.flushed3, after_dq]
    obtain ⟨h0, h1, h2⟩ := index_dq t
    funext x
    rw [View.read_apply]
    have hx : x = ix3 0 (x 1) (x 2) := by rw [eq_ix3 x]; congr 1; exact Subsingleton.elim _ _
    show tileDq (iblk m c 0 t) (iblk m c 1 t) (iblk m c 2 t) x = _
    rw [hx]
    refine (tileDq_blk m c t (x 1) (x 2)).trans ?_
    show dqArr _ _ _ _ = dqArr _ _ _ _
    congr 1
    funext a
    apply Fin.ext
    match a with
    | ⟨0, _⟩ => show t.val / 4 = win0_3.index t 0 * 1 + 1 * 0; rw [h0]; omega
    | ⟨1, _⟩ => show 512 * (t.val % 4) + (x 1).val = win0_3.index t 1 * 512 + 1 * (x 1).val; rw [h1]; omega
    | ⟨2, _⟩ => show (x 2).val = win0_3.index t 2 * 1024 + 1 * (x 2).val; rw [h2]; omega
  · have b0 : (i 0).val < 2 := (i 0).isLt
    have b1 : (i 1).val < 2048 := (i 1).isLt
    have b2 : (i 2).val < 1024 := (i 2).isLt
    have hN : cfg0.N = 8 := N_0
    obtain ⟨t, ht⟩ : ∃ t : Fin cfg0.N, t.val = 4 * (i 0).val + (i 1).val / 512 := ⟨⟨4 * (i 0).val + (i 1).val / 512, by omega⟩, rfl⟩
    refine ⟨t, flush0_3 t, ?_⟩
    show i ∈ ((View.whole main_v0_0).slice (win0_3.rect t)).set
    rw [View.set_slice_whole, Rect.mem_set_unit]
    obtain ⟨h0, h1, h2⟩ := index_dq t
    intro a
    match a with
    | ⟨0, _⟩ => show win0_3.index t 0 * 1 ≤ (i 0).val ∧ (i 0).val < win0_3.index t 0 * 1 + 1; rw [h0]; omega
    | ⟨1, _⟩ => show win0_3.index t 1 * 512 ≤ (i 1).val ∧ (i 1).val < win0_3.index t 1 * 512 + 512; rw [h1]; omega
    | ⟨2, _⟩ => show win0_3.index t 2 * 1024 ≤ (i 2).val ∧ (i 2).val < win0_3.index t 2 * 1024 + 1024; rw [h2]; omega

/-! ## The keys' and the values' gradients -/

/-- The share of the tile at point `n`. -/
def share (n : ℕ) (y : S1x256x2048.Idx) : EReal :=
  if h : n < cfg0.N then tileDkv (iblk m c 0 ⟨n, h⟩) (iblk m c 1 ⟨n, h⟩) (iblk m c 2 ⟨n, h⟩) y else 0

theorem share_at (t : Fin cfg0.N) (y : S1x256x2048.Idx) : share m c t.val y = tileDkv (iblk m c 0 t) (iblk m c 1 t) (iblk m c 2 t) y :=
  dif_pos t.isLt

/-- After a point the block holds the shares of its sequence's tiles so far. -/
theorem after_dkv : ∀ (n : ℕ) (h : n < cfg0.N), (outsAt0 m c n h).2 = fun y => ∑ k ∈ Finset.range (n % 4 + 1), share m c (4 * (n / 4) + k) y := by
  intro n
  induction n with
  | zero =>
    intro h
    refine (congrArg Prod.snd (outs_A m c ⟨0, h⟩ rfl)).trans (funext fun y => ?_)
    dsimp only
    rw [show (0 : ℕ) % 4 + 1 = 1 from rfl, Finset.sum_range_one, ← share_at m c ⟨0, h⟩ y, start_zero, zero_add]
  | succ n ih =>
    intro h
    by_cases h0 : (n + 1) % 4 = 0
    · refine (congrArg Prod.snd (outs_A m c ⟨n + 1, h⟩ h0)).trans (funext fun y => ?_)
      dsimp only
      rw [h0, show (0 : ℕ) + 1 = 1 from rfl, Finset.sum_range_one, ← share_at m c ⟨n + 1, h⟩ y, start_zero, zero_add,
        show 4 * ((n + 1) / 4) + 0 = n + 1 by omega]
    · refine (congrArg Prod.snd (outs_B m c ⟨n + 1, h⟩ h0)).trans (funext fun y => ?_)
      dsimp only
      rw [← share_at m c ⟨n + 1, h⟩ y]
      refine (congrArg (· + _) (congrFun (ih (by omega)) y)).trans ?_
      dsimp only
      rw [show (n + 1) % 4 + 1 = (n % 4 + 1) + 1 by omega, Finset.sum_range_succ _ (n % 4 + 1), show (n + 1) / 4 = n / 4 by omega,
        show 4 * (n / 4) + (n % 4 + 1) = n + 1 by omega]

/-- A tile's share, in the arrays. -/
theorem share_blk (t : Fin cfg0.N) (j : Fin 256) (d : Fin 2048) : share m c t.val (ix3 0 j d)
    = byKvCol (fun h d => (∑ i, aS (qA m c) (kvA m c) (gA m c) (seqOf t) h (trow (tileOf t) i) j * aq (qA m c) (seqOf t) h (trow (tileOf t) i) d)
          * Ideal.ofBits .f32 0x3D800000#32)
        (fun h d => ∑ i, prob (aq (qA m c) (seqOf t) h (trow (tileOf t) i)) (ak (kvA m c) (seqOf t) h) j * aq (gA m c) (seqOf t) h (trow (tileOf t) i) d) d := by
  rw [share_at]
  refine congrArg₂ (fun f g => byKvCol f g d) (funext fun h => funext fun d' => ?_) (funext fun h => funext fun d' => ?_)
  · refine congrArg (· * _) (Finset.sum_congr rfl fun i _ => ?_)
    exact congr (congrArg _ (congrFun (tS_blk m c t h i) j)) (congrFun (tq_blk m c t h i) d')
  · refine Finset.sum_congr rfl fun i _ => ?_
    rw [tq_blk, tk_blk]
    exact congrArg (_ * ·) (congrFun (tg_blk m c t h i) d')

theorem sum_byKvCol {ι : Type} (s : Finset ι) (f g : ι → Fin 4 → Fin 256 → EReal) (d : Fin 2048) :
    ∑ k ∈ s, byKvCol (f k) (g k) d = byKvCol (fun h d => ∑ k ∈ s, f k h d) (fun h d => ∑ k ∈ s, g k h d) d := by
  unfold byKvCol
  split_ifs <;> rfl

/-- The shares of a sequence's four tiles are the whole sums. -/
theorem shares_sum (t : Fin cfg0.N) (j : Fin 256) (d : Fin 2048) :
    ∑ k ∈ Finset.range 4, share m c (4 * (t.val / 4) + k) (ix3 0 j d) = dkvArr (qA m c) (kvA m c) (gA m c) (ix3 (seqOf t) j d) := by
  have hN : cfg0.N = 8 := N_0
  have ht := t.isLt
  have hk : ∀ k : Fin 4, ∃ p : Fin cfg0.N, p.val = 4 * (t.val / 4) + k.val ∧ seqOf p = seqOf t ∧ tileOf p = k := fun k =>
    ⟨⟨4 * (t.val / 4) + k.val, by omega⟩, rfl, Fin.ext (by simp only [seqOf]; omega), Fin.ext (by simp only [tileOf]; omega)⟩
  choose p hp hs hti using hk
  rw [Finset.sum_range (n := 4)]
  rw [Finset.sum_congr rfl fun k _ => by rw [← hp k, share_blk m c (p k), hs k, hti k], sum_byKvCol]
  refine congrArg₂ (fun f g => byKvCol f g d) (funext fun h => funext fun d' => ?_) (funext fun h => funext fun d' => ?_)
  · rw [← sum_scale]
    exact congrArg (· * _) (sum_rows fun r => aS (qA m c) (kvA m c) (gA m c) (seqOf t) h r j * aq (qA m c) (seqOf t) h r d')
  · exact sum_rows fun r => prob (aq (qA m c) (seqOf t) h r) (ak (kvA m c) (seqOf t) h) j * aq (gA m c) (seqOf t) h r d'

theorem final_dkv : (Cert.KernelIdeal.Gen.dats m 0 c).arrAt 4 cfg0.N = dkvArr (qA m c) (kvA m c) (gA m c) := by
  refine (dats m 0 c).arrAt_eq_of_cover 4 (dkvArr (qA m c) (kvA m c) (gA m c)) (fun t hf => ?_) fun i => ?_
  · have h3 := (flush0_4 t).mp hf
    rw [Cert.KernelIdeal.Value.flushed4, after_dkv, h3]
    obtain ⟨h0, h1, h2⟩ := index_dkv t
    funext x
    rw [View.read_apply]
    have hx : x = ix3 0 (x 1) (x 2) := by rw [eq_ix3 x]; congr 1; exact Subsingleton.elim _ _
    show ∑ k ∈ Finset.range 4, share m c (4 * (t.val / 4) + k) x = _
    rw [hx]
    refine (shares_sum m c t (x 1) (x 2)).trans ?_
    show dkvArr _ _ _ _ = dkvArr _ _ _ _
    congr 1
    funext a
    apply Fin.ext
    match a with
    | ⟨0, _⟩ => show t.val / 4 = win0_4.index t 0 * 1 + 1 * 0; rw [h0]; omega
    | ⟨1, _⟩ => show (x 1).val = win0_4.index t 1 * 256 + 1 * (x 1).val; rw [h1]; omega
    | ⟨2, _⟩ => show (x 2).val = win0_4.index t 2 * 2048 + 1 * (x 2).val; rw [h2]; omega
  · have b0 : (i 0).val < 2 := (i 0).isLt
    have b1 : (i 1).val < 256 := (i 1).isLt
    have b2 : (i 2).val < 2048 := (i 2).isLt
    have hN : cfg0.N = 8 := N_0
    obtain ⟨t, ht⟩ : ∃ t : Fin cfg0.N, t.val = 4 * (i 0).val + 3 := ⟨⟨4 * (i 0).val + 3, by omega⟩, rfl⟩
    refine ⟨t, (flush0_4 t).mpr (by omega), ?_⟩
    show i ∈ ((View.whole main_v0_1).slice (win0_4.rect t)).set
    rw [View.set_slice_whole, Rect.mem_set_unit]
    obtain ⟨h0, h1, h2⟩ := index_dkv t
    intro a
    match a with
    | ⟨0, _⟩ => show win0_4.index t 0 * 1 ≤ (i 0).val ∧ (i 0).val < win0_4.index t 0 * 1 + 1; rw [h0]; omega
    | ⟨1, _⟩ => show win0_4.index t 1 * 256 ≤ (i 1).val ∧ (i 1).val < win0_4.index t 1 * 256 + 256; rw [h1]; omega
    | ⟨2, _⟩ => show win0_4.index t 2 * 2048 ≤ (i 2).val ∧ (i 2).val < win0_4.index t 2 * 2048 + 2048; rw [h2]; omega

end Run

end Attn

end
-- ==== Proof.RefValue.lean ====
/- The reference's two results, read at an index: the same row functions as the kernel's. -/
module

public import proofs.«01_k».proof.Proof.Arrays
public import proofs.«01_k».proof.Proof.Gen.ReferenceIdeal.Read
public import Idealize.ShloMosaic.Lib.Pointwise.Tactic
public import Idealize.ShloMosaic.Lib.KernelVsHost

@[expose] public section

set_option maxRecDepth 16384

noncomputable section

namespace Attn

open Idealize.ShloMosaic Cert.ReferenceIdeal Cert.ReferenceIdeal.Read

variable (x0 : S2x2048x1024.Idx → EReal) (x1 : S2x256x2048.Idx → EReal) (x2 : S2x2048x1024.Idx → EReal)

theorem v2_at (b : Fin 2) (r : Fin 2048) (h : Fin 4) (d : Fin 256) : val_main_v2 (F := Ideal) x0 (ix4 b r h d) = aq x0 b h r d := by
  pointwise [val_main_v2, val_main_v0]
  exact congrArg x0 (congrArg (ix3 b r) (Fin.ext (by simp only [col]; omega)))

theorem v4_at (b : Fin 2) (j : Fin 256) (h : Fin 4) (d : Fin 256) : val_main_v4 (F := Ideal) x1 (ix4 b j h d) = ak x1 b h j d := by
  pointwise [val_main_v4, val_main_v3, val_main_v1]
  exact congrArg x1 (congrArg (ix3 b j) (Fin.ext (by simp only [kcol]; omega)))

theorem v6_at (b : Fin 2) (j : Fin 256) (h : Fin 4) (d : Fin 256) : val_main_v6 (F := Ideal) x1 (ix4 b j h d) = av x1 b h j d := by
  pointwise [val_main_v6, val_main_v5, val_main_v1]
  exact congrArg x1 (congrArg (ix3 b j) (Fin.ext (by simp only [vcol]; omega)))

theorem v9_at (b : Fin 2) (h : Fin 4) (r : Fin 2048) (j : Fin 256) :
    val_main_v9 (F := Ideal) x0 x1 (ix4 b h r j) = rowS (aq x0 b h r) (ak x1 b h) j := by
  pointwise [val_main_v9, val_main_v8, val_main_cst, val_main_v7, v2_at, v4_at]
  exact div_sixteen _

theorem hr : S2x4x2048x256.Reduces [3] S2x4x2048 := by decide

theorem lift_at (b : Fin 2) (h : Fin 4) (r : Fin 2048) (k : Fin 256) : hr.lift (ix3 b h r) k = ix4 b h r k := by
  funext a
  match a with
  | ⟨0, _⟩ => rfl
  | ⟨1, _⟩ => rfl
  | ⟨2, _⟩ => rfl
  | ⟨3, _⟩ => rfl

theorem max_at (x : FVec Ideal S2x4x2048x256 .f32) (b : Fin 2) (h : Fin 4) (r : Fin 2048) :
    multiReduction .maximumf [3] S2x4x2048 x 0xFF800000#32 hr (.inl rfl) rfl (ix3 b h r)
      = (Finset.univ : Finset (Fin 256)).fold max (Ideal.ofBits .f32 0xFF800000#32) fun k => x (ix4 b h r k) := by
  refine (Ideal.multiReduction_maximumf_single x 0xFF800000#32 hr (.inl rfl) rfl (ix3 b h r)).trans ?_
  exact Finset.fold_congr fun k _ => congrArg x (lift_at b h r k)

theorem v10_at (b : Fin 2) (h : Fin 4) (r : Fin 2048) :
    val_main_v10 (F := Ideal) x0 x1 (ix3 b h r) = mx (rowS (aq x0 b h r) (ak x1 b h)) := by
  unfold val_main_v10 val_main_cst_0
  have e := hostReduce_maximumf_eq_multiReduction (F := Ideal) (φ := .f32) (u := S_) (val_main_v9 (F := Ideal) x0 x1) 0xFF800000#32
    Gen.reducesTo_S2x4x2048x256_S2x4x2048_d3 Gen.h_S_ hr (.inl rfl) rfl
  rw [e]
  refine (max_at (val_main_v9 (F := Ideal) x0 x1) b h r).trans ?_
  simp only [v9_at]
  rfl

theorem v17_at (b : Fin 2) (h : Fin 4) (r : Fin 2048) :
    val_main_v17 (F := Ideal) x0 x1 (ix3 b h r) = mx (rowS (aq x0 b h r) (ak x1 b h)) := by
  rw [val_main_v17_apply, v10_at]
  exact max_mx _

theorem v28_at (b : Fin 2) (h : Fin 4) (r : Fin 2048) (j : Fin 256) :
    val_main_v28 (F := Ideal) x0 x1 (ix4 b h r j) = mx (rowS (aq x0 b h r) (ak x1 b h)) := by
  pointwise [val_main_v28, val_main_v27, v17_at]

theorem v30_at (b : Fin 2) (h : Fin 4) (r : Fin 2048) (j : Fin 256) :
    val_main_v30 (F := Ideal) x0 x1 (ix4 b h r j) = ex (rowS (aq x0 b h r) (ak x1 b h)) j := by
  rw [val_main_v30_apply, val_main_v29_apply, v9_at, v28_at]
  rfl

theorem v31_at (b : Fin 2) (h : Fin 4) (r : Fin 2048) :
    val_main_v31 (F := Ideal) x0 x1 (ix3 b h r) = ∑ i, ex (rowS (aq x0 b h r) (ak x1 b h)) i := by
  pointwise [val_main_v31, val_main_cst_8, v30_at]

theorem v34_at (b : Fin 2) (h : Fin 4) (r : Fin 2048) (j : Fin 256) :
    val_main_v34 (F := Ideal) x0 x1 (ix4 b h r j) = prob (aq x0 b h r) (ak x1 b h) j := by
  pointwise [val_main_v34, val_main_v33, val_main_v32, v30_at, v31_at]
  rfl

theorem v43_at (b : Fin 2) (h : Fin 4) (d : Fin 256) (r : Fin 2048) : val_main_v43 (F := Ideal) x2 (ix4 b h d r) = aq x2 b h r d := by
  pointwise [val_main_v43, val_main_v42, val_main_v41]
  exact congrArg x2 (congrArg (ix3 b r) (Fin.ext (by simp only [col]; omega)))

theorem v44_at (b : Fin 2) (h : Fin 4) (r : Fin 2048) (j : Fin 256) :
    val_main_v44 (F := Ideal) x1 x2 (ix4 b h r j) = ∑ d, aq x2 b h r d * av x1 b h j d := by
  pointwise [val_main_v44, v43_at, v6_at]

theorem v46_at (b : Fin 2) (j : Fin 256) (h : Fin 4) (d : Fin 256) : val_main_v46 (F := Ideal) x0 x1 x2 (ix4 b j h d)
    = ∑ r, prob (aq x0 b h r) (ak x1 b h) j * aq x2 b h r d := by
  pointwise [val_main_v46, val_main_v45, v43_at, v34_at]
  exact Finset.sum_congr rfl fun r _ => mul_comm _ _

/-- The gradient of a row's scores, in the reference's form. -/
theorem v58_at (b : Fin 2) (h : Fin 4) (r : Fin 2048) (j : Fin 256) : val_main_v58 (F := Ideal) x0 x1 x2 (ix4 b h r j)
    = dsRef (rowS (aq x0 b h r) (ak x1 b h)) (fun j => ∑ d, aq x2 b h r d * av x1 b h j d) j := by
  pointwise [val_main_v58, val_main_v57, val_main_v56, val_main_v55, val_main_cst_11, val_main_v54, val_main_v53, val_main_v52, val_main_v51,
    val_main_v50, val_main_cst_10, val_main_v49, val_main_v48, val_main_v47, val_main_v37, val_main_v36, val_main_cst_9, val_main_v35,
    val_main_v32, v31_at, v44_at, v30_at]
  rw [Fin.sum_univ_one]
  rfl

section Real

variable (hs : ∀ b h r j, ∃ x : ℝ, rowS (aq x0 b h r) (ak x1 b h) j = x)

include hs in
theorem v60_at (b : Fin 2) (h : Fin 4) (r : Fin 2048) (j : Fin 256) :
    val_main_v60 (F := Ideal) x0 x1 x2 (ix4 b h r j) = aS x0 x1 x2 b h r j * Ideal.ofBits .f32 0x3D800000#32 := by
  pointwise [val_main_v60, val_main_v59, val_main_cst_12, v58_at]
  rw [div_sixteen, dsRef_eq _ (hs b h r)]
  rfl

include hs in
theorem v62_at (b : Fin 2) (j : Fin 256) (h : Fin 4) (d : Fin 256) : val_main_v62 (F := Ideal) x0 x1 x2 (ix4 b j h d)
    = (∑ r, aS x0 x1 x2 b h r j * aq x0 b h r d) * Ideal.ofBits .f32 0x3D800000#32 := by
  pointwise [val_main_v62, val_main_v61, v60_at x0 x1 x2 hs, v2_at]
  rw [sum_scale]
  exact Finset.sum_congr rfl fun r _ => mul_right_comm _ _ _

include hs in
theorem v64_at (b : Fin 2) (r : Fin 2048) (h : Fin 4) (d : Fin 256) : val_main_v64 (F := Ideal) x0 x1 x2 (ix4 b r h d)
    = (∑ j, aS x0 x1 x2 b h r j * ak x1 b h j d) * Ideal.ofBits .f32 0x3D800000#32 := by
  pointwise [val_main_v64, val_main_v63, v60_at x0 x1 x2 hs, v4_at]
  rw [sum_scale]
  exact Finset.sum_congr rfl fun r _ => mul_right_comm _ _ _

/-- A column's head and its place in the head, back from the column. -/
theorem head_col (h : Fin 4) (d : Fin 256) : (⟨(col h d).val / 256, by have := (col h d).isLt; omega⟩ : Fin 4) = h
    ∧ (⟨(col h d).val % 256, by omega⟩ : Fin 256) = d := by
  have := h.isLt; have := d.isLt
  constructor <;> apply Fin.ext <;> simp only [col] <;> omega

include hs in
theorem v71_at (b : Fin 2) (r : Fin 2048) (h : Fin 4) (d : Fin 256) : val_main_v71 (F := Ideal) x0 x1 x2 (ix3 b r (col h d))
    = (∑ j, aS x0 x1 x2 b h r j * ak x1 b h j d) * Ideal.ofBits .f32 0x3D800000#32 := by
  rw [← v64_at x0 x1 x2 hs]
  pointwise [val_main_v71, val_main_v70]
  exact congrArg₂ (fun h d => val_main_v64 (F := Ideal) x0 x1 x2 (ix4 b r h d)) (head_col h d).1 (head_col h d).2

include hs in
theorem v69_key (b : Fin 2) (j : Fin 256) (h : Fin 4) (d : Fin 256) : val_main_v69 (F := Ideal) x0 x1 x2 (ix3 b j (kcol h d))
    = (∑ r, aS x0 x1 x2 b h r j * aq x0 b h r d) * Ideal.ofBits .f32 0x3D800000#32 := by
  have := h.isLt; have := d.isLt
  have hk : (kcol h d).val = 256 * h.val + d.val := rfl
  rw [← v62_at x0 x1 x2 hs]
  pointwise [val_main_v69, val_main_v68, val_main_v67, val_main_v66, val_main_v65, val_main_cst_13, val_main_cst_14]
  rw [dif_neg (by omega), dif_pos (by omega), zero_add]
  exact congrArg₂ (fun h d => val_main_v62 (F := Ideal) x0 x1 x2 (ix4 b j h d)) (Fin.ext (by simp only [hk]; omega)) (Fin.ext (by simp only [hk]; omega))

theorem v69_value (b : Fin 2) (j : Fin 256) (h : Fin 4) (d : Fin 256) : val_main_v69 (F := Ideal) x0 x1 x2 (ix3 b j (vcol h d))
    = ∑ r, prob (aq x0 b h r) (ak x1 b h) j * aq x2 b h r d := by
  have := h.isLt; have := d.isLt
  have hv : (vcol h d).val = 1024 + 256 * h.val + d.val := rfl
  rw [← v46_at]
  pointwise [val_main_v69, val_main_v68, val_main_v67, val_main_v66, val_main_v65, val_main_cst_13, val_main_cst_14]
  rw [dif_pos (by omega), dif_neg (by omega), add_zero]
  exact congrArg₂ (fun h d => val_main_v46 (F := Ideal) x0 x1 x2 (ix4 b j h d)) (Fin.ext (by simp only [hv]; omega)) (Fin.ext (by simp only [hv]; omega))

include hs in
/-- The reference's queries' gradient is the kernel's, -/
theorem ref_dq : val_main_v71 (F := Ideal) x0 x1 x2 = dqArr x0 x1 x2 := by
  funext x
  obtain ⟨h, d, hc⟩ := col_onto (x 2)
  obtain ⟨b, r, rfl⟩ : ∃ b r, x = ix3 b r (col h d) := ⟨x 0, x 1, by rw [hc]; exact eq_ix3 x⟩
  rw [v71_at x0 x1 x2 hs]
  exact (byCol_col (fun h d => (∑ j, aS x0 x1 x2 b h r j * ak x1 b h j d) * Ideal.ofBits .f32 0x3D800000#32) h d).symm

include hs in
/-- and so are the keys' and the values'. -/
theorem ref_dkv : val_main_v69 (F := Ideal) x0 x1 x2 = dkvArr x0 x1 x2 := by
  funext x
  rcases kvcol_onto (x 2) with ⟨h, d, hc⟩ | ⟨h, d, hc⟩
  · obtain ⟨b, j, rfl⟩ : ∃ b j, x = ix3 b j (kcol h d) := ⟨x 0, x 1, by rw [hc]; exact eq_ix3 x⟩
    rw [v69_key x0 x1 x2 hs]
    exact (byKvCol_kcol (fun h d => (∑ r, aS x0 x1 x2 b h r j * aq x0 b h r d) * Ideal.ofBits .f32 0x3D800000#32)
      (fun h d => ∑ r, prob (aq x0 b h r) (ak x1 b h) j * aq x2 b h r d) h d).symm
  · obtain ⟨b, j, rfl⟩ : ∃ b j, x = ix3 b j (vcol h d) := ⟨x 0, x 1, by rw [hc]; exact eq_ix3 x⟩
    rw [v69_value]
    exact (byKvCol_vcol (fun h d => (∑ r, aS x0 x1 x2 b h r j * aq x0 b h r d) * Ideal.ofBits .f32 0x3D800000#32)
      (fun h d => ∑ r, prob (aq x0 b h r) (ak x1 b h) j * aq x2 b h r d) h d).symm

end Real

end Attn

end
-- ==== Proof.AttnClaims.lean ====
/- The claims about the memory attention's backward pass. -/
module

public import proofs.«01_k».proof.Defs
public import proofs.«01_k».proof.Proof.RefValue
public import proofs.«01_k».proof.Proof.Gen.Kernel.Frame
public import proofs.«01_k».proof.Proof.Gen.Pre_finite_scores

@[expose] public section

set_option maxRecDepth 16384

noncomputable section

namespace Attn

open Idealize.ShloMosaic Idealize.ShloMosaic.TcCoe Idealize.SL.Sem
open Cert.KernelIdeal (S2x2048x1024 S2x256x2048)

/-! ## Finite queries and keys have real scores -/

theorem inf_val : Ideal.ofBits .f32 0x7F800000#32 = ⊤ := by simp [Ideal.ofBits, Ideal.ieee]

/-- An extended real whose absolute value is below infinity is a real. -/
theorem real_of_abs (x : EReal) (h : BitVec.ofBool (decide (max x (-x) < Ideal.ofBits .f32 0x7F800000#32)) = 1#1) : ∃ r : ℝ, x = r := by
  rw [inf_val] at h
  induction x with
  | bot => simp at h
  | top => simp at h
  | coe r => exact ⟨r, rfl⟩

theorem real_scores (Q : S2x2048x1024.Idx → EReal) (KV : S2x256x2048.Idx → EReal) (G : S2x2048x1024.Idx → EReal)
    (h1 : (Cert.Pre_finite_scores.fn (F := Ideal) Q KV G).1 = fun _ => 1#1)
    (h2 : (Cert.Pre_finite_scores.fn (F := Ideal) Q KV G).2 = fun _ => 1#1) (b : Fin 2) (h : Fin 4) (r : Fin 2048) (j : Fin 256) :
    ∃ x : ℝ, rowS (aq Q b h r) (ak KV b h) j = x := by
  refine rowS_real _ _ (fun d => ?_) (fun j d => ?_) j
  · have e := congrFun h1 (ix3 b r (col h d))
    unfold Cert.Pre_finite_scores.fn at e
    pointwise at e
    exact real_of_abs _ e
  · have e := congrFun h2 (ix3 b j (col h d))
    unfold Cert.Pre_finite_scores.fn at e
    pointwise at e
    exact real_of_abs _ e

/-! ## The claims -/

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_scores := fun m ρ _ => Cert.KernelIdeal.Gen.frame m ρ

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_pre : Cert.quiescent_ReferenceIdeal_pre_finite_scores := fun m ρ _ => frame_ref m ρ trivial

/-- The kernel's arrays and the reference's results are the same functions of the arguments. -/
theorem value : Cert.algebraic_KernelIdeal_ReferenceIdeal_pre_finite_scores := by
  intro m g m' g' hpre hagree
  refine ⟨fun c => dqArr (qA m c) (kvA m c) (gA m c), fun c => dkvArr (qA m c) (kvA m c) (gA m c), ?_, ?_⟩
  · exact (θ_run Cert.KernelIdeal.defs _ _).mono
      (fun r h c => ⟨(h c).1.trans (final_dq m c), (h c).2.1.trans (final_dkv m c), (h c).2.2⟩) (Cert.KernelIdeal.Value.run_blocks m g)
  · refine (θ_run Cert.ReferenceIdeal.defs _ _).mono (fun r h c => ?_) (Cert.ReferenceIdeal.Value.run (F := Ideal) m' g')
    have hs := real_scores (qA m c) (kvA m c) (gA m c) (hpre c).1 (hpre c).2
    obtain ⟨h0, h1, h2⟩ := hagree c
    refine ⟨(h c).1.trans ?_, (h c).2.1.trans ?_, (h c).2.2⟩
    · rw [Cert.ReferenceIdeal.Read.val_main_v71_eq, h0, h1, h2]
      exact ref_dq _ _ _ hs
    · rw [Cert.ReferenceIdeal.Read.val_main_v69_eq, h0, h1, h2]
      exact ref_dkv _ _ _ hs

end Attn

end
-- ==== Proof.FfnMath.lean ====
/- The feed-forward block and the loss, with their gradients, as plain mathematics over real matrices, and real matrices
   as arrays of extended reals. No program occurs here. -/
module

public import proofs.«01_k».proof.Proof.RowMath

@[expose] public section

noncomputable section

namespace Ffn

open Idealize.ShloMosaic
open scoped BigOperators

/-! ## Real matrices -/

/-- A real matrix. -/
abbrev Mat (n k : ℕ) := Fin n → Fin k → ℝ

/-- A real matrix as an array. -/
def up {n k : ℕ} (A : Mat n k) : (⟨2, ![n, k]⟩ : Shape).Idx → EReal := fun x => ((A (x 0) (x 1) : ℝ) : EReal)

theorem up_ix2 {n k : ℕ} (A : Mat n k) (i : Fin n) (j : Fin k) : up A (ix2 i j) = ((A i j : ℝ) : EReal) := rfl

/-- A real number as an array. -/
def up0 (a : ℝ) : (⟨0, ![]⟩ : Shape).Idx → EReal := fun _ => (a : EReal)

theorem up0_apply (a : ℝ) (x) : up0 a x = (a : EReal) := rfl

/-- An array is a real matrix when each element is. -/
theorem eq_up {n k : ℕ} {X : (⟨2, ![n, k]⟩ : Shape).Idx → EReal} {A : Mat n k} (h : ∀ i j, X (ix2 i j) = ((A i j : ℝ) : EReal)) :
    X = up A := by
  funext x
  exact (congrArg X (eq_ix2 x)).trans (h (x 0) (x 1))

/-- The product of two matrices. -/
def mm {n k l : ℕ} (A : Mat n k) (B : Mat k l) : Mat n l := fun i j => ∑ a, A i a * B a j

/-- The transpose. -/
def tr {n k : ℕ} (A : Mat n k) : Mat k n := fun i j => A j i

/-! ## Blocks -/

/-- The block of `p` rows and `q` columns from row `r` and column `s` on. -/
def part {n k : ℕ} (p q : ℕ) (A : Mat n k) (r s : ℕ) : Mat p q := fun i j =>
  if h : r + i.val < n ∧ s + j.val < k then A ⟨r + i.val, h.1⟩ ⟨s + j.val, h.2⟩ else 0

theorem part_at {n k p q : ℕ} (A : Mat n k) {r s : ℕ} {i : Fin p} {j : Fin q} {a : Fin n} {b : Fin k} (ha : a.val = r + i.val)
    (hb : b.val = s + j.val) : part p q A r s i j = A a b := by
  unfold part
  rw [dif_pos ⟨ha ▸ a.isLt, hb ▸ b.isLt⟩]
  congr 1
  · exact Fin.ext ha.symm
  · exact Fin.ext hb.symm

theorem up_at {n k p q : ℕ} (A : Mat n k) {z : (⟨2, ![n, k]⟩ : Shape).Idx} {r s : ℕ} {i : Fin p} {j : Fin q}
    (h0 : (z 0).val = r + i.val) (h1 : (z 1).val = s + j.val) : up A z = ((part p q A r s i j : ℝ) : EReal) :=
  congrArg _ (part_at A h0 h1).symm

theorem up_part {n k p q : ℕ} (A : Mat n k) {z : (⟨2, ![n, k]⟩ : Shape).Idx} {y : (⟨2, ![p, q]⟩ : Shape).Idx} {r s : ℕ}
    (h0 : (z 0).val = r + (y 0).val) (h1 : (z 1).val = s + (y 1).val) : up (part p q A r s) y = up A z :=
  (up_at A h0 h1).symm

/-- All of a matrix is a block of it. -/
theorem part_all {n k : ℕ} (A : Mat n k) : part n k A 0 0 = A :=
  funext fun _ => funext fun _ => part_at A (Nat.zero_add _).symm (Nat.zero_add _).symm

/-- A block of a transpose. -/
theorem part_tr {n k p q : ℕ} (A : Mat n k) (r s : ℕ) : part q p (tr A) s r = tr (part p q A r s) := by
  funext i j
  unfold tr part
  by_cases h : r + j.val < n ∧ s + i.val < k
  · rw [dif_pos h, dif_pos h.symm]
  · rw [dif_neg h, dif_neg fun h' => h h'.symm]

/-- A block of a product. -/
theorem part_mm {n k l p q : ℕ} (A : Mat n k) (B : Mat k l) (r s : ℕ) :
    part p q (mm A B) r s = mm (part p k A r 0) (part k q B 0 s) := by
  funext i j
  unfold mm
  by_cases h : r + i.val < n ∧ s + j.val < l
  · rw [part_at (a := ⟨_, h.1⟩) (b := ⟨_, h.2⟩) _ rfl rfl]
    refine Finset.sum_congr rfl fun x _ => ?_
    rw [part_at (a := ⟨_, h.1⟩) (b := x) A rfl (Nat.zero_add _).symm, part_at (a := x) (b := ⟨_, h.2⟩) B (Nat.zero_add _).symm rfl]
  · have e : part p q (fun i j => ∑ a, A i a * B a j) r s i j = 0 := dif_neg h
    rw [e]
    refine (Finset.sum_eq_zero fun x _ => ?_).symm
    by_cases h0 : r + i.val < n
    · have e' : part k q B 0 s x j = 0 := dif_neg fun h' => h ⟨h0, h'.2⟩
      rw [e', mul_zero]
    · have e' : part p k A r 0 i x = 0 := dif_neg fun h' => h0 h'.1
      rw [e', zero_mul]

/-- A block of whole rows of a product. -/
theorem part_rows_mm {n k l p : ℕ} (A : Mat n k) (B : Mat k l) (r : ℕ) : part p l (mm A B) r 0 = mm (part p k A r 0) B := by
  rw [part_mm, part_all]

/-! ## Literals -/

/-- The small number that the norms add to a mean of squares. -/
def eps : ℝ := 8796093 / 8796093022208

theorem eps_pos : 0 < eps := by unfold eps; norm_num

theorem eps_val : Ideal.ofBits .f32 0x358637BD#32 = (eps : EReal) := by
  unfold eps; simp [Ideal.ofBits, Ideal.ieee, -EReal.coe_mul]; norm_num
theorem width_val : Ideal.ofBits .f32 0x44800000#32 = ((1024 : ℝ) : EReal) := by
  simp [Ideal.ofBits, Ideal.ieee, -EReal.coe_mul]; norm_num
theorem perWidth_val : Ideal.ofBits .f32 0x3A800000#32 = ((1 / 1024 : ℝ) : EReal) := by
  simp [Ideal.ofBits, Ideal.ieee, -EReal.coe_mul]; norm_num
theorem half_val : Ideal.ofBits .f32 0x3F000000#32 = ((1 / 2 : ℝ) : EReal) := by
  simp [Ideal.ofBits, Ideal.ieee, -EReal.coe_mul]; norm_num
theorem negHalf_val : Ideal.ofBits .f32 0xBF000000#32 = ((-(1 / 2) : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem one_val : Ideal.ofBits .f32 0x3F800000#32 = ((1 : ℝ) : EReal) := by
  rw [Ideal.ofBits_one_f32, EReal.coe_one]
theorem zero_val : Ideal.ofBits .f32 0x00000000#32 = ((0 : ℝ) : EReal) := by
  simp [Ideal.ofBits, Ideal.ieee, -EReal.coe_mul]

/-! ## Functions of a real -/

theorem div_real (x : ℝ) {y : ℝ} (hy : y ≠ 0) : Ideal.div (x : EReal) (y : EReal) = ((x / y : ℝ) : EReal) := by
  rw [Ideal.div_coe hy, ← EReal.coe_mul, mul_one_div]

theorem rsqrt_real {x : ℝ} (hx : 0 < x) : Ideal.rsqrt (x : EReal) = (((Real.sqrt x)⁻¹ : ℝ) : EReal) := by
  rw [Ideal.rsqrt_coe, if_neg hx.not_gt, if_neg hx.ne']

theorem tanh_real (x : ℝ) : Ideal.tanh (x : EReal) = (Real.tanh x : EReal) := Ideal.tanh_coe x

/-- The logistic function. -/
def sg (x : ℝ) : ℝ := 1 / (1 + Real.exp (-x))

theorem sg_pos_den (x : ℝ) : (1 + Real.exp (-x)) ≠ 0 := by have := Real.exp_pos (-x); linarith

/-- The logistic function by the hyperbolic tangent of half its argument. -/
theorem sg_tanh (x : ℝ) : 1 / 2 * Real.tanh (1 / 2 * x) + 1 / 2 = sg x := by
  have hb := Real.exp_pos (-(1 / 2 * x))
  have ha : Real.exp (1 / 2 * x) = (Real.exp (-(1 / 2 * x)))⁻¹ := by rw [Real.exp_neg, inv_inv]
  have e : Real.exp (-x) = Real.exp (-(1 / 2 * x)) * Real.exp (-(1 / 2 * x)) := by rw [← Real.exp_add]; congr 1; ring
  unfold sg
  rw [Real.tanh_eq_sinh_div_cosh, Real.sinh_eq, Real.cosh_eq, e, ha]
  generalize Real.exp (-(1 / 2 * x)) = b at hb
  field_simp
  ring

/-! ## The norm -/

section Norm

variable {n : ℕ} (X : Mat n 1024)

/-- The mean of a row's squares, and what is taken the root of. -/
def ms (i : Fin n) : ℝ := (∑ j, X i j * X i j) / 1024 + eps

theorem ms_pos (i : Fin n) : 0 < ms X i :=
  add_pos_of_nonneg_of_pos (div_nonneg (Finset.sum_nonneg fun j _ => mul_self_nonneg _) (by norm_num)) eps_pos

/-- The reciprocal root. -/
def rs (i : Fin n) : ℝ := (Real.sqrt (ms X i))⁻¹

theorem rs_sq (i : Fin n) : rs X i * rs X i = 1 / ms X i := by
  unfold rs
  rw [← mul_inv, Real.mul_self_sqrt (ms_pos X i).le, one_div]

/-- The reciprocal root as a program computes it. -/
theorem rs_up (i : Fin n) : Ideal.rsqrt (Ideal.div (∑ a, up X (ix2 i a) * up X (ix2 i a)) (Ideal.ofBits .f32 0x44800000#32)
    + Ideal.ofBits .f32 0x358637BD#32) = ((rs X i : ℝ) : EReal) := by
  simp only [up_ix2, width_val, eps_val, ← EReal.coe_mul, ← Attn.coe_sum]
  rw [div_real _ (by norm_num), ← EReal.coe_add]
  exact rsqrt_real (ms_pos X i)

/-- The rows of root mean square one, and the norm with its weights. -/
def xh : Mat n 1024 := fun i j => X i j * rs X i
def nrm (g : Mat 1 1024) : Mat n 1024 := fun i j => xh X i j * g 0 j

/-- The norm's gradient, from that of its result: of the weights, and of the rows. -/
def nrmG (D : Mat n 1024) : Mat 1 1024 := fun _ j => ∑ i, D i j * xh X i j
def nrmX (g : Mat 1 1024) (D : Mat n 1024) : Mat n 1024 := fun i j =>
  rs X i * (D i j * g 0 j - xh X i j * ((∑ a, D i a * g 0 a * xh X i a) / 1024))

end Norm

/-- A block of whole rows. -/
theorem part_row {n k p : ℕ} (A : Mat n k) {r : ℕ} (hr : r + p ≤ n) (i : Fin p) (j : Fin k) :
    part p k A r 0 i j = A ⟨r + i.val, by have := i.isLt; omega⟩ j := part_at A rfl (Nat.zero_add _).symm

theorem part_nrm {n p : ℕ} (X : Mat n 1024) (g : Mat 1 1024) {r : ℕ} (hr : r + p ≤ n) :
    part p 1024 (nrm X g) r 0 = nrm (part p 1024 X r 0) g := by
  funext i j
  simp only [part_row _ hr, nrm, xh, rs, ms]

theorem part_nrmX {n p : ℕ} (X : Mat n 1024) (g : Mat 1 1024) (D : Mat n 1024) {r : ℕ} (hr : r + p ≤ n) :
    part p 1024 (nrmX X g D) r 0 = nrmX (part p 1024 X r 0) g (part p 1024 D r 0) := by
  funext i j
  simp only [part_row _ hr, nrmX, xh, rs, ms]

/-- A sum over rows, tile by tile. -/
theorem sum_tiles (f : Fin 4096 → ℝ) : ∑ t : Fin 8, ∑ i : Fin 512, f ⟨512 * t.val + i.val, by omega⟩ = ∑ i, f i := by
  rw [← Fintype.sum_prod_type' (f := fun (t : Fin 8) (i : Fin 512) => f ⟨512 * t.val + i.val, by omega⟩)]
  exact Fintype.sum_equiv (finProdFinEquiv (m := 8) (n := 512)) _ _ fun x =>
    congrArg f (Fin.ext (show 512 * x.1.val + x.2.val = x.2.val + 512 * x.1.val by omega))

/-- The same, by sixteen tiles. -/
theorem sum_tiles16 (f : Fin 4096 → ℝ) : ∑ t : Fin 16, ∑ i : Fin 256, f ⟨256 * t.val + i.val, by omega⟩ = ∑ i, f i := by
  rw [← Fintype.sum_prod_type' (f := fun (t : Fin 16) (i : Fin 256) => f ⟨256 * t.val + i.val, by omega⟩)]
  exact Fintype.sum_equiv (finProdFinEquiv (m := 16) (n := 256)) _ _ fun x =>
    congrArg f (Fin.ext (show 256 * x.1.val + x.2.val = x.2.val + 256 * x.1.val by omega))

theorem tiles16_nrmG (X D : Mat 4096 1024) (j : Fin 1024) :
    ∑ t : Fin 16, nrmG (part 256 1024 X (256 * t.val) 0) (part 256 1024 D (256 * t.val) 0) 0 j = nrmG X D 0 j := by
  unfold nrmG
  rw [← sum_tiles16]
  refine Finset.sum_congr rfl fun t _ => Finset.sum_congr rfl fun i _ => ?_
  have hr : 256 * t.val + 256 ≤ 4096 := by omega
  simp only [part_row _ hr, xh, rs, ms]

theorem tiles_nrmG (X D : Mat 4096 1024) (j : Fin 1024) :
    ∑ t : Fin 8, nrmG (part 512 1024 X (512 * t.val) 0) (part 512 1024 D (512 * t.val) 0) 0 j = nrmG X D 0 j := by
  unfold nrmG
  rw [← sum_tiles]
  refine Finset.sum_congr rfl fun t _ => Finset.sum_congr rfl fun i _ => ?_
  have hr : 512 * t.val + 512 ≤ 4096 := by omega
  simp only [part_row _ hr, xh, rs, ms]

/-! ## The block and its gradient -/

/-- A product with a residual added. -/
def res {n k l : ℕ} (A : Mat n k) (B : Mat k l) (X : Mat n l) : Mat n l := fun i j => mm A B i j + X i j

theorem part_res {n k l p : ℕ} (A : Mat n k) (B : Mat k l) (X : Mat n l) {r : ℕ} (hr : r + p ≤ n) :
    part p l (res A B X) r 0 = res (part p k A r 0) B (part p l X r 0) := by
  funext i j
  simp only [part_row _ hr, res, mm]

/-- A sum of two matrices. -/
def plus {n k : ℕ} (A B : Mat n k) : Mat n k := fun i j => A i j + B i j

theorem part_plus {n k : ℕ} (A B : Mat n k) (p q r s : ℕ) : part p q (plus A B) r s = plus (part p q A r s) (part p q B r s) := by
  funext i j
  unfold plus part
  split <;> simp

section Act

variable {n k : ℕ} (gate upv : Mat n k)

/-- The gated values. -/
def act : Mat n k := fun i j => gate i j * sg (gate i j) * upv i j

/-- Blocks of the gated values. -/
theorem part_act (p q r s : ℕ) : part p q (act gate upv) r s = act (part p q gate r s) (part p q upv r s) := by
  funext i j
  unfold act part
  split <;> simp

/-- Their gradients, from that of the result `D`. -/
def dGate (D : Mat n k) : Mat n k := fun i j =>
  D i j * upv i j * (sg (gate i j) * (1 + gate i j * (1 - sg (gate i j))))
def dUp (D : Mat n k) : Mat n k := fun i j => D i j * gate i j * sg (gate i j)

theorem part_dGate (D : Mat n k) (p q r s : ℕ) :
    part p q (dGate gate upv D) r s = dGate (part p q gate r s) (part p q upv r s) (part p q D r s) := by
  funext i j
  unfold dGate part
  split <;> simp
theorem part_dUp (D : Mat n k) (p q r s : ℕ) :
    part p q (dUp gate D) r s = dUp (part p q gate r s) (part p q D r s) := by
  funext i j
  unfold dUp part
  split <;> simp

end Act

section Loss

variable {n : ℕ} (Y target : Mat n 1024)

/-- The difference from the target, and the loss. -/
def err : Mat n 1024 := fun i j => Y i j - target i j
def rowLoss (i : Fin n) : ℝ := (∑ j, err Y target i j * err Y target i j) / 1024
def loss : ℝ := 1 / 2 * ∑ i, rowLoss Y target i

/-- The loss's gradient. -/
def dLoss : Mat n 1024 := fun i j => err Y target i j * (1 / 1024)

theorem part_dLoss {p r : ℕ} (hr : r + p ≤ n) :
    part p 1024 (dLoss Y target) r 0 = dLoss (part p 1024 Y r 0) (part p 1024 target r 0) := by
  funext i j
  simp only [part_row _ hr, dLoss, err]

end Loss

theorem tiles_loss (Y target : Mat 4096 1024) :
    ∑ t : Fin 8, loss (part 512 1024 Y (512 * t.val) 0) (part 512 1024 target (512 * t.val) 0) = loss Y target := by
  unfold loss
  rw [← Finset.mul_sum, ← sum_tiles]
  refine congrArg (1 / 2 * ·) (Finset.sum_congr rfl fun t _ => Finset.sum_congr rfl fun i _ => ?_)
  have hr : 512 * t.val + 512 ≤ 4096 := by omega
  simp only [part_row _ hr, rowLoss, err]

end Ffn

end
-- ==== Proof.FfnHead.lean ====
/- The memory attention's residual sum and its norm. -/
module

public import proofs.«01_k».proof.Proof.FfnMath
public import proofs.«01_k».proof.Proof.Gen.Kernel2Ideal.Frame.Region0
public import Idealize.ShloMosaic.Lib.Pipeline.ValueKit

@[expose] public section

set_option maxRecDepth 16384

noncomputable section

namespace Ffn

open Idealize.ShloMosaic Idealize.ShloMosaic.TcCoe Idealize.ShloMosaic.Tactic Cert.Kernel2Ideal Cert.Kernel2Ideal.Gen Idealize.SL.Sem

variable (V : (c : Dev nD) → (b : Ref sig .tc) → Buf (Elt Ideal) ((c : Thread nD τ).loc b)) (c : Dev nD)

/-! ## The body's payloads -/

theorem pay_x2 (O : Mat 512 1024) (W : Mat 1024 1024) (X : Mat 512 1024) :
    k0_pay1 (F := Ideal) (up O) (up W) (up X) = up (res O W X) := eq_up fun i j => by
  pointwise [k0_pay1]
  simp only [up_ix2, res, mm, Attn.coe_sum, EReal.coe_mul, EReal.coe_add]

theorem pay_x2_out (O : Mat 512 1024) (W : Mat 1024 1024) (X : Mat 512 1024) :
    k0_pay3 (F := Ideal) (up O) (up W) (up X) = up (res O W X) := by
  rw [← pay_x2]
  funext y
  rw [eq_ix2 y]
  pointwise [k0_pay3]

theorem pay_nrm (O : Mat 512 1024) (W : Mat 1024 1024) (X : Mat 512 1024) (g : Mat 1 1024) :
    k0_pay2 (F := Ideal) (up O) (up W) (up X) (up g) = up (nrm (res O W X) g) := eq_up fun i j => by
  have e := pay_x2 O W X
  unfold k0_pay2
  rw [e]
  pointwise
  rw [rs_up]
  simp only [up_ix2, nrm, xh, EReal.coe_mul]

theorem pay_hf (O : Mat 512 1024) (W : Mat 1024 1024) (X : Mat 512 1024) (g : Mat 1 1024) :
    k0_pay4 (F := Ideal) (up O) (up W) (up X) (up g) = up (nrm (res O W X) g) := by
  rw [← pay_nrm]
  funext y
  rw [eq_ix2 y]
  pointwise [k0_pay4]

theorem pay_hfT (O : Mat 512 1024) (W : Mat 1024 1024) (X : Mat 512 1024) (g : Mat 1 1024) :
    k0_pay5 (F := Ideal) (up O) (up W) (up X) (up g) = up (tr (nrm (res O W X) g)) := eq_up fun i j => by
  have e := pay_nrm O W X g
  unfold k0_pay5
  rw [e]
  pointwise
  rfl

/-! ## The arrays -/

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val])

theorem bound0 (t : Fin cfg0.N) : 512 * t.val + 512 ≤ 4096 := by have := t.isLt; have : cfg0.N = 8 := N_0; omega

section Run

variable (o x1 : Mat 4096 1024) (wmo : Mat 1024 1024) (gf : Mat 1 1024)

theorem blk0_0 (h : V c main_arg0 = up o) (t : Fin cfg0.N) : iblk0 V c 0 t = up (part 512 1024 o (512 * t.val) 0) := eq_up fun i j => by
  blk_simp [iblk0]
  rw [h]
  exact up_at o (by blk_simp [idx0 t]; omega) (by blk_simp [idx0 t]; try omega)
theorem blk0_1 (h : V c main_arg3 = up wmo) (t : Fin cfg0.N) : iblk0 V c 1 t = up wmo := eq_up fun i j => by
  blk_simp [iblk0]
  rw [h]
  exact congrArg₂ (fun a b => ((wmo a b : ℝ) : EReal)) (Fin.ext (by blk_simp [idx0 t]; try omega)) (Fin.ext (by blk_simp [idx0 t]; try omega))
theorem blk0_2 (h : V c main_arg1 = up x1) (t : Fin cfg0.N) : iblk0 V c 2 t = up (part 512 1024 x1 (512 * t.val) 0) := eq_up fun i j => by
  blk_simp [iblk0]
  rw [h]
  exact up_at x1 (by blk_simp [idx0 t]; omega) (by blk_simp [idx0 t]; try omega)
theorem blk0_3 (h : V c main_arg4 = up gf) (t : Fin cfg0.N) : iblk0 V c 3 t = up gf := eq_up fun i j => by
  blk_simp [iblk0]
  rw [h]
  exact congrArg₂ (fun a b => ((gf a b : ℝ) : EReal)) (Fin.ext (by blk_simp [idx0 t]; try omega)) (Fin.ext (by blk_simp [idx0 t]; try omega))

variable (ho : V c main_arg0 = up o) (hw : V c main_arg3 = up wmo) (hx : V c main_arg1 = up x1) (hg : V c main_arg4 = up gf)
include ho hw hx

theorem final0_4 : (dat0 V c).arrAt 4 cfg0.N = up (res o wmo x1) := by
  refine (dat0 V c).arrAt_eq_of_covers 4 _ (by decide +kernel) fun t hf y => ?_
  blk_simp
  rw [after0_4]
  frame_out
  rw [blk0_0 V c o ho t, blk0_1 V c wmo hw t, blk0_2 V c x1 hx t, pay_x2_out, ← part_res _ _ _ (bound0 t)]
  exact up_part _ (by blk_simp [idx0 t]; omega) (by blk_simp [idx0 t]; try omega)

include hg

theorem final0_5 : (dat0 V c).arrAt 5 cfg0.N = up (nrm (res o wmo x1) gf) := by
  refine (dat0 V c).arrAt_eq_of_covers 5 _ (by decide +kernel) fun t hf y => ?_
  blk_simp
  rw [after0_5]
  frame_out
  rw [blk0_0 V c o ho t, blk0_1 V c wmo hw t, blk0_2 V c x1 hx t, blk0_3 V c gf hg t, pay_hf, ← part_res _ _ _ (bound0 t),
    ← part_nrm _ _ (bound0 t)]
  exact up_part _ (by blk_simp [idx0 t]; omega) (by blk_simp [idx0 t]; try omega)

theorem final0_6 : (dat0 V c).arrAt 6 cfg0.N = up (tr (nrm (res o wmo x1) gf)) := by
  refine (dat0 V c).arrAt_eq_of_covers 6 _ (by decide +kernel) fun t hf y => ?_
  blk_simp
  rw [after0_6]
  frame_out
  rw [blk0_0 V c o ho t, blk0_1 V c wmo hw t, blk0_2 V c x1 hx t, blk0_3 V c gf hg t, pay_hfT, ← part_res _ _ _ (bound0 t),
    ← part_nrm _ _ (bound0 t), ← part_tr]
  exact up_part _ (by blk_simp [idx0 t]; try omega) (by blk_simp [idx0 t]; omega)

end Run

end Ffn

end
-- ==== Proof.FfnGate.lean ====
/- The gates, the values they gate, and the gated values, computed column block by column block. -/
module

public import proofs.«01_k».proof.Proof.FfnMath
public import proofs.«01_k».proof.Proof.Gen.Kernel2Ideal.Frame.Region1
public import Idealize.ShloMosaic.Lib.Pipeline.ValueKit
public import Idealize.ShloMosaic.Lib.Pipeline.ReadBack

@[expose] public section

set_option maxRecDepth 16384

noncomputable section

namespace Ffn

open Idealize.ShloMosaic Idealize.ShloMosaic.TcCoe Idealize.ShloMosaic.Tactic Cert.Kernel2Ideal Cert.Kernel2Ideal.Gen Idealize.SL.Sem

variable (V : (c : Dev nD) → (b : Ref sig .tc) → Buf (Elt Ideal) ((c : Thread nD τ).loc b)) (c : Dev nD)

/-! ## Loads and stores of blocks -/

/-- A load of a block. -/
theorem ld_part {n k p q : ℕ} (A : Mat n k) (r s : ℕ) (inb) :
    (View.ld (Val := Elt Ideal) (e' := .bf16) (up A) (Rect.unit (s := ⟨2, ![n, k]⟩) ![r, s] ![p, q] inb) : (⟨2, ![p, q]⟩ : Shape).Idx → EReal)
      = up (part p q A r s) := eq_up fun i j =>
  up_at A (show r + 1 * i.val = r + i.val by omega) (show s + 1 * j.val = s + j.val by omega)

/-- A store's place. -/
theorem up_emb {n k p q : ℕ} (A : Mat n k) (r s : ℕ) (inb) (y) :
    up A ((Rect.unit (s := ⟨2, ![n, k]⟩) ![r, s] ![p, q] inb).emb y) = up (part p q A r s) y :=
  up_at A (i := y 0) (j := y 1) (show r + 1 * (y 0).val = r + (y 0).val by omega) (show s + 1 * (y 1).val = s + (y 1).val by omega)

/-- Stores that tile an array leave what each stores. -/
theorem canon_tiled {s : Shape} {e : EltTy} (T : s.Idx → Elt Ideal e) (L : List (View.Piece (Elt Ideal) s e))
    (hp : View.PiecesOf T L) (hc : ∀ y, ∃ p ∈ L, y ∈ p.1.set) : View.canon L = T :=
  funext fun y => View.canon_apply_of_pieces T L hp.mem y (hc y)

/-! ## The payloads of the first column block -/

section Pay

variable (H : Mat 256 1024) (A B : Mat 1024 256)

theorem pay_gate : k1_pay5 (F := Ideal) (up H) (up A) = up (mm H A) := eq_up fun i j => by
  pointwise [k1_pay5]
  simp only [up_ix2, mm, Attn.coe_sum, EReal.coe_mul]

theorem pay_upv : k1_pay6 (F := Ideal) (up H) (up B) = up (mm H B) := pay_gate H B

theorem pay_gate_out : k1_pay8 (F := Ideal) (up H) (up A) = up (mm H A) := by
  rw [← pay_gate]
  funext y
  rw [eq_ix2 y]
  pointwise [k1_pay8]

theorem pay_upv_out : k1_pay9 (F := Ideal) (up H) (up B) = up (mm H B) := by
  rw [← pay_upv]
  funext y
  rw [eq_ix2 y]
  pointwise [k1_pay9]

theorem pay_act : k1_pay7 (F := Ideal) (up H) (up A) (up B) = up (act (mm H A) (mm H B)) := eq_up fun i j => by
  have e := pay_gate H A
  have e' := pay_upv H B
  unfold k1_pay7
  rw [e, e']
  pointwise
  simp only [up_ix2, half_val, ← EReal.coe_mul, tanh_real, ← EReal.coe_add, sg_tanh, act]

theorem pay_act_out : k1_pay10 (F := Ideal) (up H) (up A) (up B) = up (act (mm H A) (mm H B)) := by
  rw [← pay_act]
  funext y
  rw [eq_ix2 y]
  pointwise [k1_pay10]

theorem pay_act_outT : k1_pay11 (F := Ideal) (up H) (up A) (up B) = up (tr (act (mm H A) (mm H B))) := eq_up fun i j => by
  have e := pay_act H A B
  unfold k1_pay11
  rw [e]
  pointwise
  rfl

end Pay

/-! ## The body's stores -/

section Tile

variable (H : Mat 256 1024) (A B : Mat 1024 2816)

/-- One column block of each result. -/
theorem piece_gate (o : ℕ) (inb) (inb') (y) :
    k1_pay8 (F := Ideal) (View.ld (Val := Elt Ideal) (up H : Vec Ideal S256x1024 .bf16) r1_0)
      (View.ld (Val := Elt Ideal) (up A : Vec Ideal S1024x2816 .bf16) (Rect.unit (s := S1024x2816) ![0, o] S1024x256.size inb)) y
      = up (mm H A) ((Rect.unit (s := S256x2816) ![0, o] S256x256.size inb').emb y) := by
  rw [ld_part H 0 0, ld_part A 0 o, pay_gate_out, ← part_mm]
  exact (up_emb (mm H A) 0 o _ y).symm

theorem piece_upv (o : ℕ) (inb) (inb') (y) :
    k1_pay9 (F := Ideal) (View.ld (Val := Elt Ideal) (up H : Vec Ideal S256x1024 .bf16) r1_0)
      (View.ld (Val := Elt Ideal) (up B : Vec Ideal S1024x2816 .bf16) (Rect.unit (s := S1024x2816) ![0, o] S1024x256.size inb)) y
      = up (mm H B) ((Rect.unit (s := S256x2816) ![0, o] S256x256.size inb').emb y) := by
  rw [ld_part H 0 0, ld_part B 0 o, pay_upv_out, ← part_mm]
  exact (up_emb (mm H B) 0 o _ y).symm

theorem piece_act (o : ℕ) (inb) (inb') (y) :
    k1_pay10 (F := Ideal) (View.ld (Val := Elt Ideal) (up H : Vec Ideal S256x1024 .bf16) r1_0)
      (View.ld (Val := Elt Ideal) (up A : Vec Ideal S1024x2816 .bf16) (Rect.unit (s := S1024x2816) ![0, o] S1024x256.size inb))
      (View.ld (Val := Elt Ideal) (up B : Vec Ideal S1024x2816 .bf16) (Rect.unit (s := S1024x2816) ![0, o] S1024x256.size inb)) y
      = up (act (mm H A) (mm H B)) ((Rect.unit (s := S256x2816) ![0, o] S256x256.size inb').emb y) := by
  rw [ld_part H 0 0, ld_part A 0 o, ld_part B 0 o, pay_act_out, ← part_mm, ← part_mm, ← part_act]
  exact (up_emb _ 0 o _ y).symm

theorem piece_actT (o : ℕ) (inb) (inb') (y) :
    k1_pay11 (F := Ideal) (View.ld (Val := Elt Ideal) (up H : Vec Ideal S256x1024 .bf16) r1_0)
      (View.ld (Val := Elt Ideal) (up A : Vec Ideal S1024x2816 .bf16) (Rect.unit (s := S1024x2816) ![0, o] S1024x256.size inb))
      (View.ld (Val := Elt Ideal) (up B : Vec Ideal S1024x2816 .bf16) (Rect.unit (s := S1024x2816) ![0, o] S1024x256.size inb)) y
      = up (tr (act (mm H A) (mm H B))) ((Rect.unit (s := S2816x256) ![o, 0] S256x256.size inb').emb y) := by
  rw [ld_part H 0 0, ld_part A 0 o, ld_part B 0 o, pay_act_outT, ← part_mm, ← part_mm, ← part_act, ← part_tr]
  exact (up_emb _ o 0 _ y).symm

/-- The blocks that a point leaves. -/
theorem tile_gate : out1_3 (F := Ideal) (up H) (up A) (up B) = up (mm H A) := by
  unfold_out out1_3
  refine canon_tiled _ _ ?_ fun y => cover1_3 _ _ _ _ _ _ _ _ _ _ _ y
  refine ⟨?_, ?_, ?_, ?_, ?_, ?_, ?_, ?_, ?_, ?_, ?_, trivial⟩ <;> exact fun y => piece_gate H A _ (by decide) (by decide) y

theorem tile_upv : out1_4 (F := Ideal) (up H) (up A) (up B) = up (mm H B) := by
  unfold_out out1_4
  refine canon_tiled _ _ ?_ fun y => cover1_4 _ _ _ _ _ _ _ _ _ _ _ y
  refine ⟨?_, ?_, ?_, ?_, ?_, ?_, ?_, ?_, ?_, ?_, ?_, trivial⟩ <;> exact fun y => piece_upv H B _ (by decide) (by decide) y

theorem tile_act : out1_5 (F := Ideal) (up H) (up A) (up B) = up (act (mm H A) (mm H B)) := by
  unfold_out out1_5
  refine canon_tiled _ _ ?_ fun y => cover1_5 _ _ _ _ _ _ _ _ _ _ _ y
  refine ⟨?_, ?_, ?_, ?_, ?_, ?_, ?_, ?_, ?_, ?_, ?_, trivial⟩ <;> exact fun y => piece_act H A B _ (by decide) (by decide) y

theorem tile_actT : out1_6 (F := Ideal) (up H) (up A) (up B) = up (tr (act (mm H A) (mm H B))) := by
  unfold_out out1_6
  refine canon_tiled _ _ ?_ fun y => cover1_6 _ _ _ _ _ _ _ _ _ _ _ y
  refine ⟨?_, ?_, ?_, ?_, ?_, ?_, ?_, ?_, ?_, ?_, ?_, trivial⟩ <;> exact fun y => piece_actT H A B _ (by decide) (by decide) y

end Tile

/-! ## The arrays -/

theorem idx1 : ∀ t : Fin cfg1.N, win1_0.index t = ![t.val, 0] ∧ win1_1.index t = ![0, 0] ∧ win1_2.index t = ![0, 1]
    ∧ win1_3.index t = ![t.val, 0] ∧ win1_4.index t = ![t.val, 0] ∧ win1_5.index t = ![t.val, 0] ∧ win1_6.index t = ![0, t.val] :=
  (by decide +kernel : ∀ t : Fin grid1.N, win1_0.index t = ![t.val, 0] ∧ win1_1.index t = ![0, 0] ∧ win1_2.index t = ![0, 1]
    ∧ win1_3.index t = ![t.val, 0] ∧ win1_4.index t = ![t.val, 0] ∧ win1_5.index t = ![t.val, 0] ∧ win1_6.index t = ![0, t.val])

section Run

variable (h : Mat 4096 1024) (wgu : Mat 1024 5632)

theorem blk1_0 (hh : V c main_v0_1 = up h) (t : Fin cfg1.N) : iblk1 V c 0 t = up (part 256 1024 h (256 * t.val) 0) := eq_up fun i j => by
  blk_simp [iblk1]
  rw [hh]
  exact up_at h (by blk_simp [idx1 t]; omega) (by blk_simp [idx1 t]; try omega)
theorem blk1_1 (hw : V c main_arg5 = up wgu) (t : Fin cfg1.N) : iblk1 V c 1 t = up (part 1024 2816 wgu 0 0) := eq_up fun i j => by
  blk_simp [iblk1]
  rw [hw]
  exact up_at wgu (by blk_simp [idx1 t]; try omega) (by blk_simp [idx1 t]; try omega)
theorem blk1_2 (hw : V c main_arg5 = up wgu) (t : Fin cfg1.N) : iblk1 V c 2 t = up (part 1024 2816 wgu 0 2816) := eq_up fun i j => by
  blk_simp [iblk1]
  rw [hw]
  exact up_at wgu (by blk_simp [idx1 t]; try omega) (by blk_simp [idx1 t]; try omega)

variable (hh : V c main_v0_1 = up h) (hw : V c main_arg5 = up wgu)
include hh hw

theorem final1_3 : (dat1 V c).arrAt 3 cfg1.N = up (mm h (part 1024 2816 wgu 0 0)) := by
  refine (dat1 V c).arrAt_eq_of_covers 3 _ (by decide +kernel) fun t hf y => ?_
  blk_simp
  rw [after1_3, blk1_0 V c h hh t, blk1_1 V c wgu hw t, blk1_2 V c wgu hw t, tile_gate, ← part_rows_mm]
  exact up_part _ (by blk_simp [idx1 t]; omega) (by blk_simp [idx1 t]; try omega)

theorem final1_4 : (dat1 V c).arrAt 4 cfg1.N = up (mm h (part 1024 2816 wgu 0 2816)) := by
  refine (dat1 V c).arrAt_eq_of_covers 4 _ (by decide +kernel) fun t hf y => ?_
  blk_simp
  rw [after1_4, blk1_0 V c h hh t, blk1_1 V c wgu hw t, blk1_2 V c wgu hw t, tile_upv, ← part_rows_mm]
  exact up_part _ (by blk_simp [idx1 t]; omega) (by blk_simp [idx1 t]; try omega)

theorem final1_5 : (dat1 V c).arrAt 5 cfg1.N = up (act (mm h (part 1024 2816 wgu 0 0)) (mm h (part 1024 2816 wgu 0 2816))) := by
  refine (dat1 V c).arrAt_eq_of_covers 5 _ (by decide +kernel) fun t hf y => ?_
  blk_simp
  rw [after1_5, blk1_0 V c h hh t, blk1_1 V c wgu hw t, blk1_2 V c wgu hw t, tile_act, ← part_rows_mm, ← part_rows_mm, ← part_act]
  exact up_part _ (by blk_simp [idx1 t]; omega) (by blk_simp [idx1 t]; try omega)

theorem final1_6 : (dat1 V c).arrAt 6 cfg1.N = up (tr (act (mm h (part 1024 2816 wgu 0 0)) (mm h (part 1024 2816 wgu 0 2816)))) := by
  refine (dat1 V c).arrAt_eq_of_covers 6 _ (by decide +kernel) fun t hf y => ?_
  blk_simp
  rw [after1_6, blk1_0 V c h hh t, blk1_1 V c wgu hw t, blk1_2 V c wgu hw t, tile_actT, ← part_rows_mm, ← part_rows_mm, ← part_act, ← part_tr]
  exact up_part _ (by blk_simp [idx1 t]; try omega) (by blk_simp [idx1 t]; omega)

end Run

end Ffn

end
-- ==== Proof.FfnLoss.lean ====
/- The second product, the loss and its gradient at the last norm, row tile by row tile. -/
module

public import proofs.«01_k».proof.Proof.FfnMath
public import proofs.«01_k».proof.Proof.Gen.Kernel2Ideal.Frame.Region2
public import Idealize.ShloMosaic.Lib.Pipeline.ValueKit
public import Idealize.ShloMosaic.Lib.Pipeline.ReadBack

@[expose] public section

set_option maxRecDepth 16384

noncomputable section

namespace Ffn

open Idealize.ShloMosaic Idealize.ShloMosaic.TcCoe Idealize.ShloMosaic.Tactic Cert.Kernel2Ideal Cert.Kernel2Ideal.Gen Idealize.SL.Sem

variable (V : (c : Dev nD) → (b : Ref sig .tc) → Buf (Elt Ideal) ((c : Thread nD τ).loc b)) (c : Dev nD)

/-- A place in an array of one row. -/
theorem eq_row {n : ℕ} (j : (⟨2, ![1, n]⟩ : Shape).Idx) : j = ix2 0 (j 1) := by
  rw [eq_ix2 j]
  congr 1
  exact Subsingleton.elim _ _

/-! ## The payloads -/

section Pay

variable (a : Mat 512 2816) (w : Mat 2816 1024) (x : Mat 512 1024) (g : Mat 1 1024) (t : Mat 512 1024)

theorem pay_x3 : k2_pay2 (F := Ideal) (up a) (up w) (up x) = up (res a w x) := eq_up fun i j => by
  pointwise [k2_pay2]
  simp only [up_ix2, res, mm, Attn.coe_sum, EReal.coe_mul, EReal.coe_add]

theorem pay_err : k2_pay3 (F := Ideal) (up a) (up w) (up x) (up g) (up t) = up (err (nrm (res a w x) g) t) := eq_up fun i j => by
  have e := pay_x3 a w x
  unfold k2_pay3
  rw [e]
  have er := rs_up (res a w x) i
  pointwise
  rw [er]
  simp only [up_ix2, ← EReal.coe_mul, ← EReal.coe_sub, err, nrm, xh]

theorem pay_loss : k2_pay4 (F := Ideal) (up a) (up w) (up x) (up g) (up t) (ix2 0 0)
    = ((loss (nrm (res a w x) g) t : ℝ) : EReal) := by
  have e := pay_err a w x g t
  unfold k2_pay4
  rw [e]
  pointwise
  simp only [up_ix2, width_val, half_val, ← EReal.coe_mul, ← Attn.coe_sum, div_real _ (show (1024 : ℝ) ≠ 0 by norm_num), loss, rowLoss]

theorem pay_dLoss : k2_pay5 (F := Ideal) (up a) (up w) (up x) (up g) (up t) = up (dLoss (nrm (res a w x) g) t) := eq_up fun i j => by
  have e := pay_err a w x g t
  unfold k2_pay5
  rw [e]
  pointwise
  simp only [up_ix2, perWidth_val, ← EReal.coe_mul, dLoss]

/-- The reciprocal roots. -/
theorem pay_rs (i : Fin 512) : k2_pay7 (F := Ideal) (k2_pay6 (up a) (up w) (up x)) (Ideal.ofBits .f32 0x358637BD#32) (ix2 i 0)
    = ((rs (res a w x) i : ℝ) : EReal) := by
  have e := pay_x3 a w x
  have er := rs_up (res a w x) i
  unfold k2_pay7 k2_pay6
  rw [e]
  pointwise
  exact er

section Back

variable (Y : Mat 512 1024) (D : Mat 512 1024) (v : FVec Ideal S512x1 .f32)
  (hv : ∀ i, k2_pay7 (F := Ideal) v (Ideal.ofBits .f32 0x358637BD#32) (ix2 i 0) = ((rs Y i : ℝ) : EReal))
include hv

theorem pay_xh : k2_pay8 (F := Ideal) (up Y) v (Scalar.ofBits .f32 0x358637BD#32) = up (xh Y) := eq_up fun i j => by
  unfold k2_pay8
  pointwise
  rw [hv]
  simp only [up_ix2, ← EReal.coe_mul, xh]

theorem pay_dx : k2_pay9 (F := Ideal) (up Y) (up g) (up D) v (Scalar.ofBits .f32 0x358637BD#32) = up (nrmX Y g D) := eq_up fun i j => by
  have e := pay_xh Y v hv
  unfold k2_pay9
  rw [e]
  pointwise
  rw [hv]
  simp only [up_ix2, width_val, ← EReal.coe_mul, ← Attn.coe_sum, div_real _ (show (1024 : ℝ) ≠ 0 by norm_num), ← EReal.coe_sub, nrmX]

theorem pay_dg (z : Vec Ideal S1x1024 .f32) (j : Fin 1024) :
    k2_pay11 (F := Ideal) (up Y) (up D) v (Scalar.ofBits .f32 0x358637BD#32) z (ix2 0 j) = z (ix2 0 j) + ((nrmG Y D 0 j : ℝ) : EReal) := by
  have e := pay_xh Y v hv
  unfold k2_pay11
  rw [e]
  pointwise
  simp only [up_ix2, ← EReal.coe_mul, ← Attn.coe_sum, nrmG]

end Back

theorem pay_sum (l : FVec Ideal S1x1 .f32) (z : Vec Ideal S1x128 .f32) (j : Fin 128) :
    k2_pay1 (F := Ideal) (k2_pay13 l z) (ix2 0 j) = z (ix2 0 j) + l (ix2 0 0) := by
  pointwise [k2_pay1, k2_pay13]

theorem pay_zeroG (j : S1x1024.Idx) : k2_pay10 (F := Ideal) j = 0 := by
  obtain ⟨k, rfl⟩ : ∃ k : Fin 1024, j = ix2 0 k := ⟨j 1, eq_row j⟩
  pointwise [k2_pay10]
theorem pay_zeroL (j : S1x128.Idx) : k2_pay12 (F := Ideal) j = 0 := by
  obtain ⟨k, rfl⟩ : ∃ k : Fin 128, j = ix2 0 k := ⟨j 1, eq_row j⟩
  pointwise [k2_pay12]

end Pay

/-! ## The arrays -/

theorem idx2 : ∀ t : Fin cfg2.N, win2_0.index t = ![t.val, 0] ∧ win2_1.index t = ![0, 0] ∧ win2_2.index t = ![t.val, 0]
    ∧ win2_3.index t = ![0, 0] ∧ win2_4.index t = ![t.val, 0] ∧ win2_5.index t = ![t.val, 0] :=
  (by decide +kernel : ∀ t : Fin grid2.N, win2_0.index t = ![t.val, 0] ∧ win2_1.index t = ![0, 0] ∧ win2_2.index t = ![t.val, 0]
    ∧ win2_3.index t = ![0, 0] ∧ win2_4.index t = ![t.val, 0] ∧ win2_5.index t = ![t.val, 0])

section Run

variable (a : Mat 4096 2816) (w : Mat 2816 1024) (x : Mat 4096 1024) (g : Mat 1 1024) (tg : Mat 4096 1024)

theorem blk2_0 (h : V c main_v1_2 = up a) (t : Fin cfg2.N) : iblk2 V c 0 t = up (part 512 2816 a (512 * t.val) 0) := eq_up fun i j => by
  blk_simp [iblk2]
  rw [h]
  exact up_at a (by blk_simp [idx2 t]; omega) (by blk_simp [idx2 t]; try omega)
theorem blk2_1 (h : V c main_arg6 = up w) (t : Fin cfg2.N) : iblk2 V c 1 t = up w := eq_up fun i j => by
  blk_simp [iblk2]
  rw [h]
  exact congrArg₂ (fun a b => ((w a b : ℝ) : EReal)) (Fin.ext (by blk_simp [idx2 t]; try omega)) (Fin.ext (by blk_simp [idx2 t]; try omega))
theorem blk2_2 (h : V c main_v0_0 = up x) (t : Fin cfg2.N) : iblk2 V c 2 t = up (part 512 1024 x (512 * t.val) 0) := eq_up fun i j => by
  blk_simp [iblk2]
  rw [h]
  exact up_at x (by blk_simp [idx2 t]; omega) (by blk_simp [idx2 t]; try omega)
theorem blk2_3 (h : V c main_arg7 = up g) (t : Fin cfg2.N) : iblk2 V c 3 t = up g := eq_up fun i j => by
  blk_simp [iblk2]
  rw [h]
  exact congrArg₂ (fun a b => ((g a b : ℝ) : EReal)) (Fin.ext (by blk_simp [idx2 t]; try omega)) (Fin.ext (by blk_simp [idx2 t]; try omega))
theorem blk2_4 (h : V c main_arg2 = up tg) (t : Fin cfg2.N) : iblk2 V c 4 t = up (part 512 1024 tg (512 * t.val) 0) := eq_up fun i j => by
  blk_simp [iblk2]
  rw [h]
  exact up_at tg (by blk_simp [idx2 t]; omega) (by blk_simp [idx2 t]; try omega)

variable (ha : V c main_v1_2 = up a) (hw : V c main_arg6 = up w) (hx : V c main_v0_0 = up x) (hg : V c main_arg7 = up g) (ht : V c main_arg2 = up tg)
include ha hw hx hg ht

omit ha hw hx hg ht in
theorem rows2 (t : Fin cfg2.N) : 512 * t.val + 512 ≤ 4096 := by
  have := lt_of_lt_of_eq t.isLt N_2
  omega

omit ha hw hx hg ht in
/-- What a point computes, of its rows. -/
theorem tile_dx (t : Fin cfg2.N) :
    k2_pay9 (F := Ideal) (k2_pay2 (up (part 512 2816 a (512 * t.val) 0)) (up w) (up (part 512 1024 x (512 * t.val) 0))) (up g)
      (k2_pay5 (up (part 512 2816 a (512 * t.val) 0)) (up w) (up (part 512 1024 x (512 * t.val) 0)) (up g) (up (part 512 1024 tg (512 * t.val) 0)))
      (k2_pay6 (up (part 512 2816 a (512 * t.val) 0)) (up w) (up (part 512 1024 x (512 * t.val) 0))) (Scalar.ofBits .f32 0x358637BD#32)
      = up (part 512 1024 (nrmX (res a w x) g (dLoss (nrm (res a w x) g) tg)) (512 * t.val) 0) := by
  rw [pay_dLoss, pay_x3, pay_dx g _ _ _ (pay_rs _ _ _), part_nrmX _ _ _ (rows2 t), part_dLoss _ _ (rows2 t), part_nrm _ _ (rows2 t),
    part_res _ _ _ (rows2 t)]

omit ha hw hx hg ht in
theorem tile_dg (t : Fin cfg2.N) (z : Vec Ideal S1x1024 .f32) (j : S1x1024.Idx) :
    k2_pay11 (F := Ideal) (k2_pay2 (up (part 512 2816 a (512 * t.val) 0)) (up w) (up (part 512 1024 x (512 * t.val) 0)))
      (k2_pay5 (up (part 512 2816 a (512 * t.val) 0)) (up w) (up (part 512 1024 x (512 * t.val) 0)) (up g) (up (part 512 1024 tg (512 * t.val) 0)))
      (k2_pay6 (up (part 512 2816 a (512 * t.val) 0)) (up w) (up (part 512 1024 x (512 * t.val) 0))) (Scalar.ofBits .f32 0x358637BD#32) z j
      = z j + ((nrmG (part 512 1024 (res a w x) (512 * t.val) 0) (part 512 1024 (dLoss (nrm (res a w x) g) tg) (512 * t.val) 0) 0 (j 1) : ℝ) : EReal) := by
  obtain ⟨k, rfl⟩ : ∃ k : Fin 1024, j = ix2 0 k := ⟨j 1, eq_row j⟩
  rw [pay_dLoss, pay_x3, pay_dg _ _ _ (pay_rs _ _ _), part_dLoss _ _ (rows2 t), part_nrm _ _ (rows2 t), part_res _ _ _ (rows2 t)]
  rfl

omit ha hw hx hg ht in
theorem tile_loss (t : Fin cfg2.N) (z : Vec Ideal S1x128 .f32) (j : S1x128.Idx) :
    k2_pay1 (F := Ideal) (k2_pay13 (k2_pay4 (up (part 512 2816 a (512 * t.val) 0)) (up w) (up (part 512 1024 x (512 * t.val) 0)) (up g)
      (up (part 512 1024 tg (512 * t.val) 0))) z) j
      = z j + ((loss (part 512 1024 (nrm (res a w x) g) (512 * t.val) 0) (part 512 1024 tg (512 * t.val) 0) : ℝ) : EReal) := by
  obtain ⟨k, rfl⟩ : ∃ k : Fin 128, j = ix2 0 k := ⟨j 1, eq_row j⟩
  rw [pay_sum, pay_loss, part_nrm _ _ (rows2 t), part_res _ _ _ (rows2 t)]

theorem final2_5 : (dat2 V c).arrAt 5 cfg2.N = up (nrmX (res a w x) g (dLoss (nrm (res a w x) g) tg)) := by
  refine (dat2 V c).arrAt_eq_of_covers 5 _ (by decide +kernel) fun t hf y => ?_
  blk_simp
  rw [after2_5]
  by_cases h0 : t.val % 8 = 0
  · rw [outsAt2_A V c t h0 h0]
    frame_out
    rw [blk2_0 V c a ha t, blk2_1 V c w hw t, blk2_2 V c x hx t, blk2_3 V c g hg t, blk2_4 V c tg ht t, tile_dx]
    exact up_part _ (by blk_simp [idx2 t]; omega) (by blk_simp [idx2 t]; try omega)
  · rw [outsAt2_B V c t h0 h0]
    frame_out
    rw [blk2_0 V c a ha t, blk2_1 V c w hw t, blk2_2 V c x hx t, blk2_3 V c g hg t, blk2_4 V c tg ht t, tile_dx]
    exact up_part _ (by blk_simp [idx2 t]; omega) (by blk_simp [idx2 t]; try omega)

theorem final2_6 : (dat2 V c).arrAt 6 cfg2.N = up (nrmG (res a w x) (dLoss (nrm (res a w x) g) tg)) := by
  refine (dat2 V c).arrAt_eq_of_after_last 6 t2_7 (by decide +kernel) _ fun j => ?_
  blk_simp
  rw [after2_6, Pipeline.eq_sum_fin_of_reset_step_apply_last (fun n h => (outsAt2 V c n h).2.1) 8 (fun _ => 0)
    (fun t j => ((nrmG (part 512 1024 (res a w x) (512 * t.val) 0) (part 512 1024 (dLoss (nrm (res a w x) g) tg) (512 * t.val) 0) 0 (j 1) : ℝ) : EReal))
    (fun t h j => by
      rw [outsAt2_A V c t h h]
      frame_out
      rw [blk2_0 V c a ha t, blk2_1 V c w hw t, blk2_2 V c x hx t, blk2_3 V c g hg t, blk2_4 V c tg ht t, tile_dg, pay_zeroG])
    (fun t h j => by
      rw [outsAt2_B V c t h h]
      frame_out
      rw [blk2_0 V c a ha t, blk2_1 V c w hw t, blk2_2 V c x hx t, blk2_3 V c g hg t, blk2_4 V c tg ht t, tile_dg])
    (le_of_eq N_2) t2_7 rfl _, zero_add, ← Attn.coe_sum]
  exact congrArg (fun r : ℝ => (r : EReal)) (tiles_nrmG _ _ _)

theorem final2_7 : (dat2 V c).arrAt 7 cfg2.N = fun _ => ((loss (nrm (res a w x) g) tg : ℝ) : EReal) := by
  refine (dat2 V c).arrAt_eq_of_after_last 7 t2_7 (by decide +kernel) _ fun j => ?_
  blk_simp
  rw [after2_7, Pipeline.eq_sum_fin_of_reset_step_apply_last (fun n h => (outsAt2 V c n h).2.2) 8 (fun _ => 0)
    (fun t _ => ((loss (part 512 1024 (nrm (res a w x) g) (512 * t.val) 0) (part 512 1024 tg (512 * t.val) 0) : ℝ) : EReal))
    (fun t h j => by
      rw [outsAt2_A V c t h h]
      frame_out
      rw [blk2_0 V c a ha t, blk2_1 V c w hw t, blk2_2 V c x hx t, blk2_3 V c g hg t, blk2_4 V c tg ht t, tile_loss, pay_zeroL])
    (fun t h j => by
      rw [outsAt2_B V c t h h]
      frame_out
      rw [blk2_0 V c a ha t, blk2_1 V c w hw t, blk2_2 V c x hx t, blk2_3 V c g hg t, blk2_4 V c tg ht t, tile_loss])
    (le_of_eq N_2) t2_7 rfl _, zero_add, ← Attn.coe_sum]
  exact congrArg (fun r : ℝ => (r : EReal)) (tiles_loss _ _)

end Run

end Ffn

end
-- ==== Proof.FfnBack.lean ====
/- The gradients of the gates and of the values they gate, computed column block by column block. -/
module

public import proofs.«01_k».proof.Proof.FfnGate
public import proofs.«01_k».proof.Proof.Gen.Kernel2Ideal.Frame.Region4

@[expose] public section

set_option maxRecDepth 16384

noncomputable section

namespace Ffn

open Idealize.ShloMosaic Idealize.ShloMosaic.TcCoe Idealize.ShloMosaic.Tactic Cert.Kernel2Ideal Cert.Kernel2Ideal.Gen Idealize.SL.Sem

variable (V : (c : Dev nD) → (b : Ref sig .tc) → Buf (Elt Ideal) ((c : Thread nD τ).loc b)) (c : Dev nD)

/-! ## The payloads of the first column block -/

section Pay

variable (D W : Mat 256 1024) (G U : Mat 256 256)

theorem pay_dact : k4_pay2 (F := Ideal) (up D) (up W) = up (mm D (tr W)) := eq_up fun i j => by
  pointwise [k4_pay2]
  simp only [up_ix2, mm, tr, Attn.coe_sum, EReal.coe_mul]

theorem pay_sg (i j : Fin 256) : k4_pay4 (F := Ideal) (up G) (ix2 i j) = ((sg (G i j) : ℝ) : EReal) := by
  pointwise [k4_pay4, k4_pay3]
  simp only [up_ix2, half_val, ← EReal.coe_mul, tanh_real, ← EReal.coe_add, sg_tanh]

theorem pay_dGate : k4_pay5 (F := Ideal) (up D) (up W) (up G) (up U) = up (dGate G U (mm D (tr W))) := eq_up fun i j => by
  have e := pay_dact D W
  have es := pay_sg G i j
  unfold k4_pay5
  rw [e]
  pointwise [k4_pay3]
  rw [es]
  simp only [up_ix2, dGate, EReal.coe_mul, EReal.coe_add, EReal.coe_sub, EReal.coe_one]

theorem pay_dUp : k4_pay6 (F := Ideal) (up D) (up W) (up G) = up (dUp G (mm D (tr W))) := eq_up fun i j => by
  have e := pay_dact D W
  have es := pay_sg G i j
  unfold k4_pay6
  rw [e]
  pointwise [k4_pay3]
  rw [es]
  simp only [up_ix2, ← EReal.coe_mul, dUp]

end Pay

/-! ## The body's stores -/

section Tile

variable (D : Mat 256 1024) (W : Mat 2816 1024) (G U : Mat 256 2816)

/-- One column block of each result. -/
theorem piece_dGate (o : ℕ) (inb) (inb') (y) :
    k4_pay5 (F := Ideal) (View.ld (Val := Elt Ideal) (up D : Vec Ideal S256x1024 .bf16) r4_0)
      (View.ld (Val := Elt Ideal) (up W : Vec Ideal S2816x1024 .bf16) (Rect.unit (s := S2816x1024) ![o, 0] S256x1024.size inb))
      (View.ld (Val := Elt Ideal) (up G : Vec Ideal S256x2816 .bf16) (Rect.unit (s := S256x2816) ![0, o] S256x256.size inb'))
      (View.ld (Val := Elt Ideal) (up U : Vec Ideal S256x2816 .bf16) (Rect.unit (s := S256x2816) ![0, o] S256x256.size inb')) y
      = up (dGate G U (mm D (tr W))) ((Rect.unit (s := S256x2816) ![0, o] S256x256.size inb').emb y) := by
  rw [ld_part D 0 0, ld_part W o 0, ld_part G 0 o, ld_part U 0 o, pay_dGate, ← part_tr, ← part_mm, ← part_dGate]
  exact (up_emb _ 0 o _ y).symm

theorem piece_dUp (o : ℕ) (inb) (inb') (y) :
    k4_pay6 (F := Ideal) (View.ld (Val := Elt Ideal) (up D : Vec Ideal S256x1024 .bf16) r4_0)
      (View.ld (Val := Elt Ideal) (up W : Vec Ideal S2816x1024 .bf16) (Rect.unit (s := S2816x1024) ![o, 0] S256x1024.size inb))
      (View.ld (Val := Elt Ideal) (up G : Vec Ideal S256x2816 .bf16) (Rect.unit (s := S256x2816) ![0, o] S256x256.size inb')) y
      = up (dUp G (mm D (tr W))) ((Rect.unit (s := S256x2816) ![0, o] S256x256.size inb').emb y) := by
  rw [ld_part D 0 0, ld_part W o 0, ld_part G 0 o, pay_dUp, ← part_tr, ← part_mm, ← part_dUp]
  exact (up_emb _ 0 o _ y).symm

/-- The blocks that a point leaves. -/
theorem tile_dGate : out4_4 (F := Ideal) (up D) (up W) (up G) (up U) = up (dGate G U (mm D (tr W))) := by
  unfold_out out4_4
  refine canon_tiled _ _ ?_ fun y => cover4_4 _ _ _ _ _ _ _ _ _ _ _ y
  refine ⟨?_, ?_, ?_, ?_, ?_, ?_, ?_, ?_, ?_, ?_, ?_, trivial⟩ <;> exact fun y => piece_dGate D W G U _ (by decide) (by decide) y

theorem tile_dUp : out4_5 (F := Ideal) (up D) (up W) (up G) (up U) = up (dUp G (mm D (tr W))) := by
  unfold_out out4_5
  refine canon_tiled _ _ ?_ fun y => cover4_5 _ _ _ _ _ _ _ _ _ _ _ y
  refine ⟨?_, ?_, ?_, ?_, ?_, ?_, ?_, ?_, ?_, ?_, ?_, trivial⟩ <;> exact fun y => piece_dUp D W G _ (by decide) (by decide) y

end Tile

/-! ## The arrays -/

theorem idx4 : ∀ t : Fin cfg4.N, win4_0.index t = ![t.val, 0] ∧ win4_1.index t = ![0, 0] ∧ win4_2.index t = ![t.val, 0]
    ∧ win4_3.index t = ![t.val, 0] ∧ win4_4.index t = ![t.val, 0] ∧ win4_5.index t = ![t.val, 0] :=
  (by decide +kernel : ∀ t : Fin grid4.N, win4_0.index t = ![t.val, 0] ∧ win4_1.index t = ![0, 0] ∧ win4_2.index t = ![t.val, 0]
    ∧ win4_3.index t = ![t.val, 0] ∧ win4_4.index t = ![t.val, 0] ∧ win4_5.index t = ![t.val, 0])

section Run

variable (D : Mat 4096 1024) (W : Mat 2816 1024) (G U : Mat 4096 2816)

theorem blk4_0 (hD : V c main_v2_0 = up D) (t : Fin cfg4.N) : iblk4 V c 0 t = up (part 256 1024 D (256 * t.val) 0) := eq_up fun i j => by
  blk_simp [iblk4]
  rw [hD]
  exact up_at D (by blk_simp [idx4 t]; omega) (by blk_simp [idx4 t]; try omega)
theorem blk4_1 (hW : V c main_arg6 = up W) (t : Fin cfg4.N) : iblk4 V c 1 t = up W := eq_up fun i j => by
  blk_simp [iblk4]
  rw [hW]
  exact congrArg₂ (fun a b => ((W a b : ℝ) : EReal)) (Fin.ext (by blk_simp [idx4 t]; try omega)) (Fin.ext (by blk_simp [idx4 t]; try omega))
theorem blk4_2 (hG : V c main_v1_0 = up G) (t : Fin cfg4.N) : iblk4 V c 2 t = up (part 256 2816 G (256 * t.val) 0) := eq_up fun i j => by
  blk_simp [iblk4]
  rw [hG]
  exact up_at G (by blk_simp [idx4 t]; omega) (by blk_simp [idx4 t]; try omega)
theorem blk4_3 (hU : V c main_v1_1 = up U) (t : Fin cfg4.N) : iblk4 V c 3 t = up (part 256 2816 U (256 * t.val) 0) := eq_up fun i j => by
  blk_simp [iblk4]
  rw [hU]
  exact up_at U (by blk_simp [idx4 t]; omega) (by blk_simp [idx4 t]; try omega)

variable (hD : V c main_v2_0 = up D) (hW : V c main_arg6 = up W) (hG : V c main_v1_0 = up G) (hU : V c main_v1_1 = up U)
include hD hW hG hU

theorem final4_4 : (dat4 V c).arrAt 4 cfg4.N = up (dGate G U (mm D (tr W))) := by
  refine (dat4 V c).arrAt_eq_of_covers 4 _ (by decide +kernel) fun t hf y => ?_
  blk_simp
  rw [after4_4, blk4_0 V c D hD t, blk4_1 V c W hW t, blk4_2 V c G hG t, blk4_3 V c U hU t, tile_dGate, ← part_rows_mm, ← part_dGate]
  exact up_part _ (by blk_simp [idx4 t]; omega) (by blk_simp [idx4 t]; try omega)

theorem final4_5 : (dat4 V c).arrAt 5 cfg4.N = up (dUp G (mm D (tr W))) := by
  refine (dat4 V c).arrAt_eq_of_covers 5 _ (by decide +kernel) fun t hf y => ?_
  blk_simp
  rw [after4_5, blk4_0 V c D hD t, blk4_1 V c W hW t, blk4_2 V c G hG t, blk4_3 V c U hU t, tile_dUp, ← part_rows_mm, ← part_dUp]
  exact up_part _ (by blk_simp [idx4 t]; omega) (by blk_simp [idx4 t]; try omega)

end Run

end Ffn

end
-- ==== Proof.FfnDense.lean ====
/- The weight gradients: each is one product, computed block by block. -/
module

public import proofs.«01_k».proof.Proof.FfnMath
public import proofs.«01_k».proof.Proof.Gen.Kernel2Ideal.Frame.Region3
public import proofs.«01_k».proof.Proof.Gen.Kernel2Ideal.Frame.Region5
public import proofs.«01_k».proof.Proof.Gen.Kernel2Ideal.Frame.Region6
public import Idealize.ShloMosaic.Lib.Pipeline.ValueKit

@[expose] public section

set_option maxRecDepth 16384

noncomputable section

namespace Ffn

open Idealize.ShloMosaic Idealize.ShloMosaic.TcCoe Idealize.ShloMosaic.Tactic Cert.Kernel2Ideal Cert.Kernel2Ideal.Gen Idealize.SL.Sem

variable (V : (c : Dev nD) → (b : Ref sig .tc) → Buf (Elt Ideal) ((c : Thread nD τ).loc b)) (c : Dev nD)

/-! ## The products of the three bodies -/

theorem pay_dwDown (A : Mat 1408 4096) (B : Mat 4096 512) : k3_pay1 (F := Ideal) (up A) (up B) = up (mm A B) := eq_up fun i j => by
  pointwise [k3_pay1]
  simp only [up_ix2, mm, Attn.coe_sum, EReal.coe_mul]
theorem pay_dwGate (A : Mat 512 4096) (B : Mat 4096 1408) : k5_pay1 (F := Ideal) (up A) (up B) = up (mm A B) := eq_up fun i j => by
  pointwise [k5_pay1]
  simp only [up_ix2, mm, Attn.coe_sum, EReal.coe_mul]
theorem pay_dwUp (A : Mat 512 4096) (B : Mat 4096 1408) : k6_pay1 (F := Ideal) (up A) (up B) = up (mm A B) := pay_dwGate A B

/-! ## The down weights -/

theorem idx3 : ∀ t : Fin cfg3.N, win3_0.index t = ![t.val / 2, 0] ∧ win3_1.index t = ![0, t.val % 2]
    ∧ win3_2.index t = ![t.val / 2, t.val % 2] :=
  (by decide +kernel : ∀ t : Fin grid3.N, win3_0.index t = ![t.val / 2, 0] ∧ win3_1.index t = ![0, t.val % 2]
    ∧ win3_2.index t = ![t.val / 2, t.val % 2])

theorem blk3_0 (A : Mat 2816 4096) (hA : V c main_v1_3 = up A) (t : Fin cfg3.N) :
    iblk3 V c 0 t = up (part 1408 4096 A (1408 * (t.val / 2)) 0) := eq_up fun i j => by
  blk_simp [iblk3]
  rw [hA]
  exact up_at A (by blk_simp [idx3 t]; omega) (by blk_simp [idx3 t]; try omega)
theorem blk3_1 (B : Mat 4096 1024) (hB : V c main_v2_0 = up B) (t : Fin cfg3.N) :
    iblk3 V c 1 t = up (part 4096 512 B 0 (512 * (t.val % 2))) := eq_up fun i j => by
  blk_simp [iblk3]
  rw [hB]
  exact up_at B (by blk_simp [idx3 t]; try omega) (by blk_simp [idx3 t]; omega)

theorem final3 (A : Mat 2816 4096) (B : Mat 4096 1024) (hA : V c main_v1_3 = up A) (hB : V c main_v2_0 = up B) :
    (dat3 V c).arrAt 2 cfg3.N = up (mm A B) := by
  refine (dat3 V c).arrAt_eq_of_covers 2 _ (by decide +kernel) fun t hf y => ?_
  blk_simp
  rw [after3_2]
  frame_out
  rw [blk3_0 V c A hA t, blk3_1 V c B hB t, pay_dwDown, ← part_mm]
  exact up_part (mm A B) (by blk_simp [idx3 t]; omega) (by blk_simp [idx3 t]; omega)

/-! ## The gates' weights -/

theorem idx5 : ∀ t : Fin cfg5.N, win5_0.index t = ![t.val / 2, 0] ∧ win5_1.index t = ![0, t.val % 2]
    ∧ win5_2.index t = ![t.val / 2, t.val % 2] :=
  (by decide +kernel : ∀ t : Fin grid5.N, win5_0.index t = ![t.val / 2, 0] ∧ win5_1.index t = ![0, t.val % 2]
    ∧ win5_2.index t = ![t.val / 2, t.val % 2])

theorem blk5_0 (A : Mat 1024 4096) (hA : V c main_v0_2 = up A) (t : Fin cfg5.N) :
    iblk5 V c 0 t = up (part 512 4096 A (512 * (t.val / 2)) 0) := eq_up fun i j => by
  blk_simp [iblk5]
  rw [hA]
  exact up_at A (by blk_simp [idx5 t]; omega) (by blk_simp [idx5 t]; try omega)
theorem blk5_1 (B : Mat 4096 2816) (hB : V c main_v4_0 = up B) (t : Fin cfg5.N) :
    iblk5 V c 1 t = up (part 4096 1408 B 0 (1408 * (t.val % 2))) := eq_up fun i j => by
  blk_simp [iblk5]
  rw [hB]
  exact up_at B (by blk_simp [idx5 t]; try omega) (by blk_simp [idx5 t]; omega)

theorem final5 (A : Mat 1024 4096) (B : Mat 4096 2816) (hA : V c main_v0_2 = up A) (hB : V c main_v4_0 = up B) :
    (dat5 V c).arrAt 2 cfg5.N = up (mm A B) := by
  refine (dat5 V c).arrAt_eq_of_covers 2 _ (by decide +kernel) fun t hf y => ?_
  blk_simp
  rw [after5_2]
  frame_out
  rw [blk5_0 V c A hA t, blk5_1 V c B hB t, pay_dwGate, ← part_mm]
  exact up_part (mm A B) (by blk_simp [idx5 t]; omega) (by blk_simp [idx5 t]; omega)

/-! ## The gated values' weights -/

theorem idx6 : ∀ t : Fin cfg6.N, win6_0.index t = ![t.val / 2, 0] ∧ win6_1.index t = ![0, t.val % 2]
    ∧ win6_2.index t = ![t.val / 2, t.val % 2] :=
  (by decide +kernel : ∀ t : Fin grid6.N, win6_0.index t = ![t.val / 2, 0] ∧ win6_1.index t = ![0, t.val % 2]
    ∧ win6_2.index t = ![t.val / 2, t.val % 2])

theorem blk6_0 (A : Mat 1024 4096) (hA : V c main_v0_2 = up A) (t : Fin cfg6.N) :
    iblk6 V c 0 t = up (part 512 4096 A (512 * (t.val / 2)) 0) := eq_up fun i j => by
  blk_simp [iblk6]
  rw [hA]
  exact up_at A (by blk_simp [idx6 t]; omega) (by blk_simp [idx6 t]; try omega)
theorem blk6_1 (B : Mat 4096 2816) (hB : V c main_v4_1 = up B) (t : Fin cfg6.N) :
    iblk6 V c 1 t = up (part 4096 1408 B 0 (1408 * (t.val % 2))) := eq_up fun i j => by
  blk_simp [iblk6]
  rw [hB]
  exact up_at B (by blk_simp [idx6 t]; try omega) (by blk_simp [idx6 t]; omega)

theorem final6 (A : Mat 1024 4096) (B : Mat 4096 2816) (hA : V c main_v0_2 = up A) (hB : V c main_v4_1 = up B) :
    (dat6 V c).arrAt 2 cfg6.N = up (mm A B) := by
  refine (dat6 V c).arrAt_eq_of_covers 2 _ (by decide +kernel) fun t hf y => ?_
  blk_simp
  rw [after6_2]
  frame_out
  rw [blk6_0 V c A hA t, blk6_1 V c B hB t, pay_dwUp, ← part_mm]
  exact up_part (mm A B) (by blk_simp [idx6 t]; omega) (by blk_simp [idx6 t]; omega)

end Ffn

end
-- ==== Proof.FfnDx.lean ====
/- The gradient of the block's entering stream and of its norm's weights, row tile by row tile. -/
module

public import proofs.«01_k».proof.Proof.FfnLoss
public import proofs.«01_k».proof.Proof.Gen.Kernel2Ideal.Frame.Region7
public import Idealize.ShloMosaic.Lib.Pipeline.ValueKit
public import Idealize.ShloMosaic.Lib.Pipeline.ReadBack

@[expose] public section

set_option maxRecDepth 16384

noncomputable section

namespace Ffn

open Idealize.ShloMosaic Idealize.ShloMosaic.TcCoe Idealize.ShloMosaic.Tactic Cert.Kernel2Ideal Cert.Kernel2Ideal.Gen Idealize.SL.Sem

variable (V : (c : Dev nD) → (b : Ref sig .tc) → Buf (Elt Ideal) ((c : Thread nD τ).loc b)) (c : Dev nD)

/-- The gradient of the norm's result, from those of the two projections. -/
def dNorm {n : ℕ} (p q : Mat n 2816) (w v : Mat 1024 2816) : Mat n 1024 := plus (mm p (tr w)) (mm q (tr v))

theorem part_dNorm {n k : ℕ} (p q : Mat n 2816) (w v : Mat 1024 2816) (r : ℕ) :
    part k 1024 (dNorm p q w v) r 0 = dNorm (part k 2816 p r 0) (part k 2816 q r 0) w v := by
  unfold dNorm
  rw [part_plus, part_rows_mm, part_rows_mm]

/-! ## The payloads -/

section Pay

variable (p q : Mat 256 2816) (w v : Mat 1024 2816) (x : Mat 256 1024) (g : Mat 1 1024) (d : Mat 256 1024)

theorem pay7_dNorm : k7_pay4 (F := Ideal) (up p) (up w) (up q) (up v) = up (dNorm p q w v) := eq_up fun i j => by
  pointwise [k7_pay4]
  simp only [up_ix2, dNorm, plus, mm, tr, Attn.coe_sum, EReal.coe_mul, EReal.coe_add]

theorem pay7_rs (i : Fin 256) : k7_pay5 (F := Ideal) (up x) (ix2 i 0) = ((rs x i : ℝ) : EReal) := by
  have er := rs_up x i
  pointwise [k7_pay5]
  exact er

theorem pay7_xh : k7_pay6 (F := Ideal) (up x) = up (xh x) := eq_up fun i j => by
  have er := pay7_rs x i
  unfold k7_pay6
  pointwise
  rw [er]
  simp only [up_ix2, ← EReal.coe_mul, xh]

theorem pay7_dx : k7_pay8 (F := Ideal) (up p) (up w) (up q) (up v) (up x) (up g) = up (nrmX x g (dNorm p q w v)) := eq_up fun i j => by
  have e := pay7_dNorm p q w v
  have e' := pay7_xh x
  have er := pay7_rs x i
  unfold k7_pay8
  rw [e, e']
  pointwise
  rw [er]
  simp only [up_ix2, width_val, ← EReal.coe_mul, ← Attn.coe_sum, div_real _ (show (1024 : ℝ) ≠ 0 by norm_num), ← EReal.coe_sub, nrmX]

theorem pay7_out : k7_pay1 (F := Ideal) (k7_pay8 (up p) (up w) (up q) (up v) (up x) (up g)) (k7_pay9 (up d))
    = up (plus (nrmX x g (dNorm p q w v)) d) := eq_up fun i j => by
  have e := pay7_dx p q w v x g
  rw [e]
  pointwise [k7_pay1, k7_pay9]
  simp only [up_ix2, plus, EReal.coe_add]

theorem pay7_dg (z : Vec Ideal S1x1024 .f32) (j : Fin 1024) :
    k7_pay3 (F := Ideal) (k7_pay7 (up p) (up w) (up q) (up v) (up x)) z (ix2 0 j) = z (ix2 0 j) + ((nrmG x (dNorm p q w v) 0 j : ℝ) : EReal) := by
  have e := pay7_dNorm p q w v
  have e' := pay7_xh x
  unfold k7_pay7
  rw [e, e']
  pointwise [k7_pay3]
  simp only [up_ix2, ← EReal.coe_mul, ← Attn.coe_sum, nrmG]

theorem pay7_zero (j : S1x1024.Idx) : k7_pay2 (F := Ideal) j = 0 := by
  obtain ⟨k, rfl⟩ : ∃ k : Fin 1024, j = ix2 0 k := ⟨j 1, eq_row j⟩
  pointwise [k7_pay2]

end Pay

/-! ## The arrays -/

theorem idx7 : ∀ t : Fin cfg7.N, win7_0.index t = ![t.val, 0] ∧ win7_1.index t = ![t.val, 0] ∧ win7_2.index t = ![0, 0]
    ∧ win7_3.index t = ![0, 1] ∧ win7_4.index t = ![t.val, 0] ∧ win7_5.index t = ![0, 0] ∧ win7_6.index t = ![t.val, 0]
    ∧ win7_7.index t = ![t.val, 0] :=
  (by decide +kernel : ∀ t : Fin grid7.N, win7_0.index t = ![t.val, 0] ∧ win7_1.index t = ![t.val, 0] ∧ win7_2.index t = ![0, 0]
    ∧ win7_3.index t = ![0, 1] ∧ win7_4.index t = ![t.val, 0] ∧ win7_5.index t = ![0, 0] ∧ win7_6.index t = ![t.val, 0]
    ∧ win7_7.index t = ![t.val, 0])

section Run

variable (p q : Mat 4096 2816) (wgu : Mat 1024 5632) (x : Mat 4096 1024) (g : Mat 1 1024) (d : Mat 4096 1024)

theorem blk7_0 (h : V c main_v4_0 = up p) (t : Fin cfg7.N) : iblk7 V c 0 t = up (part 256 2816 p (256 * t.val) 0) := eq_up fun i j => by
  blk_simp [iblk7]
  rw [h]
  exact up_at p (by blk_simp [idx7 t]; omega) (by blk_simp [idx7 t]; try omega)
theorem blk7_1 (h : V c main_v4_1 = up q) (t : Fin cfg7.N) : iblk7 V c 1 t = up (part 256 2816 q (256 * t.val) 0) := eq_up fun i j => by
  blk_simp [iblk7]
  rw [h]
  exact up_at q (by blk_simp [idx7 t]; omega) (by blk_simp [idx7 t]; try omega)
theorem blk7_2 (h : V c main_arg5 = up wgu) (t : Fin cfg7.N) : iblk7 V c 2 t = up (part 1024 2816 wgu 0 0) := eq_up fun i j => by
  blk_simp [iblk7]
  rw [h]
  exact up_at wgu (by blk_simp [idx7 t]; try omega) (by blk_simp [idx7 t]; try omega)
theorem blk7_3 (h : V c main_arg5 = up wgu) (t : Fin cfg7.N) : iblk7 V c 3 t = up (part 1024 2816 wgu 0 2816) := eq_up fun i j => by
  blk_simp [iblk7]
  rw [h]
  exact up_at wgu (by blk_simp [idx7 t]; try omega) (by blk_simp [idx7 t]; try omega)
theorem blk7_4 (h : V c main_v0_0 = up x) (t : Fin cfg7.N) : iblk7 V c 4 t = up (part 256 1024 x (256 * t.val) 0) := eq_up fun i j => by
  blk_simp [iblk7]
  rw [h]
  exact up_at x (by blk_simp [idx7 t]; omega) (by blk_simp [idx7 t]; try omega)
theorem blk7_5 (h : V c main_arg4 = up g) (t : Fin cfg7.N) : iblk7 V c 5 t = up g := eq_up fun i j => by
  blk_simp [iblk7]
  rw [h]
  exact congrArg₂ (fun a b => ((g a b : ℝ) : EReal)) (Fin.ext (by blk_simp [idx7 t]; try omega)) (Fin.ext (by blk_simp [idx7 t]; try omega))
theorem blk7_6 (h : V c main_v2_0 = up d) (t : Fin cfg7.N) : iblk7 V c 6 t = up (part 256 1024 d (256 * t.val) 0) := eq_up fun i j => by
  blk_simp [iblk7]
  rw [h]
  exact up_at d (by blk_simp [idx7 t]; omega) (by blk_simp [idx7 t]; try omega)

variable (hp : V c main_v4_0 = up p) (hq : V c main_v4_1 = up q) (hw : V c main_arg5 = up wgu) (hx : V c main_v0_0 = up x)
  (hg : V c main_arg4 = up g) (hd : V c main_v2_0 = up d)
include hp hq hw hx hg hd

omit hp hq hw hx hg hd in
theorem rows7 (t : Fin cfg7.N) : 256 * t.val + 256 ≤ 4096 := by
  have := lt_of_lt_of_eq t.isLt N_7
  omega

omit hp hq hw hx hg hd in
/-- What a point computes, of its rows. -/
theorem tile7_dx (t : Fin cfg7.N) :
    k7_pay1 (F := Ideal) (k7_pay8 (up (part 256 2816 p (256 * t.val) 0)) (up (part 1024 2816 wgu 0 0)) (up (part 256 2816 q (256 * t.val) 0))
      (up (part 1024 2816 wgu 0 2816)) (up (part 256 1024 x (256 * t.val) 0)) (up g)) (k7_pay9 (up (part 256 1024 d (256 * t.val) 0)))
      = up (part 256 1024 (plus (nrmX x g (dNorm p q (part 1024 2816 wgu 0 0) (part 1024 2816 wgu 0 2816))) d) (256 * t.val) 0) := by
  rw [pay7_out, part_plus, part_nrmX _ _ _ (rows7 t), part_dNorm]

omit hp hq hw hx hg hd in
theorem tile7_dg (t : Fin cfg7.N) (z : Vec Ideal S1x1024 .f32) (j : S1x1024.Idx) :
    k7_pay3 (F := Ideal) (k7_pay7 (up (part 256 2816 p (256 * t.val) 0)) (up (part 1024 2816 wgu 0 0)) (up (part 256 2816 q (256 * t.val) 0))
      (up (part 1024 2816 wgu 0 2816)) (up (part 256 1024 x (256 * t.val) 0))) z j
      = z j + ((nrmG (part 256 1024 x (256 * t.val) 0)
        (part 256 1024 (dNorm p q (part 1024 2816 wgu 0 0) (part 1024 2816 wgu 0 2816)) (256 * t.val) 0) 0 (j 1) : ℝ) : EReal) := by
  obtain ⟨k, rfl⟩ : ∃ k : Fin 1024, j = ix2 0 k := ⟨j 1, eq_row j⟩
  rw [pay7_dg, part_dNorm]
  rfl

theorem final7_7 : (dat7 V c).arrAt 7 cfg7.N
    = up (plus (nrmX x g (dNorm p q (part 1024 2816 wgu 0 0) (part 1024 2816 wgu 0 2816))) d) := by
  refine (dat7 V c).arrAt_eq_of_covers 7 _ (by decide +kernel) fun t hf y => ?_
  blk_simp
  rw [after7_7]
  by_cases h0 : t.val % 16 = 0
  · rw [outsAt7_A V c t h0]
    frame_out
    rw [blk7_0 V c p hp t, blk7_1 V c q hq t, blk7_2 V c wgu hw t, blk7_3 V c wgu hw t, blk7_4 V c x hx t, blk7_5 V c g hg t, blk7_6 V c d hd t,
      tile7_dx]
    exact up_part _ (by blk_simp [idx7 t]; omega) (by blk_simp [idx7 t]; try omega)
  · rw [outsAt7_B V c t h0]
    frame_out
    rw [blk7_0 V c p hp t, blk7_1 V c q hq t, blk7_2 V c wgu hw t, blk7_3 V c wgu hw t, blk7_4 V c x hx t, blk7_5 V c g hg t, blk7_6 V c d hd t,
      tile7_dx]
    exact up_part _ (by blk_simp [idx7 t]; omega) (by blk_simp [idx7 t]; try omega)

theorem final7_8 : (dat7 V c).arrAt 8 cfg7.N
    = up (nrmG x (dNorm p q (part 1024 2816 wgu 0 0) (part 1024 2816 wgu 0 2816))) := by
  refine (dat7 V c).arrAt_eq_of_after_last 8 t7_15 (by decide +kernel) _ fun j => ?_
  blk_simp
  rw [after7_8, Pipeline.eq_sum_fin_of_reset_step_apply_last (fun n h => (outsAt7 V c n h).2) 16 (fun _ => 0)
    (fun t j => ((nrmG (part 256 1024 x (256 * t.val) 0)
      (part 256 1024 (dNorm p q (part 1024 2816 wgu 0 0) (part 1024 2816 wgu 0 2816)) (256 * t.val) 0) 0 (j 1) : ℝ) : EReal))
    (fun t h j => by
      rw [outsAt7_A V c t h]
      frame_out
      rw [blk7_0 V c p hp t, blk7_1 V c q hq t, blk7_2 V c wgu hw t, blk7_3 V c wgu hw t, blk7_4 V c x hx t, tile7_dg, pay7_zero])
    (fun t h j => by
      rw [outsAt7_B V c t h]
      frame_out
      rw [blk7_0 V c p hp t, blk7_1 V c q hq t, blk7_2 V c wgu hw t, blk7_3 V c wgu hw t, blk7_4 V c x hx t, tile7_dg])
    (le_of_eq N_7) t7_15 rfl _, zero_add, ← Attn.coe_sum]
  exact congrArg (fun r : ℝ => (r : EReal)) (tiles16_nrmG _ _ _)

end Run

end Ffn

end
-- ==== Proof.FfnRun.lean ====
/- The eight kernels of the feed-forward step in their order: what each leaves, as functions of the arguments, and the run. -/
module

public import proofs.«01_k».proof.Proof.FfnHead
public import proofs.«01_k».proof.Proof.FfnGate
public import proofs.«01_k».proof.Proof.FfnLoss
public import proofs.«01_k».proof.Proof.FfnBack
public import proofs.«01_k».proof.Proof.FfnDense
public import proofs.«01_k».proof.Proof.FfnDx
public import proofs.«01_k».proof.Proof.Gen.Kernel2Ideal.Frame

@[expose] public section

set_option maxRecDepth 16384

noncomputable section

namespace Ffn

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The step as mathematics -/

section Step

variable (o x1 tg : Mat 4096 1024) (wmo : Mat 1024 1024) (gf : Mat 1 1024) (wgu : Mat 1024 5632) (wd : Mat 2816 1024) (gl : Mat 1 1024)

/-- The stream after the memory attention, its norm, the two projections, and the stream after the block. -/
def sX : Mat 4096 1024 := res o wmo x1
def sH : Mat 4096 1024 := nrm (sX o x1 wmo) gf
def sGate : Mat 4096 2816 := mm (sH o x1 wmo gf) (part 1024 2816 wgu 0 0)
def sUp : Mat 4096 2816 := mm (sH o x1 wmo gf) (part 1024 2816 wgu 0 2816)
def sAct : Mat 4096 2816 := act (sGate o x1 wmo gf wgu) (sUp o x1 wmo gf wgu)
def sY : Mat 4096 1024 := res (sAct o x1 wmo gf wgu) wd (sX o x1 wmo)

/-- The loss, and the gradients that lead back through the block. -/
def sLoss : ℝ := loss (nrm (sY o x1 wmo gf wgu wd) gl) tg
def sErr : Mat 4096 1024 := dLoss (nrm (sY o x1 wmo gf wgu wd) gl) tg
def sD : Mat 4096 1024 := nrmX (sY o x1 wmo gf wgu wd) gl (sErr o x1 tg wmo gf wgu wd gl)
def sDact : Mat 4096 2816 := mm (sD o x1 tg wmo gf wgu wd gl) (tr wd)
def sDgate : Mat 4096 2816 := dGate (sGate o x1 wmo gf wgu) (sUp o x1 wmo gf wgu) (sDact o x1 tg wmo gf wgu wd gl)
def sDup : Mat 4096 2816 := dUp (sGate o x1 wmo gf wgu) (sDact o x1 tg wmo gf wgu wd gl)

/-- The gradients of the weights. -/
def gNorm : Mat 1 1024 := nrmG (sY o x1 wmo gf wgu wd) (sErr o x1 tg wmo gf wgu wd gl)
def gDown : Mat 2816 1024 := mm (tr (sAct o x1 wmo gf wgu)) (sD o x1 tg wmo gf wgu wd gl)
def gGate : Mat 1024 2816 := mm (tr (sH o x1 wmo gf)) (sDgate o x1 tg wmo gf wgu wd gl)
def gUp : Mat 1024 2816 := mm (tr (sH o x1 wmo gf)) (sDup o x1 tg wmo gf wgu wd gl)

/-- Back to the stream before the block: the gradient of the norm's result, of the norm's weights, and of the stream. -/
def sDh : Mat 4096 1024 := dNorm (sDgate o x1 tg wmo gf wgu wd gl) (sDup o x1 tg wmo gf wgu wd gl) (part 1024 2816 wgu 0 0) (part 1024 2816 wgu 0 2816)
def gFfn : Mat 1 1024 := nrmG (sX o x1 wmo) (sDh o x1 tg wmo gf wgu wd gl)
def gX : Mat 4096 1024 := plus (nrmX (sX o x1 wmo) gf (sDh o x1 tg wmo gf wgu wd gl)) (sD o x1 tg wmo gf wgu wd gl)

end Step

/-! ## The run, to any fact about the last contents -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each buffer at the last boundary's contents. -/
theorem run_last : θ_run (defs (F := Ideal)) (onTc (τ := τ) (main (F := Ideal))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c b hb => h c _ (mem_uc b hb))

/-! ## The boundaries -/

section Fold

variable (c : Dev nD)
variable (o x1 tg : Mat 4096 1024) (wmo : Mat 1024 1024) (gf : Mat 1 1024) (wgu : Mat 1024 5632) (wd : Mat 2816 1024) (gl : Mat 1 1024)

/-- The arguments are the real matrices. -/
structure Args : Prop where
  o : m ((c : Thread nD τ).loc main_arg0) = up o
  x1 : m ((c : Thread nD τ).loc main_arg1) = up x1
  tg : m ((c : Thread nD τ).loc main_arg2) = up tg
  wmo : m ((c : Thread nD τ).loc main_arg3) = up wmo
  gf : m ((c : Thread nD τ).loc main_arg4) = up gf
  wgu : m ((c : Thread nD τ).loc main_arg5) = up wgu
  wd : m ((c : Thread nD τ).loc main_arg6) = up wd
  gl : m ((c : Thread nD τ).loc main_arg7) = up gl

variable {m c o x1 tg wmo gf wgu wd gl} (A : Args m c o x1 tg wmo gf wgu wd gl)
include A

theorem at1_x : V1 m ρ c main_v0_0 = up (sX o x1 wmo) :=
  (hF0 m ρ c 4).symm.trans (final0_4 (V0 m ρ) c o x1 wmo A.o A.wmo A.x1)
theorem at1_h : V1 m ρ c main_v0_1 = up (sH o x1 wmo gf) :=
  (hF0 m ρ c 5).symm.trans (final0_5 (V0 m ρ) c o x1 wmo gf A.o A.wmo A.x1 A.gf)
theorem at1_ht : V1 m ρ c main_v0_2 = up (tr (sH o x1 wmo gf)) :=
  (hF0 m ρ c 6).symm.trans (final0_6 (V0 m ρ) c o x1 wmo gf A.o A.wmo A.x1 A.gf)

theorem at1_wgu : V1 m ρ c main_arg5 = up wgu := (W1_args m ρ c main_arg5 (by decide)).trans A.wgu

theorem at2_gate : V2 m ρ c main_v1_0 = up (sGate o x1 wmo gf wgu) :=
  (hF1 m ρ c 3).symm.trans (final1_3 (V1 m ρ) c _ wgu (at1_h ρ A) (at1_wgu ρ A))
theorem at2_up : V2 m ρ c main_v1_1 = up (sUp o x1 wmo gf wgu) :=
  (hF1 m ρ c 4).symm.trans (final1_4 (V1 m ρ) c _ wgu (at1_h ρ A) (at1_wgu ρ A))
theorem at2_act : V2 m ρ c main_v1_2 = up (sAct o x1 wmo gf wgu) :=
  (hF1 m ρ c 5).symm.trans (final1_5 (V1 m ρ) c _ wgu (at1_h ρ A) (at1_wgu ρ A))
theorem at2_actT : V2 m ρ c main_v1_3 = up (tr (sAct o x1 wmo gf wgu)) :=
  (hF1 m ρ c 6).symm.trans (final1_6 (V1 m ρ) c _ wgu (at1_h ρ A) (at1_wgu ρ A))
theorem at2_x : V2 m ρ c main_v0_0 = up (sX o x1 wmo) := (W2_of m ρ c main_v0_0 (by decide +kernel)).trans (at1_x ρ A)
theorem at2_ht : V2 m ρ c main_v0_2 = up (tr (sH o x1 wmo gf)) := (W2_of m ρ c main_v0_2 (by decide +kernel)).trans (at1_ht ρ A)

theorem at2_wd : V2 m ρ c main_arg6 = up wd := (W2_args m ρ c main_arg6 (by decide)).trans A.wd
theorem at2_gl : V2 m ρ c main_arg7 = up gl := (W2_args m ρ c main_arg7 (by decide)).trans A.gl
theorem at2_tg : V2 m ρ c main_arg2 = up tg := (W2_args m ρ c main_arg2 (by decide)).trans A.tg

theorem at3_D : V3 m ρ c main_v2_0 = up (sD o x1 tg wmo gf wgu wd gl) :=
  (hF2 m ρ c 5).symm.trans (final2_5 (V2 m ρ) c _ wd _ gl tg (at2_act ρ A) (at2_wd ρ A) (at2_x ρ A) (at2_gl ρ A) (at2_tg ρ A))
theorem at3_gNorm : V3 m ρ c main_v2_1 = up (gNorm o x1 tg wmo gf wgu wd gl) :=
  (hF2 m ρ c 6).symm.trans (final2_6 (V2 m ρ) c _ wd _ gl tg (at2_act ρ A) (at2_wd ρ A) (at2_x ρ A) (at2_gl ρ A) (at2_tg ρ A))
theorem at3_loss : V3 m ρ c main_v2_2 = fun _ => ((sLoss o x1 tg wmo gf wgu wd gl : ℝ) : EReal) :=
  (hF2 m ρ c 7).symm.trans (final2_7 (V2 m ρ) c _ wd _ gl tg (at2_act ρ A) (at2_wd ρ A) (at2_x ρ A) (at2_gl ρ A) (at2_tg ρ A))
theorem at3_gate : V3 m ρ c main_v1_0 = up (sGate o x1 wmo gf wgu) := (W3_of m ρ c main_v1_0 (by decide +kernel)).trans (at2_gate ρ A)
theorem at3_up : V3 m ρ c main_v1_1 = up (sUp o x1 wmo gf wgu) := (W3_of m ρ c main_v1_1 (by decide +kernel)).trans (at2_up ρ A)
theorem at3_actT : V3 m ρ c main_v1_3 = up (tr (sAct o x1 wmo gf wgu)) := (W3_of m ρ c main_v1_3 (by decide +kernel)).trans (at2_actT ρ A)
theorem at3_ht : V3 m ρ c main_v0_2 = up (tr (sH o x1 wmo gf)) := (W3_of m ρ c main_v0_2 (by decide +kernel)).trans (at2_ht ρ A)

theorem at4_gDown : V4 m ρ c main_v3 = up (gDown o x1 tg wmo gf wgu wd gl) :=
  (hF3 m ρ c 2).symm.trans (final3 (V3 m ρ) c _ _ (at3_actT ρ A) (at3_D ρ A))
theorem at4_D : V4 m ρ c main_v2_0 = up (sD o x1 tg wmo gf wgu wd gl) := (W4_of m ρ c main_v2_0 (by decide +kernel)).trans (at3_D ρ A)
theorem at4_gate : V4 m ρ c main_v1_0 = up (sGate o x1 wmo gf wgu) := (W4_of m ρ c main_v1_0 (by decide +kernel)).trans (at3_gate ρ A)
theorem at4_up : V4 m ρ c main_v1_1 = up (sUp o x1 wmo gf wgu) := (W4_of m ρ c main_v1_1 (by decide +kernel)).trans (at3_up ρ A)
theorem at4_ht : V4 m ρ c main_v0_2 = up (tr (sH o x1 wmo gf)) := (W4_of m ρ c main_v0_2 (by decide +kernel)).trans (at3_ht ρ A)

theorem at4_wd : V4 m ρ c main_arg6 = up wd := (W4_args m ρ c main_arg6 (by decide)).trans A.wd

theorem at5_dGate : V5 m ρ c main_v4_0 = up (sDgate o x1 tg wmo gf wgu wd gl) :=
  (hF4 m ρ c 4).symm.trans (final4_4 (V4 m ρ) c _ wd _ _ (at4_D ρ A) (at4_wd ρ A) (at4_gate ρ A) (at4_up ρ A))
theorem at5_dUp : V5 m ρ c main_v4_1 = up (sDup o x1 tg wmo gf wgu wd gl) :=
  (hF4 m ρ c 5).symm.trans (final4_5 (V4 m ρ) c _ wd _ _ (at4_D ρ A) (at4_wd ρ A) (at4_gate ρ A) (at4_up ρ A))
theorem at5_ht : V5 m ρ c main_v0_2 = up (tr (sH o x1 wmo gf)) := (W5_of m ρ c main_v0_2 (by decide +kernel)).trans (at4_ht ρ A)

theorem at6_gGate : V6 m ρ c main_v5 = up (gGate o x1 tg wmo gf wgu wd gl) :=
  (hF5 m ρ c 2).symm.trans (final5 (V5 m ρ) c _ _ (at5_ht ρ A) (at5_dGate ρ A))
theorem at6_dUp : V6 m ρ c main_v4_1 = up (sDup o x1 tg wmo gf wgu wd gl) := (W6_of m ρ c main_v4_1 (by decide +kernel)).trans (at5_dUp ρ A)
theorem at6_ht : V6 m ρ c main_v0_2 = up (tr (sH o x1 wmo gf)) := (W6_of m ρ c main_v0_2 (by decide +kernel)).trans (at5_ht ρ A)

theorem at7_gUp : V7 m ρ c main_v6 = up (gUp o x1 tg wmo gf wgu wd gl) :=
  (hF6 m ρ c 2).symm.trans (final6 (V6 m ρ) c _ _ (at6_ht ρ A) (at6_dUp ρ A))
theorem at7_gGate : V7 m ρ c main_v5 = up (gGate o x1 tg wmo gf wgu wd gl) := (W7_of m ρ c main_v5 (by decide +kernel)).trans (at6_gGate ρ A)
theorem at7_dUp : V7 m ρ c main_v4_1 = up (sDup o x1 tg wmo gf wgu wd gl) := (W7_of m ρ c main_v4_1 (by decide +kernel)).trans (at6_dUp ρ A)
theorem at7_dGate : V7 m ρ c main_v4_0 = up (sDgate o x1 tg wmo gf wgu wd gl) :=
  (W7_of m ρ c main_v4_0 (by decide +kernel)).trans <| (W6_of m ρ c main_v4_0 (by decide +kernel)).trans (at5_dGate ρ A)
theorem at7_D : V7 m ρ c main_v2_0 = up (sD o x1 tg wmo gf wgu wd gl) :=
  (W7_of m ρ c main_v2_0 (by decide +kernel)).trans <| (W6_of m ρ c main_v2_0 (by decide +kernel)).trans <|
  (W5_of m ρ c main_v2_0 (by decide +kernel)).trans (at4_D ρ A)
theorem at7_x : V7 m ρ c main_v0_0 = up (sX o x1 wmo) :=
  (W7_of m ρ c main_v0_0 (by decide +kernel)).trans <| (W6_of m ρ c main_v0_0 (by decide +kernel)).trans <|
  (W5_of m ρ c main_v0_0 (by decide +kernel)).trans <| (W4_of m ρ c main_v0_0 (by decide +kernel)).trans <|
  (W3_of m ρ c main_v0_0 (by decide +kernel)).trans (at2_x ρ A)
theorem at7_gDown : V7 m ρ c main_v3 = up (gDown o x1 tg wmo gf wgu wd gl) :=
  (W7_of m ρ c main_v3 (by decide +kernel)).trans <|
  (W6_of m ρ c main_v3 (by decide +kernel)).trans <| (W5_of m ρ c main_v3 (by decide +kernel)).trans (at4_gDown ρ A)
theorem at7_gNorm : V7 m ρ c main_v2_1 = up (gNorm o x1 tg wmo gf wgu wd gl) :=
  (W7_of m ρ c main_v2_1 (by decide +kernel)).trans <|
  (W6_of m ρ c main_v2_1 (by decide +kernel)).trans <| (W5_of m ρ c main_v2_1 (by decide +kernel)).trans <|
  (W4_of m ρ c main_v2_1 (by decide +kernel)).trans (at3_gNorm ρ A)
theorem at7_loss : V7 m ρ c main_v2_2 = fun _ => ((sLoss o x1 tg wmo gf wgu wd gl : ℝ) : EReal) :=
  (W7_of m ρ c main_v2_2 (by decide +kernel)).trans <|
  (W6_of m ρ c main_v2_2 (by decide +kernel)).trans <| (W5_of m ρ c main_v2_2 (by decide +kernel)).trans <|
  (W4_of m ρ c main_v2_2 (by decide +kernel)).trans (at3_loss ρ A)

theorem at7_wgu : V7 m ρ c main_arg5 = up wgu := (W7_args m ρ c main_arg5 (by decide)).trans A.wgu
theorem at7_gf : V7 m ρ c main_arg4 = up gf := (W7_args m ρ c main_arg4 (by decide)).trans A.gf

theorem last_gX : W9 m ρ c (Proc.devRef .tc main_v7_0) = up (gX o x1 tg wmo gf wgu wd gl) :=
  (W9_of m ρ c main_v7_0 (by decide)).trans <| (hF7 m ρ c 7).symm.trans (final7_7 (V7 m ρ) c _ _ wgu _ gf _
    (at7_dGate ρ A) (at7_dUp ρ A) (at7_wgu ρ A) (at7_x ρ A) (at7_gf ρ A) (at7_D ρ A))
theorem last_gFfn : W9 m ρ c (Proc.devRef .tc main_v7_1) = up (gFfn o x1 tg wmo gf wgu wd gl) :=
  (W9_of m ρ c main_v7_1 (by decide)).trans <| (hF7 m ρ c 8).symm.trans (final7_8 (V7 m ρ) c _ _ wgu _ gf _
    (at7_dGate ρ A) (at7_dUp ρ A) (at7_wgu ρ A) (at7_x ρ A) (at7_gf ρ A) (at7_D ρ A))
theorem last_gUp : W9 m ρ c (Proc.devRef .tc main_v6) = up (gUp o x1 tg wmo gf wgu wd gl) :=
  (W9_of m ρ c main_v6 (by decide)).trans <| (W8_of m ρ c main_v6 (by decide +kernel)).trans (at7_gUp ρ A)
theorem last_gGate : W9 m ρ c (Proc.devRef .tc main_v5) = up (gGate o x1 tg wmo gf wgu wd gl) :=
  (W9_of m ρ c main_v5 (by decide)).trans <| (W8_of m ρ c main_v5 (by decide +kernel)).trans (at7_gGate ρ A)
theorem last_gDown : W9 m ρ c (Proc.devRef .tc main_v3) = up (gDown o x1 tg wmo gf wgu wd gl) :=
  (W9_of m ρ c main_v3 (by decide)).trans <| (W8_of m ρ c main_v3 (by decide +kernel)).trans (at7_gDown ρ A)
theorem last_gNorm : W9 m ρ c (Proc.devRef .tc main_v2_1) = up (gNorm o x1 tg wmo gf wgu wd gl) :=
  (W9_of m ρ c main_v2_1 (by decide)).trans <| (W8_of m ρ c main_v2_1 (by decide +kernel)).trans (at7_gNorm ρ A)

theorem last_loss : W9 m ρ c (Proc.devRef .tc main_v9) = up0 (sLoss o x1 tg wmo gf wgu wd gl) := by
  have e : W8 m ρ c (Proc.devRef .tc main_v2_2) = fun _ => ((sLoss o x1 tg wmo gf wgu wd gl : ℝ) : EReal) :=
    (W8_of m ρ c main_v2_2 (by decide +kernel)).trans (at7_loss ρ A)
  show StableHlo.after hostOps8 (W8 m ρ c) (Proc.devRef .tc main_v9) = _
  after_results
  rw [e]
  rfl

end Fold

end Ffn

end
-- ==== Proof.FfnRef.lean ====
/- The reference's seven results for the feed-forward step: the same matrices as the kernels'. -/
module

public import proofs.«01_k».proof.Proof.FfnRun
public import proofs.«01_k».proof.Proof.Gen.Reference2Ideal.Read
public import Idealize.ShloMosaic.Lib.Pointwise.Tactic

@[expose] public section

set_option maxRecDepth 16384

noncomputable section

namespace Ffn

open Idealize.ShloMosaic Cert.Reference2Ideal Cert.Reference2Ideal.Read

/-! ## Real identities -/

/-- The norm's gradient as the rule for a product and for a power gives it. -/
theorem nrmX_rules {n : ℕ} (X : Mat n 1024) (g : Mat 1 1024) (D : Mat n 1024) (i : Fin n) (j : Fin 1024) :
    D i j * g 0 j * rs X i + X i j * ((∑ a, X i a * (D i a * g 0 a)) * (-(1 / 2) * (rs X i / ms X i)) / 1024)
      + (∑ a, X i a * (D i a * g 0 a)) * (-(1 / 2) * (rs X i / ms X i)) / 1024 * X i j = nrmX X g D i j := by
  have hs : ∑ a, D i a * g 0 a * xh X i a = (∑ a, X i a * (D i a * g 0 a)) * rs X i := by
    rw [Finset.sum_mul]
    exact Finset.sum_congr rfl fun a _ => by unfold xh; ring
  have hd : rs X i / ms X i = rs X i * (rs X i * rs X i) := by rw [rs_sq, mul_one_div]
  unfold nrmX
  rw [hs, hd]
  unfold xh
  ring

/-- The logistic function as a quotient. -/
theorem sg_up (x : ℝ) : Ideal.div (1 : EReal) (1 + Ideal.exp (-(x : EReal))) = ((sg x : ℝ) : EReal) := by
  rw [← EReal.coe_neg, Ideal.exp_coe, ← EReal.coe_one, ← EReal.coe_add, div_real _ (sg_pos_den x)]
  rfl

section Ref

variable (o x1 tg : Mat 4096 1024) (wmo : Mat 1024 1024) (gf : Mat 1 1024) (wgu : Mat 1024 5632) (wd : Mat 2816 1024) (gl : Mat 1 1024)

/-! ## Forward -/

theorem v3_at (i : Fin 4096) (j : Fin 1024) :
    val_main_v3 (F := Ideal) (up o) (up x1) (up wmo) (ix2 i j) = ((sX o x1 wmo i j : ℝ) : EReal) := by
  pointwise [val_main_v3, val_main_v2, val_main_v1, val_main_v0]
  simp only [up_ix2, sX, res, mm, Attn.coe_sum, EReal.coe_mul, EReal.coe_add]
  exact add_comm _ _

theorem v12_at (i : Fin 4096) : val_main_v12 (F := Ideal) (up o) (up x1) (up wmo) (ix2 i 0) = ((ms (sX o x1 wmo) i : ℝ) : EReal) := by
  pointwise [val_main_v12, val_main_v11, val_main_cst_1, val_main_v10, val_main_v9, val_main_cst_0, val_main_v8, val_main_v7,
    val_main_cst, val_main_v6, v3_at]
  simp only [width_val, eps_val, ← EReal.coe_mul, ← Attn.coe_sum]
  rw [div_real _ (by norm_num), ← EReal.coe_add]
  rfl

theorem v13_at (i : Fin 4096) : val_main_v13 (F := Ideal) (up o) (up x1) (up wmo) (ix2 i 0) = ((rs (sX o x1 wmo) i : ℝ) : EReal) := by
  pointwise [val_main_v13, v12_at]
  exact rsqrt_real (ms_pos _ i)

theorem v18_at (i : Fin 4096) (j : Fin 1024) : val_main_v18 (F := Ideal) (up o) (up x1) (up wmo) (ix2 i j) = ((xh (sX o x1 wmo) i j : ℝ) : EReal) := by
  pointwise [val_main_v18, val_main_v17, v13_at, v3_at]
  simp only [xh, EReal.coe_mul]

theorem v20_at (i : Fin 4096) (j : Fin 1024) :
    val_main_v20 (F := Ideal) (up o) (up x1) (up wmo) (up gf) (ix2 i j) = ((sH o x1 wmo gf i j : ℝ) : EReal) := by
  pointwise [val_main_v20, val_main_v19, v18_at]
  simp only [up_ix2, sH, nrm, EReal.coe_mul]

theorem v22_at (i : Fin 4096) (j : Fin 2816) :
    val_main_v22 (F := Ideal) (up o) (up x1) (up wmo) (up gf) (up wgu) (ix2 i j) = ((sGate o x1 wmo gf wgu i j : ℝ) : EReal) := by
  pointwise [val_main_v22, val_main_v21, val_main_v4, v20_at]
  simp only [sGate, mm, Attn.coe_sum, EReal.coe_mul]
  exact Finset.sum_congr rfl fun a _ => congrArg _ (up_at wgu (by simp) (by simp))

theorem v24_at (i : Fin 4096) (j : Fin 2816) :
    val_main_v24 (F := Ideal) (up o) (up x1) (up wmo) (up gf) (up wgu) (ix2 i j) = ((sUp o x1 wmo gf wgu i j : ℝ) : EReal) := by
  pointwise [val_main_v24, val_main_v21, val_main_v4, v20_at]
  simp only [sUp, mm, Attn.coe_sum, EReal.coe_mul]
  exact Finset.sum_congr rfl fun a _ => congrArg _ (up_at wgu (by simp) (by simp; try omega))

theorem v23_sg (i : Fin 4096) (j : Fin 2816) :
    val_main_v23_2 (F := Ideal) (up o) (up x1) (up wmo) (up gf) (up wgu) (ix2 i j) = ((sg (sGate o x1 wmo gf wgu i j) : ℝ) : EReal) := by
  pointwise [val_main_v23_2, val_main_call0_v4, val_main_call0_cst_0, val_main_call0_v3, val_main_call0_v2, val_main_call0_cst,
    val_main_call0_v1, val_main_call0_v0, v22_at]
  exact sg_up _

theorem v23_slope (i : Fin 4096) (j : Fin 2816) : val_main_v23_1 (F := Ideal) (up o) (up x1) (up wmo) (up gf) (up wgu) (ix2 i j)
    = ((sg (sGate o x1 wmo gf wgu i j) * (1 - sg (sGate o x1 wmo gf wgu i j)) : ℝ) : EReal) := by
  pointwise [val_main_v23_1, val_main_call0_v7, val_main_call0_v6, val_main_call0_cst_1, v23_sg]
  simp only [EReal.coe_mul, EReal.coe_sub, EReal.coe_one]

theorem v23_at (i : Fin 4096) (j : Fin 2816) : val_main_v23_0 (F := Ideal) (up o) (up x1) (up wmo) (up gf) (up wgu) (ix2 i j)
    = ((sGate o x1 wmo gf wgu i j * sg (sGate o x1 wmo gf wgu i j) : ℝ) : EReal) := by
  pointwise [val_main_v23_0, v23_sg, v22_at]
  simp only [EReal.coe_mul]

theorem v25_at (i : Fin 4096) (j : Fin 2816) :
    val_main_v25 (F := Ideal) (up o) (up x1) (up wmo) (up gf) (up wgu) (ix2 i j) = ((sAct o x1 wmo gf wgu i j : ℝ) : EReal) := by
  pointwise [val_main_v25, v23_at, v24_at]
  simp only [sAct, act, EReal.coe_mul]

theorem v27_at (i : Fin 4096) (j : Fin 1024) : val_main_v27 (F := Ideal) (up o) (up x1) (up wmo) (up gf) (up wgu) (up wd) (ix2 i j)
    = ((sY o x1 wmo gf wgu wd i j : ℝ) : EReal) := by
  pointwise [val_main_v27, val_main_v26, val_main_v5, v25_at, v3_at]
  simp only [up_ix2, sY, res, mm, Attn.coe_sum, EReal.coe_mul, EReal.coe_add]
  exact add_comm _ _

/-! ## The loss -/

theorem v34_at (i : Fin 4096) : val_main_v34 (F := Ideal) (up o) (up x1) (up wmo) (up gf) (up wgu) (up wd) (ix2 i 0)
    = ((ms (sY o x1 wmo gf wgu wd) i : ℝ) : EReal) := by
  pointwise [val_main_v34, val_main_v33, val_main_cst_5, val_main_v32, val_main_v31, val_main_cst_4, val_main_v30, val_main_v29,
    val_main_cst_3, val_main_v28, v27_at]
  simp only [width_val, eps_val, ← EReal.coe_mul, ← Attn.coe_sum]
  rw [div_real _ (by norm_num), ← EReal.coe_add]
  rfl

theorem v35_at (i : Fin 4096) : val_main_v35 (F := Ideal) (up o) (up x1) (up wmo) (up gf) (up wgu) (up wd) (ix2 i 0)
    = ((rs (sY o x1 wmo gf wgu wd) i : ℝ) : EReal) := by
  pointwise [val_main_v35, v34_at]
  exact rsqrt_real (ms_pos _ i)

theorem v40_at (i : Fin 4096) (j : Fin 1024) : val_main_v40 (F := Ideal) (up o) (up x1) (up wmo) (up gf) (up wgu) (up wd) (ix2 i j)
    = ((xh (sY o x1 wmo gf wgu wd) i j : ℝ) : EReal) := by
  pointwise [val_main_v40, val_main_v39, v35_at, v27_at]
  simp only [xh, EReal.coe_mul]

theorem v43_at (i : Fin 4096) (j : Fin 1024) :
    val_main_v43 (F := Ideal) (up o) (up x1) (up tg) (up wmo) (up gf) (up wgu) (up wd) (up gl) (ix2 i j)
      = ((err (nrm (sY o x1 wmo gf wgu wd) gl) tg i j : ℝ) : EReal) := by
  pointwise [val_main_v43, val_main_v42, val_main_v41, v40_at]
  simp only [up_ix2, err, nrm, EReal.coe_mul, EReal.coe_sub]

theorem v49_at (i : Fin 4096) :
    val_main_v49 (F := Ideal) (up o) (up x1) (up tg) (up wmo) (up gf) (up wgu) (up wd) (up gl) (ix1 i)
      = ((rowLoss (nrm (sY o x1 wmo gf wgu wd) gl) tg i : ℝ) : EReal) := by
  pointwise [val_main_v49, val_main_v48, val_main_cst_9, val_main_v47, val_main_cst_8, val_main_v44, v43_at]
  simp only [width_val, ← EReal.coe_mul, ← Attn.coe_sum]
  rw [div_real _ (by norm_num)]
  rfl

theorem ref_loss : val_main_v51 (F := Ideal) (up o) (up x1) (up tg) (up wmo) (up gf) (up wgu) (up wd) (up gl)
    = up0 (sLoss o x1 tg wmo gf wgu wd gl) := by
  funext z
  obtain rfl : z = ix0 := funext fun a => a.elim0
  pointwise [val_main_v51, val_main_cst_11, val_main_v50, val_main_cst_10, v49_at]
  simp only [half_val, ← EReal.coe_mul, ← Attn.coe_sum]
  rfl

/-! ## Backward -/

theorem v57_at (i : Fin 4096) (j : Fin 1024) :
    val_main_v57 (F := Ideal) (up o) (up x1) (up tg) (up wmo) (up gf) (up wgu) (up wd) (up gl) (ix2 i j)
      = ((sErr o x1 tg wmo gf wgu wd gl i j : ℝ) : EReal) := by
  pointwise [val_main_v57, val_main_v56, val_main_v55, val_main_v54, val_main_cst_14, val_main_v53, val_main_v52, val_main_cst_12,
    val_main_cst_13, val_main_v46, val_main_v45, val_main_cst_7, v43_at]
  simp only [half_val, width_val, two_val, ← EReal.coe_one, ← EReal.coe_mul]
  rw [div_real _ (by norm_num), ← EReal.coe_mul]
  refine congrArg _ ?_
  unfold sErr dLoss
  ring

theorem ref_gNorm : val_main_v60 (F := Ideal) (up o) (up x1) (up tg) (up wmo) (up gf) (up wgu) (up wd) (up gl)
    = up (gNorm o x1 tg wmo gf wgu wd gl) := eq_up fun i j => by
  pointwise [val_main_v60, val_main_v59, val_main_cst_15, val_main_v58, v40_at, v57_at]
  simp only [gNorm, nrmG, Attn.coe_sum, EReal.coe_mul]
  exact Finset.sum_congr rfl fun a _ => mul_comm _ _

theorem v62_at (i : Fin 4096) (j : Fin 1024) :
    val_main_v62 (F := Ideal) (up o) (up x1) (up tg) (up wmo) (up gf) (up wgu) (up wd) (up gl) (ix2 i j)
      = ((sErr o x1 tg wmo gf wgu wd gl i j * gl 0 j : ℝ) : EReal) := by
  pointwise [val_main_v62, val_main_v61, v57_at]
  simp only [up_ix2, EReal.coe_mul]

theorem v70_at (i : Fin 4096) :
    val_main_v70 (F := Ideal) (up o) (up x1) (up tg) (up wmo) (up gf) (up wgu) (up wd) (up gl) (ix2 i 0)
      = (((∑ a, sY o x1 wmo gf wgu wd i a * (sErr o x1 tg wmo gf wgu wd gl i a * gl 0 a))
        * (-(1 / 2) * (rs (sY o x1 wmo gf wgu wd) i / ms (sY o x1 wmo gf wgu wd) i)) / 1024 : ℝ) : EReal) := by
  pointwise [val_main_v70, val_main_v69, val_main_cst_17, val_main_v68, val_main_v65, val_main_v64, val_main_cst_16, val_main_v63,
    val_main_v38, val_main_v37, val_main_cst_6, val_main_v36, v62_at, v27_at, v35_at, v34_at]
  rw [div_real _ (ms_pos _ i).ne']
  simp only [negHalf_val, width_val, ← EReal.coe_mul, ← Attn.coe_sum]
  exact div_real _ (by norm_num)

theorem v76_at (i : Fin 4096) (j : Fin 1024) :
    val_main_v76 (F := Ideal) (up o) (up x1) (up tg) (up wmo) (up gf) (up wgu) (up wd) (up gl) (ix2 i j)
      = ((sD o x1 tg wmo gf wgu wd gl i j : ℝ) : EReal) := by
  pointwise [val_main_v76, val_main_v75, val_main_v74, val_main_v73, val_main_v72, val_main_v71, val_main_cst_18, val_main_v67, val_main_v66,
    v62_at, v27_at, v35_at]
  rw [Fin.sum_univ_one, v70_at]
  simp only [← EReal.coe_mul, ← EReal.coe_add]
  exact congrArg _ (nrmX_rules (sY o x1 wmo gf wgu wd) gl (sErr o x1 tg wmo gf wgu wd gl) i j)

theorem ref_gDown : val_main_v109 (F := Ideal) (up o) (up x1) (up tg) (up wmo) (up gf) (up wgu) (up wd) (up gl)
    = up (gDown o x1 tg wmo gf wgu wd gl) := eq_up fun i j => by
  pointwise [val_main_v109, val_main_v78, val_main_v77, v76_at, v25_at]
  simp only [gDown, mm, tr, Attn.coe_sum, EReal.coe_mul]
  exact Finset.sum_congr rfl fun a _ => mul_comm _ _

theorem v79_at (i : Fin 4096) (j : Fin 2816) :
    val_main_v79 (F := Ideal) (up o) (up x1) (up tg) (up wmo) (up gf) (up wgu) (up wd) (up gl) (ix2 i j)
      = ((sDact o x1 tg wmo gf wgu wd gl i j : ℝ) : EReal) := by
  pointwise [val_main_v79, val_main_v5, v76_at]
  simp only [up_ix2, sDact, mm, tr, Attn.coe_sum, EReal.coe_mul]

theorem v80_at (i : Fin 4096) (j : Fin 2816) :
    val_main_v80 (F := Ideal) (up o) (up x1) (up tg) (up wmo) (up gf) (up wgu) (up wd) (up gl) (ix2 i j)
      = ((sDup o x1 tg wmo gf wgu wd gl i j : ℝ) : EReal) := by
  pointwise [val_main_v80, v79_at, v23_at]
  simp only [← EReal.coe_mul]
  refine congrArg _ ?_
  unfold sDup dUp
  ring

theorem v83_at (i : Fin 4096) (j : Fin 2816) :
    val_main_v83 (F := Ideal) (up o) (up x1) (up tg) (up wmo) (up gf) (up wgu) (up wd) (up gl) (ix2 i j)
      = ((sDgate o x1 tg wmo gf wgu wd gl i j : ℝ) : EReal) := by
  pointwise [val_main_v83, val_main_call1_v2, val_main_call1_v1, val_main_call1_v0, val_main_v81, v79_at, v24_at, v23_sg, v23_slope, v22_at]
  simp only [← EReal.coe_mul, ← EReal.coe_add]
  refine congrArg _ ?_
  unfold sDgate dGate
  ring

theorem v85_gate (i : Fin 4096) (j : Fin 2816) :
    val_main_v85 (F := Ideal) (up o) (up x1) (up tg) (up wmo) (up gf) (up wgu) (up wd) (up gl) (ix2 i ⟨j.val, by omega⟩)
      = ((sDgate o x1 tg wmo gf wgu wd gl i j : ℝ) : EReal) := by
  have := j.isLt
  rw [← v83_at]
  pointwise [val_main_v85, val_main_v84, val_main_v82, val_main_cst_19, val_main_cst_20]
  rw [dif_neg fun h => h.1, zero_add]

theorem v85_up (i : Fin 4096) (j : Fin 2816) :
    val_main_v85 (F := Ideal) (up o) (up x1) (up tg) (up wmo) (up gf) (up wgu) (up wd) (up gl) (ix2 i ⟨2816 + j.val, by omega⟩)
      = ((sDup o x1 tg wmo gf wgu wd gl i j : ℝ) : EReal) := by
  have := j.isLt
  rw [← v80_at]
  pointwise [val_main_v85, val_main_v84, val_main_v82, val_main_cst_19, val_main_cst_20]

theorem ref_gGate : val_main_v111 (F := Ideal) (up o) (up x1) (up tg) (up wmo) (up gf) (up wgu) (up wd) (up gl)
    = up (gGate o x1 tg wmo gf wgu wd gl) := eq_up fun i j => by
  pointwise [val_main_v111, val_main_v110, val_main_v87, val_main_v86, v20_at]
  simp only [gGate, mm, tr, Attn.coe_sum, EReal.coe_mul]
  exact Finset.sum_congr rfl fun a _ => by rw [← v85_gate, mul_comm]

theorem ref_gUp : val_main_v113 (F := Ideal) (up o) (up x1) (up tg) (up wmo) (up gf) (up wgu) (up wd) (up gl)
    = up (gUp o x1 tg wmo gf wgu wd gl) := eq_up fun i j => by
  pointwise [val_main_v113, val_main_v112, val_main_v87, val_main_v86, v20_at]
  simp only [gUp, mm, tr, Attn.coe_sum, EReal.coe_mul]
  exact Finset.sum_congr rfl fun a _ => by rw [← v85_up, mul_comm]

/-! ## Back to the stream before the block -/

/-- A sum over the columns of two arrays side by side. -/
theorem sum_halves (f : Fin 5632 → ℝ) : ∑ k, f k = ∑ k : Fin 2816, f ⟨k.val, by omega⟩ + ∑ k : Fin 2816, f ⟨2816 + k.val, by omega⟩ :=
  Fin.sum_univ_add (a := 2816) (b := 2816) f

/-- The gradients of the two projections, side by side. -/
def wide (p q : Mat 4096 2816) : Mat 4096 5632 := fun i j =>
  if h : j.val < 2816 then p i ⟨j.val, h⟩ else q i ⟨j.val - 2816, by omega⟩

theorem v85_at (i : Fin 4096) (j : Fin 5632) :
    val_main_v85 (F := Ideal) (up o) (up x1) (up tg) (up wmo) (up gf) (up wgu) (up wd) (up gl) (ix2 i j)
      = ((wide (sDgate o x1 tg wmo gf wgu wd gl) (sDup o x1 tg wmo gf wgu wd gl) i j : ℝ) : EReal) := by
  unfold wide
  split
  · rename_i h
    exact v85_gate o x1 tg wmo gf wgu wd gl i ⟨j.val, h⟩
  · rename_i h
    have e : j = ⟨2816 + (j.val - 2816), by omega⟩ := Fin.ext (by dsimp only; omega)
    have f := v85_up o x1 tg wmo gf wgu wd gl i ⟨j.val - 2816, by omega⟩
    rw [← f]
    exact congrArg (fun b => val_main_v85 (F := Ideal) (up o) (up x1) (up tg) (up wmo) (up gf) (up wgu) (up wd) (up gl) (ix2 i b)) e

theorem wide_dNorm (p q : Mat 4096 2816) (w : Mat 1024 5632) (i : Fin 4096) (j : Fin 1024) :
    ∑ a, wide p q i a * w j a = dNorm p q (part 1024 2816 w 0 0) (part 1024 2816 w 0 2816) i j := by
  rw [sum_halves]
  unfold dNorm plus mm tr
  refine congrArg₂ (· + ·) (Finset.sum_congr rfl fun k _ => congrArg₂ (· * ·) ?_ ?_) (Finset.sum_congr rfl fun k _ => congrArg₂ (· * ·) ?_ ?_)
  · exact dif_pos (show k.val < 2816 from k.isLt)
  · exact (part_at w (Nat.zero_add _).symm (Nat.zero_add _).symm).symm
  · unfold wide
    rw [dif_neg (show ¬ 2816 + k.val < 2816 by omega)]
    exact congrArg (q i) (Fin.ext (show 2816 + k.val - 2816 = k.val by omega))
  · exact (part_at w (Nat.zero_add _).symm rfl).symm

theorem v88_at (i : Fin 4096) (j : Fin 1024) :
    val_main_v88 (F := Ideal) (up o) (up x1) (up tg) (up wmo) (up gf) (up wgu) (up wd) (up gl) (ix2 i j)
      = ((sDh o x1 tg wmo gf wgu wd gl i j : ℝ) : EReal) := by
  pointwise [val_main_v88, val_main_v4, v85_at]
  simp only [up_ix2, ← EReal.coe_mul, ← Attn.coe_sum]
  exact congrArg _ (wide_dNorm _ _ wgu i j)

theorem ref_gFfn : val_main_v91 (F := Ideal) (up o) (up x1) (up tg) (up wmo) (up gf) (up wgu) (up wd) (up gl)
    = up (gFfn o x1 tg wmo gf wgu wd gl) := eq_up fun i j => by
  pointwise [val_main_v91, val_main_v90, val_main_cst_21, val_main_v89, v18_at, v88_at]
  simp only [gFfn, nrmG, Attn.coe_sum, EReal.coe_mul]
  exact Finset.sum_congr rfl fun a _ => mul_comm _ _

theorem v93_at (i : Fin 4096) (j : Fin 1024) :
    val_main_v93 (F := Ideal) (up o) (up x1) (up tg) (up wmo) (up gf) (up wgu) (up wd) (up gl) (ix2 i j)
      = ((sDh o x1 tg wmo gf wgu wd gl i j * gf 0 j : ℝ) : EReal) := by
  pointwise [val_main_v93, val_main_v92, v88_at]
  simp only [up_ix2, EReal.coe_mul]

theorem v102_at (i : Fin 4096) :
    val_main_v102 (F := Ideal) (up o) (up x1) (up tg) (up wmo) (up gf) (up wgu) (up wd) (up gl) (ix2 i 0)
      = (((∑ a, sX o x1 wmo i a * (sDh o x1 tg wmo gf wgu wd gl i a * gf 0 a))
        * (-(1 / 2) * (rs (sX o x1 wmo) i / ms (sX o x1 wmo) i)) / 1024 : ℝ) : EReal) := by
  pointwise [val_main_v102, val_main_v101, val_main_cst_23, val_main_v100, val_main_v96, val_main_v95, val_main_cst_22, val_main_v94,
    val_main_v16, val_main_v15, val_main_cst_2, val_main_v14, v93_at, v3_at, v13_at, v12_at]
  rw [div_real _ (ms_pos _ i).ne']
  simp only [negHalf_val, width_val, ← EReal.coe_mul, ← Attn.coe_sum]
  exact div_real _ (by norm_num)

theorem ref_gX : val_main_v114 (F := Ideal) (up o) (up x1) (up tg) (up wmo) (up gf) (up wgu) (up wd) (up gl)
    = up (gX o x1 tg wmo gf wgu wd gl) := eq_up fun i j => by
  pointwise [val_main_v114, val_main_v108, val_main_v107, val_main_v106, val_main_v105, val_main_v104, val_main_v103, val_main_cst_24,
    val_main_v99, val_main_v98, val_main_v97, v93_at, v3_at, v13_at, v76_at]
  rw [Fin.sum_univ_one, v102_at]
  simp only [← EReal.coe_mul, ← EReal.coe_add]
  refine congrArg _ ?_
  unfold gX plus
  rw [← nrmX_rules]
  ring

end Ref

end Ffn

end
-- ==== Proof.FfnClaims.lean ====
/- The claims about the feed-forward step. -/
module

public import proofs.«01_k».proof.Defs
public import proofs.«01_k».proof.Proof.FfnRef
public import proofs.«01_k».proof.Proof.AttnClaims
public import proofs.«01_k».proof.Proof.Gen.Kernel2.Frame
public import proofs.«01_k».proof.Proof.Gen.Pre_finite_inputs

@[expose] public section

set_option maxRecDepth 16384

noncomputable section

namespace Ffn

open Idealize.ShloMosaic Idealize.ShloMosaic.TcCoe Idealize.SL.Sem
open Cert.Kernel2Ideal Cert.Kernel2Ideal.Gen

/-! ## Finite arguments are real matrices -/

theorem real_mat {n k : ℕ} {X : (⟨2, ![n, k]⟩ : Shape).Idx → EReal} (h : ∀ i j, ∃ r : ℝ, X (ix2 i j) = r) : ∃ A : Mat n k, X = up A := by
  choose A hA using h
  exact ⟨A, eq_up hA⟩

theorem real_args (x0 x1 x2 : S4096x1024.Idx → EReal) (x3 : S1024x1024.Idx → EReal) (x4 : S1x1024.Idx → EReal)
    (x5 : S1024x5632.Idx → EReal) (x6 : S2816x1024.Idx → EReal) (x7 : S1x1024.Idx → EReal)
    (h0 : (Cert.Pre_finite_inputs.fn (F := Ideal) x0 x1 x2 x3 x4 x5 x6 x7).1 = fun _ => 1#1)
    (h1 : (Cert.Pre_finite_inputs.fn (F := Ideal) x0 x1 x2 x3 x4 x5 x6 x7).2.1 = fun _ => 1#1)
    (h2 : (Cert.Pre_finite_inputs.fn (F := Ideal) x0 x1 x2 x3 x4 x5 x6 x7).2.2.1 = fun _ => 1#1)
    (h3 : (Cert.Pre_finite_inputs.fn (F := Ideal) x0 x1 x2 x3 x4 x5 x6 x7).2.2.2.1 = fun _ => 1#1)
    (h4 : (Cert.Pre_finite_inputs.fn (F := Ideal) x0 x1 x2 x3 x4 x5 x6 x7).2.2.2.2.1 = fun _ => 1#1)
    (h5 : (Cert.Pre_finite_inputs.fn (F := Ideal) x0 x1 x2 x3 x4 x5 x6 x7).2.2.2.2.2.1 = fun _ => 1#1)
    (h6 : (Cert.Pre_finite_inputs.fn (F := Ideal) x0 x1 x2 x3 x4 x5 x6 x7).2.2.2.2.2.2.1 = fun _ => 1#1)
    (h7 : (Cert.Pre_finite_inputs.fn (F := Ideal) x0 x1 x2 x3 x4 x5 x6 x7).2.2.2.2.2.2.2 = fun _ => 1#1) :
    (∃ A : Mat 4096 1024, x0 = up A) ∧ (∃ A : Mat 4096 1024, x1 = up A) ∧ (∃ A : Mat 4096 1024, x2 = up A)
      ∧ (∃ A : Mat 1024 1024, x3 = up A) ∧ (∃ A : Mat 1 1024, x4 = up A) ∧ (∃ A : Mat 1024 5632, x5 = up A)
      ∧ (∃ A : Mat 2816 1024, x6 = up A) ∧ (∃ A : Mat 1 1024, x7 = up A) := by
  unfold Cert.Pre_finite_inputs.fn Cert.Pre_finite_inputs.fn_part1 at h0 h1 h2 h3 h4 h5 h6 h7
  refine ⟨real_mat fun i j => ?_, real_mat fun i j => ?_, real_mat fun i j => ?_, real_mat fun i j => ?_, real_mat fun i j => ?_,
    real_mat fun i j => ?_, real_mat fun i j => ?_, real_mat fun i j => ?_⟩
  · have e := congrFun h0 (ix2 i j); pointwise at e; exact Attn.real_of_abs _ e
  · have e := congrFun h1 (ix2 i j); pointwise at e; exact Attn.real_of_abs _ e
  · have e := congrFun h2 (ix2 i j); pointwise at e; exact Attn.real_of_abs _ e
  · have e := congrFun h3 (ix2 i j); pointwise at e; exact Attn.real_of_abs _ e
  · have e := congrFun h4 (ix2 i j); pointwise at e; exact Attn.real_of_abs _ e
  · have e := congrFun h5 (ix2 i j); pointwise at e; exact Attn.real_of_abs _ e
  · have e := congrFun h6 (ix2 i j); pointwise at e; exact Attn.real_of_abs _ e
  · have e := congrFun h7 (ix2 i j); pointwise at e; exact Attn.real_of_abs _ e

/-! ## The claims -/

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ideal_pre : Cert.quiescent_Kernel2Ideal_pre_finite_inputs := fun m ρ _ => Cert.Kernel2Ideal.Gen.frame m ρ

theorem frame_ref : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

theorem frame_ref_pre : Cert.quiescent_Reference2Ideal_pre_finite_inputs := fun m ρ _ => frame_ref m ρ trivial

/-- The kernels' results and the reference's are the same matrices. -/
theorem value : Cert.algebraic_Kernel2Ideal_Reference2Ideal_pre_finite_inputs := by
  intro m g m' g' hpre hagree
  refine ⟨fun c => W9 m g c (Proc.devRef .tc main_v9), fun c => W9 m g c (Proc.devRef .tc main_v2_1),
    fun c => W9 m g c (Proc.devRef .tc main_v3), fun c => W9 m g c (Proc.devRef .tc main_v5), fun c => W9 m g c (Proc.devRef .tc main_v6),
    fun c => W9 m g c (Proc.devRef .tc main_v7_0), fun c => W9 m g c (Proc.devRef .tc main_v7_1), ?_, ?_⟩
  · exact (θ_run Cert.Kernel2Ideal.defs _ _).mono (fun r h c => ⟨h c main_v9 (by decide), h c main_v2_1 (by decide), h c main_v3 (by decide),
      h c main_v5 (by decide), h c main_v6 (by decide), h c main_v7_0 (by decide), h c main_v7_1 (by decide),
      (h c main_arg0 (by decide)).trans (W9_main_arg0 m g c), (h c main_arg1 (by decide)).trans (W9_main_arg1 m g c),
      (h c main_arg2 (by decide)).trans (W9_main_arg2 m g c), (h c main_arg3 (by decide)).trans (W9_main_arg3 m g c),
      (h c main_arg4 (by decide)).trans (W9_main_arg4 m g c), (h c main_arg5 (by decide)).trans (W9_main_arg5 m g c),
      (h c main_arg6 (by decide)).trans (W9_main_arg6 m g c), (h c main_arg7 (by decide)).trans (W9_main_arg7 m g c)⟩) (run_last m g)
  · refine (θ_run Cert.Reference2Ideal.defs _ _).mono (fun r h c => ?_) (Cert.Reference2Ideal.Value.run (F := Ideal) m' g')
    obtain ⟨p0, p1, p2, p3, p4, p5, p6, p7⟩ := hpre c
    obtain ⟨⟨o, ho⟩, ⟨x1, hx⟩, ⟨tg, ht⟩, ⟨wmo, hw⟩, ⟨gf, hf⟩, ⟨wgu, hu⟩, ⟨wd, hd⟩, ⟨gl, hl⟩⟩ := real_args _ _ _ _ _ _ _ _ p0 p1 p2 p3 p4 p5 p6 p7
    have A : Args m c o x1 tg wmo gf wgu wd gl := ⟨ho, hx, ht, hw, hf, hu, hd, hl⟩
    obtain ⟨e0, e1, e2, e3, e4, e5, e6, e7⟩ := hagree c
    have f0 : StableHlo.launchContents m' c (Proc.devRef .tc Cert.Reference2Ideal.main_arg0) = up o := e0.trans ho
    have f1 : StableHlo.launchContents m' c (Proc.devRef .tc Cert.Reference2Ideal.main_arg1) = up x1 := e1.trans hx
    have f2 : StableHlo.launchContents m' c (Proc.devRef .tc Cert.Reference2Ideal.main_arg2) = up tg := e2.trans ht
    have f3 : StableHlo.launchContents m' c (Proc.devRef .tc Cert.Reference2Ideal.main_arg3) = up wmo := e3.trans hw
    have f4 : StableHlo.launchContents m' c (Proc.devRef .tc Cert.Reference2Ideal.main_arg4) = up gf := e4.trans hf
    have f5 : StableHlo.launchContents m' c (Proc.devRef .tc Cert.Reference2Ideal.main_arg5) = up wgu := e5.trans hu
    have f6 : StableHlo.launchContents m' c (Proc.devRef .tc Cert.Reference2Ideal.main_arg6) = up wd := e6.trans hd
    have f7 : StableHlo.launchContents m' c (Proc.devRef .tc Cert.Reference2Ideal.main_arg7) = up gl := e7.trans hl
    obtain ⟨r0, r1, r2, r3, r4, r5, r6, rest⟩ := h c
    refine ⟨r0.trans ?_, r1.trans ?_, r2.trans ?_, r3.trans ?_, r4.trans ?_, r5.trans ?_, r6.trans ?_, rest⟩
    · rw [Cert.Reference2Ideal.Read.val_main_v51_eq, f0, f1, f2, f3, f4, f5, f6, f7]
      exact (ref_loss o x1 tg wmo gf wgu wd gl).trans (last_loss g A).symm
    · rw [Cert.Reference2Ideal.Read.val_main_v60_eq, f0, f1, f2, f3, f4, f5, f6, f7]
      exact (ref_gNorm o x1 tg wmo gf wgu wd gl).trans (last_gNorm g A).symm
    · rw [Cert.Reference2Ideal.Read.val_main_v109_eq, f0, f1, f2, f3, f4, f5, f6, f7]
      exact (ref_gDown o x1 tg wmo gf wgu wd gl).trans (last_gDown g A).symm
    · rw [Cert.Reference2Ideal.Read.val_main_v111_eq, f0, f1, f2, f3, f4, f5, f6, f7]
      exact (ref_gGate o x1 tg wmo gf wgu wd gl).trans (last_gGate g A).symm
    · rw [Cert.Reference2Ideal.Read.val_main_v113_eq, f0, f1, f2, f3, f4, f5, f6, f7]
      exact (ref_gUp o x1 tg wmo gf wgu wd gl).trans (last_gUp g A).symm
    · rw [Cert.Reference2Ideal.Read.val_main_v114_eq, f0, f1, f2, f3, f4, f5, f6, f7]
      exact (ref_gX o x1 tg wmo gf wgu wd gl).trans (last_gX g A).symm
    · rw [Cert.Reference2Ideal.Read.val_main_v91_eq, f0, f1, f2, f3, f4, f5, f6, f7]
      exact (ref_gFfn o x1 tg wmo gf wgu wd gl).trans (last_gFfn g A).symm

end Ffn

end
-- ==== Proof.MemMath.lean ====
/- The attention over the memory, with its gradients, as plain mathematics over real matrices: the rows' probabilities and
   scores, the heads' columns, and the arrays that hold two sequences. No program's run occurs here. -/
module

public import proofs.«01_k».proof.Proof.FfnMath
public import proofs.«01_k».proof.Proof.Arrays

@[expose] public section

noncomputable section

namespace Mem

open Idealize.ShloMosaic Ffn Attn
open scoped BigOperators

/-! ## Real arrays of rank three -/

/-- A real array of rank three. -/
abbrev T3 (a b k : ℕ) := Fin a → Fin b → Fin k → ℝ

/-- The same as an array of extended reals. -/
def up3 {a b k : ℕ} (A : T3 a b k) : (⟨3, ![a, b, k]⟩ : Shape).Idx → EReal := fun x => ((A (x 0) (x 1) (x 2) : ℝ) : EReal)

theorem up3_ix3 {a b k : ℕ} (A : T3 a b k) (i : Fin a) (j : Fin b) (l : Fin k) : up3 A (ix3 i j l) = ((A i j l : ℝ) : EReal) := rfl

theorem eq_up3 {a b k : ℕ} {X : (⟨3, ![a, b, k]⟩ : Shape).Idx → EReal} {A : T3 a b k}
    (h : ∀ i j l, X (ix3 i j l) = ((A i j l : ℝ) : EReal)) : X = up3 A := by
  funext x
  exact (congrArg X (eq_ix3 x)).trans (h (x 0) (x 1) (x 2))

/-- The rows of a matrix as two sequences of `n` rows each, and back. -/
def cut {N k : ℕ} (n : ℕ) (h : N = 2 * n) (A : Mat N k) : T3 2 n k := fun b r j =>
  A ⟨n * b.val + r.val, by
    have := b.isLt; have := r.isLt
    have : n * b.val ≤ n * 1 := Nat.mul_le_mul_left n (by omega)
    omega⟩ j

def join {N n k : ℕ} (h : N = 2 * n) (T : T3 2 n k) : Mat N k := fun i j =>
  T ⟨i.val / n, Nat.div_lt_of_lt_mul (by have := i.isLt; rw [Nat.mul_comm]; omega)⟩
    ⟨i.val % n, Nat.mod_lt _ (by have := i.isLt; omega)⟩ j

theorem cut_at {N k n : ℕ} (h : N = 2 * n) (A : Mat N k) {b : Fin 2} {r : Fin n} {i : Fin N} (hi : i.val = n * b.val + r.val)
    (j : Fin k) : cut n h A b r j = A i j := by
  unfold cut
  exact congrArg (fun z => A z j) (Fin.ext hi.symm)

theorem join_at {N k n : ℕ} (h : N = 2 * n) (T : T3 2 n k) {b : Fin 2} {r : Fin n} {i : Fin N} (hi : i.val = n * b.val + r.val)
    (j : Fin k) : join h T i j = T b r j := by
  have hr := r.isLt
  unfold join
  have e0 : i.val / n = b.val := by
    rw [hi, Nat.mul_add_div (by omega), Nat.div_eq_of_lt hr, Nat.add_zero]
  have e1 : i.val % n = r.val := by
    rw [hi, Nat.mul_add_mod, Nat.mod_eq_of_lt hr]
  exact congrArg₂ (fun a b => T a b j) (Fin.ext e0) (Fin.ext e1)

/-! ## One row -/

/-- The probabilities of a row of scores. -/
def smR {ι : Type*} [Fintype ι] (s : ι → ℝ) (j : ι) : ℝ := Real.exp (s j) / ∑ i, Real.exp (s i)

/-- The exponentials of a row, from a score of the row. -/
theorem ex_val {ι : Type*} [Fintype ι] [Nonempty ι] (s : ι → ℝ) :
    ∃ a : ℝ, ∀ j, ex (fun i => (s i : EReal)) j = ((Real.exp (s j - a) : ℝ) : EReal) := by
  obtain ⟨i, h⟩ := mx_mem (fun i => (s i : EReal))
  refine ⟨s i, fun j => ?_⟩
  rw [ex, h, ← EReal.coe_sub]
  rfl

theorem shift {ι : Type*} [Fintype ι] (s : ι → ℝ) (a : ℝ) (j : ι) :
    Real.exp (s j - a) / ∑ i, Real.exp (s i - a) = smR s j := by
  unfold smR
  simp only [Real.exp_sub, ← Finset.sum_div]
  exact div_div_div_cancel_right₀ (Real.exp_pos a).ne' _ _

theorem sm_up {ι : Type*} [Fintype ι] [Nonempty ι] (s : ι → ℝ) (j : ι) :
    sm (fun i => (s i : EReal)) j = ((smR s j : ℝ) : EReal) := by
  obtain ⟨a, h⟩ := ex_val s
  have hz : (∑ i, Real.exp (s i - a)) ≠ 0 := (Finset.sum_pos (fun i _ => Real.exp_pos _) Finset.univ_nonempty).ne'
  unfold sm
  simp only [h, ← coe_sum]
  rw [div_real _ hz, shift]

/-- A mean under the probabilities, divided at the end. -/
theorem avg_up {ι : Type*} [Fintype ι] [Nonempty ι] (s v : ι → ℝ) :
    Ideal.div (∑ i, ex (fun i => (s i : EReal)) i * (v i : EReal)) (∑ i, ex (fun i => (s i : EReal)) i)
      = ((∑ i, smR s i * v i : ℝ) : EReal) := by
  obtain ⟨a, h⟩ := ex_val s
  have hz : (∑ i, Real.exp (s i - a)) ≠ 0 := (Finset.sum_pos (fun i _ => Real.exp_pos _) Finset.univ_nonempty).ne'
  simp only [h, ← EReal.coe_mul, ← coe_sum]
  rw [div_real _ hz, Finset.sum_div]
  refine congrArg _ (Finset.sum_congr rfl fun i _ => ?_)
  rw [← shift s a i]
  ring

/-- The scores of a row, its probabilities, and the gradient of its scores. -/
def rS (q : Fin 256 → ℝ) (K : Fin 256 → Fin 256 → ℝ) (j : Fin 256) : ℝ := (∑ d, q d * K j d) * (1 / 16)
def rP (q : Fin 256 → ℝ) (K : Fin 256 → Fin 256 → ℝ) : Fin 256 → ℝ := smR (rS q K)
def rD (q : Fin 256 → ℝ) (K V : Fin 256 → Fin 256 → ℝ) (g : Fin 256 → ℝ) (j : Fin 256) : ℝ :=
  rP q K j * ((∑ d, g d * V j d) - ∑ i, rP q K i * ∑ d, g d * V i d)

theorem rowS_up (q : Fin 256 → ℝ) (K : Fin 256 → Fin 256 → ℝ) :
    rowS (fun d => (q d : EReal)) (fun j d => (K j d : EReal)) = fun j => ((rS q K j : ℝ) : EReal) := by
  funext j
  simp only [rowS, rS, scale_val, EReal.coe_mul, coe_sum]

theorem prob_up (q : Fin 256 → ℝ) (K : Fin 256 → Fin 256 → ℝ) (j : Fin 256) :
    prob (fun d => (q d : EReal)) (fun j d => (K j d : EReal)) j = ((rP q K j : ℝ) : EReal) := by
  unfold prob rP
  rw [rowS_up, sm_up]

theorem gradS_up (q : Fin 256 → ℝ) (K V : Fin 256 → Fin 256 → ℝ) (g : Fin 256 → ℝ) (j : Fin 256) :
    gradS (fun d => (q d : EReal)) (fun j d => (K j d : EReal)) (fun j d => (V j d : EReal)) (fun d => (g d : EReal)) j
      = ((rD q K V g j : ℝ) : EReal) := by
  unfold gradS ds rD rP
  rw [rowS_up]
  simp only [sm_up, ← EReal.coe_mul, ← coe_sum, ← EReal.coe_sub]

/-! ## The heads -/

section Heads

variable {n : ℕ} (Q : T3 2 n 1024) (KV : T3 2 256 2048) (G : T3 2 n 1024)

/-- Sequence `b`, head `h`: the queries (and the cotangents), the keys and the values. -/
def hq (b : Fin 2) (h : Fin 4) (r : Fin n) (d : Fin 256) : ℝ := Q b r (col h d)
def hk (b : Fin 2) (h : Fin 4) (j d : Fin 256) : ℝ := KV b j (kcol h d)
def hv (b : Fin 2) (h : Fin 4) (j d : Fin 256) : ℝ := KV b j (vcol h d)

/-- The attention's result, -/
def att : T3 2 n 1024 := fun b r => byCol fun h d => ∑ j, rP (hq Q b h r) (hk KV b h) j * hv KV b h j d

/-- and its gradients: of the queries, -/
def dq : T3 2 n 1024 := fun b r =>
  byCol fun h d => (∑ j, rD (hq Q b h r) (hk KV b h) (hv KV b h) (hq G b h r) j * hk KV b h j d) * (1 / 16)

/-- of the keys and of the values. -/
def dkv : T3 2 256 2048 := fun b j =>
  byKvCol (fun h d => (∑ r, rD (hq Q b h r) (hk KV b h) (hv KV b h) (hq G b h r) j * hq Q b h r d) * (1 / 16))
    (fun h d => ∑ r, rP (hq Q b h r) (hk KV b h) j * hq G b h r d)

end Heads

theorem byCol_up (f : Fin 4 → Fin 256 → ℝ) (k : Fin 1024) :
    byCol (fun h d => ((f h d : ℝ) : EReal)) k = ((byCol f k : ℝ) : EReal) := rfl

theorem byKvCol_up (f g : Fin 4 → Fin 256 → ℝ) (k : Fin 2048) :
    byKvCol (fun h d => ((f h d : ℝ) : EReal)) (fun h d => ((g h d : ℝ) : EReal)) k = ((byKvCol f g k : ℝ) : EReal) := by
  unfold byKvCol
  split_ifs <;> rfl

section Arrays

variable (Q : T3 2 2048 1024) (KV : T3 2 256 2048) (G : T3 2 2048 1024)

theorem aS_up (b : Fin 2) (h : Fin 4) (r : Fin 2048) (j : Fin 256) : aS (up3 Q) (up3 KV) (up3 G) b h r j
    = ((rD (hq Q b h r) (hk KV b h) (hv KV b h) (hq G b h r) j : ℝ) : EReal) := gradS_up _ _ _ _ j

theorem ap_up (b : Fin 2) (h : Fin 4) (r : Fin 2048) (j : Fin 256) : prob (aq (up3 Q) b h r) (ak (up3 KV) b h) j
    = ((rP (hq Q b h r) (hk KV b h) j : ℝ) : EReal) := prob_up _ _ j

theorem aq_up (b : Fin 2) (h : Fin 4) (r : Fin 2048) (d : Fin 256) : aq (up3 Q) b h r d = ((hq Q b h r d : ℝ) : EReal) := rfl
theorem ak_up (b : Fin 2) (h : Fin 4) (j d : Fin 256) : ak (up3 KV) b h j d = ((hk KV b h j d : ℝ) : EReal) := rfl

theorem dqArr_at (Q : (⟨3, ![2, 2048, 1024]⟩ : Shape).Idx → EReal) (KV : (⟨3, ![2, 256, 2048]⟩ : Shape).Idx → EReal)
    (G : (⟨3, ![2, 2048, 1024]⟩ : Shape).Idx → EReal) (b : Fin 2) (r : Fin 2048) (k : Fin 1024) : dqArr Q KV G (ix3 b r k)
      = byCol (fun h d => (∑ j, aS Q KV G b h r j * ak KV b h j d) * Ideal.ofBits .f32 0x3D800000#32) k := rfl

theorem dkvArr_at (Q : (⟨3, ![2, 2048, 1024]⟩ : Shape).Idx → EReal) (KV : (⟨3, ![2, 256, 2048]⟩ : Shape).Idx → EReal)
    (G : (⟨3, ![2, 2048, 1024]⟩ : Shape).Idx → EReal) (b : Fin 2) (j : Fin 256) (k : Fin 2048) : dkvArr Q KV G (ix3 b j k)
      = byKvCol (fun h d => (∑ r, aS Q KV G b h r j * aq Q b h r d) * Ideal.ofBits .f32 0x3D800000#32)
          (fun h d => ∑ r, prob (aq Q b h r) (ak KV b h) j * aq G b h r d) k := rfl

theorem dqArr_up : dqArr (up3 Q) (up3 KV) (up3 G) = up3 (dq Q KV G) := eq_up3 fun b r k => by
  rw [dqArr_at, dq, ← byCol_up]
  simp only [aS_up, ak_up, scale_val, EReal.coe_mul, coe_sum]

theorem dkvArr_up : dkvArr (up3 Q) (up3 KV) (up3 G) = up3 (dkv Q KV G) := eq_up3 fun b j k => by
  rw [dkvArr_at, dkv, ← byKvCol_up]
  simp only [aS_up, aq_up, ap_up, scale_val, EReal.coe_mul, coe_sum]

end Arrays

/-! ## Two matrices side by side -/

/-- The columns of one and then those of the other. -/
def beside {n : ℕ} (C A : Mat n 512) : Mat n 1024 := fun i j =>
  if h : j.val < 512 then C i ⟨j.val, h⟩ else A i ⟨j.val - 512, by have := j.isLt; omega⟩

/-- A product with them is the sum of the products with the halves of the other factor. -/
theorem mm_beside {n l : ℕ} (C A : Mat n 512) (W : Mat 1024 l) :
    mm (beside C A) W = plus (mm C (part 512 l W 0 0)) (mm A (part 512 l W 512 0)) := by
  funext i j
  unfold plus mm
  rw [Fin.sum_univ_add (a := 512) (b := 512) (fun a : Fin (512 + 512) => beside C A i a * W a j)]
  refine congrArg₂ (· + ·) (Finset.sum_congr rfl fun a _ => ?_) (Finset.sum_congr rfl fun a _ => ?_)
  · rw [part_at (i := a) (j := j) (a := Fin.castAdd 512 a) (b := j) W (Nat.zero_add _).symm (Nat.zero_add _).symm]
    exact congrArg (· * _) (dif_pos a.isLt)
  · rw [part_at (i := a) (j := j) (a := Fin.natAdd 512 a) (b := j) W rfl (Nat.zero_add _).symm]
    refine congrArg (· * _) ((dif_neg (by simp)).trans ?_)
    exact congrArg (A i) (Fin.ext (by simp))

end Mem

end
-- ==== Proof.MemStep.lean ====
/- The memory block of the step as mathematics: the stream that enters it, its attention, and every gradient that leads back
   through it. No program's run occurs here. -/
module

public import proofs.«01_k».proof.Proof.MemMath

@[expose] public section

noncomputable section

namespace Mem

open Ffn Idealize.ShloMosaic

/-- A matrix read at a sequence's row. -/
theorem read_cut {N k n : ℕ} (h : N = 2 * n) (A : Mat N k) (b : Fin 2) (r : Fin n) (hb : b.val * n + r.val < N) (j : Fin k) :
    ((A ⟨b.val * n + r.val, hb⟩ j : ℝ) : EReal) = ((cut n h A b r j : ℝ) : EReal) :=
  congrArg _ (cut_at h A (congrArg (· + r.val) (Nat.mul_comm _ _)) j).symm

/-- Two products and a residual. -/
def res2 {n k l : ℕ} (A : Mat n k) (W : Mat k l) (A' : Mat n k) (W' : Mat k l) (X : Mat n l) : Mat n l :=
  plus (plus (mm A W) (mm A' W')) X

/-- The stream after the mixing layer. -/
def strm (C A : Mat 4096 512) (W : Mat 1024 1024) (X : Mat 4096 1024) : Mat 4096 1024 :=
  res2 C (part 512 1024 W 0 0) A (part 512 1024 W 512 0) X

section Step

variable (x : Mat 4096 1024) (cv av : Mat 4096 512) (me : Mat 512 1024) (d : Mat 4096 1024) (wo : Mat 1024 1024) (gx : Mat 1 1024)
  (wq : Mat 1024 1024) (gm : Mat 1 1024) (wkv : Mat 1024 2048) (wm : Mat 1024 1024)

/-- The stream, its norm, the queries, the memory's norm, its keys and values, and the attention's result. -/
def sX : Mat 4096 1024 := strm cv av wo x
def sH : Mat 4096 1024 := nrm (sX x cv av wo) gx
def sQ : Mat 4096 1024 := mm (sH x cv av wo gx) wq
def sM : Mat 512 1024 := nrm me gm
def sKV : Mat 512 2048 := mm (sM me gm) wkv
def sAtt : Mat 4096 1024 := join rfl (att (cut 2048 rfl (sQ x cv av wo gx wq)) (cut 256 rfl (sKV me gm wkv)))

/-- The gradients of the attention's result, of the queries, and of the keys and values. -/
def sDo : Mat 4096 1024 := mm d (tr wm)
def sDq : Mat 4096 1024 :=
  join rfl (dq (cut 2048 rfl (sQ x cv av wo gx wq)) (cut 256 rfl (sKV me gm wkv)) (cut 2048 rfl (sDo d wm)))
def sDkv : Mat 512 2048 :=
  join rfl (dkv (cut 2048 rfl (sQ x cv av wo gx wq)) (cut 256 rfl (sKV me gm wkv)) (cut 2048 rfl (sDo d wm)))
def sDh : Mat 4096 1024 := mm (sDq x cv av me d wo gx wq gm wkv wm) (tr wq)
def sDm : Mat 512 1024 := mm (sDkv x cv av me d wo gx wq gm wkv wm) (tr wkv)

/-- The gradients of the weights, -/
def gMo : Mat 1024 1024 := mm (tr (sAtt x cv av me wo gx wq gm wkv)) d
def gMq : Mat 1024 1024 := mm (tr (sH x cv av wo gx)) (sDq x cv av me d wo gx wq gm wkv wm)
def gGx : Mat 1 1024 := nrmG (sX x cv av wo) (sDh x cv av me d wo gx wq gm wkv wm)
def gMkv : Mat 1024 2048 := mm (tr (sM me gm)) (sDkv x cv av me d wo gx wq gm wkv wm)
def gGm : Mat 1 1024 := nrmG me (sDm x cv av me d wo gx wq gm wkv wm)

/-- of the stream, and of what the mixing layer was made from. -/
def gX : Mat 4096 1024 := plus (nrmX (sX x cv av wo) gx (sDh x cv av me d wo gx wq gm wkv wm)) d
def gOutC : Mat 512 1024 := mm (tr cv) (gX x cv av me d wo gx wq gm wkv wm)
def gOutA : Mat 512 1024 := mm (tr av) (gX x cv av me d wo gx wq gm wkv wm)
def gCat : Mat 4096 1024 := mm (gX x cv av me d wo gx wq gm wkv wm) (tr wo)

end Step

end Mem

end
-- ==== Proof.MemHead.lean ====
/- The stream that enters the memory attention with its norm, and the memory's norm. -/
module

public import proofs.«01_k».proof.Proof.MemStep
public import proofs.«01_k».proof.Proof.Gen.Kernel3Ideal.Frame.Region0
public import proofs.«01_k».proof.Proof.Gen.Kernel3Ideal.Frame.Region2
public import Idealize.ShloMosaic.Lib.Pipeline.ValueKit

@[expose] public section

set_option maxRecDepth 16384

noncomputable section

namespace Mem

open Ffn Idealize.ShloMosaic Idealize.ShloMosaic.TcCoe Idealize.ShloMosaic.Tactic Cert.Kernel3Ideal Cert.Kernel3Ideal.Gen Idealize.SL.Sem

variable (V : (c : Dev nD) → (b : Ref sig .tc) → Buf (Elt Ideal) ((c : Thread nD τ).loc b)) (c : Dev nD)

theorem part_res2 {n k l p : ℕ} (A : Mat n k) (W : Mat k l) (A' : Mat n k) (W' : Mat k l) (X : Mat n l) (r : ℕ) :
    part p l (res2 A W A' W' X) r 0 = res2 (part p k A r 0) W (part p k A' r 0) W' (part p l X r 0) := by
  unfold res2
  rw [part_plus, part_plus, part_rows_mm, part_rows_mm]

/-! ## The payloads -/

section Pay

variable (A : Mat 512 512) (W : Mat 512 1024) (A' : Mat 512 512) (W' : Mat 512 1024) (X : Mat 512 1024) (g : Mat 1 1024)

theorem pay0_x : k0_pay2 (F := Ideal) (up A) (up W) (up A') (up W') (up X) = up (res2 A W A' W' X) := eq_up fun i j => by
  pointwise [k0_pay2]
  simp only [up_ix2, res2, plus, mm, Attn.coe_sum, EReal.coe_mul, EReal.coe_add]

theorem pay0_xOut : k0_pay4 (F := Ideal) (up A) (up W) (up A') (up W') (up X) = up (res2 A W A' W' X) := by
  rw [← pay0_x]
  funext y
  rw [eq_ix2 y]
  pointwise [k0_pay4]

theorem pay0_nrm : k0_pay3 (F := Ideal) (up A) (up W) (up A') (up W') (up X) (up g) = up (nrm (res2 A W A' W' X) g) := eq_up fun i j => by
  have e := pay0_x A W A' W' X
  unfold k0_pay3
  rw [e]
  pointwise
  rw [rs_up]
  simp only [up_ix2, nrm, xh, EReal.coe_mul]

theorem pay0_h : k0_pay5 (F := Ideal) (up A) (up W) (up A') (up W') (up X) (up g) = up (nrm (res2 A W A' W' X) g) := by
  rw [← pay0_nrm]
  funext y
  rw [eq_ix2 y]
  pointwise [k0_pay5]

theorem pay0_hT : k0_pay1 (F := Ideal) (k0_pay6 (up A) (up W) (up A') (up W') (up X) (up g)) = up (tr (nrm (res2 A W A' W' X) g)) :=
    eq_up fun i j => by
  have e := pay0_nrm A W A' W' X g
  unfold k0_pay6
  rw [e]
  pointwise [k0_pay1]
  rfl

theorem pay2_nrm : k2_pay1 (F := Ideal) (up X) (up g) = up (nrm X g) := eq_up fun i j => by
  have er := rs_up X i
  pointwise [k2_pay1]
  rw [er]
  simp only [up_ix2, nrm, xh, EReal.coe_mul]

theorem pay2_n : k2_pay2 (F := Ideal) (up X) (up g) = up (nrm X g) := by
  rw [← pay2_nrm]
  funext y
  rw [eq_ix2 y]
  pointwise [k2_pay2]

theorem pay2_nT : k2_pay3 (F := Ideal) (up X) (up g) = up (tr (nrm X g)) := eq_up fun i j => by
  have e := pay2_nrm X g
  unfold k2_pay3
  rw [e]
  pointwise
  rfl

end Pay

/-! ## The stream's arrays -/

theorem idx0 : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0]
    ∧ win0_7.index t = ![t.val, 0] ∧ win0_8.index t = ![0, t.val] :=
  (by decide +kernel : ∀ t : Fin grid0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0]
    ∧ win0_7.index t = ![t.val, 0] ∧ win0_8.index t = ![0, t.val])

theorem bound0 (t : Fin cfg0.N) : 512 * t.val + 512 ≤ 4096 := by have := t.isLt; have : cfg0.N = 8 := N_0; omega

section Run0

variable (C A : Mat 4096 512) (W : Mat 1024 1024) (X : Mat 4096 1024) (g : Mat 1 1024)

theorem blk0_0 (h : V c main_arg1 = up C) (t : Fin cfg0.N) : iblk0 V c 0 t = up (part 512 512 C (512 * t.val) 0) := eq_up fun i j => by
  blk_simp [iblk0]
  rw [h]
  exact up_at C (by blk_simp [idx0 t]; omega) (by blk_simp [idx0 t]; try omega)
theorem blk0_1 (h : V c main_arg2 = up A) (t : Fin cfg0.N) : iblk0 V c 1 t = up (part 512 512 A (512 * t.val) 0) := eq_up fun i j => by
  blk_simp [iblk0]
  rw [h]
  exact up_at A (by blk_simp [idx0 t]; omega) (by blk_simp [idx0 t]; try omega)
theorem blk0_2 (h : V c main_arg5 = up W) (t : Fin cfg0.N) : iblk0 V c 2 t = up (part 512 1024 W 0 0) := eq_up fun i j => by
  blk_simp [iblk0]
  rw [h]
  exact up_at W (by blk_simp [idx0 t]; try omega) (by blk_simp [idx0 t]; try omega)
theorem blk0_3 (h : V c main_arg5 = up W) (t : Fin cfg0.N) : iblk0 V c 3 t = up (part 512 1024 W 512 0) := eq_up fun i j => by
  blk_simp [iblk0]
  rw [h]
  exact up_at W (by blk_simp [idx0 t]; try omega) (by blk_simp [idx0 t]; try omega)
theorem blk0_4 (h : V c main_arg0 = up X) (t : Fin cfg0.N) : iblk0 V c 4 t = up (part 512 1024 X (512 * t.val) 0) := eq_up fun i j => by
  blk_simp [iblk0]
  rw [h]
  exact up_at X (by blk_simp [idx0 t]; omega) (by blk_simp [idx0 t]; try omega)
theorem blk0_5 (h : V c main_arg6 = up g) (t : Fin cfg0.N) : iblk0 V c 5 t = up g := eq_up fun i j => by
  blk_simp [iblk0]
  rw [h]
  exact congrArg₂ (fun a b => ((g a b : ℝ) : EReal)) (Fin.ext (by blk_simp [idx0 t]; try omega)) (Fin.ext (by blk_simp [idx0 t]; try omega))

variable (hC : V c main_arg1 = up C) (hA : V c main_arg2 = up A) (hW : V c main_arg5 = up W) (hX : V c main_arg0 = up X)
  (hg : V c main_arg6 = up g)
include hC hA hW hX

theorem final0_6 : (dat0 V c).arrAt 6 cfg0.N = up (strm C A W X) := by
  refine (dat0 V c).arrAt_eq_of_covers 6 _ (by decide +kernel) fun t hf y => ?_
  blk_simp
  rw [after0_6]
  frame_out
  rw [blk0_0 V c C hC t, blk0_1 V c A hA t, blk0_2 V c W hW t, blk0_3 V c W hW t, blk0_4 V c X hX t, pay0_xOut, ← part_res2]
  exact up_part (strm C A W X) (by blk_simp [idx0 t]; omega) (by blk_simp [idx0 t]; try omega)

include hg

theorem final0_7 : (dat0 V c).arrAt 7 cfg0.N = up (nrm (strm C A W X) g) := by
  refine (dat0 V c).arrAt_eq_of_covers 7 _ (by decide +kernel) fun t hf y => ?_
  blk_simp
  rw [after0_7]
  frame_out
  rw [blk0_0 V c C hC t, blk0_1 V c A hA t, blk0_2 V c W hW t, blk0_3 V c W hW t, blk0_4 V c X hX t, blk0_5 V c g hg t, pay0_h,
    ← part_res2, ← part_nrm _ _ (bound0 t)]
  exact up_part (nrm (strm C A W X) g) (by blk_simp [idx0 t]; omega) (by blk_simp [idx0 t]; try omega)

theorem final0_8 : (dat0 V c).arrAt 8 cfg0.N = up (tr (nrm (strm C A W X) g)) := by
  refine (dat0 V c).arrAt_eq_of_covers 8 _ (by decide +kernel) fun t hf y => ?_
  blk_simp
  rw [after0_8]
  frame_out
  rw [blk0_0 V c C hC t, blk0_1 V c A hA t, blk0_2 V c W hW t, blk0_3 V c W hW t, blk0_4 V c X hX t, blk0_5 V c g hg t, pay0_hT,
    ← part_res2, ← part_nrm _ _ (bound0 t), ← part_tr]
  exact up_part (tr (nrm (strm C A W X) g)) (by blk_simp [idx0 t]; try omega) (by blk_simp [idx0 t]; omega)

end Run0

/-! ## The memory's arrays -/

theorem idx2 : ∀ t : Fin cfg2.N, win2_0.index t = ![0, 0] ∧ win2_1.index t = ![0, 0] ∧ win2_2.index t = ![0, 0]
    ∧ win2_3.index t = ![0, 0] :=
  (by decide +kernel : ∀ t : Fin grid2.N, win2_0.index t = ![0, 0] ∧ win2_1.index t = ![0, 0] ∧ win2_2.index t = ![0, 0]
    ∧ win2_3.index t = ![0, 0])

section Run2

variable (X : Mat 512 1024) (g : Mat 1 1024)

theorem blk2_0 (h : V c main_arg3 = up X) (t : Fin cfg2.N) : iblk2 V c 0 t = up (part 512 1024 X 0 0) := eq_up fun i j => by
  blk_simp [iblk2]
  rw [h]
  exact up_at X (by blk_simp [idx2 t]; try omega) (by blk_simp [idx2 t]; try omega)
theorem blk2_1 (h : V c main_arg8 = up g) (t : Fin cfg2.N) : iblk2 V c 1 t = up g := eq_up fun i j => by
  blk_simp [iblk2]
  rw [h]
  exact congrArg₂ (fun a b => ((g a b : ℝ) : EReal)) (Fin.ext (by blk_simp [idx2 t]; try omega)) (Fin.ext (by blk_simp [idx2 t]; try omega))

variable (hX : V c main_arg3 = up X) (hg : V c main_arg8 = up g)
include hX hg

theorem final2_2 : (dat2 V c).arrAt 2 cfg2.N = up (nrm X g) := by
  refine (dat2 V c).arrAt_eq_of_covers 2 _ (by decide +kernel) fun t hf y => ?_
  blk_simp
  rw [after2_2]
  frame_out
  rw [blk2_0 V c X hX t, blk2_1 V c g hg t, pay2_n, ← part_nrm _ _ (by omega)]
  exact up_part (nrm X g) (by blk_simp [idx2 t]; try omega) (by blk_simp [idx2 t]; try omega)

theorem final2_3 : (dat2 V c).arrAt 3 cfg2.N = up (tr (nrm X g)) := by
  refine (dat2 V c).arrAt_eq_of_covers 3 _ (by decide +kernel) fun t hf y => ?_
  blk_simp
  rw [after2_3]
  frame_out
  rw [blk2_0 V c X hX t, blk2_1 V c g hg t, pay2_nT, ← part_nrm _ _ (by omega), ← part_tr]
  exact up_part (tr (nrm X g)) (by blk_simp [idx2 t]; try omega) (by blk_simp [idx2 t]; try omega)

end Run2

end Mem

end
-- ==== Proof.MemFwd.lean ====
/- The memory's attention, as the kernel computes it tile by tile: each head's rows are means of its values under the row's
   probabilities, written once as rows and once as columns. -/
module

public import proofs.«01_k».proof.Proof.MemMath
public import proofs.«01_k».proof.Proof.Gen.Kernel3Ideal.Frame.Region4
public import Idealize.ShloMosaic.Lib.Pipeline.ValueKit
public import Idealize.ShloMosaic.Lib.Pipeline.ReadBack

@[expose] public section

set_option maxRecDepth 16384

noncomputable section

namespace Mem

open Attn Ffn Idealize.ShloMosaic Idealize.ShloMosaic.TcCoe Idealize.ShloMosaic.Tactic Cert.Kernel3Ideal Cert.Kernel3Ideal.Gen Idealize.SL.Sem
open scoped BigOperators

/-! ## One head -/

/-- The mean of a table's rows under the probabilities of a row `q` against the keys `K`. -/
def mean (q : Fin 256 → EReal) (K T : Fin 256 → Fin 256 → EReal) (d : Fin 256) : EReal :=
  Ideal.div (∑ j, ex (rowS q K) j * T j d) (∑ j, ex (rowS q K) j)

section Head

variable (q : Rows) (k v : Keys)

theorem pay4_at (i : Fin 512) (d : Fin 256) : k4_pay5 (F := Ideal) q k v (ix3 0 i d) = mean (row q i) (tab k) (tab v) d := by
  pointwise [k4_pay5, k4_pay4]
  rfl

theorem pay4_atT (d : Fin 256) (i : Fin 512) : k4_pay6 (F := Ideal) q k v (ix2 d i) = mean (row q i) (tab k) (tab v) d := by
  pointwise [k4_pay6, k4_pay4]
  rfl

end Head

/-! ## A tile -/

section Tile

variable (Q : Vec Ideal S1x512x1024 .bf16) (KV : Vec Ideal S1x256x2048 .bf16)

/-- The tile's result, and the same by columns. -/
def tileO : Vec Ideal S1x512x1024 .bf16 := fun x => byCol (fun h d => mean (tq Q h (x 1)) (tk KV h) (tv KV h) d) (x 2)
def tileOT : Vec Ideal S1024x512 .bf16 := fun x => byCol (fun h d => mean (tq Q h (x 1)) (tk KV h) (tv KV h) d) (x 0)

theorem emb_atT (o : Nat) (inb : ∀ a, (![o, 0] : Fin 2 → Nat) a + (![256, 512] : Fin 2 → Nat) a ≤ S1024x512.size a)
    (d : Fin 256) (i : Fin 512) (c : Fin 1024) (hc : c.val = o + d.val) :
    (Rect.unit (s := S1024x512) ![o, 0] ![256, 512] inb).emb (ix2 d i) = ix2 c i := by
  funext a
  apply Fin.ext
  match a with
  | ⟨0, _⟩ => show o + 1 * d.val = c.val; omega
  | ⟨1, _⟩ => show 0 + 1 * i.val = i.val; omega

variable (h : Fin 4) (o o' : Nat) (ho : o = 256 * h.val) (ho' : o' = 1024 + 256 * h.val)
variable (inbQ : ∀ a, (![0, 0, o] : Fin 3 → Nat) a + (![1, 512, 256] : Fin 3 → Nat) a ≤ S1x512x1024.size a)
variable (inbT : ∀ a, (![o, 0] : Fin 2 → Nat) a + (![256, 512] : Fin 2 → Nat) a ≤ S1024x512.size a)
variable (inbK : ∀ a, (![0, 0, o] : Fin 3 → Nat) a + (![1, 256, 256] : Fin 3 → Nat) a ≤ S1x256x2048.size a)
variable (inbV : ∀ a, (![0, 0, o'] : Fin 3 → Nat) a + (![1, 256, 256] : Fin 3 → Nat) a ≤ S1x256x2048.size a)

include ho ho' in
/-- The head's store is the head's columns of the tile's result, -/
theorem piece_o (x : S1x512x256.Idx) : k4_pay5 (F := Ideal) (ldQ o inbQ Q) (ldK o inbK KV) (ldK o' inbV KV) x
    = tileO Q KV ((Rect.unit (s := S1x512x1024) ![0, 0, o] ![1, 512, 256] inbQ).emb x) := by
  obtain ⟨i, d, rfl⟩ : ∃ i d, x = ix3 0 i d := ⟨x 1, x 2, by rw [eq_ix3 x]; congr 1; exact Subsingleton.elim _ _⟩
  rw [pay4_at, emb_at o inbQ i d (col h d) (by rw [ho]; rfl), row_ld h o ho, tab_ldK h o ho, tab_ldV h o' ho']
  exact (byCol_col (fun h d => mean (tq Q h i) (tk KV h) (tv KV h) d) h d).symm

include ho ho' in
/-- and so is its store by columns. -/
theorem piece_oT (x : S256x512.Idx) : k4_pay6 (F := Ideal) (ldQ o inbQ Q) (ldK o inbK KV) (ldK o' inbV KV) x
    = tileOT Q KV ((Rect.unit (s := S1024x512) ![o, 0] ![256, 512] inbT).emb x) := by
  obtain ⟨d, i, rfl⟩ : ∃ d i, x = ix2 d i := ⟨x 0, x 1, eq_ix2 x⟩
  rw [pay4_atT, emb_atT o inbT d i (col h d) (by rw [ho]; rfl), row_ld h o ho, tab_ldK h o ho, tab_ldV h o' ho']
  exact (byCol_col (fun h d => mean (tq Q h i) (tk KV h) (tv KV h) d) h d).symm

end Tile

section Outs

variable (x0 : Vec Ideal S1x512x1024 .bf16) (x1 : Vec Ideal S1x256x2048 .bf16)

theorem out_2 : out4_2 (F := Ideal) x0 x1 = tileO x0 x1 := by
  unfold out4_2
  refine canon_whole _ _ ?_ (cover4_2 _ _ _ _)
  exact ⟨piece_o x0 x1 3 768 1792 rfl rfl _ _ _, piece_o x0 x1 2 512 1536 rfl rfl _ _ _,
    piece_o x0 x1 1 256 1280 rfl rfl _ _ _, piece_o x0 x1 0 0 1024 rfl rfl _ _ _, trivial⟩

theorem out_3 : out4_3 (F := Ideal) x0 x1 = tileOT x0 x1 := by
  unfold out4_3
  refine canon_whole _ _ ?_ (cover4_3 _ _ _ _)
  exact ⟨piece_oT x0 x1 3 768 1792 rfl rfl _ (by decide) _ _, piece_oT x0 x1 2 512 1536 rfl rfl _ (by decide) _ _,
    piece_oT x0 x1 1 256 1280 rfl rfl _ (by decide) _ _, piece_oT x0 x1 0 0 1024 rfl rfl _ (by decide) _ _, trivial⟩

end Outs

/-! ## The arrays -/

variable (V : (c : Dev nD) → (b : Ref sig .tc) → Buf (Elt Ideal) ((c : Thread nD τ).loc b)) (c : Dev nD)

/-- A point's sequence and its tile of rows. -/
def seq4 (t : Fin cfg4.N) : Fin 2 := ⟨t.val / 4, by have := t.isLt; have : cfg4.N = 8 := N_4; omega⟩
def tile4 (t : Fin cfg4.N) : Fin 4 := ⟨t.val % 4, by omega⟩

theorem idx4 : ∀ t : Fin cfg4.N, win4_0.index t = ![t.val / 4, t.val % 4, 0] ∧ win4_1.index t = ![t.val / 4, 0, 0]
    ∧ win4_2.index t = ![t.val / 4, t.val % 4, 0] ∧ win4_3.index t = ![0, t.val] :=
  (by decide +kernel : ∀ t : Fin grid4.N, win4_0.index t = ![t.val / 4, t.val % 4, 0] ∧ win4_1.index t = ![t.val / 4, 0, 0]
    ∧ win4_2.index t = ![t.val / 4, t.val % 4, 0] ∧ win4_3.index t = ![0, t.val])

section Run

variable (Q : T3 2 2048 1024) (KV : T3 2 256 2048)

theorem up3_congr {a b k : ℕ} (A : T3 a b k) {z : (⟨3, ![a, b, k]⟩ : Shape).Idx} {i : Fin a} {j : Fin b} {l : Fin k}
    (h0 : (z 0).val = i.val) (h1 : (z 1).val = j.val) (h2 : (z 2).val = l.val) : up3 A z = ((A i j l : ℝ) : EReal) := by
  unfold up3
  rw [show z 0 = i from Fin.ext h0, show z 1 = j from Fin.ext h1, show z 2 = l from Fin.ext h2]

theorem blk4_0 (hQ : V c main_v5 = up3 Q) (t : Fin cfg4.N) (i : Fin 512) (d : Fin 1024) :
    (iblk4 V c 0 t : Vec Ideal S1x512x1024 .bf16) (ix3 0 i d) = ((Q (seq4 t) (trow (tile4 t) i) d : ℝ) : EReal) := by
  blk_simp [iblk4]
  rw [hQ]
  exact up3_congr Q (by blk_simp [idx4 t]; simp only [seq4]; try omega) (by blk_simp [idx4 t]; simp only [tile4, trow]; try omega)
    (by blk_simp [idx4 t]; try omega)

theorem blk4_1 (hKV : V c main_v4 = up3 KV) (t : Fin cfg4.N) (j : Fin 256) (d : Fin 2048) :
    (iblk4 V c 1 t : Vec Ideal S1x256x2048 .bf16) (ix3 0 j d) = ((KV (seq4 t) j d : ℝ) : EReal) := by
  blk_simp [iblk4]
  rw [hKV]
  exact up3_congr KV (by blk_simp [idx4 t]; simp only [seq4]; try omega) (by blk_simp [idx4 t]; try omega)
    (by blk_simp [idx4 t]; try omega)

variable (hQ : V c main_v5 = up3 Q) (hKV : V c main_v4 = up3 KV)
include hQ hKV

/-- A tile's mean, in the arrays. -/
theorem mean_blk (t : Fin cfg4.N) (h : Fin 4) (i : Fin 512) (d : Fin 256) :
    mean (tq (iblk4 V c 0 t) h i) (tk (iblk4 V c 1 t) h) (tv (iblk4 V c 1 t) h) d
      = ((∑ j, rP (hq Q (seq4 t) h (trow (tile4 t) i)) (hk KV (seq4 t) h) j * hv KV (seq4 t) h j d : ℝ) : EReal) := by
  have e0 : tq (iblk4 V c 0 t) h i = fun d => ((hq Q (seq4 t) h (trow (tile4 t) i) d : ℝ) : EReal) :=
    funext fun d => blk4_0 V c Q hQ t i (col h d)
  have e1 : tk (iblk4 V c 1 t) h = fun j d => ((hk KV (seq4 t) h j d : ℝ) : EReal) :=
    funext fun j => funext fun d => blk4_1 V c KV hKV t j (kcol h d)
  have e2 : tv (iblk4 V c 1 t) h = fun j d => ((hv KV (seq4 t) h j d : ℝ) : EReal) :=
    funext fun j => funext fun d => blk4_1 V c KV hKV t j (vcol h d)
  rw [e0, e1, e2, mean, rowS_up]
  exact avg_up _ _

theorem tileO_blk (t : Fin cfg4.N) (i : Fin 512) (d : Fin 1024) : tileO (iblk4 V c 0 t) (iblk4 V c 1 t) (ix3 0 i d)
    = ((att Q KV (seq4 t) (trow (tile4 t) i) d : ℝ) : EReal) :=
  congrArg (fun f => byCol f d) (funext fun h => funext fun d' => mean_blk V c Q KV hQ hKV t h i d')

theorem tileOT_blk (t : Fin cfg4.N) (i : Fin 512) (d : Fin 1024) : tileOT (iblk4 V c 0 t) (iblk4 V c 1 t) (ix2 d i)
    = ((att Q KV (seq4 t) (trow (tile4 t) i) d : ℝ) : EReal) :=
  congrArg (fun f => byCol f d) (funext fun h => funext fun d' => mean_blk V c Q KV hQ hKV t h i d')

theorem final4_2 : (dat4 V c).arrAt 2 cfg4.N = up3 (att Q KV) := by
  refine (dat4 V c).arrAt_eq_of_covers 2 _ (by decide +kernel) fun t hf y => ?_
  blk_simp
  rw [after4_2, out_2]
  obtain ⟨i, d, rfl⟩ : ∃ (i : Fin 512) (d : Fin 1024), y = ix3 0 i d :=
    ⟨y 1, y 2, by rw [eq_ix3 y]; congr 1; exact Subsingleton.elim _ _⟩
  refine (tileO_blk V c Q KV hQ hKV t i d).trans (up3_congr (att Q KV) ?_ ?_ ?_).symm
  · blk_simp [idx4 t]; simp only [seq4]; try omega
  · blk_simp [idx4 t]; simp only [tile4, trow]; try omega
  · blk_simp [idx4 t]; try omega

theorem final4_3 : (dat4 V c).arrAt 3 cfg4.N = up (tr (join (N := 4096) rfl (att Q KV))) := by
  refine (dat4 V c).arrAt_eq_of_covers 3 _ (by decide +kernel) fun t hf y => ?_
  blk_simp
  rw [after4_3, out_3]
  obtain ⟨d, i, rfl⟩ : ∃ (d : Fin 1024) (i : Fin 512), y = ix2 d i := ⟨y 0, y 1, eq_ix2 y⟩
  refine (tileOT_blk V c Q KV hQ hKV t i d).trans ?_
  have ht : t.val < 8 := lt_of_lt_of_eq t.isLt N_4
  have hi := i.isLt
  rw [← join_at (N := 4096) rfl (att Q KV) (i := ⟨512 * t.val + i.val, by omega⟩) (by simp only [seq4, tile4, trow]; omega) d]
  exact congrArg₂ (fun a b => ((join (N := 4096) rfl (att Q KV) a b : ℝ) : EReal)) (Fin.ext (by blk_simp [idx4 t]; try (dsimp only; omega)))
    (Fin.ext (by blk_simp [idx4 t]; try omega))

end Run

end Mem

end
-- ==== Proof.MemDense.lean ====
/- The memory attention's products, each computed tile of rows by tile of rows. -/
module

public import proofs.«01_k».proof.Proof.FfnMath
public import proofs.«01_k».proof.Proof.Gen.Kernel3Ideal.Frame.Region1
public import proofs.«01_k».proof.Proof.Gen.Kernel3Ideal.Frame.Region3
public import proofs.«01_k».proof.Proof.Gen.Kernel3Ideal.Frame.Region5
public import proofs.«01_k».proof.Proof.Gen.Kernel3Ideal.Frame.Region6
public import proofs.«01_k».proof.Proof.Gen.Kernel3Ideal.Frame.Region8
public import proofs.«01_k».proof.Proof.Gen.Kernel3Ideal.Frame.Region10
public import proofs.«01_k».proof.Proof.Gen.Kernel3Ideal.Frame.Region12
public import proofs.«01_k».proof.Proof.Gen.Kernel3Ideal.Frame.Region13
public import proofs.«01_k».proof.Proof.Gen.Kernel3Ideal.Frame.Region14
public import Idealize.ShloMosaic.Lib.Pipeline.ValueKit

@[expose] public section

set_option maxRecDepth 16384

noncomputable section

namespace Mem

open Ffn Idealize.ShloMosaic Idealize.ShloMosaic.TcCoe Idealize.ShloMosaic.Tactic Cert.Kernel3Ideal Cert.Kernel3Ideal.Gen Idealize.SL.Sem

variable (V : (c : Dev nD) → (b : Ref sig .tc) → Buf (Elt Ideal) ((c : Thread nD τ).loc b)) (c : Dev nD)

/-! ## The queries -/

theorem pay1 (A : Mat 512 1024) (B : Mat 1024 1024) : k1_pay1 (F := Ideal) (up A) (up B) = up (mm A B) := eq_up fun i j => by
  pointwise [k1_pay1]
  simp only [up_ix2, mm, Attn.coe_sum, EReal.coe_mul]

theorem idx1 : ∀ t : Fin cfg1.N, win1_0.index t = ![t.val, 0] ∧ win1_1.index t = ![0, 0] ∧ win1_2.index t = ![t.val, 0] :=
  (by decide +kernel : ∀ t : Fin grid1.N, win1_0.index t = ![t.val, 0] ∧ win1_1.index t = ![0, 0] ∧ win1_2.index t = ![t.val, 0])

theorem blk1_0 (A : Mat 4096 1024) (h : V c main_v0_1 = up A) (t : Fin cfg1.N) :
    iblk1 V c 0 t = up (part 512 1024 A (512 * t.val) 0) := eq_up fun i j => by
  blk_simp [iblk1]
  rw [h]
  exact up_at A (by blk_simp [idx1 t]; omega) (by blk_simp [idx1 t]; try omega)
theorem blk1_1 (B : Mat 1024 1024) (h : V c main_arg7 = up B) (t : Fin cfg1.N) : iblk1 V c 1 t = up B := eq_up fun i j => by
  blk_simp [iblk1]
  rw [h]
  exact congrArg₂ (fun a b => ((B a b : ℝ) : EReal)) (Fin.ext (by blk_simp [idx1 t]; try omega)) (Fin.ext (by blk_simp [idx1 t]; try omega))

theorem final1 (A : Mat 4096 1024) (B : Mat 1024 1024) (hA : V c main_v0_1 = up A) (hB : V c main_arg7 = up B) :
    (dat1 V c).arrAt 2 cfg1.N = up (mm A B) := by
  refine (dat1 V c).arrAt_eq_of_covers 2 _ (by decide +kernel) fun t hf y => ?_
  blk_simp
  rw [after1_2]
  frame_out
  rw [blk1_0 V c A hA t, blk1_1 V c B hB t, pay1, ← part_rows_mm]
  exact up_part (mm A B) (by blk_simp [idx1 t]; omega) (by blk_simp [idx1 t]; try omega)

/-! ## The keys and the values -/

theorem pay3 (A : Mat 512 1024) (B : Mat 1024 2048) : k3_pay1 (F := Ideal) (up A) (up B) = up (mm A B) := eq_up fun i j => by
  pointwise [k3_pay1]
  simp only [up_ix2, mm, Attn.coe_sum, EReal.coe_mul]

theorem idx3 : ∀ t : Fin cfg3.N, win3_0.index t = ![t.val, 0] ∧ win3_1.index t = ![0, 0] ∧ win3_2.index t = ![t.val, 0] :=
  (by decide +kernel : ∀ t : Fin grid3.N, win3_0.index t = ![t.val, 0] ∧ win3_1.index t = ![0, 0] ∧ win3_2.index t = ![t.val, 0])

theorem blk3_0 (A : Mat 512 1024) (h : V c main_v2_0 = up A) (t : Fin cfg3.N) :
    iblk3 V c 0 t = up (part 512 1024 A (512 * t.val) 0) := eq_up fun i j => by
  blk_simp [iblk3]
  rw [h]
  exact up_at A (by blk_simp [idx3 t]; omega) (by blk_simp [idx3 t]; try omega)
theorem blk3_1 (B : Mat 1024 2048) (h : V c main_arg9 = up B) (t : Fin cfg3.N) : iblk3 V c 1 t = up B := eq_up fun i j => by
  blk_simp [iblk3]
  rw [h]
  exact congrArg₂ (fun a b => ((B a b : ℝ) : EReal)) (Fin.ext (by blk_simp [idx3 t]; try omega)) (Fin.ext (by blk_simp [idx3 t]; try omega))

theorem final3 (A : Mat 512 1024) (B : Mat 1024 2048) (hA : V c main_v2_0 = up A) (hB : V c main_arg9 = up B) :
    (dat3 V c).arrAt 2 cfg3.N = up (mm A B) := by
  refine (dat3 V c).arrAt_eq_of_covers 2 _ (by decide +kernel) fun t hf y => ?_
  blk_simp
  rw [after3_2]
  frame_out
  rw [blk3_0 V c A hA t, blk3_1 V c B hB t, pay3, ← part_rows_mm]
  exact up_part (mm A B) (by blk_simp [idx3 t]; omega) (by blk_simp [idx3 t]; try omega)

/-! ## The output weights' gradient -/

theorem pay5 (A : Mat 512 4096) (B : Mat 4096 1024) : k5_pay1 (F := Ideal) (up A) (up B) = up (mm A B) := eq_up fun i j => by
  pointwise [k5_pay1]
  simp only [up_ix2, mm, Attn.coe_sum, EReal.coe_mul]

theorem idx5 : ∀ t : Fin cfg5.N, win5_0.index t = ![t.val, 0] ∧ win5_1.index t = ![0, 0] ∧ win5_2.index t = ![t.val, 0] :=
  (by decide +kernel : ∀ t : Fin grid5.N, win5_0.index t = ![t.val, 0] ∧ win5_1.index t = ![0, 0] ∧ win5_2.index t = ![t.val, 0])

theorem blk5_0 (A : Mat 1024 4096) (h : V c main_v6_1 = up A) (t : Fin cfg5.N) :
    iblk5 V c 0 t = up (part 512 4096 A (512 * t.val) 0) := eq_up fun i j => by
  blk_simp [iblk5]
  rw [h]
  exact up_at A (by blk_simp [idx5 t]; omega) (by blk_simp [idx5 t]; try omega)
theorem blk5_1 (B : Mat 4096 1024) (h : V c main_arg4 = up B) (t : Fin cfg5.N) : iblk5 V c 1 t = up B := eq_up fun i j => by
  blk_simp [iblk5]
  rw [h]
  exact congrArg₂ (fun a b => ((B a b : ℝ) : EReal)) (Fin.ext (by blk_simp [idx5 t]; try omega)) (Fin.ext (by blk_simp [idx5 t]; try omega))

theorem final5 (A : Mat 1024 4096) (B : Mat 4096 1024) (hA : V c main_v6_1 = up A) (hB : V c main_arg4 = up B) :
    (dat5 V c).arrAt 2 cfg5.N = up (mm A B) := by
  refine (dat5 V c).arrAt_eq_of_covers 2 _ (by decide +kernel) fun t hf y => ?_
  blk_simp
  rw [after5_2]
  frame_out
  rw [blk5_0 V c A hA t, blk5_1 V c B hB t, pay5, ← part_rows_mm]
  exact up_part (mm A B) (by blk_simp [idx5 t]; omega) (by blk_simp [idx5 t]; try omega)

/-! ## The gradient of the attention's result -/

theorem pay6 (A : Mat 512 1024) (B : Mat 1024 1024) : k6_pay1 (F := Ideal) (up A) (up B) = up (mm A (tr B)) := eq_up fun i j => by
  pointwise [k6_pay1]
  simp only [up_ix2, mm, tr, Attn.coe_sum, EReal.coe_mul]

theorem idx6 : ∀ t : Fin cfg6.N, win6_0.index t = ![t.val, 0] ∧ win6_1.index t = ![0, 0] ∧ win6_2.index t = ![t.val, 0] :=
  (by decide +kernel : ∀ t : Fin grid6.N, win6_0.index t = ![t.val, 0] ∧ win6_1.index t = ![0, 0] ∧ win6_2.index t = ![t.val, 0])

theorem blk6_0 (A : Mat 4096 1024) (h : V c main_arg4 = up A) (t : Fin cfg6.N) :
    iblk6 V c 0 t = up (part 512 1024 A (512 * t.val) 0) := eq_up fun i j => by
  blk_simp [iblk6]
  rw [h]
  exact up_at A (by blk_simp [idx6 t]; omega) (by blk_simp [idx6 t]; try omega)
theorem blk6_1 (B : Mat 1024 1024) (h : V c main_arg10 = up B) (t : Fin cfg6.N) : iblk6 V c 1 t = up B := eq_up fun i j => by
  blk_simp [iblk6]
  rw [h]
  exact congrArg₂ (fun a b => ((B a b : ℝ) : EReal)) (Fin.ext (by blk_simp [idx6 t]; try omega)) (Fin.ext (by blk_simp [idx6 t]; try omega))

theorem final6 (A : Mat 4096 1024) (B : Mat 1024 1024) (hA : V c main_arg4 = up A) (hB : V c main_arg10 = up B) :
    (dat6 V c).arrAt 2 cfg6.N = up (mm A (tr B)) := by
  refine (dat6 V c).arrAt_eq_of_covers 2 _ (by decide +kernel) fun t hf y => ?_
  blk_simp
  rw [after6_2]
  frame_out
  rw [blk6_0 V c A hA t, blk6_1 V c B hB t, pay6, ← part_rows_mm]
  exact up_part (mm A (tr B)) (by blk_simp [idx6 t]; omega) (by blk_simp [idx6 t]; try omega)

/-! ## The queries' weights' gradient -/

theorem pay8 (A : Mat 512 4096) (B : Mat 4096 1024) : k8_pay1 (F := Ideal) (up A) (up B) = up (mm A B) := eq_up fun i j => by
  pointwise [k8_pay1]
  simp only [up_ix2, mm, Attn.coe_sum, EReal.coe_mul]

theorem idx8 : ∀ t : Fin cfg8.N, win8_0.index t = ![t.val, 0] ∧ win8_1.index t = ![0, 0] ∧ win8_2.index t = ![t.val, 0] :=
  (by decide +kernel : ∀ t : Fin grid8.N, win8_0.index t = ![t.val, 0] ∧ win8_1.index t = ![0, 0] ∧ win8_2.index t = ![t.val, 0])

theorem blk8_0 (A : Mat 1024 4096) (h : V c main_v0_2 = up A) (t : Fin cfg8.N) :
    iblk8 V c 0 t = up (part 512 4096 A (512 * t.val) 0) := eq_up fun i j => by
  blk_simp [iblk8]
  rw [h]
  exact up_at A (by blk_simp [idx8 t]; omega) (by blk_simp [idx8 t]; try omega)
theorem blk8_1 (B : Mat 4096 1024) (h : V c main_v12 = up B) (t : Fin cfg8.N) : iblk8 V c 1 t = up B := eq_up fun i j => by
  blk_simp [iblk8]
  rw [h]
  exact congrArg₂ (fun a b => ((B a b : ℝ) : EReal)) (Fin.ext (by blk_simp [idx8 t]; try omega)) (Fin.ext (by blk_simp [idx8 t]; try omega))

theorem final8 (A : Mat 1024 4096) (B : Mat 4096 1024) (hA : V c main_v0_2 = up A) (hB : V c main_v12 = up B) :
    (dat8 V c).arrAt 2 cfg8.N = up (mm A B) := by
  refine (dat8 V c).arrAt_eq_of_covers 2 _ (by decide +kernel) fun t hf y => ?_
  blk_simp
  rw [after8_2]
  frame_out
  rw [blk8_0 V c A hA t, blk8_1 V c B hB t, pay8, ← part_rows_mm]
  exact up_part (mm A B) (by blk_simp [idx8 t]; omega) (by blk_simp [idx8 t]; try omega)

/-! ## The first half of the entering weights' gradient -/

theorem pay12 (A : Mat 512 4096) (B : Mat 4096 1024) : k12_pay1 (F := Ideal) (up A) (up B) = up (mm A B) := eq_up fun i j => by
  pointwise [k12_pay1]
  simp only [up_ix2, mm, Attn.coe_sum, EReal.coe_mul]

theorem idx12 : ∀ t : Fin cfg12.N, win12_0.index t = ![t.val, 0] ∧ win12_1.index t = ![0, 0] ∧ win12_2.index t = ![t.val, 0] :=
  (by decide +kernel : ∀ t : Fin grid12.N, win12_0.index t = ![t.val, 0] ∧ win12_1.index t = ![0, 0] ∧ win12_2.index t = ![t.val, 0])

theorem blk12_0 (A : Mat 512 4096) (h : V c main_v18 = up A) (t : Fin cfg12.N) :
    iblk12 V c 0 t = up (part 512 4096 A (512 * t.val) 0) := eq_up fun i j => by
  blk_simp [iblk12]
  rw [h]
  exact up_at A (by blk_simp [idx12 t]; omega) (by blk_simp [idx12 t]; try omega)
theorem blk12_1 (B : Mat 4096 1024) (h : V c main_v15_0 = up B) (t : Fin cfg12.N) : iblk12 V c 1 t = up B := eq_up fun i j => by
  blk_simp [iblk12]
  rw [h]
  exact congrArg₂ (fun a b => ((B a b : ℝ) : EReal)) (Fin.ext (by blk_simp [idx12 t]; try omega)) (Fin.ext (by blk_simp [idx12 t]; try omega))

theorem final12 (A : Mat 512 4096) (B : Mat 4096 1024) (hA : V c main_v18 = up A) (hB : V c main_v15_0 = up B) :
    (dat12 V c).arrAt 2 cfg12.N = up (mm A B) := by
  refine (dat12 V c).arrAt_eq_of_covers 2 _ (by decide +kernel) fun t hf y => ?_
  blk_simp
  rw [after12_2]
  frame_out
  rw [blk12_0 V c A hA t, blk12_1 V c B hB t, pay12, ← part_rows_mm]
  exact up_part (mm A B) (by blk_simp [idx12 t]; omega) (by blk_simp [idx12 t]; try omega)

/-! ## and the second -/

theorem pay13 (A : Mat 512 4096) (B : Mat 4096 1024) : k13_pay1 (F := Ideal) (up A) (up B) = up (mm A B) := eq_up fun i j => by
  pointwise [k13_pay1]
  simp only [up_ix2, mm, Attn.coe_sum, EReal.coe_mul]

theorem idx13 : ∀ t : Fin cfg13.N, win13_0.index t = ![t.val, 0] ∧ win13_1.index t = ![0, 0] ∧ win13_2.index t = ![t.val, 0] :=
  (by decide +kernel : ∀ t : Fin grid13.N, win13_0.index t = ![t.val, 0] ∧ win13_1.index t = ![0, 0] ∧ win13_2.index t = ![t.val, 0])

theorem blk13_0 (A : Mat 512 4096) (h : V c main_v20 = up A) (t : Fin cfg13.N) :
    iblk13 V c 0 t = up (part 512 4096 A (512 * t.val) 0) := eq_up fun i j => by
  blk_simp [iblk13]
  rw [h]
  exact up_at A (by blk_simp [idx13 t]; omega) (by blk_simp [idx13 t]; try omega)
theorem blk13_1 (B : Mat 4096 1024) (h : V c main_v15_0 = up B) (t : Fin cfg13.N) : iblk13 V c 1 t = up B := eq_up fun i j => by
  blk_simp [iblk13]
  rw [h]
  exact congrArg₂ (fun a b => ((B a b : ℝ) : EReal)) (Fin.ext (by blk_simp [idx13 t]; try omega)) (Fin.ext (by blk_simp [idx13 t]; try omega))

theorem final13 (A : Mat 512 4096) (B : Mat 4096 1024) (hA : V c main_v20 = up A) (hB : V c main_v15_0 = up B) :
    (dat13 V c).arrAt 2 cfg13.N = up (mm A B) := by
  refine (dat13 V c).arrAt_eq_of_covers 2 _ (by decide +kernel) fun t hf y => ?_
  blk_simp
  rw [after13_2]
  frame_out
  rw [blk13_0 V c A hA t, blk13_1 V c B hB t, pay13, ← part_rows_mm]
  exact up_part (mm A B) (by blk_simp [idx13 t]; omega) (by blk_simp [idx13 t]; try omega)

/-! ## The entering stream's gradient -/

theorem pay14 (A : Mat 512 1024) (B : Mat 1024 1024) : k14_pay1 (F := Ideal) (up A) (up B) = up (mm A (tr B)) := eq_up fun i j => by
  pointwise [k14_pay1]
  simp only [up_ix2, mm, tr, Attn.coe_sum, EReal.coe_mul]

theorem idx14 : ∀ t : Fin cfg14.N, win14_0.index t = ![t.val, 0] ∧ win14_1.index t = ![0, 0] ∧ win14_2.index t = ![t.val, 0] :=
  (by decide +kernel : ∀ t : Fin grid14.N, win14_0.index t = ![t.val, 0] ∧ win14_1.index t = ![0, 0] ∧ win14_2.index t = ![t.val, 0])

theorem blk14_0 (A : Mat 4096 1024) (h : V c main_v15_0 = up A) (t : Fin cfg14.N) :
    iblk14 V c 0 t = up (part 512 1024 A (512 * t.val) 0) := eq_up fun i j => by
  blk_simp [iblk14]
  rw [h]
  exact up_at A (by blk_simp [idx14 t]; omega) (by blk_simp [idx14 t]; try omega)
theorem blk14_1 (B : Mat 1024 1024) (h : V c main_arg5 = up B) (t : Fin cfg14.N) : iblk14 V c 1 t = up B := eq_up fun i j => by
  blk_simp [iblk14]
  rw [h]
  exact congrArg₂ (fun a b => ((B a b : ℝ) : EReal)) (Fin.ext (by blk_simp [idx14 t]; try omega)) (Fin.ext (by blk_simp [idx14 t]; try omega))

theorem final14 (A : Mat 4096 1024) (B : Mat 1024 1024) (hA : V c main_v15_0 = up A) (hB : V c main_arg5 = up B) :
    (dat14 V c).arrAt 2 cfg14.N = up (mm A (tr B)) := by
  refine (dat14 V c).arrAt_eq_of_covers 2 _ (by decide +kernel) fun t hf y => ?_
  blk_simp
  rw [after14_2]
  frame_out
  rw [blk14_0 V c A hA t, blk14_1 V c B hB t, pay14, ← part_rows_mm]
  exact up_part (mm A (tr B)) (by blk_simp [idx14 t]; omega) (by blk_simp [idx14 t]; try omega)

/-! ## The keys' and the values' weights' gradient, by blocks of rows and of columns -/

theorem pay10 (A : Mat 512 512) (B : Mat 512 1024) : k10_pay1 (F := Ideal) (up A) (up B) = up (mm A B) := eq_up fun i j => by
  pointwise [k10_pay1]
  simp only [up_ix2, mm, Attn.coe_sum, EReal.coe_mul]

theorem idx10 : ∀ t : Fin cfg10.N, win10_0.index t = ![t.val / 2, 0] ∧ win10_1.index t = ![0, t.val % 2]
    ∧ win10_2.index t = ![t.val / 2, t.val % 2] :=
  (by decide +kernel : ∀ t : Fin grid10.N, win10_0.index t = ![t.val / 2, 0] ∧ win10_1.index t = ![0, t.val % 2]
    ∧ win10_2.index t = ![t.val / 2, t.val % 2])

theorem blk10_0 (A : Mat 1024 512) (hA : V c main_v2_1 = up A) (t : Fin cfg10.N) :
    iblk10 V c 0 t = up (part 512 512 A (512 * (t.val / 2)) 0) := eq_up fun i j => by
  blk_simp [iblk10]
  rw [hA]
  exact up_at A (by blk_simp [idx10 t]; omega) (by blk_simp [idx10 t]; try omega)
theorem blk10_1 (B : Mat 512 2048) (hB : V c main_v13 = up B) (t : Fin cfg10.N) :
    iblk10 V c 1 t = up (part 512 1024 B 0 (1024 * (t.val % 2))) := eq_up fun i j => by
  blk_simp [iblk10]
  rw [hB]
  exact up_at B (by blk_simp [idx10 t]; try omega) (by blk_simp [idx10 t]; omega)

theorem final10 (A : Mat 1024 512) (B : Mat 512 2048) (hA : V c main_v2_1 = up A) (hB : V c main_v13 = up B) :
    (dat10 V c).arrAt 2 cfg10.N = up (mm A B) := by
  refine (dat10 V c).arrAt_eq_of_covers 2 _ (by decide +kernel) fun t hf y => ?_
  blk_simp
  rw [after10_2]
  frame_out
  rw [blk10_0 V c A hA t, blk10_1 V c B hB t, pay10, ← part_mm]
  exact up_part (mm A B) (by blk_simp [idx10 t]; omega) (by blk_simp [idx10 t]; omega)

end Mem

end
-- ==== Proof.MemBwd.lean ====
/- The gradients of the memory's attention, as the kernel computes them tile by tile: the queries' and, gathered over a
   sequence's tiles, the keys' and the values'. The body's stores are those of Tile, the sums those of Arrays. -/
module

public import proofs.«01_k».proof.Proof.MemMath
public import proofs.«01_k».proof.Proof.Gen.Kernel3Ideal.Frame.Region7
public import Idealize.ShloMosaic.Lib.Pipeline.ReadBack

@[expose] public section

set_option maxRecDepth 16384

noncomputable section

namespace Mem

open Attn Ffn Idealize.ShloMosaic Idealize.ShloMosaic.TcCoe Idealize.ShloMosaic.Tactic Cert.Kernel3Ideal Cert.Kernel3Ideal.Gen Idealize.SL.Sem

/-! ## A point's two blocks -/

section Blocks

variable (c : Dev nD) (i : grid7.Coords) (arg2 : Memref sig .tc .vmem S1x512x1024 .bf16) (harg2 : arg2.IsWhole) (arg3 : Memref sig .tc .vmem S1x256x2048 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x256x2048 .f32) (harg6 : arg6.IsWhole)
variable (x0 : Vec Ideal S1x512x1024 .bf16) (x1 : Vec Ideal S1x256x2048 .bf16) (x2 : Vec Ideal S1x512x1024 .bf16) (xo4 : Vec Ideal S1x256x2048 .f32)

theorem out_B_4 (hc0 : ¬cond7_0 i) : out7_B_4 c i arg2 harg2 arg3 harg3 arg4 harg4 arg5 harg5 arg6 harg6 hc0 x0 x1 x2 xo4
    = fun y => xo4 y + tileDkv x0 x1 x2 y := by
  have hcov := cover7_B_4 c i arg2 harg2 arg3 harg3 arg4 harg4 arg5 harg5 arg6 harg6 hc0 x0 x1 x2 xo4
  unfold out7_B_4
  rw [View.read_writes_eq_canon _ _ _ hcov]
  refine canon_whole _ _ ?_ hcov
  unfold kernelRun7_B
  dsimp only
  sl_unfold_words
  simp only [View.readAt_eq_ld, harg2.read_unread, harg3.read_unread, harg4.read_unread, harg6.read_unread]
  exact ⟨piece_dv x0 x1 x2 3 768 1792 rfl rfl _ _ _ xo4, piece_dk x0 x1 x2 3 768 1792 rfl rfl _ _ _ xo4,
    piece_dv x0 x1 x2 2 512 1536 rfl rfl _ _ _ xo4, piece_dk x0 x1 x2 2 512 1536 rfl rfl _ _ _ xo4,
    piece_dv x0 x1 x2 1 256 1280 rfl rfl _ _ _ xo4, piece_dk x0 x1 x2 1 256 1280 rfl rfl _ _ _ xo4,
    piece_dv x0 x1 x2 0 0 1024 rfl rfl _ _ _ xo4, piece_dk x0 x1 x2 0 0 1024 rfl rfl _ _ _ xo4, trivial⟩

theorem out_B_3 (hc0 : ¬cond7_0 i) : out7_B_3 c i arg2 harg2 arg3 harg3 arg4 harg4 arg5 harg5 arg6 harg6 hc0 x0 x1 x2 xo4
    = tileDq x0 x1 x2 := by
  have hcov := cover7_B_3 c i arg2 harg2 arg3 harg3 arg4 harg4 arg5 harg5 arg6 harg6 hc0 x0 x1 x2 xo4
  unfold out7_B_3
  rw [View.read_writes_eq_canon _ _ _ hcov]
  refine canon_whole _ _ ?_ hcov
  unfold kernelRun7_B
  dsimp only
  sl_unfold_words
  simp only [View.readAt_eq_ld, harg2.read_unread, harg3.read_unread, harg4.read_unread, harg6.read_unread]
  exact ⟨piece_dq x0 x1 x2 3 768 1792 rfl rfl _ _ _, piece_dq x0 x1 x2 2 512 1536 rfl rfl _ _ _,
    piece_dq x0 x1 x2 1 256 1280 rfl rfl _ _ _, piece_dq x0 x1 x2 0 0 1024 rfl rfl _ _ _, trivial⟩

theorem out_A_3 (hc0 : cond7_0 i) : out7_A_3 c i arg2 harg2 arg3 harg3 arg4 harg4 arg5 harg5 arg6 harg6 hc0 x0 x1 x2
    = tileDq x0 x1 x2 := by
  have hcov := cover7_A_3 c i arg2 harg2 arg3 harg3 arg4 harg4 arg5 harg5 arg6 harg6 hc0 x0 x1 x2
  unfold out7_A_3
  rw [View.read_writes_eq_canon _ _ _ hcov]
  refine canon_whole _ _ ?_ hcov
  unfold kernelRun7_A
  dsimp only
  sl_unfold_words
  simp only [View.readAt_eq_ld, harg2.read_unread, harg3.read_unread, harg4.read_unread]
  exact ⟨piece_dq x0 x1 x2 3 768 1792 rfl rfl _ _ _, piece_dq x0 x1 x2 2 512 1536 rfl rfl _ _ _,
    piece_dq x0 x1 x2 1 256 1280 rfl rfl _ _ _, piece_dq x0 x1 x2 0 0 1024 rfl rfl _ _ _, trivial⟩

theorem out_A_4 (hc0 : cond7_0 i) : out7_A_4 c i arg2 harg2 arg3 harg3 arg4 harg4 arg5 harg5 arg6 harg6 hc0 x0 x1 x2
    = fun y => k7_pay3 (F := Ideal) y + tileDkv x0 x1 x2 y := by
  have hcov := cover7_A_4 c i arg2 harg2 arg3 harg3 arg4 harg4 arg5 harg5 arg6 harg6 hc0 x0 x1 x2
  unfold out7_A_4
  rw [View.read_writes_eq_canon _ _ _ hcov]
  clear hcov
  unfold kernelRun7_A
  dsimp only
  sl_unfold_words
  simp only [View.readAt_eq_ld, harg2.read_unread, harg3.read_unread, harg4.read_unread]
  simp (disch := decide) only [↓ View.readCov_skip, ↓ View.readCov_cons_toLoadRect, ↓ View.readCov_fill]
  show View.canon ([_, _, _, _, _, _, _, _] ++ [_]) = _
  refine canon_over _ _ _ ?_ (View.cover_of_tiledL _ S1x256x256.size (by sl_kernel_rfl))
  exact ⟨piece_dv x0 x1 x2 3 768 1792 rfl rfl _ _ _ (k7_pay3 (F := Ideal)), piece_dk x0 x1 x2 3 768 1792 rfl rfl _ _ _ (k7_pay3 (F := Ideal)),
    piece_dv x0 x1 x2 2 512 1536 rfl rfl _ _ _ (k7_pay3 (F := Ideal)), piece_dk x0 x1 x2 2 512 1536 rfl rfl _ _ _ (k7_pay3 (F := Ideal)),
    piece_dv x0 x1 x2 1 256 1280 rfl rfl _ _ _ (k7_pay3 (F := Ideal)), piece_dk x0 x1 x2 1 256 1280 rfl rfl _ _ _ (k7_pay3 (F := Ideal)),
    piece_dv x0 x1 x2 0 0 1024 rfl rfl _ _ _ (k7_pay3 (F := Ideal)), piece_dk x0 x1 x2 0 0 1024 rfl rfl _ _ _ (k7_pay3 (F := Ideal)), trivial⟩

end Blocks

/-! ## The arrays -/

section Run

variable (V : (c : Dev nD) → (b : Ref sig .tc) → Buf (Elt Ideal) ((c : Thread nD τ).loc b)) (c : Dev nD)

abbrev qA : S2x2048x1024.Idx → EReal := V c main_v9
abbrev kvA : S2x256x2048.Idx → EReal := V c main_v4
abbrev gA : S2x2048x1024.Idx → EReal := V c main_v10

/-- A point's sequence and its tile of rows. -/
def seqOf (t : Fin cfg7.N) : Fin 2 := ⟨t.val / 4, by have := t.isLt; have : cfg7.N = 8 := N_7; omega⟩
def tileOf (t : Fin cfg7.N) : Fin 4 := ⟨t.val % 4, by omega⟩

theorem index_q : ∀ t : Fin cfg7.N, win7_0.index t 0 = t.val / 4 ∧ win7_0.index t 1 = t.val % 4 ∧ win7_0.index t 2 = 0 :=
  (by decide +kernel : ∀ t : Fin grid7.N, win7_0.index t 0 = t.val / 4 ∧ win7_0.index t 1 = t.val % 4 ∧ win7_0.index t 2 = 0)
theorem index_kv : ∀ t : Fin cfg7.N, win7_1.index t 0 = t.val / 4 ∧ win7_1.index t 1 = 0 ∧ win7_1.index t 2 = 0 :=
  (by decide +kernel : ∀ t : Fin grid7.N, win7_1.index t 0 = t.val / 4 ∧ win7_1.index t 1 = 0 ∧ win7_1.index t 2 = 0)
theorem index_g : ∀ t : Fin cfg7.N, win7_2.index t 0 = t.val / 4 ∧ win7_2.index t 1 = t.val % 4 ∧ win7_2.index t 2 = 0 :=
  (by decide +kernel : ∀ t : Fin grid7.N, win7_2.index t 0 = t.val / 4 ∧ win7_2.index t 1 = t.val % 4 ∧ win7_2.index t 2 = 0)
theorem index_dq : ∀ t : Fin cfg7.N, win7_3.index t 0 = t.val / 4 ∧ win7_3.index t 1 = t.val % 4 ∧ win7_3.index t 2 = 0 :=
  (by decide +kernel : ∀ t : Fin grid7.N, win7_3.index t 0 = t.val / 4 ∧ win7_3.index t 1 = t.val % 4 ∧ win7_3.index t 2 = 0)
theorem index_dkv : ∀ t : Fin cfg7.N, win7_4.index t 0 = t.val / 4 ∧ win7_4.index t 1 = 0 ∧ win7_4.index t 2 = 0 :=
  (by decide +kernel : ∀ t : Fin grid7.N, win7_4.index t 0 = t.val / 4 ∧ win7_4.index t 1 = 0 ∧ win7_4.index t 2 = 0)

/-- A point's block of the queries is its tile's rows, -/
theorem blk_q (t : Fin cfg7.N) (i : Fin 512) (d : Fin 1024) :
    (iblk7 V c 0 t : Vec Ideal S1x512x1024 .bf16) (ix3 0 i d) = qA V c (ix3 (seqOf t) (trow (tileOf t) i) d) := by
  unfold iblk7
  rw [View.read_apply]
  show V c main_v9 _ = V c main_v9 _
  congr 1
  obtain ⟨h0, h1, h2⟩ := index_q t
  funext a
  apply Fin.ext
  match a with
  | ⟨0, _⟩ => show win7_0.index t 0 * 1 + 1 * 0 = t.val / 4; rw [h0]; omega
  | ⟨1, _⟩ => show win7_0.index t 1 * 512 + 1 * i.val = 512 * (t.val % 4) + i.val; rw [h1]; omega
  | ⟨2, _⟩ => show win7_0.index t 2 * 1024 + 1 * d.val = d.val; rw [h2]; omega

/-- its block of the keys and values its sequence's, -/
theorem blk_kv (t : Fin cfg7.N) (j : Fin 256) (d : Fin 2048) :
    (iblk7 V c 1 t : Vec Ideal S1x256x2048 .bf16) (ix3 0 j d) = kvA V c (ix3 (seqOf t) j d) := by
  unfold iblk7
  rw [View.read_apply]
  show V c main_v4 _ = V c main_v4 _
  congr 1
  obtain ⟨h0, h1, h2⟩ := index_kv t
  funext a
  apply Fin.ext
  match a with
  | ⟨0, _⟩ => show win7_1.index t 0 * 1 + 1 * 0 = t.val / 4; rw [h0]; omega
  | ⟨1, _⟩ => show win7_1.index t 1 * 256 + 1 * j.val = j.val; rw [h1]; omega
  | ⟨2, _⟩ => show win7_1.index t 2 * 2048 + 1 * d.val = d.val; rw [h2]; omega

/-- and its block of the cotangents its tile's rows. -/
theorem blk_g (t : Fin cfg7.N) (i : Fin 512) (d : Fin 1024) :
    (iblk7 V c 2 t : Vec Ideal S1x512x1024 .bf16) (ix3 0 i d) = gA V c (ix3 (seqOf t) (trow (tileOf t) i) d) := by
  unfold iblk7
  rw [View.read_apply]
  show V c main_v10 _ = V c main_v10 _
  congr 1
  obtain ⟨h0, h1, h2⟩ := index_g t
  funext a
  apply Fin.ext
  match a with
  | ⟨0, _⟩ => show win7_2.index t 0 * 1 + 1 * 0 = t.val / 4; rw [h0]; omega
  | ⟨1, _⟩ => show win7_2.index t 1 * 512 + 1 * i.val = 512 * (t.val % 4) + i.val; rw [h1]; omega
  | ⟨2, _⟩ => show win7_2.index t 2 * 1024 + 1 * d.val = d.val; rw [h2]; omega

theorem tq_blk (t : Fin cfg7.N) (h : Fin 4) (i : Fin 512) : tq (iblk7 V c 0 t) h i = aq (qA V c) (seqOf t) h (trow (tileOf t) i) :=
  funext fun d => blk_q V c t i (col h d)
theorem tg_blk (t : Fin cfg7.N) (h : Fin 4) (i : Fin 512) : tq (iblk7 V c 2 t) h i = aq (gA V c) (seqOf t) h (trow (tileOf t) i) :=
  funext fun d => blk_g V c t i (col h d)
theorem tk_blk (t : Fin cfg7.N) (h : Fin 4) : tk (iblk7 V c 1 t) h = ak (kvA V c) (seqOf t) h :=
  funext fun j => funext fun d => blk_kv V c t j (kcol h d)
theorem tv_blk (t : Fin cfg7.N) (h : Fin 4) : tv (iblk7 V c 1 t) h = av (kvA V c) (seqOf t) h :=
  funext fun j => funext fun d => blk_kv V c t j (vcol h d)
theorem tS_blk (t : Fin cfg7.N) (h : Fin 4) (i : Fin 512) : tS (iblk7 V c 0 t) (iblk7 V c 1 t) (iblk7 V c 2 t) h i
    = aS (qA V c) (kvA V c) (gA V c) (seqOf t) h (trow (tileOf t) i) := by
  unfold aS; rw [tS, tq_blk, tg_blk, tk_blk, tv_blk]

/-! ## What a point leaves -/

theorem outs_A (t : Fin cfg7.N) (h0 : t.val % 4 = 0) : outsAt7 V c t.val t.isLt
    = (tileDq (iblk7 V c 0 t) (iblk7 V c 1 t) (iblk7 V c 2 t),
       fun y => k7_pay3 (F := Ideal) y + tileDkv (iblk7 V c 0 t) (iblk7 V c 1 t) (iblk7 V c 2 t) y) := by
  have e := outsAt7_A V c t h0
  simp only [out_A_3, out_A_4] at e
  exact e

theorem outs_B (t : Fin cfg7.N) (h0 : ¬t.val % 4 = 0) : outsAt7 V c t.val t.isLt
    = (tileDq (iblk7 V c 0 t) (iblk7 V c 1 t) (iblk7 V c 2 t),
       fun y => (outsAt7 V c (t.val - 1) (Nat.lt_of_le_of_lt (Nat.sub_le _ _) t.isLt)).2 y
         + tileDkv (iblk7 V c 0 t) (iblk7 V c 1 t) (iblk7 V c 2 t) y) := by
  have e := outsAt7_B V c t h0
  simp only [out_B_3, out_B_4] at e
  exact e

/-- The start of a sequence's sum is zero. -/
theorem start_zero (y : S1x256x2048.Idx) : k7_pay3 (F := Ideal) y = 0 := Ideal.ofBits_zero_f32

/-! ## The queries' gradient -/

/-- What a point writes back of the queries' gradient is the tile's. -/
theorem after_dq (t : Fin cfg7.N) : (outsAt7 V c t.val t.isLt).1 = tileDq (iblk7 V c 0 t) (iblk7 V c 1 t) (iblk7 V c 2 t) := by
  by_cases h0 : t.val % 4 = 0
  · exact congrArg Prod.fst (outs_A V c t h0)
  · exact congrArg Prod.fst (outs_B V c t h0)

/-- A tile's queries' gradient, in the arrays. -/
theorem tileDq_blk (t : Fin cfg7.N) (i : Fin 512) (d : Fin 1024) : tileDq (iblk7 V c 0 t) (iblk7 V c 1 t) (iblk7 V c 2 t) (ix3 0 i d)
    = dqArr (qA V c) (kvA V c) (gA V c) (ix3 (seqOf t) (trow (tileOf t) i) d) := by
  refine congrArg (fun f => byCol f d) (funext fun h => funext fun d' => ?_)
  refine congrArg (· * _) (Finset.sum_congr rfl fun j _ => ?_)
  exact congr (congrArg _ (congrFun (tS_blk V c t h i) j)) (congrFun (congrFun (tk_blk V c t h) j) d')

theorem final_dq : (dat7 V c).arrAt 3 cfg7.N = dqArr (qA V c) (kvA V c) (gA V c) := by
  refine (dat7 V c).arrAt_eq_of_cover 3 (dqArr (qA V c) (kvA V c) (gA V c)) (fun t _ => ?_) fun i => ?_
  · show (cfg7.win 3).cut (grid7.coords t) ((dat7 V c).after 3 t) = _
    rw [after7_3, after_dq]
    obtain ⟨h0, h1, h2⟩ := index_dq t
    funext x
    rw [View.read_apply]
    have hx : x = ix3 0 (x 1) (x 2) := by rw [eq_ix3 x]; congr 1; exact Subsingleton.elim _ _
    show tileDq (iblk7 V c 0 t) (iblk7 V c 1 t) (iblk7 V c 2 t) x = _
    rw [hx]
    refine (tileDq_blk V c t (x 1) (x 2)).trans ?_
    show dqArr _ _ _ _ = dqArr _ _ _ _
    congr 1
    funext a
    apply Fin.ext
    match a with
    | ⟨0, _⟩ => show t.val / 4 = win7_3.index t 0 * 1 + 1 * 0; rw [h0]; omega
    | ⟨1, _⟩ => show 512 * (t.val % 4) + (x 1).val = win7_3.index t 1 * 512 + 1 * (x 1).val; rw [h1]; omega
    | ⟨2, _⟩ => show (x 2).val = win7_3.index t 2 * 1024 + 1 * (x 2).val; rw [h2]; omega
  · have b0 : (i 0).val < 2 := (i 0).isLt
    have b1 : (i 1).val < 2048 := (i 1).isLt
    have b2 : (i 2).val < 1024 := (i 2).isLt
    have hN : cfg7.N = 8 := N_7
    obtain ⟨t, ht⟩ : ∃ t : Fin cfg7.N, t.val = 4 * (i 0).val + (i 1).val / 512 := ⟨⟨4 * (i 0).val + (i 1).val / 512, by omega⟩, rfl⟩
    refine ⟨t, flush7_3 t, ?_⟩
    show i ∈ ((View.whole main_v11_0).slice (win7_3.rect t)).set
    rw [View.set_slice_whole, Rect.mem_set_unit]
    obtain ⟨h0, h1, h2⟩ := index_dq t
    intro a
    match a with
    | ⟨0, _⟩ => show win7_3.index t 0 * 1 ≤ (i 0).val ∧ (i 0).val < win7_3.index t 0 * 1 + 1; rw [h0]; omega
    | ⟨1, _⟩ => show win7_3.index t 1 * 512 ≤ (i 1).val ∧ (i 1).val < win7_3.index t 1 * 512 + 512; rw [h1]; omega
    | ⟨2, _⟩ => show win7_3.index t 2 * 1024 ≤ (i 2).val ∧ (i 2).val < win7_3.index t 2 * 1024 + 1024; rw [h2]; omega

/-! ## The keys' and the values' gradients -/

/-- The share of the tile at point `n`. -/
def share (n : ℕ) (y : S1x256x2048.Idx) : EReal :=
  if h : n < cfg7.N then tileDkv (iblk7 V c 0 ⟨n, h⟩) (iblk7 V c 1 ⟨n, h⟩) (iblk7 V c 2 ⟨n, h⟩) y else 0

theorem share_at (t : Fin cfg7.N) (y : S1x256x2048.Idx) : share V c t.val y = tileDkv (iblk7 V c 0 t) (iblk7 V c 1 t) (iblk7 V c 2 t) y :=
  dif_pos t.isLt

/-- After a point the block holds the shares of its sequence's tiles so far. -/
theorem after_dkv : ∀ (n : ℕ) (h : n < cfg7.N), (outsAt7 V c n h).2 = fun y => ∑ k ∈ Finset.range (n % 4 + 1), share V c (4 * (n / 4) + k) y := by
  intro n
  induction n with
  | zero =>
    intro h
    refine (congrArg Prod.snd (outs_A V c ⟨0, h⟩ rfl)).trans (funext fun y => ?_)
    dsimp only
    rw [show (0 : ℕ) % 4 + 1 = 1 from rfl, Finset.sum_range_one, ← share_at V c ⟨0, h⟩ y, start_zero, zero_add]
  | succ n ih =>
    intro h
    by_cases h0 : (n + 1) % 4 = 0
    · refine (congrArg Prod.snd (outs_A V c ⟨n + 1, h⟩ h0)).trans (funext fun y => ?_)
      dsimp only
      rw [h0, show (0 : ℕ) + 1 = 1 from rfl, Finset.sum_range_one, ← share_at V c ⟨n + 1, h⟩ y, start_zero, zero_add,
        show 4 * ((n + 1) / 4) + 0 = n + 1 by omega]
    · refine (congrArg Prod.snd (outs_B V c ⟨n + 1, h⟩ h0)).trans (funext fun y => ?_)
      dsimp only
      rw [← share_at V c ⟨n + 1, h⟩ y]
      refine (congrArg (· + _) (congrFun (ih (by omega)) y)).trans ?_
      dsimp only
      rw [show (n + 1) % 4 + 1 = (n % 4 + 1) + 1 by omega, Finset.sum_range_succ _ (n % 4 + 1), show (n + 1) / 4 = n / 4 by omega,
        show 4 * (n / 4) + (n % 4 + 1) = n + 1 by omega]

/-- A tile's share, in the arrays. -/
theorem share_blk (t : Fin cfg7.N) (j : Fin 256) (d : Fin 2048) : share V c t.val (ix3 0 j d)
    = byKvCol (fun h d => (∑ i, aS (qA V c) (kvA V c) (gA V c) (seqOf t) h (trow (tileOf t) i) j * aq (qA V c) (seqOf t) h (trow (tileOf t) i) d)
          * Ideal.ofBits .f32 0x3D800000#32)
        (fun h d => ∑ i, prob (aq (qA V c) (seqOf t) h (trow (tileOf t) i)) (ak (kvA V c) (seqOf t) h) j * aq (gA V c) (seqOf t) h (trow (tileOf t) i) d) d := by
  rw [share_at]
  refine congrArg₂ (fun f g => byKvCol f g d) (funext fun h => funext fun d' => ?_) (funext fun h => funext fun d' => ?_)
  · refine congrArg (· * _) (Finset.sum_congr rfl fun i _ => ?_)
    exact congr (congrArg _ (congrFun (tS_blk V c t h i) j)) (congrFun (tq_blk V c t h i) d')
  · refine Finset.sum_congr rfl fun i _ => ?_
    rw [tq_blk, tk_blk]
    exact congrArg (_ * ·) (congrFun (tg_blk V c t h i) d')

/-- The shares of a sequence's four tiles are the whole sums. -/
theorem shares_sum (t : Fin cfg7.N) (j : Fin 256) (d : Fin 2048) :
    ∑ k ∈ Finset.range 4, share V c (4 * (t.val / 4) + k) (ix3 0 j d) = dkvArr (qA V c) (kvA V c) (gA V c) (ix3 (seqOf t) j d) := by
  have hN : cfg7.N = 8 := N_7
  have ht := t.isLt
  have hk : ∀ k : Fin 4, ∃ p : Fin cfg7.N, p.val = 4 * (t.val / 4) + k.val ∧ seqOf p = seqOf t ∧ tileOf p = k := fun k =>
    ⟨⟨4 * (t.val / 4) + k.val, by omega⟩, rfl, Fin.ext (by simp only [seqOf]; omega), Fin.ext (by simp only [tileOf]; omega)⟩
  choose p hp hs hti using hk
  rw [Finset.sum_range (n := 4)]
  rw [Finset.sum_congr rfl fun k _ => by rw [← hp k, share_blk V c (p k), hs k, hti k], sum_byKvCol]
  refine congrArg₂ (fun f g => byKvCol f g d) (funext fun h => funext fun d' => ?_) (funext fun h => funext fun d' => ?_)
  · rw [← sum_scale]
    exact congrArg (· * _) (sum_rows fun r => aS (qA V c) (kvA V c) (gA V c) (seqOf t) h r j * aq (qA V c) (seqOf t) h r d')
  · exact sum_rows fun r => prob (aq (qA V c) (seqOf t) h r) (ak (kvA V c) (seqOf t) h) j * aq (gA V c) (seqOf t) h r d'

theorem final_dkv : (dat7 V c).arrAt 4 cfg7.N = dkvArr (qA V c) (kvA V c) (gA V c) := by
  refine (dat7 V c).arrAt_eq_of_cover 4 (dkvArr (qA V c) (kvA V c) (gA V c)) (fun t hf => ?_) fun i => ?_
  · have h3 := (flush7_4 t).mp hf
    show (cfg7.win 4).cut (grid7.coords t) ((dat7 V c).after 4 t) = _
    rw [after7_4, after_dkv, h3]
    obtain ⟨h0, h1, h2⟩ := index_dkv t
    funext x
    rw [View.read_apply]
    have hx : x = ix3 0 (x 1) (x 2) := by rw [eq_ix3 x]; congr 1; exact Subsingleton.elim _ _
    show ∑ k ∈ Finset.range 4, share V c (4 * (t.val / 4) + k) x = _
    rw [hx]
    refine (shares_sum V c t (x 1) (x 2)).trans ?_
    show dkvArr _ _ _ _ = dkvArr _ _ _ _
    congr 1
    funext a
    apply Fin.ext
    match a with
    | ⟨0, _⟩ => show t.val / 4 = win7_4.index t 0 * 1 + 1 * 0; rw [h0]; omega
    | ⟨1, _⟩ => show (x 1).val = win7_4.index t 1 * 256 + 1 * (x 1).val; rw [h1]; omega
    | ⟨2, _⟩ => show (x 2).val = win7_4.index t 2 * 2048 + 1 * (x 2).val; rw [h2]; omega
  · have b0 : (i 0).val < 2 := (i 0).isLt
    have b1 : (i 1).val < 256 := (i 1).isLt
    have b2 : (i 2).val < 2048 := (i 2).isLt
    have hN : cfg7.N = 8 := N_7
    obtain ⟨t, ht⟩ : ∃ t : Fin cfg7.N, t.val = 4 * (i 0).val + 3 := ⟨⟨4 * (i 0).val + 3, by omega⟩, rfl⟩
    refine ⟨t, (flush7_4 t).mpr (by omega), ?_⟩
    show i ∈ ((View.whole main_v11_1).slice (win7_4.rect t)).set
    rw [View.set_slice_whole, Rect.mem_set_unit]
    obtain ⟨h0, h1, h2⟩ := index_dkv t
    intro a
    match a with
    | ⟨0, _⟩ => show win7_4.index t 0 * 1 ≤ (i 0).val ∧ (i 0).val < win7_4.index t 0 * 1 + 1; rw [h0]; omega
    | ⟨1, _⟩ => show win7_4.index t 1 * 256 ≤ (i 1).val ∧ (i 1).val < win7_4.index t 1 * 256 + 256; rw [h1]; omega
    | ⟨2, _⟩ => show win7_4.index t 2 * 2048 ≤ (i 2).val ∧ (i 2).val < win7_4.index t 2 * 2048 + 2048; rw [h2]; omega

end Run

end Mem

end
-- ==== Proof.MemDx.lean ====
/- The gradients through the two norms: of the stream that enters the memory attention, and of the norms' weights. -/
module

public import proofs.«01_k».proof.Proof.FfnLoss
public import proofs.«01_k».proof.Proof.Gen.Kernel3Ideal.Frame.Region9
public import proofs.«01_k».proof.Proof.Gen.Kernel3Ideal.Frame.Region11
public import Idealize.ShloMosaic.Lib.Pipeline.ValueKit
public import Idealize.ShloMosaic.Lib.Pipeline.ReadBack

@[expose] public section

set_option maxRecDepth 16384

noncomputable section

namespace Mem

open Ffn Idealize.ShloMosaic Idealize.ShloMosaic.TcCoe Idealize.ShloMosaic.Tactic Cert.Kernel3Ideal Cert.Kernel3Ideal.Gen Idealize.SL.Sem

variable (V : (c : Dev nD) → (b : Ref sig .tc) → Buf (Elt Ideal) ((c : Thread nD τ).loc b)) (c : Dev nD)

/-! ## The payloads -/

section Pay9

variable (p : Mat 512 1024) (w : Mat 1024 1024) (x : Mat 512 1024) (g : Mat 1 1024) (d : Mat 512 1024)

theorem pay9_dh : k9_pay3 (F := Ideal) (up p) (up w) = up (mm p (tr w)) := eq_up fun i j => by
  pointwise [k9_pay3]
  simp only [up_ix2, mm, tr, Attn.coe_sum, EReal.coe_mul]

theorem pay9_rs (i : Fin 512) : k9_pay4 (F := Ideal) (up x) (ix2 i 0) = ((rs x i : ℝ) : EReal) := by
  have er := rs_up x i
  pointwise [k9_pay4]
  exact er

theorem pay9_xh : k9_pay5 (F := Ideal) (up x) = up (xh x) := eq_up fun i j => by
  have er := pay9_rs x i
  unfold k9_pay5
  pointwise
  rw [er]
  simp only [up_ix2, ← EReal.coe_mul, xh]

theorem pay9_dx : k9_pay7 (F := Ideal) (up p) (up w) (up x) (up g) (up d) = up (plus (nrmX x g (mm p (tr w))) d) := eq_up fun i j => by
  have e := pay9_dh p w
  have e' := pay9_xh x
  have er := pay9_rs x i
  unfold k9_pay7
  rw [e, e']
  pointwise
  rw [er]
  simp only [up_ix2, width_val, ← EReal.coe_mul, ← Attn.coe_sum, div_real _ (show (1024 : ℝ) ≠ 0 by norm_num), ← EReal.coe_sub,
    ← EReal.coe_add, nrmX, plus]

theorem pay9_dg (z : Vec Ideal S1x1024 .f32) (j : Fin 1024) :
    k9_pay2 (F := Ideal) (k9_pay6 (up p) (up w) (up x)) z (ix2 0 j) = z (ix2 0 j) + ((nrmG x (mm p (tr w)) 0 j : ℝ) : EReal) := by
  have e := pay9_dh p w
  have e' := pay9_xh x
  unfold k9_pay6
  rw [e, e']
  pointwise [k9_pay2]
  simp only [up_ix2, ← EReal.coe_mul, ← Attn.coe_sum, nrmG]

theorem pay9_zero (j : S1x1024.Idx) : k9_pay1 (F := Ideal) j = 0 := by
  obtain ⟨k, rfl⟩ : ∃ k : Fin 1024, j = ix2 0 k := ⟨j 1, eq_row j⟩
  pointwise [k9_pay1]

end Pay9

section Pay11

variable (p : Mat 512 2048) (w : Mat 1024 2048) (x : Mat 512 1024)

theorem pay11_dh : k11_pay3 (F := Ideal) (up p) (up w) = up (mm p (tr w)) := eq_up fun i j => by
  pointwise [k11_pay3]
  simp only [up_ix2, mm, tr, Attn.coe_sum, EReal.coe_mul]

theorem pay11_rs (i : Fin 512) : k11_pay4 (F := Ideal) (up x) (ix2 i 0) = ((rs x i : ℝ) : EReal) := by
  have er := rs_up x i
  pointwise [k11_pay4]
  exact er

theorem pay11_xh : k11_pay5 (F := Ideal) (up x) = up (xh x) := eq_up fun i j => by
  have er := pay11_rs x i
  unfold k11_pay5
  pointwise
  rw [er]
  simp only [up_ix2, ← EReal.coe_mul, xh]

theorem pay11_zero (j : S1x1024.Idx) : k11_pay1 (F := Ideal) j = 0 := by
  obtain ⟨k, rfl⟩ : ∃ k : Fin 1024, j = ix2 0 k := ⟨j 1, eq_row j⟩
  pointwise [k11_pay1]

theorem pay11_dg : k11_pay2 (F := Ideal) (k11_pay6 (up p) (up w) (up x)) (k11_pay1 (F := Ideal)) = up (nrmG x (mm p (tr w))) := eq_up fun i j => by
  obtain rfl : i = 0 := Subsingleton.elim _ _
  have e := pay11_dh p w
  have e' := pay11_xh x
  have ez := pay11_zero (ix2 0 j)
  unfold k11_pay6
  rw [e, e']
  pointwise [k11_pay2]
  rw [ez, zero_add]
  simp only [up_ix2, ← EReal.coe_mul, ← Attn.coe_sum, nrmG]

end Pay11

/-! ## The stream's gradient -/

theorem idx9 : ∀ t : Fin cfg9.N, win9_0.index t = ![t.val, 0] ∧ win9_1.index t = ![0, 0] ∧ win9_2.index t = ![t.val, 0]
    ∧ win9_3.index t = ![0, 0] ∧ win9_4.index t = ![t.val, 0] ∧ win9_5.index t = ![t.val, 0] ∧ win9_6.index t = ![0, 0] :=
  (by decide +kernel : ∀ t : Fin grid9.N, win9_0.index t = ![t.val, 0] ∧ win9_1.index t = ![0, 0] ∧ win9_2.index t = ![t.val, 0]
    ∧ win9_3.index t = ![0, 0] ∧ win9_4.index t = ![t.val, 0] ∧ win9_5.index t = ![t.val, 0] ∧ win9_6.index t = ![0, 0])

section Run9

variable (p : Mat 4096 1024) (w : Mat 1024 1024) (x : Mat 4096 1024) (g : Mat 1 1024) (d : Mat 4096 1024)

theorem blk9_0 (h : V c main_v12 = up p) (t : Fin cfg9.N) : iblk9 V c 0 t = up (part 512 1024 p (512 * t.val) 0) := eq_up fun i j => by
  blk_simp [iblk9]
  rw [h]
  exact up_at p (by blk_simp [idx9 t]; omega) (by blk_simp [idx9 t]; try omega)
theorem blk9_1 (h : V c main_arg7 = up w) (t : Fin cfg9.N) : iblk9 V c 1 t = up w := eq_up fun i j => by
  blk_simp [iblk9]
  rw [h]
  exact congrArg₂ (fun a b => ((w a b : ℝ) : EReal)) (Fin.ext (by blk_simp [idx9 t]; try omega)) (Fin.ext (by blk_simp [idx9 t]; try omega))
theorem blk9_2 (h : V c main_v0_0 = up x) (t : Fin cfg9.N) : iblk9 V c 2 t = up (part 512 1024 x (512 * t.val) 0) := eq_up fun i j => by
  blk_simp [iblk9]
  rw [h]
  exact up_at x (by blk_simp [idx9 t]; omega) (by blk_simp [idx9 t]; try omega)
theorem blk9_3 (h : V c main_arg6 = up g) (t : Fin cfg9.N) : iblk9 V c 3 t = up g := eq_up fun i j => by
  blk_simp [iblk9]
  rw [h]
  exact congrArg₂ (fun a b => ((g a b : ℝ) : EReal)) (Fin.ext (by blk_simp [idx9 t]; try omega)) (Fin.ext (by blk_simp [idx9 t]; try omega))
theorem blk9_4 (h : V c main_arg4 = up d) (t : Fin cfg9.N) : iblk9 V c 4 t = up (part 512 1024 d (512 * t.val) 0) := eq_up fun i j => by
  blk_simp [iblk9]
  rw [h]
  exact up_at d (by blk_simp [idx9 t]; omega) (by blk_simp [idx9 t]; try omega)

theorem rows9 (t : Fin cfg9.N) : 512 * t.val + 512 ≤ 4096 := by
  have := lt_of_lt_of_eq t.isLt N_9
  omega

/-- What a point computes, of its rows. -/
theorem tile9_dx (t : Fin cfg9.N) :
    k9_pay7 (F := Ideal) (up (part 512 1024 p (512 * t.val) 0)) (up w) (up (part 512 1024 x (512 * t.val) 0)) (up g)
      (up (part 512 1024 d (512 * t.val) 0)) = up (part 512 1024 (plus (nrmX x g (mm p (tr w))) d) (512 * t.val) 0) := by
  rw [pay9_dx, part_plus, part_nrmX _ _ _ (rows9 t), part_rows_mm]

theorem tile9_dg (t : Fin cfg9.N) (z : Vec Ideal S1x1024 .f32) (j : S1x1024.Idx) :
    k9_pay2 (F := Ideal) (k9_pay6 (up (part 512 1024 p (512 * t.val) 0)) (up w) (up (part 512 1024 x (512 * t.val) 0))) z j
      = z j + ((nrmG (part 512 1024 x (512 * t.val) 0) (part 512 1024 (mm p (tr w)) (512 * t.val) 0) 0 (j 1) : ℝ) : EReal) := by
  obtain ⟨k, rfl⟩ : ∃ k : Fin 1024, j = ix2 0 k := ⟨j 1, eq_row j⟩
  rw [pay9_dg, part_rows_mm]
  rfl

variable (hp : V c main_v12 = up p) (hw : V c main_arg7 = up w) (hx : V c main_v0_0 = up x)
  (hg : V c main_arg6 = up g) (hd : V c main_arg4 = up d)
include hp hw hx hg hd

theorem final9_5 : (dat9 V c).arrAt 5 cfg9.N = up (plus (nrmX x g (mm p (tr w))) d) := by
  refine (dat9 V c).arrAt_eq_of_covers 5 _ (by decide +kernel) fun t hf y => ?_
  blk_simp
  rw [after9_5]
  by_cases h0 : t.val % 8 = 0
  · rw [outsAt9_A V c t h0]
    frame_out
    rw [blk9_0 V c p hp t, blk9_1 V c w hw t, blk9_2 V c x hx t, blk9_3 V c g hg t, blk9_4 V c d hd t, tile9_dx]
    exact up_part _ (by blk_simp [idx9 t]; omega) (by blk_simp [idx9 t]; try omega)
  · rw [outsAt9_B V c t h0]
    frame_out
    rw [blk9_0 V c p hp t, blk9_1 V c w hw t, blk9_2 V c x hx t, blk9_3 V c g hg t, blk9_4 V c d hd t, tile9_dx]
    exact up_part _ (by blk_simp [idx9 t]; omega) (by blk_simp [idx9 t]; try omega)

theorem final9_6 : (dat9 V c).arrAt 6 cfg9.N = up (nrmG x (mm p (tr w))) := by
  refine (dat9 V c).arrAt_eq_of_after_last 6 t9_7 (by decide +kernel) _ fun j => ?_
  blk_simp
  rw [after9_6, Pipeline.eq_sum_fin_of_reset_step_apply_last (fun n h => (outsAt9 V c n h).2) 8 (fun _ => 0)
    (fun t j => ((nrmG (part 512 1024 x (512 * t.val) 0) (part 512 1024 (mm p (tr w)) (512 * t.val) 0) 0 (j 1) : ℝ) : EReal))
    (fun t h j => by
      rw [outsAt9_A V c t h]
      frame_out
      rw [blk9_0 V c p hp t, blk9_1 V c w hw t, blk9_2 V c x hx t, tile9_dg, pay9_zero])
    (fun t h j => by
      rw [outsAt9_B V c t h]
      frame_out
      rw [blk9_0 V c p hp t, blk9_1 V c w hw t, blk9_2 V c x hx t, tile9_dg])
    (le_of_eq N_9) t9_7 rfl _, zero_add, ← Attn.coe_sum]
  exact congrArg (fun r : ℝ => (r : EReal)) (tiles_nrmG _ _ _)

end Run9

/-! ## The gradient of the weights of the memory's norm -/

theorem idx11 : ∀ t : Fin cfg11.N, win11_0.index t = ![0, 0] ∧ win11_1.index t = ![0, 0] ∧ win11_2.index t = ![0, 0]
    ∧ win11_5.index t = ![0, 0] :=
  (by decide +kernel : ∀ t : Fin grid11.N, win11_0.index t = ![0, 0] ∧ win11_1.index t = ![0, 0] ∧ win11_2.index t = ![0, 0]
    ∧ win11_5.index t = ![0, 0])

section Run11

variable (p : Mat 512 2048) (w : Mat 1024 2048) (x : Mat 512 1024)

theorem blk11_0 (h : V c main_v13 = up p) (t : Fin cfg11.N) : iblk11 V c 0 t = up p := eq_up fun i j => by
  blk_simp [iblk11]
  rw [h]
  exact congrArg₂ (fun a b => ((p a b : ℝ) : EReal)) (Fin.ext (by blk_simp [idx11 t]; try omega)) (Fin.ext (by blk_simp [idx11 t]; try omega))
theorem blk11_1 (h : V c main_arg9 = up w) (t : Fin cfg11.N) : iblk11 V c 1 t = up w := eq_up fun i j => by
  blk_simp [iblk11]
  rw [h]
  exact congrArg₂ (fun a b => ((w a b : ℝ) : EReal)) (Fin.ext (by blk_simp [idx11 t]; try omega)) (Fin.ext (by blk_simp [idx11 t]; try omega))
theorem blk11_2 (h : V c main_arg3 = up x) (t : Fin cfg11.N) : iblk11 V c 2 t = up x := eq_up fun i j => by
  blk_simp [iblk11]
  rw [h]
  exact congrArg₂ (fun a b => ((x a b : ℝ) : EReal)) (Fin.ext (by blk_simp [idx11 t]; try omega)) (Fin.ext (by blk_simp [idx11 t]; try omega))

variable (hp : V c main_v13 = up p) (hw : V c main_arg9 = up w) (hx : V c main_arg3 = up x)
include hp hw hx

theorem final11_5 : (dat11 V c).arrAt 5 cfg11.N = up (nrmG x (mm p (tr w))) := by
  refine (dat11 V c).arrAt_eq_of_covers 5 _ (by decide +kernel) fun t hf y => ?_
  blk_simp
  rw [after11_5]
  unfold outsAt11
  frame_out
  rw [blk11_0 V c p hp t, blk11_1 V c w hw t, blk11_2 V c x hx t, pay11_dg, ← part_all (nrmG x (mm p (tr w)))]
  conv_rhs => rw [part_all]
  exact up_part _ (by blk_simp [idx11 t]; try omega) (by blk_simp [idx11 t]; try omega)

end Run11

end Mem

end
-- ==== Proof.MemRun.lean ====
/- The fifteen kernels of the memory block in their order: what each leaves, as functions of the arguments, and the run. -/
module

public import proofs.«01_k».proof.Proof.MemHead
public import proofs.«01_k».proof.Proof.MemFwd
public import proofs.«01_k».proof.Proof.MemDense
public import proofs.«01_k».proof.Proof.MemBwd
public import proofs.«01_k».proof.Proof.MemDx
public import proofs.«01_k».proof.Proof.Gen.Kernel3Ideal.Frame

@[expose] public section

set_option maxRecDepth 16384

noncomputable section

namespace Mem

open Ffn Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The run, to any fact about the last contents -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each buffer at the last boundary's contents. -/
theorem run_last : θ_run (defs (F := Ideal)) (onTc (τ := τ) (main (F := Ideal))) ⟨m, fun _ => 0, ρ⟩ (fun r => ∀ c : Dev nD,
      ∀ b : Ref sig .tc, ¬ (Proc.devRef .tc b : DevRef τ sig).isScoped →
        r.2.mem ((c.tc : Thread nD τ).loc b) = W20 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => fun c b hb => h c _ (mem_uc b hb))

/-! ## The boundaries -/

section Fold

variable (c : Dev nD)
variable (x : Mat 4096 1024) (cv av : Mat 4096 512) (me : Mat 512 1024) (d : Mat 4096 1024) (wo : Mat 1024 1024) (gx : Mat 1 1024)
  (wq : Mat 1024 1024) (gm : Mat 1 1024) (wkv : Mat 1024 2048) (wm : Mat 1024 1024)

/-- The arguments are the real matrices. -/
structure Args : Prop where
  x : m ((c : Thread nD τ).loc main_arg0) = up x
  cv : m ((c : Thread nD τ).loc main_arg1) = up cv
  av : m ((c : Thread nD τ).loc main_arg2) = up av
  me : m ((c : Thread nD τ).loc main_arg3) = up me
  d : m ((c : Thread nD τ).loc main_arg4) = up d
  wo : m ((c : Thread nD τ).loc main_arg5) = up wo
  gx : m ((c : Thread nD τ).loc main_arg6) = up gx
  wq : m ((c : Thread nD τ).loc main_arg7) = up wq
  gm : m ((c : Thread nD τ).loc main_arg8) = up gm
  wkv : m ((c : Thread nD τ).loc main_arg9) = up wkv
  wm : m ((c : Thread nD τ).loc main_arg10) = up wm

variable {m c x cv av me d wo gx wq gm wkv wm} (A : Args m c x cv av me d wo gx wq gm wkv wm)
include A

theorem at1_sx : V1 m ρ c main_v0_0 = up (sX x cv av wo) :=
  (hF0 m ρ c 6).symm.trans (final0_6 (V0 m ρ) c cv av wo x A.cv A.av A.wo A.x)
theorem at1_sh : V1 m ρ c main_v0_1 = up (sH x cv av wo gx) :=
  (hF0 m ρ c 7).symm.trans (final0_7 (V0 m ρ) c cv av wo x gx A.cv A.av A.wo A.x A.gx)
theorem at1_sht : V1 m ρ c main_v0_2 = up (tr (sH x cv av wo gx)) :=
  (hF0 m ρ c 8).symm.trans (final0_8 (V0 m ρ) c cv av wo x gx A.cv A.av A.wo A.x A.gx)
theorem at1_wq : V1 m ρ c main_arg7 = up wq := (W1_args m ρ c main_arg7 (by decide)).trans A.wq
theorem at2_q : V2 m ρ c main_v1 = up (sQ x cv av wo gx wq) :=
  (hF1 m ρ c 2).symm.trans (final1 (V1 m ρ) c _ _ (at1_sh ρ A) (at1_wq ρ A))
theorem at2_me : V2 m ρ c main_arg3 = up me := (W2_args m ρ c main_arg3 (by decide)).trans A.me
theorem at2_gm : V2 m ρ c main_arg8 = up gm := (W2_args m ρ c main_arg8 (by decide)).trans A.gm
theorem at3_mn : V3 m ρ c main_v2_0 = up (sM me gm) :=
  (hF2 m ρ c 2).symm.trans (final2_2 (V2 m ρ) c _ _ (at2_me ρ A) (at2_gm ρ A))
theorem at3_mnt : V3 m ρ c main_v2_1 = up (tr (sM me gm)) :=
  (hF2 m ρ c 3).symm.trans (final2_3 (V2 m ρ) c _ _ (at2_me ρ A) (at2_gm ρ A))
theorem at3_wkv : V3 m ρ c main_arg9 = up wkv := (W3_args m ρ c main_arg9 (by decide)).trans A.wkv
theorem at4_kv : V4 m ρ c main_v3 = up (sKV me gm wkv) :=
  (hF3 m ρ c 2).symm.trans (final3 (V3 m ρ) c _ _ (at3_mn ρ A) (at3_wkv ρ A))
theorem at5_kv3 : V5 m ρ c main_v4 = up3 (cut 256 rfl (sKV me gm wkv)) := by
  have e : W4 m ρ c (Proc.devRef .tc main_v3) = up (sKV me gm wkv) := (at4_kv ρ A)
  show StableHlo.after hostOps4 (W4 m ρ c) (Proc.devRef .tc main_v4) = _
  after_results
  rw [e]
  refine eq_up3 fun b r k => ?_
  pointwise
  exact read_cut rfl _ b r _ k
theorem at4_q : V4 m ρ c main_v1 = up (sQ x cv av wo gx wq) :=
  (W4_of m ρ c main_v1 (by decide +kernel)).trans <|
  (W3_of m ρ c main_v1 (by decide +kernel)).trans (at2_q ρ A)
theorem at5_q3 : V5 m ρ c main_v5 = up3 (cut 2048 rfl (sQ x cv av wo gx wq)) := by
  have e : W4 m ρ c (Proc.devRef .tc main_v1) = up (sQ x cv av wo gx wq) := (at4_q ρ A)
  show StableHlo.after hostOps4 (W4 m ρ c) (Proc.devRef .tc main_v5) = _
  after_results
  rw [e]
  refine eq_up3 fun b r k => ?_
  pointwise
  exact read_cut rfl _ b r _ k
theorem at6_att : V6 m ρ c main_v6_1 = up (tr (sAtt x cv av me wo gx wq gm wkv)) :=
  (hF4 m ρ c 3).symm.trans (final4_3 (V5 m ρ) c _ _ (at5_q3 ρ A) (at5_kv3 ρ A))
theorem at6_d : V6 m ρ c main_arg4 = up d := (W6_args m ρ c main_arg4 (by decide)).trans A.d
theorem at7_gMo : V7 m ρ c main_v7 = up (gMo x cv av me d wo gx wq gm wkv) :=
  (hF5 m ρ c 2).symm.trans (final5 (V6 m ρ) c _ _ (at6_att ρ A) (at6_d ρ A))
theorem at7_d : V7 m ρ c main_arg4 = up d := (W7_args m ρ c main_arg4 (by decide)).trans A.d
theorem at7_wm : V7 m ρ c main_arg10 = up wm := (W7_args m ρ c main_arg10 (by decide)).trans A.wm
theorem at8_do : V8 m ρ c main_v8 = up (sDo d wm) :=
  (hF6 m ρ c 2).symm.trans (final6 (V7 m ρ) c _ _ (at7_d ρ A) (at7_wm ρ A))
theorem at8_q : V8 m ρ c main_v1 = up (sQ x cv av wo gx wq) :=
  (W8_of m ρ c main_v1 (by decide +kernel)).trans <|
  (W7_of m ρ c main_v1 (by decide +kernel)).trans <|
  (W6_of m ρ c main_v1 (by decide +kernel)).trans <|
  (W5_of m ρ c main_v1 (by decide)).trans (at4_q ρ A)
theorem at9_q3b : V9 m ρ c main_v9 = up3 (cut 2048 rfl (sQ x cv av wo gx wq)) := by
  have e : W8 m ρ c (Proc.devRef .tc main_v1) = up (sQ x cv av wo gx wq) := (at8_q ρ A)
  show StableHlo.after hostOps7 (W8 m ρ c) (Proc.devRef .tc main_v9) = _
  after_results
  rw [e]
  refine eq_up3 fun b r k => ?_
  pointwise
  exact read_cut rfl _ b r _ k
theorem at9_g3 : V9 m ρ c main_v10 = up3 (cut 2048 rfl (sDo d wm)) := by
  have e : W8 m ρ c (Proc.devRef .tc main_v8) = up (sDo d wm) := (at8_do ρ A)
  show StableHlo.after hostOps7 (W8 m ρ c) (Proc.devRef .tc main_v10) = _
  after_results
  rw [e]
  refine eq_up3 fun b r k => ?_
  pointwise
  exact read_cut rfl _ b r _ k
theorem at9_kv3 : V9 m ρ c main_v4 = up3 (cut 256 rfl (sKV me gm wkv)) :=
  (W9_of m ρ c main_v4 (by decide)).trans <|
  (W8_of m ρ c main_v4 (by decide +kernel)).trans <|
  (W7_of m ρ c main_v4 (by decide +kernel)).trans <|
  (W6_of m ρ c main_v4 (by decide +kernel)).trans (at5_kv3 ρ A)
theorem at10_dq3 : V10 m ρ c main_v11_0 =
    up3 (dq (cut 2048 rfl (sQ x cv av wo gx wq)) (cut 256 rfl (sKV me gm wkv)) (cut 2048 rfl (sDo d wm))) := by
  refine (hF7 m ρ c 3).symm.trans ((final_dq (V9 m ρ) c).trans ?_)
  rw [show qA (V9 m ρ) c = _ from at9_q3b ρ A, show kvA (V9 m ρ) c = _ from at9_kv3 ρ A, show gA (V9 m ρ) c = _ from at9_g3 ρ A, dqArr_up]
theorem at10_dkv3 : V10 m ρ c main_v11_1 =
    up3 (dkv (cut 2048 rfl (sQ x cv av wo gx wq)) (cut 256 rfl (sKV me gm wkv)) (cut 2048 rfl (sDo d wm))) := by
  refine (hF7 m ρ c 4).symm.trans ((final_dkv (V9 m ρ) c).trans ?_)
  rw [show qA (V9 m ρ) c = _ from at9_q3b ρ A, show kvA (V9 m ρ) c = _ from at9_kv3 ρ A, show gA (V9 m ρ) c = _ from at9_g3 ρ A, dkvArr_up]
theorem at11_dq : V11 m ρ c main_v12 = up (sDq x cv av me d wo gx wq gm wkv wm) := by
  have e : W10 m ρ c (Proc.devRef .tc main_v11_0) = up3 (dq (cut 2048 rfl (sQ x cv av wo gx wq)) (cut 256 rfl (sKV me gm wkv)) (cut 2048 rfl (sDo d wm))) := (at10_dq3 ρ A)
  show StableHlo.after hostOps8 (W10 m ρ c) (Proc.devRef .tc main_v12) = _
  after_results
  rw [e]
  refine eq_up fun i k => ?_
  pointwise
  rfl
theorem at11_dkv : V11 m ρ c main_v13 = up (sDkv x cv av me d wo gx wq gm wkv wm) := by
  have e : W10 m ρ c (Proc.devRef .tc main_v11_1) = up3 (dkv (cut 2048 rfl (sQ x cv av wo gx wq)) (cut 256 rfl (sKV me gm wkv)) (cut 2048 rfl (sDo d wm))) := (at10_dkv3 ρ A)
  show StableHlo.after hostOps8 (W10 m ρ c) (Proc.devRef .tc main_v13) = _
  after_results
  rw [e]
  refine eq_up fun i k => ?_
  pointwise
  rfl
theorem at11_sht : V11 m ρ c main_v0_2 = up (tr (sH x cv av wo gx)) :=
  (W11_of m ρ c main_v0_2 (by decide)).trans <|
  (W10_of m ρ c main_v0_2 (by decide +kernel)).trans <|
  (W9_of m ρ c main_v0_2 (by decide)).trans <|
  (W8_of m ρ c main_v0_2 (by decide +kernel)).trans <|
  (W7_of m ρ c main_v0_2 (by decide +kernel)).trans <|
  (W6_of m ρ c main_v0_2 (by decide +kernel)).trans <|
  (W5_of m ρ c main_v0_2 (by decide)).trans <|
  (W4_of m ρ c main_v0_2 (by decide +kernel)).trans <|
  (W3_of m ρ c main_v0_2 (by decide +kernel)).trans <|
  (W2_of m ρ c main_v0_2 (by decide +kernel)).trans (at1_sht ρ A)
theorem at12_gMq : V12 m ρ c main_v14 = up (gMq x cv av me d wo gx wq gm wkv wm) :=
  (hF8 m ρ c 2).symm.trans (final8 (V11 m ρ) c _ _ (at11_sht ρ A) (at11_dq ρ A))
theorem at12_dq : V12 m ρ c main_v12 = up (sDq x cv av me d wo gx wq gm wkv wm) :=
  (W12_of m ρ c main_v12 (by decide +kernel)).trans (at11_dq ρ A)
theorem at12_wq : V12 m ρ c main_arg7 = up wq := (W12_args m ρ c main_arg7 (by decide)).trans A.wq
theorem at12_sx : V12 m ρ c main_v0_0 = up (sX x cv av wo) :=
  (W12_of m ρ c main_v0_0 (by decide +kernel)).trans <|
  (W11_of m ρ c main_v0_0 (by decide)).trans <|
  (W10_of m ρ c main_v0_0 (by decide +kernel)).trans <|
  (W9_of m ρ c main_v0_0 (by decide)).trans <|
  (W8_of m ρ c main_v0_0 (by decide +kernel)).trans <|
  (W7_of m ρ c main_v0_0 (by decide +kernel)).trans <|
  (W6_of m ρ c main_v0_0 (by decide +kernel)).trans <|
  (W5_of m ρ c main_v0_0 (by decide)).trans <|
  (W4_of m ρ c main_v0_0 (by decide +kernel)).trans <|
  (W3_of m ρ c main_v0_0 (by decide +kernel)).trans <|
  (W2_of m ρ c main_v0_0 (by decide +kernel)).trans (at1_sx ρ A)
theorem at12_gx : V12 m ρ c main_arg6 = up gx := (W12_args m ρ c main_arg6 (by decide)).trans A.gx
theorem at12_d : V12 m ρ c main_arg4 = up d := (W12_args m ρ c main_arg4 (by decide)).trans A.d
theorem at13_gX : V13 m ρ c main_v15_0 = up (gX x cv av me d wo gx wq gm wkv wm) :=
  (hF9 m ρ c 5).symm.trans (final9_5 (V12 m ρ) c _ _ _ _ _ (at12_dq ρ A) (at12_wq ρ A) (at12_sx ρ A) (at12_gx ρ A) (at12_d ρ A))
theorem at13_gGx : V13 m ρ c main_v15_1 = up (gGx x cv av me d wo gx wq gm wkv wm) :=
  (hF9 m ρ c 6).symm.trans (final9_6 (V12 m ρ) c _ _ _ _ _ (at12_dq ρ A) (at12_wq ρ A) (at12_sx ρ A) (at12_gx ρ A) (at12_d ρ A))
theorem at13_mnt : V13 m ρ c main_v2_1 = up (tr (sM me gm)) :=
  (W13_of m ρ c main_v2_1 (by decide +kernel)).trans <|
  (W12_of m ρ c main_v2_1 (by decide +kernel)).trans <|
  (W11_of m ρ c main_v2_1 (by decide)).trans <|
  (W10_of m ρ c main_v2_1 (by decide +kernel)).trans <|
  (W9_of m ρ c main_v2_1 (by decide)).trans <|
  (W8_of m ρ c main_v2_1 (by decide +kernel)).trans <|
  (W7_of m ρ c main_v2_1 (by decide +kernel)).trans <|
  (W6_of m ρ c main_v2_1 (by decide +kernel)).trans <|
  (W5_of m ρ c main_v2_1 (by decide)).trans <|
  (W4_of m ρ c main_v2_1 (by decide +kernel)).trans (at3_mnt ρ A)
theorem at13_dkv : V13 m ρ c main_v13 = up (sDkv x cv av me d wo gx wq gm wkv wm) :=
  (W13_of m ρ c main_v13 (by decide +kernel)).trans <|
  (W12_of m ρ c main_v13 (by decide +kernel)).trans (at11_dkv ρ A)
theorem at14_gMkv : V14 m ρ c main_v16 = up (gMkv x cv av me d wo gx wq gm wkv wm) :=
  (hF10 m ρ c 2).symm.trans (final10 (V13 m ρ) c _ _ (at13_mnt ρ A) (at13_dkv ρ A))
theorem at14_dkv : V14 m ρ c main_v13 = up (sDkv x cv av me d wo gx wq gm wkv wm) :=
  (W14_of m ρ c main_v13 (by decide +kernel)).trans (at13_dkv ρ A)
theorem at14_wkv : V14 m ρ c main_arg9 = up wkv := (W14_args m ρ c main_arg9 (by decide)).trans A.wkv
theorem at14_me : V14 m ρ c main_arg3 = up me := (W14_args m ρ c main_arg3 (by decide)).trans A.me
theorem at15_gGm : V15 m ρ c main_v17_1 = up (gGm x cv av me d wo gx wq gm wkv wm) :=
  (hF11 m ρ c 5).symm.trans (final11_5 (V14 m ρ) c _ _ _ (at14_dkv ρ A) (at14_wkv ρ A) (at14_me ρ A))
theorem at15_cv : V15 m ρ c main_arg1 = up cv := (W15_args m ρ c main_arg1 (by decide)).trans A.cv
theorem at16_cvt : V16 m ρ c main_v18 = up (tr cv) := by
  have e : W15 m ρ c (Proc.devRef .tc main_arg1) = up cv := (at15_cv ρ A)
  show StableHlo.after hostOps12 (W15 m ρ c) (Proc.devRef .tc main_v18) = _
  after_results
  rw [e]
  refine eq_up fun i k => ?_
  pointwise
  rfl
theorem at16_gX : V16 m ρ c main_v15_0 = up (gX x cv av me d wo gx wq gm wkv wm) :=
  (W16_of m ρ c main_v15_0 (by decide)).trans <|
  (W15_of m ρ c main_v15_0 (by decide +kernel)).trans <|
  (W14_of m ρ c main_v15_0 (by decide +kernel)).trans (at13_gX ρ A)
theorem at17_gOutC : V17 m ρ c main_v19 = up (gOutC x cv av me d wo gx wq gm wkv wm) :=
  (hF12 m ρ c 2).symm.trans (final12 (V16 m ρ) c _ _ (at16_cvt ρ A) (at16_gX ρ A))
theorem at17_av : V17 m ρ c main_arg2 = up av := (W17_args m ρ c main_arg2 (by decide)).trans A.av
theorem at18_avt : V18 m ρ c main_v20 = up (tr av) := by
  have e : W17 m ρ c (Proc.devRef .tc main_arg2) = up av := (at17_av ρ A)
  show StableHlo.after hostOps13 (W17 m ρ c) (Proc.devRef .tc main_v20) = _
  after_results
  rw [e]
  refine eq_up fun i k => ?_
  pointwise
  rfl
theorem at18_gX : V18 m ρ c main_v15_0 = up (gX x cv av me d wo gx wq gm wkv wm) :=
  (W18_of m ρ c main_v15_0 (by decide)).trans <|
  (W17_of m ρ c main_v15_0 (by decide +kernel)).trans (at16_gX ρ A)
theorem at19_gOutA : V19 m ρ c main_v21 = up (gOutA x cv av me d wo gx wq gm wkv wm) :=
  (hF13 m ρ c 2).symm.trans (final13 (V18 m ρ) c _ _ (at18_avt ρ A) (at18_gX ρ A))
theorem at19_gX : V19 m ρ c main_v15_0 = up (gX x cv av me d wo gx wq gm wkv wm) :=
  (W19_of m ρ c main_v15_0 (by decide +kernel)).trans (at18_gX ρ A)
theorem at19_wo : V19 m ρ c main_arg5 = up wo := (W19_args m ρ c main_arg5 (by decide)).trans A.wo
theorem at20_gCat : V20 m ρ c main_v22 = up (gCat x cv av me d wo gx wq gm wkv wm) :=
  (hF14 m ρ c 2).symm.trans (final14 (V19 m ρ) c _ _ (at19_gX ρ A) (at19_wo ρ A))
theorem at20_gMo : V20 m ρ c main_v7 = up (gMo x cv av me d wo gx wq gm wkv) :=
  (W20_of m ρ c main_v7 (by decide +kernel)).trans <|
  (W19_of m ρ c main_v7 (by decide +kernel)).trans <|
  (W18_of m ρ c main_v7 (by decide)).trans <|
  (W17_of m ρ c main_v7 (by decide +kernel)).trans <|
  (W16_of m ρ c main_v7 (by decide)).trans <|
  (W15_of m ρ c main_v7 (by decide +kernel)).trans <|
  (W14_of m ρ c main_v7 (by decide +kernel)).trans <|
  (W13_of m ρ c main_v7 (by decide +kernel)).trans <|
  (W12_of m ρ c main_v7 (by decide +kernel)).trans <|
  (W11_of m ρ c main_v7 (by decide)).trans <|
  (W10_of m ρ c main_v7 (by decide +kernel)).trans <|
  (W9_of m ρ c main_v7 (by decide)).trans <|
  (W8_of m ρ c main_v7 (by decide +kernel)).trans (at7_gMo ρ A)
theorem at20_gMq : V20 m ρ c main_v14 = up (gMq x cv av me d wo gx wq gm wkv wm) :=
  (W20_of m ρ c main_v14 (by decide +kernel)).trans <|
  (W19_of m ρ c main_v14 (by decide +kernel)).trans <|
  (W18_of m ρ c main_v14 (by decide)).trans <|
  (W17_of m ρ c main_v14 (by decide +kernel)).trans <|
  (W16_of m ρ c main_v14 (by decide)).trans <|
  (W15_of m ρ c main_v14 (by decide +kernel)).trans <|
  (W14_of m ρ c main_v14 (by decide +kernel)).trans <|
  (W13_of m ρ c main_v14 (by decide +kernel)).trans (at12_gMq ρ A)
theorem at20_gX : V20 m ρ c main_v15_0 = up (gX x cv av me d wo gx wq gm wkv wm) :=
  (W20_of m ρ c main_v15_0 (by decide +kernel)).trans (at19_gX ρ A)
theorem at20_gGx : V20 m ρ c main_v15_1 = up (gGx x cv av me d wo gx wq gm wkv wm) :=
  (W20_of m ρ c main_v15_1 (by decide +kernel)).trans <|
  (W19_of m ρ c main_v15_1 (by decide +kernel)).trans <|
  (W18_of m ρ c main_v15_1 (by decide)).trans <|
  (W17_of m ρ c main_v15_1 (by decide +kernel)).trans <|
  (W16_of m ρ c main_v15_1 (by decide)).trans <|
  (W15_of m ρ c main_v15_1 (by decide +kernel)).trans <|
  (W14_of m ρ c main_v15_1 (by decide +kernel)).trans (at13_gGx ρ A)
theorem at20_gMkv : V20 m ρ c main_v16 = up (gMkv x cv av me d wo gx wq gm wkv wm) :=
  (W20_of m ρ c main_v16 (by decide +kernel)).trans <|
  (W19_of m ρ c main_v16 (by decide +kernel)).trans <|
  (W18_of m ρ c main_v16 (by decide)).trans <|
  (W17_of m ρ c main_v16 (by decide +kernel)).trans <|
  (W16_of m ρ c main_v16 (by decide)).trans <|
  (W15_of m ρ c main_v16 (by decide +kernel)).trans (at14_gMkv ρ A)
theorem at20_gGm : V20 m ρ c main_v17_1 = up (gGm x cv av me d wo gx wq gm wkv wm) :=
  (W20_of m ρ c main_v17_1 (by decide +kernel)).trans <|
  (W19_of m ρ c main_v17_1 (by decide +kernel)).trans <|
  (W18_of m ρ c main_v17_1 (by decide)).trans <|
  (W17_of m ρ c main_v17_1 (by decide +kernel)).trans <|
  (W16_of m ρ c main_v17_1 (by decide)).trans (at15_gGm ρ A)
theorem at20_gOutC : V20 m ρ c main_v19 = up (gOutC x cv av me d wo gx wq gm wkv wm) :=
  (W20_of m ρ c main_v19 (by decide +kernel)).trans <|
  (W19_of m ρ c main_v19 (by decide +kernel)).trans <|
  (W18_of m ρ c main_v19 (by decide)).trans (at17_gOutC ρ A)
theorem at20_gOutA : V20 m ρ c main_v21 = up (gOutA x cv av me d wo gx wq gm wkv wm) :=
  (W20_of m ρ c main_v21 (by decide +kernel)).trans (at19_gOutA ρ A)

end Fold

end Mem

end
-- ==== Proof.MemRef.lean ====
/- The reference's nine results for the memory block: the same matrices as the kernels'. -/
module

public import proofs.«01_k».proof.Proof.MemStep
public import proofs.«01_k».proof.Proof.FfnRef
public import proofs.«01_k».proof.Proof.RefValue
public import proofs.«01_k».proof.Proof.Gen.Reference3Ideal.Read
public import Idealize.ShloMosaic.Lib.Pointwise.Tactic
public import Idealize.ShloMosaic.Lib.KernelVsHost

@[expose] public section

set_option maxRecDepth 16384

noncomputable section

namespace Mem

open Idealize.ShloMosaic Cert.Reference3Ideal Cert.Reference3Ideal.Read
open Ffn (Mat up up_ix2 eq_up mm tr plus ms ms_pos rs rsqrt_real xh nrm nrmG nrmX nrmX_rules div_real width_val eps_val negHalf_val)
open Attn (aq ak aS rowS prob mx ex dsRef dsRef_eq div_sixteen sum_scale max_mx col kcol vcol col_onto kvcol_onto byCol_col byKvCol_kcol
  byKvCol_vcol head_col)

section Ref

variable (x : Mat 4096 1024) (cv va : Mat 4096 512) (me : Mat 512 1024) (d : Mat 4096 1024) (wo : Mat 1024 1024) (gx : Mat 1 1024)
  (wq : Mat 1024 1024) (gm : Mat 1 1024) (wkv : Mat 1024 2048) (wm : Mat 1024 1024)

theorem v2_at (i : Fin 4096) (j : Fin 1024) :
    val_main_v2 (F := Ideal) (up cv) (up va) (ix2 i j) = ((beside cv va i j : ℝ) : EReal) := by
  pointwise [val_main_v2, val_main_v0, val_main_v1]
  unfold beside
  split_ifs <;> rfl

theorem v8_at (i : Fin 4096) (j : Fin 1024) :
    val_main_v8 (F := Ideal) (up x) (up cv) (up va) (up wo) (ix2 i j) = ((sX x cv va wo i j : ℝ) : EReal) := by
  pointwise [val_main_v8, val_main_v7, val_main_v3, v2_at]
  rw [sX, strm, res2, ← mm_beside]
  simp only [up_ix2, plus, mm, Attn.coe_sum, EReal.coe_mul, EReal.coe_add]
  exact add_comm _ _

theorem v15_at (i : Fin 4096) :
    val_main_v15 (F := Ideal) (up x) (up cv) (up va) (up wo) (ix2 i 0) = ((ms (sX x cv va wo) i : ℝ) : EReal) := by
  pointwise [val_main_v15, val_main_v14, val_main_cst_1, val_main_v13, val_main_v12, val_main_cst_0, val_main_v11, val_main_v10, val_main_cst, val_main_v9, v8_at]
  simp only [up_ix2, width_val, eps_val, ← EReal.coe_mul, ← Attn.coe_sum]
  rw [div_real _ (by norm_num), ← EReal.coe_add]
  rfl

theorem v16_at (i : Fin 4096) :
    val_main_v16 (F := Ideal) (up x) (up cv) (up va) (up wo) (ix2 i 0) = ((rs (sX x cv va wo) i : ℝ) : EReal) := by
  pointwise [val_main_v16, v15_at]
  exact rsqrt_real (ms_pos _ i)

theorem v21_at (i : Fin 4096) (j : Fin 1024) :
    val_main_v21 (F := Ideal) (up x) (up cv) (up va) (up wo) (ix2 i j) = ((xh (sX x cv va wo) i j : ℝ) : EReal) := by
  pointwise [val_main_v21, val_main_v20, v16_at, v8_at]
  simp only [up_ix2, xh, EReal.coe_mul]

theorem v23_at (i : Fin 4096) (j : Fin 1024) :
    val_main_v23 (F := Ideal) (up x) (up cv) (up va) (up wo) (up gx) (ix2 i j) = ((sH x cv va wo gx i j : ℝ) : EReal) := by
  pointwise [val_main_v23, val_main_v22, v21_at]
  simp only [up_ix2, sH, nrm, EReal.coe_mul]

theorem v32_at (i : Fin 512) :
    val_main_v32 (F := Ideal) (up me) (ix2 i 0) = ((ms me i : ℝ) : EReal) := by
  pointwise [val_main_v32, val_main_v31, val_main_cst_5, val_main_v30, val_main_v29, val_main_cst_4, val_main_v28, val_main_v27, val_main_cst_3, val_main_v26]
  simp only [up_ix2, width_val, eps_val, ← EReal.coe_mul, ← Attn.coe_sum]
  rw [div_real _ (by norm_num), ← EReal.coe_add]
  rfl

theorem v33_at (i : Fin 512) :
    val_main_v33 (F := Ideal) (up me) (ix2 i 0) = ((rs me i : ℝ) : EReal) := by
  pointwise [val_main_v33, v32_at]
  exact rsqrt_real (ms_pos _ i)

theorem v38_at (i : Fin 512) (j : Fin 1024) :
    val_main_v38 (F := Ideal) (up me) (ix2 i j) = ((xh me i j : ℝ) : EReal) := by
  pointwise [val_main_v38, val_main_v37, v33_at]
  simp only [up_ix2, xh, EReal.coe_mul]

theorem v40_at (i : Fin 512) (j : Fin 1024) :
    val_main_v40 (F := Ideal) (up me) (up gm) (ix2 i j) = ((sM me gm i j : ℝ) : EReal) := by
  pointwise [val_main_v40, val_main_v39, v38_at]
  simp only [up_ix2, sM, nrm, EReal.coe_mul]

theorem v24_at (i : Fin 4096) (j : Fin 1024) :
    val_main_v24 (F := Ideal) (up x) (up cv) (up va) (up wo) (up gx) (up wq) (ix2 i j) = ((sQ x cv va wo gx wq i j : ℝ) : EReal) := by
  pointwise [val_main_v24, val_main_v4, v23_at]
  simp only [up_ix2, sQ, mm, Attn.coe_sum, EReal.coe_mul]

theorem v41_at (i : Fin 512) (j : Fin 2048) :
    val_main_v41 (F := Ideal) (up me) (up gm) (up wkv) (ix2 i j) = ((sKV me gm wkv i j : ℝ) : EReal) := by
  pointwise [val_main_v41, val_main_v5, v40_at]
  simp only [up_ix2, sKV, mm, Attn.coe_sum, EReal.coe_mul]

theorem v88_at (i : Fin 4096) (j : Fin 1024) :
    val_main_v88 (F := Ideal) (up d) (up wm) (ix2 i j) = ((sDo d wm i j : ℝ) : EReal) := by
  pointwise [val_main_v88, val_main_v85, val_main_v6]
  simp only [up_ix2, sDo, mm, tr, Attn.coe_sum, EReal.coe_mul]

/-- The queries, the keys and values, and the cotangents, by sequence. -/
abbrev tQ : T3 2 2048 1024 := cut 2048 rfl (sQ x cv va wo gx wq)
abbrev tKV : T3 2 256 2048 := cut 256 rfl (sKV me gm wkv)
abbrev tG : T3 2 2048 1024 := cut 2048 rfl (sDo d wm)

theorem v25_eq : val_main_v25 (F := Ideal) (up x) (up cv) (up va) (up wo) (up gx) (up wq) = up3 (tQ x cv va wo gx wq) := eq_up3 fun b r k => by
  pointwise [val_main_v25, v24_at]
  exact read_cut rfl _ b r _ k

theorem v42_eq : val_main_v42 (F := Ideal) (up me) (up gm) (up wkv) = up3 (tKV me gm wkv) := eq_up3 fun b r k => by
  pointwise [val_main_v42, v41_at]
  exact read_cut rfl _ b r _ k

theorem v89_eq : val_main_v89 (F := Ideal) (up d) (up wm) = up3 (tG d wm) := eq_up3 fun b r k => by
  pointwise [val_main_v89, v88_at]
  exact read_cut rfl _ b r _ k

theorem v43_at (b : Fin 2) (r : Fin 2048) (h : Fin 4) (e : Fin 256) :
    val_main_v43 (F := Ideal) (up x) (up cv) (up va) (up wo) (up gx) (up wq) (ix4 b r h e) = aq (up3 (tQ x cv va wo gx wq)) b h r e := by
  pointwise [val_main_v43]
  rw [v25_eq]
  exact congrArg (up3 (tQ x cv va wo gx wq)) (congrArg (ix3 b r) (Fin.ext (by simp only [col]; omega)))

theorem v45_at (b : Fin 2) (j : Fin 256) (h : Fin 4) (e : Fin 256) :
    val_main_v45 (F := Ideal) (up me) (up gm) (up wkv) (ix4 b j h e) = ak (up3 (tKV me gm wkv)) b h j e := by
  pointwise [val_main_v45, val_main_v44]
  rw [v42_eq]
  exact congrArg (up3 (tKV me gm wkv)) (congrArg (ix3 b j) (Fin.ext (by simp only [kcol]; omega)))

theorem v47_at (b : Fin 2) (j : Fin 256) (h : Fin 4) (e : Fin 256) :
    val_main_v47 (F := Ideal) (up me) (up gm) (up wkv) (ix4 b j h e) = Attn.av (up3 (tKV me gm wkv)) b h j e := by
  pointwise [val_main_v47, val_main_v46]
  rw [v42_eq]
  exact congrArg (up3 (tKV me gm wkv)) (congrArg (ix3 b j) (Fin.ext (by simp only [vcol]; omega)))

theorem v50_at (b : Fin 2) (h : Fin 4) (r : Fin 2048) (j : Fin 256) :
    val_main_v50 (F := Ideal) (up x) (up cv) (up va) (up me) (up wo) (up gx) (up wq) (up gm) (up wkv) (ix4 b h r j) = rowS (aq (up3 (tQ x cv va wo gx wq)) b h r) (ak (up3 (tKV me gm wkv)) b h) j := by
  pointwise [val_main_v50, val_main_v49, val_main_cst_7, val_main_v48, v43_at, v45_at]
  exact div_sixteen _

theorem v51_at (b : Fin 2) (h : Fin 4) (r : Fin 2048) :
    val_main_v51 (F := Ideal) (up x) (up cv) (up va) (up me) (up wo) (up gx) (up wq) (up gm) (up wkv) (ix3 b h r) = mx (rowS (aq (up3 (tQ x cv va wo gx wq)) b h r) (ak (up3 (tKV me gm wkv)) b h)) := by
  unfold val_main_v51 val_main_cst_8
  have e := hostReduce_maximumf_eq_multiReduction (F := Ideal) (φ := .f32) (u := S_) (val_main_v50 (F := Ideal) (up x) (up cv) (up va) (up me) (up wo) (up gx) (up wq) (up gm) (up wkv)) 0xFF800000#32
    Gen.reducesTo_S2x4x2048x256_S2x4x2048_d3 Gen.h_S_ Attn.hr (.inl rfl) rfl
  rw [e]
  refine (Attn.max_at (val_main_v50 (F := Ideal) (up x) (up cv) (up va) (up me) (up wo) (up gx) (up wq) (up gm) (up wkv)) b h r).trans ?_
  simp only [v50_at]
  rfl

theorem v58_at (b : Fin 2) (h : Fin 4) (r : Fin 2048) :
    val_main_v58 (F := Ideal) (up x) (up cv) (up va) (up me) (up wo) (up gx) (up wq) (up gm) (up wkv) (ix3 b h r) = mx (rowS (aq (up3 (tQ x cv va wo gx wq)) b h r) (ak (up3 (tKV me gm wkv)) b h)) := by
  rw [val_main_v58_apply, v51_at]
  exact max_mx _

theorem v69_at (b : Fin 2) (h : Fin 4) (r : Fin 2048) (j : Fin 256) :
    val_main_v69 (F := Ideal) (up x) (up cv) (up va) (up me) (up wo) (up gx) (up wq) (up gm) (up wkv) (ix4 b h r j) = mx (rowS (aq (up3 (tQ x cv va wo gx wq)) b h r) (ak (up3 (tKV me gm wkv)) b h)) := by
  pointwise [val_main_v69, val_main_v68, v58_at]

theorem v71_at (b : Fin 2) (h : Fin 4) (r : Fin 2048) (j : Fin 256) :
    val_main_v71 (F := Ideal) (up x) (up cv) (up va) (up me) (up wo) (up gx) (up wq) (up gm) (up wkv) (ix4 b h r j) = ex (rowS (aq (up3 (tQ x cv va wo gx wq)) b h r) (ak (up3 (tKV me gm wkv)) b h)) j := by
  rw [val_main_v71_apply, val_main_v70_apply, v50_at, v69_at]
  generalize rowS (aq (up3 (tQ x cv va wo gx wq)) b h r) (ak (up3 (tKV me gm wkv)) b h) = s
  rfl

theorem v72_at (b : Fin 2) (h : Fin 4) (r : Fin 2048) :
    val_main_v72 (F := Ideal) (up x) (up cv) (up va) (up me) (up wo) (up gx) (up wq) (up gm) (up wkv) (ix3 b h r) = ∑ i, ex (rowS (aq (up3 (tQ x cv va wo gx wq)) b h r) (ak (up3 (tKV me gm wkv)) b h)) i := by
  pointwise [val_main_v72, val_main_cst_16, v71_at]

theorem v75_at (b : Fin 2) (h : Fin 4) (r : Fin 2048) (j : Fin 256) :
    val_main_v75 (F := Ideal) (up x) (up cv) (up va) (up me) (up wo) (up gx) (up wq) (up gm) (up wkv) (ix4 b h r j) = prob (aq (up3 (tQ x cv va wo gx wq)) b h r) (ak (up3 (tKV me gm wkv)) b h) j := by
  pointwise [val_main_v75, val_main_v74, val_main_v73, v71_at, v72_at]
  rfl

theorem v80_at (b : Fin 2) (r : Fin 2048) (h : Fin 4) (e : Fin 256) :
    val_main_v80 (F := Ideal) (up x) (up cv) (up va) (up me) (up wo) (up gx) (up wq) (up gm) (up wkv) (ix4 b r h e) = ((∑ j, rP (hq (tQ x cv va wo gx wq) b h r) (hk (tKV me gm wkv) b h) j * hv (tKV me gm wkv) b h j e : ℝ) : EReal) := by
  pointwise [val_main_v80, val_main_v79, v75_at, v47_at]
  simp only [ap_up, Attn.coe_sum, EReal.coe_mul]
  exact Finset.sum_congr rfl fun j _ => mul_comm _ _

theorem v81_eq : val_main_v81 (F := Ideal) (up x) (up cv) (up va) (up me) (up wo) (up gx) (up wq) (up gm) (up wkv) = up3 (att (tQ x cv va wo gx wq) (tKV me gm wkv)) := eq_up3 fun b r k => by
  obtain ⟨h, e, rfl⟩ := col_onto k
  have f := v80_at x cv va me wo gx wq gm wkv b r h e
  refine Eq.trans ?_ (f.trans (congrArg _ (byCol_col (fun h e => ∑ j, rP (hq (tQ x cv va wo gx wq) b h r) (hk (tKV me gm wkv) b h) j * hv (tKV me gm wkv) b h j e) h e).symm))
  pointwise [val_main_v81]
  exact congrArg₂ (fun h e => val_main_v80 (F := Ideal) (up x) (up cv) (up va) (up me) (up wo) (up gx) (up wq) (up gm) (up wkv) (ix4 b r h e)) (head_col h e).1 (head_col h e).2

theorem v82_at (i : Fin 4096) (j : Fin 1024) :
    val_main_v82 (F := Ideal) (up x) (up cv) (up va) (up me) (up wo) (up gx) (up wq) (up gm) (up wkv) (ix2 i j) = ((sAtt x cv va me wo gx wq gm wkv i j : ℝ) : EReal) := by
  pointwise [val_main_v82]
  rw [v81_eq]
  rfl

theorem ref_gMo : val_main_v169 (F := Ideal) (up x) (up cv) (up va) (up me) (up d) (up wo) (up gx) (up wq) (up gm) (up wkv) = up (gMo x cv va me d wo gx wq gm wkv) := eq_up fun i j => by
  pointwise [val_main_v169, val_main_v87, val_main_v86, val_main_v85, v82_at]
  simp only [up_ix2, gMo, mm, tr, Attn.coe_sum, EReal.coe_mul]
  exact Finset.sum_congr rfl fun a _ => mul_comm _ _

theorem v91_at (b : Fin 2) (r : Fin 2048) (h : Fin 4) (e : Fin 256) :
    val_main_v91 (F := Ideal) (up d) (up wm) (ix4 b h e r) = aq (up3 (tG d wm)) b h r e := by
  pointwise [val_main_v91, val_main_v90]
  rw [v89_eq]
  exact congrArg (up3 (tG d wm)) (congrArg (ix3 b r) (Fin.ext (by simp only [col]; omega)))

theorem v92_at (b : Fin 2) (h : Fin 4) (r : Fin 2048) (j : Fin 256) :
    val_main_v92 (F := Ideal) (up me) (up d) (up gm) (up wkv) (up wm) (ix4 b h r j) = ∑ e, aq (up3 (tG d wm)) b h r e * Attn.av (up3 (tKV me gm wkv)) b h j e := by
  pointwise [val_main_v92, v91_at, v47_at]

theorem v94_at (b : Fin 2) (j : Fin 256) (h : Fin 4) (e : Fin 256) :
    val_main_v94 (F := Ideal) (up x) (up cv) (up va) (up me) (up d) (up wo) (up gx) (up wq) (up gm) (up wkv) (up wm) (ix4 b j h e) = ∑ r, prob (aq (up3 (tQ x cv va wo gx wq)) b h r) (ak (up3 (tKV me gm wkv)) b h) j * aq (up3 (tG d wm)) b h r e := by
  pointwise [val_main_v94, val_main_v93, v91_at, v75_at]
  exact Finset.sum_congr rfl fun r _ => mul_comm _ _

theorem v106_at (b : Fin 2) (h : Fin 4) (r : Fin 2048) (j : Fin 256) :
    val_main_v106 (F := Ideal) (up x) (up cv) (up va) (up me) (up d) (up wo) (up gx) (up wq) (up gm) (up wkv) (up wm) (ix4 b h r j) = dsRef (rowS (aq (up3 (tQ x cv va wo gx wq)) b h r) (ak (up3 (tKV me gm wkv)) b h)) (fun j => ∑ e, aq (up3 (tG d wm)) b h r e * Attn.av (up3 (tKV me gm wkv)) b h j e) j := by
  pointwise [val_main_v106, val_main_v105, val_main_v104, val_main_v103, val_main_cst_19, val_main_v102, val_main_v101, val_main_v100, val_main_v99, val_main_v98, val_main_cst_18, val_main_v97, val_main_v96, val_main_v95, val_main_v78, val_main_v77, val_main_cst_17, val_main_v76, val_main_v73, v72_at, v92_at, v71_at]
  rw [Fin.sum_univ_one]
  rfl

theorem v108_at (b : Fin 2) (h : Fin 4) (r : Fin 2048) (j : Fin 256) :
    val_main_v108 (F := Ideal) (up x) (up cv) (up va) (up me) (up d) (up wo) (up gx) (up wq) (up gm) (up wkv) (up wm) (ix4 b h r j) = aS (up3 (tQ x cv va wo gx wq)) (up3 (tKV me gm wkv)) (up3 (tG d wm)) b h r j * Ideal.ofBits .f32 0x3D800000#32 := by
  pointwise [val_main_v108, val_main_v107, val_main_cst_20, v106_at]
  rw [div_sixteen, dsRef_eq (rowS (aq (up3 (tQ x cv va wo gx wq)) b h r) (ak (up3 (tKV me gm wkv)) b h)) fun j => ⟨_, congrFun (rowS_up (hq (tQ x cv va wo gx wq) b h r) (hk (tKV me gm wkv) b h)) j⟩]
  rfl

theorem v110_at (b : Fin 2) (j : Fin 256) (h : Fin 4) (e : Fin 256) :
    val_main_v110 (F := Ideal) (up x) (up cv) (up va) (up me) (up d) (up wo) (up gx) (up wq) (up gm) (up wkv) (up wm) (ix4 b j h e) = (∑ r, aS (up3 (tQ x cv va wo gx wq)) (up3 (tKV me gm wkv)) (up3 (tG d wm)) b h r j * aq (up3 (tQ x cv va wo gx wq)) b h r e) * Ideal.ofBits .f32 0x3D800000#32 := by
  pointwise [val_main_v110, val_main_v109, v108_at, v43_at]
  rw [sum_scale]
  exact Finset.sum_congr rfl fun r _ => mul_right_comm _ _ _

theorem v112_at (b : Fin 2) (r : Fin 2048) (h : Fin 4) (e : Fin 256) :
    val_main_v112 (F := Ideal) (up x) (up cv) (up va) (up me) (up d) (up wo) (up gx) (up wq) (up gm) (up wkv) (up wm) (ix4 b r h e) = (∑ j, aS (up3 (tQ x cv va wo gx wq)) (up3 (tKV me gm wkv)) (up3 (tG d wm)) b h r j * ak (up3 (tKV me gm wkv)) b h j e) * Ideal.ofBits .f32 0x3D800000#32 := by
  pointwise [val_main_v112, val_main_v111, v108_at, v45_at]
  rw [sum_scale]
  exact Finset.sum_congr rfl fun j _ => mul_right_comm _ _ _

theorem v118_eq : val_main_v118 (F := Ideal) (up x) (up cv) (up va) (up me) (up d) (up wo) (up gx) (up wq) (up gm) (up wkv) (up wm) = up3 (dq (tQ x cv va wo gx wq) (tKV me gm wkv) (tG d wm)) := by
  rw [← dqArr_up]
  funext z
  obtain ⟨h, e, hc⟩ := col_onto (z 2)
  obtain ⟨b, r, rfl⟩ : ∃ b r, z = ix3 b r (col h e) := ⟨z 0, z 1, by rw [hc]; exact eq_ix3 z⟩
  rw [dqArr_at, byCol_col, ← v112_at]
  pointwise [val_main_v118]
  exact congrArg₂ (fun h e => val_main_v112 (F := Ideal) (up x) (up cv) (up va) (up me) (up d) (up wo) (up gx) (up wq) (up gm) (up wkv) (up wm) (ix4 b r h e)) (head_col h e).1 (head_col h e).2

theorem v117_eq : val_main_v117 (F := Ideal) (up x) (up cv) (up va) (up me) (up d) (up wo) (up gx) (up wq) (up gm) (up wkv) (up wm) = up3 (dkv (tQ x cv va wo gx wq) (tKV me gm wkv) (tG d wm)) := by
  rw [← dkvArr_up]
  funext z
  rcases kvcol_onto (z 2) with ⟨h, e, hc⟩ | ⟨h, e, hc⟩
  · obtain ⟨b, j, rfl⟩ : ∃ b j, z = ix3 b j (kcol h e) := ⟨z 0, z 1, by rw [hc]; exact eq_ix3 z⟩
    have := h.isLt; have := e.isLt
    have hk : (kcol h e).val = 256 * h.val + e.val := rfl
    rw [dkvArr_at, byKvCol_kcol, ← v110_at]
    pointwise [val_main_v117, val_main_v116, val_main_v115, val_main_v114, val_main_v113, val_main_cst_21, val_main_cst_22]
    rw [dif_neg (by omega), dif_pos (by omega), zero_add]
    exact congrArg₂ (fun h e => val_main_v110 (F := Ideal) (up x) (up cv) (up va) (up me) (up d) (up wo) (up gx) (up wq) (up gm) (up wkv) (up wm) (ix4 b j h e))
      (Fin.ext (by simp only [hk]; omega)) (Fin.ext (by simp only [hk]; omega))
  · obtain ⟨b, j, rfl⟩ : ∃ b j, z = ix3 b j (vcol h e) := ⟨z 0, z 1, by rw [hc]; exact eq_ix3 z⟩
    have := h.isLt; have := e.isLt
    have hv : (vcol h e).val = 1024 + 256 * h.val + e.val := rfl
    rw [dkvArr_at, byKvCol_vcol, ← v94_at]
    pointwise [val_main_v117, val_main_v116, val_main_v115, val_main_v114, val_main_v113, val_main_cst_21, val_main_cst_22]
    rw [dif_pos (by omega), dif_neg (by omega), add_zero]
    exact congrArg₂ (fun h e => val_main_v94 (F := Ideal) (up x) (up cv) (up va) (up me) (up d) (up wo) (up gx) (up wq) (up gm) (up wkv) (up wm) (ix4 b j h e))
      (Fin.ext (by simp only [hv]; omega)) (Fin.ext (by simp only [hv]; omega))

theorem v142_at (i : Fin 4096) (j : Fin 1024) :
    val_main_v142 (F := Ideal) (up x) (up cv) (up va) (up me) (up d) (up wo) (up gx) (up wq) (up gm) (up wkv) (up wm) (ix2 i j) = ((sDq x cv va me d wo gx wq gm wkv wm i j : ℝ) : EReal) := by
  pointwise [val_main_v142]
  rw [v118_eq]
  rfl

theorem v119_at (i : Fin 512) (j : Fin 2048) :
    val_main_v119 (F := Ideal) (up x) (up cv) (up va) (up me) (up d) (up wo) (up gx) (up wq) (up gm) (up wkv) (up wm) (ix2 i j) = ((sDkv x cv va me d wo gx wq gm wkv wm i j : ℝ) : EReal) := by
  pointwise [val_main_v119]
  rw [v117_eq]
  rfl

theorem ref_gMkv : val_main_v172 (F := Ideal) (up x) (up cv) (up va) (up me) (up d) (up wo) (up gx) (up wq) (up gm) (up wkv) (up wm) = up (gMkv x cv va me d wo gx wq gm wkv wm) := eq_up fun i j => by
  pointwise [val_main_v172, val_main_v121, val_main_v120, v119_at, v40_at]
  simp only [gMkv, mm, tr, Attn.coe_sum, EReal.coe_mul]
  exact Finset.sum_congr rfl fun a _ => mul_comm _ _

theorem v122_at (i : Fin 512) (j : Fin 1024) :
    val_main_v122 (F := Ideal) (up x) (up cv) (up va) (up me) (up d) (up wo) (up gx) (up wq) (up gm) (up wkv) (up wm) (ix2 i j) = ((sDm x cv va me d wo gx wq gm wkv wm i j : ℝ) : EReal) := by
  pointwise [val_main_v122, val_main_v5, v119_at]
  simp only [up_ix2, sDm, mm, tr, Attn.coe_sum, EReal.coe_mul]

theorem ref_gGm : val_main_v125 (F := Ideal) (up x) (up cv) (up va) (up me) (up d) (up wo) (up gx) (up wq) (up gm) (up wkv) (up wm) = up (gGm x cv va me d wo gx wq gm wkv wm) := eq_up fun i j => by
  pointwise [val_main_v125, val_main_v124, val_main_cst_23, val_main_v123, v38_at, v122_at]
  simp only [gGm, nrmG, Attn.coe_sum, EReal.coe_mul]
  exact Finset.sum_congr rfl fun a _ => mul_comm _ _

theorem ref_gMq : val_main_v170 (F := Ideal) (up x) (up cv) (up va) (up me) (up d) (up wo) (up gx) (up wq) (up gm) (up wkv) (up wm) = up (gMq x cv va me d wo gx wq gm wkv wm) := eq_up fun i j => by
  pointwise [val_main_v170, val_main_v144, val_main_v143, v142_at, v23_at]
  simp only [gMq, mm, tr, Attn.coe_sum, EReal.coe_mul]
  exact Finset.sum_congr rfl fun a _ => mul_comm _ _

theorem v145_at (i : Fin 4096) (j : Fin 1024) :
    val_main_v145 (F := Ideal) (up x) (up cv) (up va) (up me) (up d) (up wo) (up gx) (up wq) (up gm) (up wkv) (up wm) (ix2 i j) = ((sDh x cv va me d wo gx wq gm wkv wm i j : ℝ) : EReal) := by
  pointwise [val_main_v145, val_main_v4, v142_at]
  simp only [up_ix2, sDh, mm, tr, Attn.coe_sum, EReal.coe_mul]

theorem ref_gGx : val_main_v148 (F := Ideal) (up x) (up cv) (up va) (up me) (up d) (up wo) (up gx) (up wq) (up gm) (up wkv) (up wm) = up (gGx x cv va me d wo gx wq gm wkv wm) := eq_up fun i j => by
  pointwise [val_main_v148, val_main_v147, val_main_cst_27, val_main_v146, v21_at, v145_at]
  simp only [gGx, nrmG, Attn.coe_sum, EReal.coe_mul]
  exact Finset.sum_congr rfl fun a _ => mul_comm _ _

theorem v150_at (i : Fin 4096) (j : Fin 1024) :
    val_main_v150 (F := Ideal) (up x) (up cv) (up va) (up me) (up d) (up wo) (up gx) (up wq) (up gm) (up wkv) (up wm) (ix2 i j) = (((sDh x cv va me d wo gx wq gm wkv wm) i j * gx 0 j : ℝ) : EReal) := by
  pointwise [val_main_v150, val_main_v149, v145_at]
  simp only [up_ix2, EReal.coe_mul]

theorem v159_at (i : Fin 4096) :
    val_main_v159 (F := Ideal) (up x) (up cv) (up va) (up me) (up d) (up wo) (up gx) (up wq) (up gm) (up wkv) (up wm) (ix2 i 0) = (((∑ a, (sX x cv va wo) i a * ((sDh x cv va me d wo gx wq gm wkv wm) i a * gx 0 a)) * (-(1 / 2) * (rs (sX x cv va wo) i / ms (sX x cv va wo) i)) / 1024 : ℝ) : EReal) := by
  pointwise [val_main_v159, val_main_v158, val_main_cst_29, val_main_v157, val_main_v153, val_main_v152, val_main_cst_28, val_main_v151, val_main_v19, val_main_v18, val_main_cst_2, val_main_v17, v150_at, v8_at, v16_at, v15_at]
  rw [div_real _ (ms_pos _ i).ne']
  simp only [negHalf_val, width_val, ← EReal.coe_mul, ← Attn.coe_sum]
  exact div_real _ (by norm_num)

theorem v165_at (i : Fin 4096) (j : Fin 1024) :
    val_main_v165 (F := Ideal) (up x) (up cv) (up va) (up me) (up d) (up wo) (up gx) (up wq) (up gm) (up wkv) (up wm) (ix2 i j) = ((gX x cv va me d wo gx wq gm wkv wm i j : ℝ) : EReal) := by
  pointwise [val_main_v165, val_main_v164, val_main_v163, val_main_v162, val_main_v161, val_main_v160, val_main_cst_30, val_main_v156, val_main_v155, val_main_v154, val_main_v85, v150_at, v8_at, v16_at]
  rw [Fin.sum_univ_one, v159_at]
  simp only [up_ix2, ← EReal.coe_mul, ← EReal.coe_add]
  refine congrArg _ ?_
  unfold gX plus
  rw [← nrmX_rules]
  ring

theorem ref_gX : val_main_v171 (F := Ideal) (up x) (up cv) (up va) (up me) (up d) (up wo) (up gx) (up wq) (up gm) (up wkv) (up wm) = up (gX x cv va me d wo gx wq gm wkv wm) := eq_up fun i j => by
  pointwise [val_main_v171, v165_at]

theorem beside_cv (a : Fin 4096) (i : Fin 512) : beside cv va a ⟨i.val, by omega⟩ = cv a i := dif_pos i.isLt

theorem ref_gOutC : val_main_v174 (F := Ideal) (up x) (up cv) (up va) (up me) (up d) (up wo) (up gx) (up wq) (up gm) (up wkv) (up wm) = up (gOutC x cv va me d wo gx wq gm wkv wm) := eq_up fun i j => by
  pointwise [val_main_v174, val_main_v173, val_main_v167, val_main_v166, v165_at, v2_at]
  simp only [gOutC, mm, tr, Attn.coe_sum, EReal.coe_mul]
  exact Finset.sum_congr rfl fun a _ => by rw [← beside_cv cv va a i, mul_comm]

theorem beside_va (a : Fin 4096) (i : Fin 512) : beside cv va a ⟨512 + i.val, by omega⟩ = va a i := (dif_neg (by simp)).trans (congrArg (va a) (Fin.ext (by simp)))

theorem ref_gOutA : val_main_v176 (F := Ideal) (up x) (up cv) (up va) (up me) (up d) (up wo) (up gx) (up wq) (up gm) (up wkv) (up wm) = up (gOutA x cv va me d wo gx wq gm wkv wm) := eq_up fun i j => by
  pointwise [val_main_v176, val_main_v175, val_main_v167, val_main_v166, v165_at, v2_at]
  simp only [gOutA, mm, tr, Attn.coe_sum, EReal.coe_mul]
  exact Finset.sum_congr rfl fun a _ => by rw [← beside_va cv va a i, mul_comm]

theorem ref_gCat : val_main_v177 (F := Ideal) (up x) (up cv) (up va) (up me) (up d) (up wo) (up gx) (up wq) (up gm) (up wkv) (up wm) = up (gCat x cv va me d wo gx wq gm wkv wm) := eq_up fun i j => by
  pointwise [val_main_v177, val_main_v168, val_main_v3, v165_at]
  simp only [up_ix2, gCat, mm, tr, Attn.coe_sum, EReal.coe_mul]

end Ref

end Mem

end
-- ==== Proof.MemClaims.lean ====
/- The claims about the memory block. -/
module

public import proofs.«01_k».proof.Defs
public import proofs.«01_k».proof.Proof.MemRun
public import proofs.«01_k».proof.Proof.MemRef
public import proofs.«01_k».proof.Proof.FfnClaims
public import proofs.«01_k».proof.Proof.Gen.Kernel3.Frame
public import proofs.«01_k».proof.Proof.Gen.Pre_finite_block

@[expose] public section

set_option maxRecDepth 16384

noncomputable section

namespace Mem

open Idealize.ShloMosaic Idealize.ShloMosaic.TcCoe Idealize.SL.Sem
open Ffn (Mat up real_mat)
open Cert.Kernel3Ideal Cert.Kernel3Ideal.Gen

/-! ## Finite arguments are real matrices -/

theorem real_args (x0 : S4096x1024.Idx → EReal) (x1 : S4096x512.Idx → EReal) (x2 : S4096x512.Idx → EReal) (x3 : S512x1024.Idx → EReal) (x4 : S4096x1024.Idx → EReal) (x5 : S1024x1024.Idx → EReal) (x6 : S1x1024.Idx → EReal) (x7 : S1024x1024.Idx → EReal) (x8 : S1x1024.Idx → EReal) (x9 : S1024x2048.Idx → EReal) (x10 : S1024x1024.Idx → EReal)
    (h0 : (Cert.Pre_finite_block.fn (F := Ideal) x0 x1 x2 x3 x4 x5 x6 x7 x8 x9 x10).1 = fun _ => 1#1)
    (h1 : (Cert.Pre_finite_block.fn (F := Ideal) x0 x1 x2 x3 x4 x5 x6 x7 x8 x9 x10).2.1 = fun _ => 1#1)
    (h2 : (Cert.Pre_finite_block.fn (F := Ideal) x0 x1 x2 x3 x4 x5 x6 x7 x8 x9 x10).2.2.1 = fun _ => 1#1)
    (h3 : (Cert.Pre_finite_block.fn (F := Ideal) x0 x1 x2 x3 x4 x5 x6 x7 x8 x9 x10).2.2.2.1 = fun _ => 1#1)
    (h4 : (Cert.Pre_finite_block.fn (F := Ideal) x0 x1 x2 x3 x4 x5 x6 x7 x8 x9 x10).2.2.2.2.1 = fun _ => 1#1)
    (h5 : (Cert.Pre_finite_block.fn (F := Ideal) x0 x1 x2 x3 x4 x5 x6 x7 x8 x9 x10).2.2.2.2.2.1 = fun _ => 1#1)
    (h6 : (Cert.Pre_finite_block.fn (F := Ideal) x0 x1 x2 x3 x4 x5 x6 x7 x8 x9 x10).2.2.2.2.2.2.1 = fun _ => 1#1)
    (h7 : (Cert.Pre_finite_block.fn (F := Ideal) x0 x1 x2 x3 x4 x5 x6 x7 x8 x9 x10).2.2.2.2.2.2.2.1 = fun _ => 1#1)
    (h8 : (Cert.Pre_finite_block.fn (F := Ideal) x0 x1 x2 x3 x4 x5 x6 x7 x8 x9 x10).2.2.2.2.2.2.2.2.1 = fun _ => 1#1)
    (h9 : (Cert.Pre_finite_block.fn (F := Ideal) x0 x1 x2 x3 x4 x5 x6 x7 x8 x9 x10).2.2.2.2.2.2.2.2.2.1 = fun _ => 1#1)
    (h10 : (Cert.Pre_finite_block.fn (F := Ideal) x0 x1 x2 x3 x4 x5 x6 x7 x8 x9 x10).2.2.2.2.2.2.2.2.2.2 = fun _ => 1#1) :
    (∃ A : Mat 4096 1024, x0 = up A) ∧ (∃ A : Mat 4096 512, x1 = up A) ∧ (∃ A : Mat 4096 512, x2 = up A) ∧ (∃ A : Mat 512 1024, x3 = up A) ∧ (∃ A : Mat 4096 1024, x4 = up A) ∧ (∃ A : Mat 1024 1024, x5 = up A) ∧ (∃ A : Mat 1 1024, x6 = up A) ∧ (∃ A : Mat 1024 1024, x7 = up A) ∧ (∃ A : Mat 1 1024, x8 = up A) ∧ (∃ A : Mat 1024 2048, x9 = up A) ∧ (∃ A : Mat 1024 1024, x10 = up A) := by
  unfold Cert.Pre_finite_block.fn Cert.Pre_finite_block.fn_part1 Cert.Pre_finite_block.fn_part2 at h0 h1 h2 h3 h4 h5 h6 h7 h8 h9 h10
  refine ⟨real_mat fun i j => ?_, real_mat fun i j => ?_, real_mat fun i j => ?_, real_mat fun i j => ?_, real_mat fun i j => ?_, real_mat fun i j => ?_, real_mat fun i j => ?_, real_mat fun i j => ?_, real_mat fun i j => ?_, real_mat fun i j => ?_, real_mat fun i j => ?_⟩
  · have e := congrFun h0 (ix2 i j); pointwise at e; exact Attn.real_of_abs _ e
  · have e := congrFun h1 (ix2 i j); pointwise at e; exact Attn.real_of_abs _ e
  · have e := congrFun h2 (ix2 i j); pointwise at e; exact Attn.real_of_abs _ e
  · have e := congrFun h3 (ix2 i j); pointwise at e; exact Attn.real_of_abs _ e
  · have e := congrFun h4 (ix2 i j); pointwise at e; exact Attn.real_of_abs _ e
  · have e := congrFun h5 (ix2 i j); pointwise at e; exact Attn.real_of_abs _ e
  · have e := congrFun h6 (ix2 i j); pointwise at e; exact Attn.real_of_abs _ e
  · have e := congrFun h7 (ix2 i j); pointwise at e; exact Attn.real_of_abs _ e
  · have e := congrFun h8 (ix2 i j); pointwise at e; exact Attn.real_of_abs _ e
  · have e := congrFun h9 (ix2 i j); pointwise at e; exact Attn.real_of_abs _ e
  · have e := congrFun h10 (ix2 i j); pointwise at e; exact Attn.real_of_abs _ e

/-! ## The claims -/

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_pre : Cert.quiescent_Kernel3Ideal_pre_finite_block := fun m ρ _ => Cert.Kernel3Ideal.Gen.frame m ρ

theorem frame_ref : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

theorem frame_ref_pre : Cert.quiescent_Reference3Ideal_pre_finite_block := fun m ρ _ => frame_ref m ρ trivial

/-- The kernels' results and the reference's are the same matrices. -/
theorem value : Cert.algebraic_Kernel3Ideal_Reference3Ideal_pre_finite_block := by
  intro m g m' g' hpre hagree
  refine ⟨fun c => W20 m g c (Proc.devRef .tc main_v7), fun c => W20 m g c (Proc.devRef .tc main_v14), fun c => W20 m g c (Proc.devRef .tc main_v15_0), fun c => W20 m g c (Proc.devRef .tc main_v15_1), fun c => W20 m g c (Proc.devRef .tc main_v16), fun c => W20 m g c (Proc.devRef .tc main_v17_1), fun c => W20 m g c (Proc.devRef .tc main_v19), fun c => W20 m g c (Proc.devRef .tc main_v21), fun c => W20 m g c (Proc.devRef .tc main_v22), ?_, ?_⟩
  · exact (θ_run Cert.Kernel3Ideal.defs _ _).mono (fun r h c => ⟨h c main_v7 (by decide), h c main_v14 (by decide), h c main_v15_0 (by decide), h c main_v15_1 (by decide), h c main_v16 (by decide), h c main_v17_1 (by decide), h c main_v19 (by decide), h c main_v21 (by decide), h c main_v22 (by decide),
      (h c main_arg0 (by decide)).trans (W20_main_arg0 m g c),
      (h c main_arg1 (by decide)).trans (W20_main_arg1 m g c),
      (h c main_arg2 (by decide)).trans (W20_main_arg2 m g c),
      (h c main_arg3 (by decide)).trans (W20_main_arg3 m g c),
      (h c main_arg4 (by decide)).trans (W20_main_arg4 m g c),
      (h c main_arg5 (by decide)).trans (W20_main_arg5 m g c),
      (h c main_arg6 (by decide)).trans (W20_main_arg6 m g c),
      (h c main_arg7 (by decide)).trans (W20_main_arg7 m g c),
      (h c main_arg8 (by decide)).trans (W20_main_arg8 m g c),
      (h c main_arg9 (by decide)).trans (W20_main_arg9 m g c),
      (h c main_arg10 (by decide)).trans (W20_main_arg10 m g c)⟩) (run_last m g)
  · refine (θ_run Cert.Reference3Ideal.defs _ _).mono (fun r h c => ?_) (Cert.Reference3Ideal.Value.run (F := Ideal) m' g')
    obtain ⟨p0, p1, p2, p3, p4, p5, p6, p7, p8, p9, p10⟩ := hpre c
    obtain ⟨⟨x, q0⟩, ⟨cv, q1⟩, ⟨va, q2⟩, ⟨me, q3⟩, ⟨d, q4⟩, ⟨wo, q5⟩, ⟨gx, q6⟩, ⟨wq, q7⟩, ⟨gm, q8⟩, ⟨wkv, q9⟩, ⟨wm, q10⟩⟩ :=
      real_args _ _ _ _ _ _ _ _ _ _ _ p0 p1 p2 p3 p4 p5 p6 p7 p8 p9 p10
    have A : Args m c x cv va me d wo gx wq gm wkv wm := ⟨q0, q1, q2, q3, q4, q5, q6, q7, q8, q9, q10⟩
    obtain ⟨e0, e1, e2, e3, e4, e5, e6, e7, e8, e9, e10⟩ := hagree c
    have f0 : StableHlo.launchContents m' c (Proc.devRef .tc Cert.Reference3Ideal.main_arg0) = up x := e0.trans q0
    have f1 : StableHlo.launchContents m' c (Proc.devRef .tc Cert.Reference3Ideal.main_arg1) = up cv := e1.trans q1
    have f2 : StableHlo.launchContents m' c (Proc.devRef .tc Cert.Reference3Ideal.main_arg2) = up va := e2.trans q2
    have f3 : StableHlo.launchContents m' c (Proc.devRef .tc Cert.Reference3Ideal.main_arg3) = up me := e3.trans q3
    have f4 : StableHlo.launchContents m' c (Proc.devRef .tc Cert.Reference3Ideal.main_arg4) = up d := e4.trans q4
    have f5 : StableHlo.launchContents m' c (Proc.devRef .tc Cert.Reference3Ideal.main_arg5) = up wo := e5.trans q5
    have f6 : StableHlo.launchContents m' c (Proc.devRef .tc Cert.Reference3Ideal.main_arg6) = up gx := e6.trans q6
    have f7 : StableHlo.launchContents m' c (Proc.devRef .tc Cert.Reference3Ideal.main_arg7) = up wq := e7.trans q7
    have f8 : StableHlo.launchContents m' c (Proc.devRef .tc Cert.Reference3Ideal.main_arg8) = up gm := e8.trans q8
    have f9 : StableHlo.launchContents m' c (Proc.devRef .tc Cert.Reference3Ideal.main_arg9) = up wkv := e9.trans q9
    have f10 : StableHlo.launchContents m' c (Proc.devRef .tc Cert.Reference3Ideal.main_arg10) = up wm := e10.trans q10
    obtain ⟨r0, r1, r2, r3, r4, r5, r6, r7, r8, rest⟩ := h c
    refine ⟨r0.trans ?_, r1.trans ?_, r2.trans ?_, r3.trans ?_, r4.trans ?_, r5.trans ?_, r6.trans ?_, r7.trans ?_, r8.trans ?_, rest⟩
    · rw [Cert.Reference3Ideal.Read.val_main_v169_eq, f0, f1, f2, f3, f4, f5, f6, f7, f8, f9]
      exact (ref_gMo x cv va me d wo gx wq gm wkv).trans (at20_gMo g A).symm
    · rw [Cert.Reference3Ideal.Read.val_main_v170_eq, f0, f1, f2, f3, f4, f5, f6, f7, f8, f9, f10]
      exact (ref_gMq x cv va me d wo gx wq gm wkv wm).trans (at20_gMq g A).symm
    · rw [Cert.Reference3Ideal.Read.val_main_v171_eq, f0, f1, f2, f3, f4, f5, f6, f7, f8, f9, f10]
      exact (ref_gX x cv va me d wo gx wq gm wkv wm).trans (at20_gX g A).symm
    · rw [Cert.Reference3Ideal.Read.val_main_v148_eq, f0, f1, f2, f3, f4, f5, f6, f7, f8, f9, f10]
      exact (ref_gGx x cv va me d wo gx wq gm wkv wm).trans (at20_gGx g A).symm
    · rw [Cert.Reference3Ideal.Read.val_main_v172_eq, f0, f1, f2, f3, f4, f5, f6, f7, f8, f9, f10]
      exact (ref_gMkv x cv va me d wo gx wq gm wkv wm).trans (at20_gMkv g A).symm
    · rw [Cert.Reference3Ideal.Read.val_main_v125_eq, f0, f1, f2, f3, f4, f5, f6, f7, f8, f9, f10]
      exact (ref_gGm x cv va me d wo gx wq gm wkv wm).trans (at20_gGm g A).symm
    · rw [Cert.Reference3Ideal.Read.val_main_v174_eq, f0, f1, f2, f3, f4, f5, f6, f7, f8, f9, f10]
      exact (ref_gOutC x cv va me d wo gx wq gm wkv wm).trans (at20_gOutC g A).symm
    · rw [Cert.Reference3Ideal.Read.val_main_v176_eq, f0, f1, f2, f3, f4, f5, f6, f7, f8, f9, f10]
      exact (ref_gOutA x cv va me d wo gx wq gm wkv wm).trans (at20_gOutA g A).symm
    · rw [Cert.Reference3Ideal.Read.val_main_v177_eq, f0, f1, f2, f3, f4, f5, f6, f7, f8, f9, f10]
      exact (ref_gCat x cv va me d wo gx wq gm wkv wm).trans (at20_gCat g A).symm

end Mem

end
-- ==== Proof.ProjMath.lean ====
/- The input projection and its gradients, as plain mathematics over real matrices. No program occurs here. -/
module

public import proofs.«01_k».proof.Proof.FfnMath

@[expose] public section

noncomputable section

namespace Proj

open Ffn
open scoped BigOperators

/-- The gradient of the projection's result, from its three parts; the last has 8 columns that count. -/
def wide {n : ℕ} (a : Mat n 1024) (b : Mat n 1536) (f : Mat n 128) : Mat n 2568 := fun i j =>
  if h : j.val < 1024 then a i ⟨j.val, h⟩ else if h' : j.val < 2560 then b i ⟨j.val - 1024, by omega⟩ else f i ⟨j.val - 2560, by omega⟩

/-- The last 8 columns of the weights, with zeros up to 128. -/
def padded (w : Mat 1024 2568) : Mat 1024 128 := fun i j => if h : j.val < 8 then w i ⟨2560 + j.val, by omega⟩ else 0

/-- The sum of three products by transposes. -/
def three {n k p q r : ℕ} (a : Mat n p) (A : Mat k p) (b : Mat n q) (B : Mat k q) (f : Mat n r) (C : Mat k r) : Mat n k :=
  plus (plus (mm a (tr A)) (mm b (tr B))) (mm f (tr C))

theorem part_three {n k p q r s : ℕ} (a : Mat n p) (A : Mat k p) (b : Mat n q) (B : Mat k q) (f : Mat n r) (C : Mat k r) (o : ℕ) :
    part s k (three a A b B f C) o 0 = three (part s p a o 0) A (part s q b o 0) B (part s r f o 0) C := by
  unfold three
  rw [part_plus, part_plus, part_rows_mm, part_rows_mm, part_rows_mm]

/-- A sum over the 2568 columns, part by part. -/
theorem sum_columns (F : Fin 2568 → ℝ) : ∑ j, F j
    = (∑ j : Fin 1024, F ⟨j.val, by omega⟩) + (∑ j : Fin 1536, F ⟨1024 + j.val, by omega⟩) + ∑ j : Fin 8, F ⟨2560 + j.val, by omega⟩ := by
  have e : ∀ G : Fin (1024 + 1536 + 8) → ℝ, ∑ j, G j = (∑ j : Fin 1024, G (Fin.castAdd 8 (Fin.castAdd 1536 j)))
      + (∑ j : Fin 1536, G (Fin.castAdd 8 (Fin.natAdd 1024 j))) + ∑ j : Fin 8, G (Fin.natAdd (1024 + 1536) j) := fun G => by
    rw [Fin.sum_univ_add, Fin.sum_univ_add]
  exact e F

/-- A sum over 128 columns of which 8 count. -/
theorem sum_padded (F : Fin 128 → ℝ) (h : ∀ j : Fin 128, ¬ j.val < 8 → F j = 0) : ∑ j, F j = ∑ j : Fin 8, F ⟨j.val, by omega⟩ := by
  have e : ∀ G : Fin (8 + 120) → ℝ, ∑ j, G j = (∑ j : Fin 8, G (Fin.castAdd 120 j)) + ∑ j : Fin 120, G (Fin.natAdd 8 j) :=
    fun G => Fin.sum_univ_add G
  refine (e F).trans ?_
  have z : ∑ j : Fin 120, F (Fin.natAdd 8 j) = 0 :=
    Finset.sum_eq_zero fun j _ => h _ (show ¬ 8 + j.val < 8 by omega)
  exact (congrArg _ z).trans (add_zero _)

theorem wide_a {n : ℕ} (a : Mat n 1024) (b : Mat n 1536) (f : Mat n 128) (i : Fin n) (j : Fin 1024) :
    wide a b f i ⟨j.val, by omega⟩ = a i j := dif_pos j.isLt
theorem wide_b {n : ℕ} (a : Mat n 1024) (b : Mat n 1536) (f : Mat n 128) (i : Fin n) (j : Fin 1536) :
    wide a b f i ⟨1024 + j.val, by omega⟩ = b i j := by
  unfold wide
  rw [dif_neg (by simp), dif_pos (by show 1024 + j.val < 2560; omega)]
  exact congrArg (b i) (Fin.ext (by simp))
theorem wide_f {n : ℕ} (a : Mat n 1024) (b : Mat n 1536) (f : Mat n 128) (i : Fin n) (j : Fin 8) :
    wide a b f i ⟨2560 + j.val, by omega⟩ = f i ⟨j.val, by omega⟩ := by
  unfold wide
  rw [dif_neg (by show ¬ 2560 + j.val < 1024; omega), dif_neg (by simp)]
  exact congrArg (f i) (Fin.ext (by simp))

section Step

variable (x : Mat 4096 1024) (a : Mat 4096 1024) (b : Mat 4096 1536) (f : Mat 4096 128) (d : Mat 4096 1024) (g : Mat 1 1024)
  (w : Mat 1024 2568)

/-- The gradient of the norm's result. -/
def dIn : Mat 4096 1024 := three a (part 1024 1024 w 0 0) b (part 1024 1536 w 0 1024) f (padded w)

/-- It is one product. -/
theorem dIn_eq : dIn a b f w = mm (wide a b f) (tr w) := by
  funext i j
  show (∑ k, a i k * part 1024 1024 w 0 0 j k) + (∑ k, b i k * part 1024 1536 w 0 1024 j k) + (∑ k, f i k * padded w j k)
    = ∑ k, wide a b f i k * w j k
  rw [sum_columns, sum_padded (fun k => f i k * padded w j k) fun k hk => by
    show f i k * padded w j k = 0
    unfold padded
    rw [dif_neg hk, mul_zero]]
  refine congrArg₂ (· + ·) (congrArg₂ (· + ·) (Finset.sum_congr rfl fun k _ => ?_) (Finset.sum_congr rfl fun k _ => ?_))
    (Finset.sum_congr rfl fun k _ => ?_)
  · rw [wide_a, part_at (a := j) (b := ⟨k.val, by omega⟩) w (by simp) (by simp)]
  · rw [wide_b, part_at (a := j) (b := ⟨1024 + k.val, by omega⟩) w (by simp) rfl]
  · rw [wide_f]
    show f i ⟨k.val, _⟩ * padded w j ⟨k.val, _⟩ = _
    unfold padded
    rw [dif_pos k.isLt]

/-- The projection, -/
def gZ : Mat 4096 2560 := mm (nrm x g) (part 1024 2560 w 0 0)
/-- the three parts of its weights' gradient, -/
def gUg : Mat 1024 1024 := mm (tr (nrm x g)) a
def gQkv : Mat 1024 1536 := mm (tr (nrm x g)) b
def gF : Mat 1024 8 := part 1024 8 (mm (tr (nrm x g)) f) 0 0
/-- the stream's, and that of the norm's weights. -/
def gX : Mat 4096 1024 := plus (nrmX x g (dIn a b f w)) d
def gG : Mat 1 1024 := nrmG x (dIn a b f w)

end Step

end Proj

end
-- ==== Proof.ProjHead.lean ====
/- The norm before the input projection, with its transpose, and the projection's products. -/
module

public import proofs.«01_k».proof.Proof.ProjMath
public import proofs.«01_k».proof.Proof.Gen.Kernel4Ideal.Frame
public import Idealize.ShloMosaic.Lib.Pipeline.ValueKit

@[expose] public section

set_option maxRecDepth 16384

noncomputable section

namespace Proj

open Ffn Idealize.ShloMosaic Idealize.ShloMosaic.TcCoe Idealize.ShloMosaic.Tactic Cert.Kernel4Ideal Cert.Kernel4Ideal.Gen Idealize.SL.Sem

variable (V : (c : Dev nD) → (b : Ref sig .tc) → Buf (Elt Ideal) ((c : Thread nD τ).loc b)) (c : Dev nD)

/-! ## The norm -/

section Pay

variable (X : Mat 512 1024) (g : Mat 1 1024)

theorem pay0_nrm : k0_pay1 (F := Ideal) (up X) (up g) = up (nrm X g) := eq_up fun i j => by
  have er := rs_up X i
  pointwise [k0_pay1]
  rw [er]
  simp only [up_ix2, nrm, xh, EReal.coe_mul]

theorem pay0_n : k0_pay2 (F := Ideal) (up X) (up g) = up (nrm X g) := by
  rw [← pay0_nrm]
  funext y
  rw [eq_ix2 y]
  pointwise [k0_pay2]

theorem pay0_nT : k0_pay3 (F := Ideal) (up X) (up g) = up (tr (nrm X g)) := eq_up fun i j => by
  have e := pay0_nrm X g
  unfold k0_pay3
  rw [e]
  pointwise
  rfl

end Pay

theorem idx0 : ∀ t : Fin cfg0.N, win0_0.index t = ![t.val, 0] ∧ win0_1.index t = ![0, 0] ∧ win0_2.index t = ![t.val, 0]
    ∧ win0_3.index t = ![0, t.val] :=
  (by decide +kernel : ∀ t : Fin grid0.N, win0_0.index t = ![t.val, 0] ∧ win0_1.index t = ![0, 0] ∧ win0_2.index t = ![t.val, 0]
    ∧ win0_3.index t = ![0, t.val])

theorem bound0 (t : Fin cfg0.N) : 512 * t.val + 512 ≤ 4096 := by have := lt_of_lt_of_eq t.isLt N_0; omega

section Run0

variable (X : Mat 4096 1024) (g : Mat 1 1024)

theorem blk0_0 (h : V c main_arg0 = up X) (t : Fin cfg0.N) : iblk0 V c 0 t = up (part 512 1024 X (512 * t.val) 0) := eq_up fun i j => by
  blk_simp [iblk0]
  rw [h]
  exact up_at X (by blk_simp [idx0 t]; try omega) (by blk_simp [idx0 t]; try omega)
theorem blk0_1 (h : V c main_arg5 = up g) (t : Fin cfg0.N) : iblk0 V c 1 t = up g := eq_up fun i j => by
  blk_simp [iblk0]
  rw [h]
  exact congrArg₂ (fun a b => ((g a b : ℝ) : EReal)) (Fin.ext (by blk_simp [idx0 t]; try omega)) (Fin.ext (by blk_simp [idx0 t]; try omega))

variable (hX : V c main_arg0 = up X) (hg : V c main_arg5 = up g)
include hX hg

theorem final0_2 : (dat0 V c).arrAt 2 cfg0.N = up (nrm X g) := by
  refine (dat0 V c).arrAt_eq_of_covers 2 _ (by decide +kernel) fun t hf y => ?_
  blk_simp
  rw [after0_2]
  frame_out
  rw [blk0_0 V c X hX t, blk0_1 V c g hg t, pay0_n, ← part_nrm _ _ (bound0 t)]
  exact up_part (nrm X g) (by blk_simp [idx0 t]; try omega) (by blk_simp [idx0 t]; try omega)

theorem final0_3 : (dat0 V c).arrAt 3 cfg0.N = up (tr (nrm X g)) := by
  refine (dat0 V c).arrAt_eq_of_covers 3 _ (by decide +kernel) fun t hf y => ?_
  blk_simp
  rw [after0_3]
  frame_out
  rw [blk0_0 V c X hX t, blk0_1 V c g hg t, pay0_nT, ← part_nrm _ _ (bound0 t), ← part_tr]
  exact up_part (tr (nrm X g)) (by blk_simp [idx0 t]; try omega) (by blk_simp [idx0 t]; try omega)

end Run0

/-! ## The projection -/

theorem pay1 (A : Mat 512 1024) (B : Mat 1024 2560) : k1_pay1 (F := Ideal) (up A) (up B) = up (mm A B) := eq_up fun i j => by
  pointwise [k1_pay1]
  simp only [up_ix2, mm, Attn.coe_sum, EReal.coe_mul]

theorem idx1 : ∀ t : Fin cfg1.N, win1_0.index t = ![t.val, 0] ∧ win1_1.index t = ![0, 0] ∧ win1_2.index t = ![t.val, 0] :=
  (by decide +kernel : ∀ t : Fin grid1.N, win1_0.index t = ![t.val, 0] ∧ win1_1.index t = ![0, 0] ∧ win1_2.index t = ![t.val, 0])

theorem blk1_0 (A : Mat 4096 1024) (h : V c main_v5_0 = up A) (t : Fin cfg1.N) :
    iblk1 V c 0 t = up (part 512 1024 A (512 * t.val) 0) := eq_up fun i j => by
  blk_simp [iblk1]
  rw [h]
  exact up_at A (by blk_simp [idx1 t]; omega) (by blk_simp [idx1 t]; try omega)
theorem blk1_1 (B : Mat 1024 2560) (h : V c main_v0 = up B) (t : Fin cfg1.N) : iblk1 V c 1 t = up B := eq_up fun i j => by
  blk_simp [iblk1]
  rw [h]
  exact congrArg₂ (fun a b => ((B a b : ℝ) : EReal)) (Fin.ext (by blk_simp [idx1 t]; try omega)) (Fin.ext (by blk_simp [idx1 t]; try omega))

theorem final1 (A : Mat 4096 1024) (B : Mat 1024 2560) (hA : V c main_v5_0 = up A) (hB : V c main_v0 = up B) :
    (dat1 V c).arrAt 2 cfg1.N = up (mm A B) := by
  refine (dat1 V c).arrAt_eq_of_covers 2 _ (by decide +kernel) fun t hf y => ?_
  blk_simp
  rw [after1_2]
  frame_out
  rw [blk1_0 V c A hA t, blk1_1 V c B hB t, pay1, ← part_rows_mm]
  exact up_part (mm A B) (by blk_simp [idx1 t]; omega) (by blk_simp [idx1 t]; try omega)

/-! ## The first part of the weights' gradient -/

theorem pay2 (A : Mat 512 4096) (B : Mat 4096 1024) : k2_pay1 (F := Ideal) (up A) (up B) = up (mm A B) := eq_up fun i j => by
  pointwise [k2_pay1]
  simp only [up_ix2, mm, Attn.coe_sum, EReal.coe_mul]

theorem idx2 : ∀ t : Fin cfg2.N, win2_0.index t = ![t.val, 0] ∧ win2_1.index t = ![0, 0] ∧ win2_2.index t = ![t.val, 0] :=
  (by decide +kernel : ∀ t : Fin grid2.N, win2_0.index t = ![t.val, 0] ∧ win2_1.index t = ![0, 0] ∧ win2_2.index t = ![t.val, 0])

theorem blk2_0 (A : Mat 1024 4096) (h : V c main_v5_1 = up A) (t : Fin cfg2.N) :
    iblk2 V c 0 t = up (part 512 4096 A (512 * t.val) 0) := eq_up fun i j => by
  blk_simp [iblk2]
  rw [h]
  exact up_at A (by blk_simp [idx2 t]; omega) (by blk_simp [idx2 t]; try omega)
theorem blk2_1 (B : Mat 4096 1024) (h : V c main_arg1 = up B) (t : Fin cfg2.N) : iblk2 V c 1 t = up B := eq_up fun i j => by
  blk_simp [iblk2]
  rw [h]
  exact congrArg₂ (fun a b => ((B a b : ℝ) : EReal)) (Fin.ext (by blk_simp [idx2 t]; try omega)) (Fin.ext (by blk_simp [idx2 t]; try omega))

theorem final2 (A : Mat 1024 4096) (B : Mat 4096 1024) (hA : V c main_v5_1 = up A) (hB : V c main_arg1 = up B) :
    (dat2 V c).arrAt 2 cfg2.N = up (mm A B) := by
  refine (dat2 V c).arrAt_eq_of_covers 2 _ (by decide +kernel) fun t hf y => ?_
  blk_simp
  rw [after2_2]
  frame_out
  rw [blk2_0 V c A hA t, blk2_1 V c B hB t, pay2, ← part_rows_mm]
  exact up_part (mm A B) (by blk_simp [idx2 t]; omega) (by blk_simp [idx2 t]; try omega)

/-! ## the second -/

theorem pay3 (A : Mat 512 4096) (B : Mat 4096 1536) : k3_pay1 (F := Ideal) (up A) (up B) = up (mm A B) := eq_up fun i j => by
  pointwise [k3_pay1]
  simp only [up_ix2, mm, Attn.coe_sum, EReal.coe_mul]

theorem idx3 : ∀ t : Fin cfg3.N, win3_0.index t = ![t.val, 0] ∧ win3_1.index t = ![0, 0] ∧ win3_2.index t = ![t.val, 0] :=
  (by decide +kernel : ∀ t : Fin grid3.N, win3_0.index t = ![t.val, 0] ∧ win3_1.index t = ![0, 0] ∧ win3_2.index t = ![t.val, 0])

theorem blk3_0 (A : Mat 1024 4096) (h : V c main_v5_1 = up A) (t : Fin cfg3.N) :
    iblk3 V c 0 t = up (part 512 4096 A (512 * t.val) 0) := eq_up fun i j => by
  blk_simp [iblk3]
  rw [h]
  exact up_at A (by blk_simp [idx3 t]; omega) (by blk_simp [idx3 t]; try omega)
theorem blk3_1 (B : Mat 4096 1536) (h : V c main_arg2 = up B) (t : Fin cfg3.N) : iblk3 V c 1 t = up B := eq_up fun i j => by
  blk_simp [iblk3]
  rw [h]
  exact congrArg₂ (fun a b => ((B a b : ℝ) : EReal)) (Fin.ext (by blk_simp [idx3 t]; try omega)) (Fin.ext (by blk_simp [idx3 t]; try omega))

theorem final3 (A : Mat 1024 4096) (B : Mat 4096 1536) (hA : V c main_v5_1 = up A) (hB : V c main_arg2 = up B) :
    (dat3 V c).arrAt 2 cfg3.N = up (mm A B) := by
  refine (dat3 V c).arrAt_eq_of_covers 2 _ (by decide +kernel) fun t hf y => ?_
  blk_simp
  rw [after3_2]
  frame_out
  rw [blk3_0 V c A hA t, blk3_1 V c B hB t, pay3, ← part_rows_mm]
  exact up_part (mm A B) (by blk_simp [idx3 t]; omega) (by blk_simp [idx3 t]; try omega)

/-! ## and the third -/

theorem pay4 (A : Mat 512 4096) (B : Mat 4096 128) : k4_pay1 (F := Ideal) (up A) (up B) = up (mm A B) := eq_up fun i j => by
  pointwise [k4_pay1]
  simp only [up_ix2, mm, Attn.coe_sum, EReal.coe_mul]

theorem idx4 : ∀ t : Fin cfg4.N, win4_0.index t = ![t.val, 0] ∧ win4_1.index t = ![0, 0] ∧ win4_2.index t = ![t.val, 0] :=
  (by decide +kernel : ∀ t : Fin grid4.N, win4_0.index t = ![t.val, 0] ∧ win4_1.index t = ![0, 0] ∧ win4_2.index t = ![t.val, 0])

theorem blk4_0 (A : Mat 1024 4096) (h : V c main_v5_1 = up A) (t : Fin cfg4.N) :
    iblk4 V c 0 t = up (part 512 4096 A (512 * t.val) 0) := eq_up fun i j => by
  blk_simp [iblk4]
  rw [h]
  exact up_at A (by blk_simp [idx4 t]; omega) (by blk_simp [idx4 t]; try omega)
theorem blk4_1 (B : Mat 4096 128) (h : V c main_arg3 = up B) (t : Fin cfg4.N) : iblk4 V c 1 t = up B := eq_up fun i j => by
  blk_simp [iblk4]
  rw [h]
  exact congrArg₂ (fun a b => ((B a b : ℝ) : EReal)) (Fin.ext (by blk_simp [idx4 t]; try omega)) (Fin.ext (by blk_simp [idx4 t]; try omega))

theorem final4 (A : Mat 1024 4096) (B : Mat 4096 128) (hA : V c main_v5_1 = up A) (hB : V c main_arg3 = up B) :
    (dat4 V c).arrAt 2 cfg4.N = up (mm A B) := by
  refine (dat4 V c).arrAt_eq_of_covers 2 _ (by decide +kernel) fun t hf y => ?_
  blk_simp
  rw [after4_2]
  frame_out
  rw [blk4_0 V c A hA t, blk4_1 V c B hB t, pay4, ← part_rows_mm]
  exact up_part (mm A B) (by blk_simp [idx4 t]; omega) (by blk_simp [idx4 t]; try omega)

end Proj

end
-- ==== Proof.ProjDx.lean ====
/- The gradients of the stream before the input projection, and of the weights of its norm. -/
module

public import proofs.«01_k».proof.Proof.ProjHead
public import proofs.«01_k».proof.Proof.FfnLoss
public import Idealize.ShloMosaic.Lib.Pipeline.ReadBack

@[expose] public section

set_option maxRecDepth 16384

noncomputable section

namespace Proj

open Ffn Idealize.ShloMosaic Idealize.ShloMosaic.TcCoe Idealize.ShloMosaic.Tactic Cert.Kernel4Ideal Cert.Kernel4Ideal.Gen Idealize.SL.Sem

variable (V : (c : Dev nD) → (b : Ref sig .tc) → Buf (Elt Ideal) ((c : Thread nD τ).loc b)) (c : Dev nD)

/-! ## The payloads -/

section Pay5

variable (p : Mat 512 1024) (u : Mat 1024 1024) (q : Mat 512 1536) (v : Mat 1024 1536) (s : Mat 512 128) (w : Mat 1024 128)
  (x : Mat 512 1024) (g : Mat 1 1024) (d : Mat 512 1024)

theorem pay5_dh : k5_pay4 (F := Ideal) (up p) (up u) (up q) (up v) (up s) (up w) = up (three p u q v s w) := eq_up fun i j => by
  pointwise [k5_pay4]
  simp only [up_ix2, three, plus, mm, tr, Attn.coe_sum, EReal.coe_mul, EReal.coe_add]

theorem pay5_rs (i : Fin 512) : k5_pay5 (F := Ideal) (up x) (ix2 i 0) = ((rs x i : ℝ) : EReal) := by
  have er := rs_up x i
  pointwise [k5_pay5]
  exact er

theorem pay5_xh : k5_pay6 (F := Ideal) (up x) = up (xh x) := eq_up fun i j => by
  have er := pay5_rs x i
  unfold k5_pay6
  pointwise
  rw [er]
  simp only [up_ix2, ← EReal.coe_mul, xh]

theorem pay5_dxh : k5_pay8 (F := Ideal) (up p) (up u) (up q) (up v) (up s) (up w) (up g)
    = up (fun i j => three p u q v s w i j * g 0 j) := eq_up fun i j => by
  have e := pay5_dh p u q v s w
  unfold k5_pay8
  rw [e]
  pointwise
  simp only [up_ix2, ← EReal.coe_mul]

theorem pay5_dxx : k5_pay9 (F := Ideal) (up p) (up u) (up q) (up v) (up s) (up w) (up x) (up g)
    = up (fun i j => three p u q v s w i j * g 0 j * xh x i j) := eq_up fun i j => by
  have e := pay5_dxh p u q v s w g
  have e' := pay5_xh x
  unfold k5_pay9
  rw [e, e']
  pointwise
  simp only [up_ix2, ← EReal.coe_mul]

theorem pay5_out : k5_pay1 (F := Ideal) (up d) (k5_pay5 (up x)) (k5_pay6 (up x))
      (k5_pay8 (up p) (up u) (up q) (up v) (up s) (up w) (up g)) (k5_pay9 (up p) (up u) (up q) (up v) (up s) (up w) (up x) (up g))
    = up (plus (nrmX x g (three p u q v s w)) d) := eq_up fun i j => by
  have er := pay5_rs x i
  rw [pay5_xh, pay5_dxh, pay5_dxx]
  generalize k5_pay5 (F := Ideal) (up x) = r at er
  pointwise [k5_pay1]
  rw [er]
  simp only [up_ix2, width_val, ← EReal.coe_mul, ← Attn.coe_sum, div_real _ (show (1024 : ℝ) ≠ 0 by norm_num), ← EReal.coe_sub,
    ← EReal.coe_add, nrmX, plus]

theorem pay5_dg (z : Vec Ideal S1x1024 .f32) (j : Fin 1024) :
    k5_pay3 (F := Ideal) (k5_pay7 (up p) (up u) (up q) (up v) (up s) (up w) (up x)) z (ix2 0 j)
      = z (ix2 0 j) + ((nrmG x (three p u q v s w) 0 j : ℝ) : EReal) := by
  have e := pay5_dh p u q v s w
  have e' := pay5_xh x
  unfold k5_pay7
  rw [e, e']
  pointwise [k5_pay3]
  simp only [up_ix2, ← EReal.coe_mul, ← Attn.coe_sum, nrmG]

theorem pay5_zero (j : S1x1024.Idx) : k5_pay2 (F := Ideal) j = 0 := by
  obtain ⟨k, rfl⟩ : ∃ k : Fin 1024, j = ix2 0 k := ⟨j 1, eq_row j⟩
  pointwise [k5_pay2]

end Pay5

/-! ## The arrays -/

theorem idx5 : ∀ t : Fin cfg5.N, win5_0.index t = ![t.val, 0] ∧ win5_1.index t = ![t.val, 0] ∧ win5_2.index t = ![t.val, 0]
    ∧ win5_3.index t = ![0, 0] ∧ win5_4.index t = ![0, 0] ∧ win5_5.index t = ![0, 0]
    ∧ win5_6.index t = ![t.val, 0] ∧ win5_7.index t = ![0, 0] ∧ win5_8.index t = ![t.val, 0]
    ∧ win5_9.index t = ![t.val, 0] ∧ win5_10.index t = ![0, 0] :=
  (by decide +kernel : ∀ t : Fin grid5.N, win5_0.index t = ![t.val, 0] ∧ win5_1.index t = ![t.val, 0] ∧ win5_2.index t = ![t.val, 0]
    ∧ win5_3.index t = ![0, 0] ∧ win5_4.index t = ![0, 0] ∧ win5_5.index t = ![0, 0]
    ∧ win5_6.index t = ![t.val, 0] ∧ win5_7.index t = ![0, 0] ∧ win5_8.index t = ![t.val, 0]
    ∧ win5_9.index t = ![t.val, 0] ∧ win5_10.index t = ![0, 0])

section Run5

variable (p : Mat 4096 1024) (q : Mat 4096 1536) (s : Mat 4096 128) (u : Mat 1024 1024) (v : Mat 1024 1536) (w : Mat 1024 128)
  (x : Mat 4096 1024) (g : Mat 1 1024) (d : Mat 4096 1024)

theorem blk5_0 (h : V c main_arg1 = up p) (t : Fin cfg5.N) : iblk5 V c 0 t = up (part 512 1024 p (512 * t.val) 0) := eq_up fun i j => by
  blk_simp [iblk5]
  rw [h]
  exact up_at p (by blk_simp [idx5 t]; omega) (by blk_simp [idx5 t]; try omega)
theorem blk5_1 (h : V c main_arg2 = up q) (t : Fin cfg5.N) : iblk5 V c 1 t = up (part 512 1536 q (512 * t.val) 0) := eq_up fun i j => by
  blk_simp [iblk5]
  rw [h]
  exact up_at q (by blk_simp [idx5 t]; omega) (by blk_simp [idx5 t]; try omega)
theorem blk5_2 (h : V c main_arg3 = up s) (t : Fin cfg5.N) : iblk5 V c 2 t = up (part 512 128 s (512 * t.val) 0) := eq_up fun i j => by
  blk_simp [iblk5]
  rw [h]
  exact up_at s (by blk_simp [idx5 t]; omega) (by blk_simp [idx5 t]; try omega)
theorem blk5_3 (h : V c main_v1 = up u) (t : Fin cfg5.N) : iblk5 V c 3 t = up u := eq_up fun i j => by
  blk_simp [iblk5]
  rw [h]
  exact congrArg₂ (fun a b => ((u a b : ℝ) : EReal)) (Fin.ext (by blk_simp [idx5 t]; try omega)) (Fin.ext (by blk_simp [idx5 t]; try omega))
theorem blk5_4 (h : V c main_v2 = up v) (t : Fin cfg5.N) : iblk5 V c 4 t = up v := eq_up fun i j => by
  blk_simp [iblk5]
  rw [h]
  exact congrArg₂ (fun a b => ((v a b : ℝ) : EReal)) (Fin.ext (by blk_simp [idx5 t]; try omega)) (Fin.ext (by blk_simp [idx5 t]; try omega))
theorem blk5_5 (h : V c main_v4 = up w) (t : Fin cfg5.N) : iblk5 V c 5 t = up w := eq_up fun i j => by
  blk_simp [iblk5]
  rw [h]
  exact congrArg₂ (fun a b => ((w a b : ℝ) : EReal)) (Fin.ext (by blk_simp [idx5 t]; try omega)) (Fin.ext (by blk_simp [idx5 t]; try omega))
theorem blk5_6 (h : V c main_arg0 = up x) (t : Fin cfg5.N) : iblk5 V c 6 t = up (part 512 1024 x (512 * t.val) 0) := eq_up fun i j => by
  blk_simp [iblk5]
  rw [h]
  exact up_at x (by blk_simp [idx5 t]; omega) (by blk_simp [idx5 t]; try omega)
theorem blk5_7 (h : V c main_arg5 = up g) (t : Fin cfg5.N) : iblk5 V c 7 t = up g := eq_up fun i j => by
  blk_simp [iblk5]
  rw [h]
  exact congrArg₂ (fun a b => ((g a b : ℝ) : EReal)) (Fin.ext (by blk_simp [idx5 t]; try omega)) (Fin.ext (by blk_simp [idx5 t]; try omega))
theorem blk5_8 (h : V c main_arg4 = up d) (t : Fin cfg5.N) : iblk5 V c 8 t = up (part 512 1024 d (512 * t.val) 0) := eq_up fun i j => by
  blk_simp [iblk5]
  rw [h]
  exact up_at d (by blk_simp [idx5 t]; omega) (by blk_simp [idx5 t]; try omega)

theorem rows5 (t : Fin cfg5.N) : 512 * t.val + 512 ≤ 4096 := by
  have := lt_of_lt_of_eq t.isLt N_5
  omega

/-- What a point computes, of its rows. -/
theorem tile5_dx (t : Fin cfg5.N) :
    k5_pay1 (F := Ideal) (up (part 512 1024 d (512 * t.val) 0)) (k5_pay5 (up (part 512 1024 x (512 * t.val) 0))) (k5_pay6 (up (part 512 1024 x (512 * t.val) 0)))
      (k5_pay8 (up (part 512 1024 p (512 * t.val) 0)) (up u) (up (part 512 1536 q (512 * t.val) 0)) (up v) (up (part 512 128 s (512 * t.val) 0)) (up w) (up g))
      (k5_pay9 (up (part 512 1024 p (512 * t.val) 0)) (up u) (up (part 512 1536 q (512 * t.val) 0)) (up v) (up (part 512 128 s (512 * t.val) 0)) (up w)
        (up (part 512 1024 x (512 * t.val) 0)) (up g))
      = up (part 512 1024 (plus (nrmX x g (three p u q v s w)) d) (512 * t.val) 0) := by
  rw [pay5_out, part_plus, part_nrmX _ _ _ (rows5 t), part_three]

theorem tile5_dg (t : Fin cfg5.N) (z : Vec Ideal S1x1024 .f32) (j : S1x1024.Idx) :
    k5_pay3 (F := Ideal) (k5_pay7 (up (part 512 1024 p (512 * t.val) 0)) (up u) (up (part 512 1536 q (512 * t.val) 0)) (up v) (up (part 512 128 s (512 * t.val) 0)) (up w)
        (up (part 512 1024 x (512 * t.val) 0))) z j
      = z j + ((nrmG (part 512 1024 x (512 * t.val) 0) (part 512 1024 (three p u q v s w) (512 * t.val) 0) 0 (j 1) : ℝ) : EReal) := by
  obtain ⟨k, rfl⟩ : ∃ k : Fin 1024, j = ix2 0 k := ⟨j 1, eq_row j⟩
  rw [pay5_dg, part_three]
  rfl

variable (hp : V c main_arg1 = up p) (hq : V c main_arg2 = up q) (hs : V c main_arg3 = up s) (hu : V c main_v1 = up u) (hv : V c main_v2 = up v) (hw : V c main_v4 = up w) (hx : V c main_arg0 = up x) (hg : V c main_arg5 = up g) (hd : V c main_arg4 = up d)
include hp hq hs hu hv hw hx hg hd

theorem final5_9 : (dat5 V c).arrAt 9 cfg5.N = up (plus (nrmX x g (three p u q v s w)) d) := by
  refine (dat5 V c).arrAt_eq_of_covers 9 _ (by decide +kernel) fun t hf y => ?_
  blk_simp
  rw [after5_9]
  by_cases h0 : t.val % 8 = 0
  · rw [outsAt5_A V c t h0]
    frame_out
    rw [blk5_0 V c p hp t, blk5_1 V c q hq t, blk5_2 V c s hs t, blk5_3 V c u hu t, blk5_4 V c v hv t, blk5_5 V c w hw t, blk5_6 V c x hx t, blk5_7 V c g hg t, blk5_8 V c d hd t, tile5_dx]
    exact up_part _ (by blk_simp [idx5 t]; omega) (by blk_simp [idx5 t]; try omega)
  · rw [outsAt5_B V c t h0]
    frame_out
    rw [blk5_0 V c p hp t, blk5_1 V c q hq t, blk5_2 V c s hs t, blk5_3 V c u hu t, blk5_4 V c v hv t, blk5_5 V c w hw t, blk5_6 V c x hx t, blk5_7 V c g hg t, blk5_8 V c d hd t, tile5_dx]
    exact up_part _ (by blk_simp [idx5 t]; omega) (by blk_simp [idx5 t]; try omega)

theorem final5_10 : (dat5 V c).arrAt 10 cfg5.N = up (nrmG x (three p u q v s w)) := by
  refine (dat5 V c).arrAt_eq_of_after_last 10 t5_7 (by decide +kernel) _ fun j => ?_
  blk_simp
  rw [after5_10, Pipeline.eq_sum_fin_of_reset_step_apply_last (fun n h => (outsAt5 V c n h).2) 8 (fun _ => 0)
    (fun t j => ((nrmG (part 512 1024 x (512 * t.val) 0) (part 512 1024 (three p u q v s w) (512 * t.val) 0) 0 (j 1) : ℝ) : EReal))
    (fun t h j => by
      rw [outsAt5_A V c t h]
      frame_out
      rw [blk5_0 V c p hp t, blk5_1 V c q hq t, blk5_2 V c s hs t, blk5_3 V c u hu t, blk5_4 V c v hv t, blk5_5 V c w hw t, blk5_6 V c x hx t, tile5_dg, pay5_zero])
    (fun t h j => by
      rw [outsAt5_B V c t h]
      frame_out
      rw [blk5_0 V c p hp t, blk5_1 V c q hq t, blk5_2 V c s hs t, blk5_3 V c u hu t, blk5_4 V c v hv t, blk5_5 V c w hw t, blk5_6 V c x hx t, tile5_dg])
    (le_of_eq N_5) t5_7 rfl _, zero_add, ← Attn.coe_sum]
  exact congrArg (fun r : ℝ => (r : EReal)) (tiles_nrmG _ _ _)

end Run5

end Proj

end
-- ==== Proof.ProjRun.lean ====
/- The six kernels of the input projection in their order: what each leaves, as functions of the arguments, and the run. -/
module

public import proofs.«01_k».proof.Proof.ProjDx

@[expose] public section

set_option maxRecDepth 16384

noncomputable section

namespace Proj

open Ffn Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The run, to any fact about the last contents -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each buffer at the last boundary's contents. -/
theorem run_last : θ_run (defs (F := Ideal)) (onTc (τ := τ) (main (F := Ideal))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c b hb => h c _ (mem_uc b hb))

/-- The padding, an integer zero made a float. -/
theorem sitofp_zero_word : FloatOps.sitofp (F := Ideal) .bf16 (0#32) = ((0 : ℝ) : EReal) := by
  show (((0#32 : BitVec 32).toInt : ℝ) : EReal) = ((0 : ℝ) : EReal)
  simp

/-! ## The boundaries -/

section Fold

variable (c : Dev nD)
variable (x : Mat 4096 1024) (a : Mat 4096 1024) (b : Mat 4096 1536) (f : Mat 4096 128) (d : Mat 4096 1024) (g : Mat 1 1024)
  (w : Mat 1024 2568)

/-- The arguments are the real matrices. -/
structure Args : Prop where
  x : m ((c : Thread nD τ).loc main_arg0) = up x
  a : m ((c : Thread nD τ).loc main_arg1) = up a
  b : m ((c : Thread nD τ).loc main_arg2) = up b
  f : m ((c : Thread nD τ).loc main_arg3) = up f
  d : m ((c : Thread nD τ).loc main_arg4) = up d
  g : m ((c : Thread nD τ).loc main_arg5) = up g
  w : m ((c : Thread nD τ).loc main_arg6) = up w

variable {m c x a b f d g w} (A : Args m c x a b f d g w)
include A

theorem at2_wMain : V2 m ρ c main_v0 = up (part 1024 2560 w 0 0) := by
  refine (W2_of m ρ c main_v0 (by decide)).trans ?_
  have e : W0 m ρ c (Proc.devRef .tc main_arg6) = up w := A.w
  show StableHlo.after hostOps0 (W0 m ρ c) (Proc.devRef .tc main_v0) = _
  after_results
  rw [e]
  refine eq_up fun i j => ?_
  pointwise
  exact congrArg _ (part_at w (by simp) (by simp)).symm
theorem at2_wUg : V2 m ρ c main_v1 = up (part 1024 1024 w 0 0) := by
  refine (W2_of m ρ c main_v1 (by decide)).trans ?_
  have e : W0 m ρ c (Proc.devRef .tc main_arg6) = up w := A.w
  show StableHlo.after hostOps0 (W0 m ρ c) (Proc.devRef .tc main_v1) = _
  after_results
  rw [e]
  refine eq_up fun i j => ?_
  pointwise
  exact congrArg _ (part_at w (by simp) (by simp)).symm
theorem at2_wQkv : V2 m ρ c main_v2 = up (part 1024 1536 w 0 1024) := by
  refine (W2_of m ρ c main_v2 (by decide)).trans ?_
  have e : W0 m ρ c (Proc.devRef .tc main_arg6) = up w := A.w
  show StableHlo.after hostOps0 (W0 m ρ c) (Proc.devRef .tc main_v2) = _
  after_results
  rw [e]
  refine eq_up fun i j => ?_
  pointwise
  exact congrArg _ (part_at w (by simp) (by simp)).symm
theorem at2_wPad : V2 m ρ c main_v4 = up (padded w) := by
  have e : W0 m ρ c (Proc.devRef .tc main_arg6) = up w := A.w
  show StableHlo.after hostOps0_1 (W1 m ρ c) (Proc.devRef .tc main_v4) = _
  after_results
  rw [e]
  show pad S1024x128 ![0, 0] ![0, 120] ![0, 0] (extractStridedSlice S1024x8 ![0, 2560] (up w) slices_S1024x2568_S1024x8_0_2560)
    (sitofp (F := Ideal) .bf16 (constantI S_ 32 0#32)) pads_S1024x8_S1024x128_000_01200 h_S_ = _
  refine eq_up fun i j => ?_
  pointwise
  unfold padded
  by_cases h : j.val < 8
  · rw [dif_pos h, dif_pos h]
    rfl
  · rw [dif_neg h, dif_neg h]
    exact sitofp_zero_word
theorem at2_x : V2 m ρ c main_arg0 = up x := (W2_args m ρ c main_arg0 (by decide)).trans A.x
theorem at2_g : V2 m ρ c main_arg5 = up g := (W2_args m ρ c main_arg5 (by decide)).trans A.g
theorem at3_h : V3 m ρ c main_v5_0 = up (nrm x g) :=
  (hF0 m ρ c 2).symm.trans (final0_2 (V2 m ρ) c _ _ (at2_x ρ A) (at2_g ρ A))
theorem at3_hT : V3 m ρ c main_v5_1 = up (tr (nrm x g)) :=
  (hF0 m ρ c 3).symm.trans (final0_3 (V2 m ρ) c _ _ (at2_x ρ A) (at2_g ρ A))
theorem at3_wMain : V3 m ρ c main_v0 = up (part 1024 2560 w 0 0) :=
  (W3_of m ρ c main_v0 (by decide +kernel)).trans (at2_wMain ρ A)
theorem at4_z : V4 m ρ c main_v6 = up (gZ x g w) :=
  (hF1 m ρ c 2).symm.trans (final1 (V3 m ρ) c _ _ (at3_h ρ A) (at3_wMain ρ A))
theorem at4_hT : V4 m ρ c main_v5_1 = up (tr (nrm x g)) :=
  (W4_of m ρ c main_v5_1 (by decide +kernel)).trans (at3_hT ρ A)
theorem at4_a : V4 m ρ c main_arg1 = up a := (W4_args m ρ c main_arg1 (by decide)).trans A.a
theorem at5_ug : V5 m ρ c main_v7 = up (gUg x a g) :=
  (hF2 m ρ c 2).symm.trans (final2 (V4 m ρ) c _ _ (at4_hT ρ A) (at4_a ρ A))
theorem at5_hT : V5 m ρ c main_v5_1 = up (tr (nrm x g)) :=
  (W5_of m ρ c main_v5_1 (by decide +kernel)).trans (at4_hT ρ A)
theorem at5_b : V5 m ρ c main_arg2 = up b := (W5_args m ρ c main_arg2 (by decide)).trans A.b
theorem at6_qkv : V6 m ρ c main_v8 = up (gQkv x b g) :=
  (hF3 m ρ c 2).symm.trans (final3 (V5 m ρ) c _ _ (at5_hT ρ A) (at5_b ρ A))
theorem at6_hT : V6 m ρ c main_v5_1 = up (tr (nrm x g)) :=
  (W6_of m ρ c main_v5_1 (by decide +kernel)).trans (at5_hT ρ A)
theorem at6_f : V6 m ρ c main_arg3 = up f := (W6_args m ρ c main_arg3 (by decide)).trans A.f
theorem at7_f128 : V7 m ρ c main_v9 = up (mm (tr (nrm x g)) f) :=
  (hF4 m ρ c 2).symm.trans (final4 (V6 m ρ) c _ _ (at6_hT ρ A) (at6_f ρ A))
theorem at8_f : V8 m ρ c main_v10 = up (gF x f g) := by
  have e : W7 m ρ c (Proc.devRef .tc main_v9) = up (mm (tr (nrm x g)) f) := at7_f128 ρ A
  show StableHlo.after hostOps5 (W7 m ρ c) (Proc.devRef .tc main_v10) = _
  after_results
  rw [e]
  refine eq_up fun i j => ?_
  pointwise
  exact congrArg _ (part_at (mm (tr (nrm x g)) f) (by simp) (by simp)).symm
theorem at8_arg0 : V8 m ρ c main_arg0 = up x := (W8_args m ρ c main_arg0 (by decide)).trans A.x
theorem at8_arg1 : V8 m ρ c main_arg1 = up a := (W8_args m ρ c main_arg1 (by decide)).trans A.a
theorem at8_arg2 : V8 m ρ c main_arg2 = up b := (W8_args m ρ c main_arg2 (by decide)).trans A.b
theorem at8_arg3 : V8 m ρ c main_arg3 = up f := (W8_args m ρ c main_arg3 (by decide)).trans A.f
theorem at8_arg4 : V8 m ρ c main_arg4 = up d := (W8_args m ρ c main_arg4 (by decide)).trans A.d
theorem at8_arg5 : V8 m ρ c main_arg5 = up g := (W8_args m ρ c main_arg5 (by decide)).trans A.g
theorem at8_wUg : V8 m ρ c main_v1 = up (part 1024 1024 w 0 0) :=
  (W8_of m ρ c main_v1 (by decide)).trans <|
  (W7_of m ρ c main_v1 (by decide +kernel)).trans <|
  (W6_of m ρ c main_v1 (by decide +kernel)).trans <|
  (W5_of m ρ c main_v1 (by decide +kernel)).trans <|
  (W4_of m ρ c main_v1 (by decide +kernel)).trans <|
  (W3_of m ρ c main_v1 (by decide +kernel)).trans (at2_wUg ρ A)
theorem at8_wQkv : V8 m ρ c main_v2 = up (part 1024 1536 w 0 1024) :=
  (W8_of m ρ c main_v2 (by decide)).trans <|
  (W7_of m ρ c main_v2 (by decide +kernel)).trans <|
  (W6_of m ρ c main_v2 (by decide +kernel)).trans <|
  (W5_of m ρ c main_v2 (by decide +kernel)).trans <|
  (W4_of m ρ c main_v2 (by decide +kernel)).trans <|
  (W3_of m ρ c main_v2 (by decide +kernel)).trans (at2_wQkv ρ A)
theorem at8_wPad : V8 m ρ c main_v4 = up (padded w) :=
  (W8_of m ρ c main_v4 (by decide)).trans <|
  (W7_of m ρ c main_v4 (by decide +kernel)).trans <|
  (W6_of m ρ c main_v4 (by decide +kernel)).trans <|
  (W5_of m ρ c main_v4 (by decide +kernel)).trans <|
  (W4_of m ρ c main_v4 (by decide +kernel)).trans <|
  (W3_of m ρ c main_v4 (by decide +kernel)).trans (at2_wPad ρ A)
theorem at9_gX : V9 m ρ c main_v11_0 = up (gX x a b f d g w) :=
  (hF5 m ρ c 9).symm.trans (final5_9 (V8 m ρ) c _ _ _ _ _ _ _ _ _ (at8_arg1 ρ A) (at8_arg2 ρ A) (at8_arg3 ρ A) (at8_wUg ρ A) (at8_wQkv ρ A)
    (at8_wPad ρ A) (at8_arg0 ρ A) (at8_arg5 ρ A) (at8_arg4 ρ A))
theorem at9_gG : V9 m ρ c main_v11_1 = up (gG x a b f w) :=
  (hF5 m ρ c 10).symm.trans (final5_10 (V8 m ρ) c _ _ _ _ _ _ _ _ _ (at8_arg1 ρ A) (at8_arg2 ρ A) (at8_arg3 ρ A) (at8_wUg ρ A) (at8_wQkv ρ A)
    (at8_wPad ρ A) (at8_arg0 ρ A) (at8_arg5 ρ A) (at8_arg4 ρ A))
theorem at9_z : V9 m ρ c main_v6 = up (gZ x g w) :=
  (W9_of m ρ c main_v6 (by decide +kernel)).trans <|
  (W8_of m ρ c main_v6 (by decide)).trans <|
  (W7_of m ρ c main_v6 (by decide +kernel)).trans <|
  (W6_of m ρ c main_v6 (by decide +kernel)).trans <|
  (W5_of m ρ c main_v6 (by decide +kernel)).trans (at4_z ρ A)
theorem at9_ug : V9 m ρ c main_v7 = up (gUg x a g) :=
  (W9_of m ρ c main_v7 (by decide +kernel)).trans <|
  (W8_of m ρ c main_v7 (by decide)).trans <|
  (W7_of m ρ c main_v7 (by decide +kernel)).trans <|
  (W6_of m ρ c main_v7 (by decide +kernel)).trans (at5_ug ρ A)
theorem at9_qkv : V9 m ρ c main_v8 = up (gQkv x b g) :=
  (W9_of m ρ c main_v8 (by decide +kernel)).trans <|
  (W8_of m ρ c main_v8 (by decide)).trans <|
  (W7_of m ρ c main_v8 (by decide +kernel)).trans (at6_qkv ρ A)
theorem at9_f : V9 m ρ c main_v10 = up (gF x f g) :=
  (W9_of m ρ c main_v10 (by decide +kernel)).trans (at8_f ρ A)

end Fold

end Proj

end
-- ==== Proof.ProjRef.lean ====
/- The reference's six results for the input projection: the same matrices as the kernels'. -/
module

public import proofs.«01_k».proof.Proof.ProjMath
public import proofs.«01_k».proof.Proof.FfnRef
public import proofs.«01_k».proof.Proof.Gen.Reference4Ideal.Read
public import Idealize.ShloMosaic.Lib.Pointwise.Tactic
public import Idealize.ShloMosaic.Lib.KernelVsHost

@[expose] public section

set_option maxRecDepth 16384

noncomputable section

namespace Proj

open Idealize.ShloMosaic Cert.Reference4Ideal Cert.Reference4Ideal.Read
open Ffn (Mat up up_ix2 eq_up mm tr plus part part_at ms ms_pos rs rsqrt_real xh nrm nrmG nrmX nrmX_rules div_real width_val eps_val
  negHalf_val)

section Ref

variable (x : Mat 4096 1024) (a : Mat 4096 1024) (b : Mat 4096 1536) (f : Mat 4096 128) (d : Mat 4096 1024) (g : Mat 1 1024)
  (w : Mat 1024 2568)

theorem v7_at (i : Fin 4096) : val_main_v7 (F := Ideal) (up x) (ix2 i 0) = ((ms x i : ℝ) : EReal) := by
  pointwise [val_main_v7, val_main_v6, val_main_cst_1, val_main_v5, val_main_v4, val_main_cst_0, val_main_v3, val_main_v2, val_main_cst, val_main_v1]
  simp only [up_ix2, width_val, eps_val, ← EReal.coe_mul, ← Attn.coe_sum]
  rw [div_real _ (by norm_num), ← EReal.coe_add]
  rfl

theorem v8_at (i : Fin 4096) : val_main_v8 (F := Ideal) (up x) (ix2 i 0) = ((rs x i : ℝ) : EReal) := by
  pointwise [val_main_v8, v7_at]
  exact rsqrt_real (ms_pos _ i)

theorem v13_at (i : Fin 4096) (j : Fin 1024) : val_main_v13 (F := Ideal) (up x) (ix2 i j) = ((xh x i j : ℝ) : EReal) := by
  pointwise [val_main_v13, val_main_v12, v8_at]
  simp only [up_ix2, xh, EReal.coe_mul]

theorem v15_at (i : Fin 4096) (j : Fin 1024) : val_main_v15 (F := Ideal) (up x) (up g) (ix2 i j) = ((nrm x g i j : ℝ) : EReal) := by
  pointwise [val_main_v15, val_main_v14, v13_at]
  simp only [up_ix2, nrm, EReal.coe_mul]

theorem ref_gZ : val_main_v47 (F := Ideal) (up x) (up g) (up w) = up (gZ x g w) := eq_up fun i j => by
  pointwise [val_main_v47, val_main_v46, val_main_v16, val_main_v0, v15_at]
  simp only [up_ix2, gZ, mm, Attn.coe_sum, EReal.coe_mul]
  refine Finset.sum_congr rfl fun k _ => ?_
  rw [part_at (a := k) (b := ⟨j.val, by omega⟩) w (by simp) (by simp)]

theorem v21_at (i : Fin 4096) (j : Fin 2568) :
    val_main_v21 (F := Ideal) (up a) (up b) (up f) (ix2 i j) = ((wide a b f i j : ℝ) : EReal) := by
  pointwise [val_main_v21, val_main_v20, val_main_v19, val_main_v18, val_main_v17]
  unfold wide
  by_cases h : j.val < 1024
  · rw [dif_pos h, dif_pos h]
    rfl
  · rw [dif_neg h, dif_neg h]
    by_cases h' : j.val < 2560
    · rw [dif_pos (by omega), dif_pos h']
      rfl
    · rw [dif_neg (by omega), dif_neg h']
      exact congrArg (fun k => ((f i k : ℝ) : EReal)) (Fin.ext (by show j.val - 1024 - 1536 = j.val - 2560; omega))

theorem v24_at (i : Fin 1024) (j : Fin 2568) :
    val_main_v24 (F := Ideal) (up x) (up a) (up b) (up f) (up g) (ix2 i j) = ((∑ k, nrm x g k i * wide a b f k j : ℝ) : EReal) := by
  pointwise [val_main_v24, val_main_v23, v21_at, v15_at]
  simp only [Attn.coe_sum, EReal.coe_mul]
  exact Finset.sum_congr rfl fun k _ => mul_comm _ _

theorem ref_gUg : val_main_v49 (F := Ideal) (up x) (up a) (up b) (up f) (up g) = up (gUg x a g) := eq_up fun i j => by
  pointwise [val_main_v49, val_main_v48, v24_at]
  refine congrArg _ (Finset.sum_congr (g := fun k => nrm x g k i * a k j) rfl fun k _ => ?_)
  exact congrArg (nrm x g k i * ·) (wide_a a b f k j)

theorem ref_gQkv : val_main_v51 (F := Ideal) (up x) (up a) (up b) (up f) (up g) = up (gQkv x b g) := eq_up fun i j => by
  pointwise [val_main_v51, val_main_v50, v24_at]
  refine congrArg _ (Finset.sum_congr (g := fun k => nrm x g k i * b k j) rfl fun k _ => ?_)
  exact congrArg (nrm x g k i * ·) (wide_b a b f k j)

theorem ref_gF : val_main_v53 (F := Ideal) (up x) (up a) (up b) (up f) (up g) = up (gF x f g) := eq_up fun i j => by
  pointwise [val_main_v53, val_main_v52, v24_at]
  unfold gF
  rw [part_at (a := i) (b := ⟨j.val, by omega⟩) _ (by simp) (by simp)]
  refine congrArg _ (Finset.sum_congr rfl fun k _ => ?_)
  exact congrArg (nrm x g k i * ·) (wide_f a b f k j)

theorem v25_at (i : Fin 4096) (j : Fin 1024) :
    val_main_v25 (F := Ideal) (up a) (up b) (up f) (up w) (ix2 i j) = ((dIn a b f w i j : ℝ) : EReal) := by
  rw [dIn_eq]
  pointwise [val_main_v25, val_main_v0, v21_at]
  simp only [up_ix2, mm, tr, Attn.coe_sum, EReal.coe_mul]

theorem ref_gG : val_main_v28 (F := Ideal) (up x) (up a) (up b) (up f) (up w) = up (gG x a b f w) := eq_up fun i j => by
  pointwise [val_main_v28, val_main_v27, val_main_cst_3, val_main_v26, v13_at, v25_at]
  simp only [gG, nrmG, Attn.coe_sum, EReal.coe_mul]
  exact Finset.sum_congr rfl fun a _ => mul_comm _ _

theorem v30_at (i : Fin 4096) (j : Fin 1024) :
    val_main_v30 (F := Ideal) (up a) (up b) (up f) (up g) (up w) (ix2 i j) = ((dIn a b f w i j * g 0 j : ℝ) : EReal) := by
  pointwise [val_main_v30, val_main_v29, v25_at]
  simp only [up_ix2, EReal.coe_mul]

theorem v39_at (i : Fin 4096) : val_main_v39 (F := Ideal) (up x) (up a) (up b) (up f) (up g) (up w) (ix2 i 0)
    = (((∑ k, x i k * (dIn a b f w i k * g 0 k)) * (-(1 / 2) * (rs x i / ms x i)) / 1024 : ℝ) : EReal) := by
  pointwise [val_main_v39, val_main_v38, val_main_cst_5, val_main_v37, val_main_v33, val_main_v32, val_main_cst_4, val_main_v31, val_main_v11, val_main_v10, val_main_cst_2, val_main_v9, v30_at, v8_at, v7_at]
  rw [div_real _ (ms_pos _ i).ne']
  simp only [up_ix2, negHalf_val, width_val, ← EReal.coe_mul, ← Attn.coe_sum]
  exact div_real _ (by norm_num)

theorem ref_gX : val_main_v45 (F := Ideal) (up x) (up a) (up b) (up f) (up d) (up g) (up w) = up (gX x a b f d g w) := eq_up fun i j => by
  pointwise [val_main_v45, val_main_v44, val_main_v43, val_main_v42, val_main_v41, val_main_v40, val_main_cst_6, val_main_v36, val_main_v35, val_main_v34, val_main_v22, v30_at, v8_at]
  rw [Fin.sum_univ_one, v39_at]
  simp only [up_ix2, ← EReal.coe_mul, ← EReal.coe_add]
  refine congrArg _ ?_
  unfold gX plus
  rw [← nrmX_rules]
  ring

end Ref

end Proj

end
-- ==== Proof.ProjClaims.lean ====
/- The claims about the input projection. -/
module

public import proofs.«01_k».proof.Defs
public import proofs.«01_k».proof.Proof.ProjRun
public import proofs.«01_k».proof.Proof.ProjRef
public import proofs.«01_k».proof.Proof.FfnClaims
public import proofs.«01_k».proof.Proof.Gen.Kernel4.Frame
public import proofs.«01_k».proof.Proof.Gen.Pre_finite_projection

@[expose] public section

set_option maxRecDepth 16384

noncomputable section

namespace Proj

open Idealize.ShloMosaic Idealize.ShloMosaic.TcCoe Idealize.SL.Sem
open Ffn (Mat up real_mat)
open Cert.Kernel4Ideal Cert.Kernel4Ideal.Gen

/-! ## Finite arguments are real matrices -/

theorem real_args (x0 : S4096x1024.Idx → EReal) (x1 : S4096x1024.Idx → EReal) (x2 : S4096x1536.Idx → EReal) (x3 : S4096x128.Idx → EReal) (x4 : S4096x1024.Idx → EReal) (x5 : S1x1024.Idx → EReal) (x6 : S1024x2568.Idx → EReal)
    (h0 : (Cert.Pre_finite_projection.fn (F := Ideal) x0 x1 x2 x3 x4 x5 x6).1 = fun _ => 1#1)
    (h1 : (Cert.Pre_finite_projection.fn (F := Ideal) x0 x1 x2 x3 x4 x5 x6).2.1 = fun _ => 1#1)
    (h2 : (Cert.Pre_finite_projection.fn (F := Ideal) x0 x1 x2 x3 x4 x5 x6).2.2.1 = fun _ => 1#1)
    (h3 : (Cert.Pre_finite_projection.fn (F := Ideal) x0 x1 x2 x3 x4 x5 x6).2.2.2.1 = fun _ => 1#1)
    (h4 : (Cert.Pre_finite_projection.fn (F := Ideal) x0 x1 x2 x3 x4 x5 x6).2.2.2.2.1 = fun _ => 1#1)
    (h5 : (Cert.Pre_finite_projection.fn (F := Ideal) x0 x1 x2 x3 x4 x5 x6).2.2.2.2.2.1 = fun _ => 1#1)
    (h6 : (Cert.Pre_finite_projection.fn (F := Ideal) x0 x1 x2 x3 x4 x5 x6).2.2.2.2.2.2 = fun _ => 1#1) :
    (∃ A : Mat 4096 1024, x0 = up A) ∧ (∃ A : Mat 4096 1024, x1 = up A) ∧ (∃ A : Mat 4096 1536, x2 = up A) ∧ (∃ A : Mat 4096 128, x3 = up A) ∧ (∃ A : Mat 4096 1024, x4 = up A) ∧ (∃ A : Mat 1 1024, x5 = up A) ∧ (∃ A : Mat 1024 2568, x6 = up A) := by
  unfold Cert.Pre_finite_projection.fn Cert.Pre_finite_projection.fn_part1 at h0 h1 h2 h3 h4 h5 h6
  refine ⟨real_mat fun i j => ?_, real_mat fun i j => ?_, real_mat fun i j => ?_, real_mat fun i j => ?_, real_mat fun i j => ?_, real_mat fun i j => ?_, real_mat fun i j => ?_⟩
  · have e := congrFun h0 (ix2 i j); pointwise at e; exact Attn.real_of_abs _ e
  · have e := congrFun h1 (ix2 i j); pointwise at e; exact Attn.real_of_abs _ e
  · have e := congrFun h2 (ix2 i j); pointwise at e; exact Attn.real_of_abs _ e
  · have e := congrFun h3 (ix2 i j); pointwise at e; exact Attn.real_of_abs _ e
  · have e := congrFun h4 (ix2 i j); pointwise at e; exact Attn.real_of_abs _ e
  · have e := congrFun h5 (ix2 i j); pointwise at e; exact Attn.real_of_abs _ e
  · have e := congrFun h6 (ix2 i j); pointwise at e; exact Attn.real_of_abs _ e

/-! ## The claims -/

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ideal_pre : Cert.quiescent_Kernel4Ideal_pre_finite_projection := fun m ρ _ => Cert.Kernel4Ideal.Gen.frame m ρ

theorem frame_ref : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

theorem frame_ref_pre : Cert.quiescent_Reference4Ideal_pre_finite_projection := fun m ρ _ => frame_ref m ρ trivial

/-- The kernels' results and the reference's are the same matrices. -/
theorem value : Cert.algebraic_Kernel4Ideal_Reference4Ideal_pre_finite_projection := by
  intro m g₀ m' g₀' hpre hagree
  refine ⟨fun c => W9 m g₀ c (Proc.devRef .tc main_v6), fun c => W9 m g₀ c (Proc.devRef .tc main_v7), fun c => W9 m g₀ c (Proc.devRef .tc main_v8), fun c => W9 m g₀ c (Proc.devRef .tc main_v10), fun c => W9 m g₀ c (Proc.devRef .tc main_v11_0), fun c => W9 m g₀ c (Proc.devRef .tc main_v11_1), ?_, ?_⟩
  · exact (θ_run Cert.Kernel4Ideal.defs _ _).mono (fun r h c => ⟨h c main_v6 (by decide), h c main_v7 (by decide), h c main_v8 (by decide), h c main_v10 (by decide), h c main_v11_0 (by decide), h c main_v11_1 (by decide),
      (h c main_arg0 (by decide)).trans (W9_main_arg0 m g₀ c),
      (h c main_arg1 (by decide)).trans (W9_main_arg1 m g₀ c),
      (h c main_arg2 (by decide)).trans (W9_main_arg2 m g₀ c),
      (h c main_arg3 (by decide)).trans (W9_main_arg3 m g₀ c),
      (h c main_arg4 (by decide)).trans (W9_main_arg4 m g₀ c),
      (h c main_arg5 (by decide)).trans (W9_main_arg5 m g₀ c),
      (h c main_arg6 (by decide)).trans (W9_main_arg6 m g₀ c)⟩) (run_last m g₀)
  · refine (θ_run Cert.Reference4Ideal.defs _ _).mono (fun r h c => ?_) (Cert.Reference4Ideal.Value.run (F := Ideal) m' g₀')
    obtain ⟨p0, p1, p2, p3, p4, p5, p6⟩ := hpre c
    obtain ⟨⟨x, q0⟩, ⟨a, q1⟩, ⟨b, q2⟩, ⟨f, q3⟩, ⟨d, q4⟩, ⟨g, q5⟩, ⟨w, q6⟩⟩ :=
      real_args _ _ _ _ _ _ _ p0 p1 p2 p3 p4 p5 p6
    have A : Args m c x a b f d g w := ⟨q0, q1, q2, q3, q4, q5, q6⟩
    obtain ⟨e0, e1, e2, e3, e4, e5, e6⟩ := hagree c
    have f0 : m' ((c.tc : Thread Cert.Reference4Ideal.nD Cert.Reference4Ideal.τ).loc Cert.Reference4Ideal.main_arg0) = up x := e0.trans q0
    have f1 : m' ((c.tc : Thread Cert.Reference4Ideal.nD Cert.Reference4Ideal.τ).loc Cert.Reference4Ideal.main_arg1) = up a := e1.trans q1
    have f2 : m' ((c.tc : Thread Cert.Reference4Ideal.nD Cert.Reference4Ideal.τ).loc Cert.Reference4Ideal.main_arg2) = up b := e2.trans q2
    have f3 : m' ((c.tc : Thread Cert.Reference4Ideal.nD Cert.Reference4Ideal.τ).loc Cert.Reference4Ideal.main_arg3) = up f := e3.trans q3
    have f4 : m' ((c.tc : Thread Cert.Reference4Ideal.nD Cert.Reference4Ideal.τ).loc Cert.Reference4Ideal.main_arg4) = up d := e4.trans q4
    have f5 : m' ((c.tc : Thread Cert.Reference4Ideal.nD Cert.Reference4Ideal.τ).loc Cert.Reference4Ideal.main_arg5) = up g := e5.trans q5
    have f6 : m' ((c.tc : Thread Cert.Reference4Ideal.nD Cert.Reference4Ideal.τ).loc Cert.Reference4Ideal.main_arg6) = up w := e6.trans q6
    obtain ⟨r0, r1, r2, r3, r4, r5, rest⟩ := h c
    refine ⟨r0.trans ?_, r1.trans ?_, r2.trans ?_, r3.trans ?_, r4.trans ?_, r5.trans ?_, rest⟩
    · rw [Cert.Reference4Ideal.Read.val_main_v47_eq, f0, f5, f6]
      exact (ref_gZ x g w).trans (at9_z g₀ A).symm
    · rw [Cert.Reference4Ideal.Read.val_main_v49_eq, f0, f1, f2, f3, f5]
      exact (ref_gUg x a b f g).trans (at9_ug g₀ A).symm
    · rw [Cert.Reference4Ideal.Read.val_main_v51_eq, f0, f1, f2, f3, f5]
      exact (ref_gQkv x a b f g).trans (at9_qkv g₀ A).symm
    · rw [Cert.Reference4Ideal.Read.val_main_v53_eq, f0, f1, f2, f3, f5]
      exact (ref_gF x a b f g).trans (at9_f g₀ A).symm
    · rw [Cert.Reference4Ideal.Read.val_main_v45_eq, f0, f1, f2, f3, f4, f5, f6]
      exact (ref_gX x a b f d g w).trans (at9_gX g₀ A).symm
    · rw [Cert.Reference4Ideal.Read.val_main_v28_eq, f0, f1, f2, f3, f6]
      exact (ref_gG x a b f w).trans (at9_gG g₀ A).symm

end Proj

end
-- ==== Proof.SmallClaims.lean ====
/- The claims about the optimiser's step on the small weights. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel7.Frame
public import proofs.«01_k».proof.Proof.Gen.Kernel7Ideal.Value
public import proofs.«01_k».proof.Proof.Gen.Reference7Ideal.Run

@[expose] public section

set_option maxRecDepth 16384

noncomputable section

open Idealize.ShloMosaic Idealize.ShloMosaic.TcCoe Idealize.SL.Sem

namespace Small

/-- The kernel stores a value as it stands, through a cast to its own shape, so a result is the reference's where the value is. -/
theorem stored {s : Shape} {r : s.Idx → EReal} (v : s.Idx → EReal) (h : s.ShapeCasts s) (e : v = r) : shapeCast s v h = r :=
  (shapeCast_self v h).trans e

namespace Vecs

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ref : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The kernel's changes and moments of a norm's weight and a weight of 512 are the reference's. -/
theorem value : Cert.algebraic_Kernel5Ideal_Reference5Ideal := by
  intro m g m' g' _ hagree
  refine ⟨_, _, _, _, _, _, Cert.Kernel5Ideal.Value.run m g, ?_⟩
  refine (θ_run Cert.Reference5Ideal.defs _ _).mono (fun r h c => ?_) (Cert.Reference5Ideal.Value.run (F := Ideal) m' g')
  obtain ⟨e0, e1, e2, e3, e4, e5, e6, e7⟩ := hagree c
  obtain ⟨r0, r1, r2, r3, r4, r5, rest⟩ := h c
  simp only [← e0, ← e1, ← e2, ← e3, ← e4, ← e5, ← e6, ← e7]
  refine ⟨r0.trans ?_, r1.trans ?_, r2.trans ?_, r3.trans ?_, r4.trans ?_, r5.trans ?_, rest⟩
  all_goals exact (stored _ _ (funext fun _ => rfl)).symm

end Vecs

namespace Gate

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_ref : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

/-- The kernel's changes and moments of the forget gate's and the convolution's weights are the reference's. -/
theorem value : Cert.algebraic_Kernel7Ideal_Reference7Ideal := by
  intro m g m' g' _ hagree
  refine ⟨_, _, _, _, _, _, Cert.Kernel7Ideal.Value.run m g, ?_⟩
  refine (θ_run Cert.Reference7Ideal.defs _ _).mono (fun r h c => ?_) (Cert.Reference7Ideal.Value.run (F := Ideal) m' g')
  obtain ⟨e0, e1, e2, e3, e4, e5, e6, e7⟩ := hagree c
  obtain ⟨r0, r1, r2, r3, r4, r5, rest⟩ := h c
  simp only [← e0, ← e1, ← e2, ← e3, ← e4, ← e5, ← e6, ← e7]
  refine ⟨r0.trans ?_, r1.trans ?_, r2.trans ?_, r3.trans ?_, r4.trans ?_, r5.trans ?_, rest⟩
  all_goals exact (stored _ _ (funext fun _ => rfl)).symm

end Gate

end Small

end
-- ==== Proof.ChipTile.lean ====
/- The optimiser's step on a weight whose gradient is summed over the chips: what one call leaves. -/
module

public import proofs.«01_k».proof.Proof.Gen.Kernel6Ideal.Frame
public import Idealize.ShloMosaic.Lib.Pipeline.ReadBack
public import Idealize.ShloMosaic.Lib.Pipeline.Value

@[expose] public section

set_option maxRecDepth 16384

noncomputable section

namespace Chip

open Idealize.ShloMosaic Idealize.ShloMosaic.TcCoe Idealize.ShloMosaic.Tactic
open Cert.Kernel6Ideal Cert.Kernel6Ideal.Gen Idealize.SL.Sem

theorem hz : (![0, 0, 0] : Fin 3 → Nat) = fun _ => 0 := funext fun a => by fin_cases a <;> rfl

section Maths

variable {F : FTy → Type} [FloatOps F]

/-- Part `j` of four. -/
def part (j : Fin 4) (x : Vec F S4x128x1024 .bf16) : Vec F S1x128x1024 .bf16 := fun y =>
  x fun a => match a with | ⟨0, _⟩ => j | ⟨1, _⟩ => y 1 | ⟨2, _⟩ => y 2

/-- The number `b` everywhere. -/
abbrev num (b : BitVec 32) : FVec F S1x128x1024 .f32 := broadcast S1x128x1024 (Scalar.ofBits .f32 b)

/-- The sum of the chip's own part and the three others'. -/
def grad (p g1 g2 g3 : Vec F S1x128x1024 .bf16) : FVec F S1x128x1024 .f32 :=
  addf (addf (addf (addf (num 0x00000000#32) (extf .f32 p bitsLt_bf16_f32)) (extf .f32 g1 bitsLt_bf16_f32))
    (extf .f32 g2 bitsLt_bf16_f32)) (extf .f32 g3 bitsLt_bf16_f32)

/-- The new moments, and the change of the weight. -/
def newM (g mo : FVec F S1x128x1024 .f32) : FVec F S1x128x1024 .f32 := addf (mulf (num 0x3F666666#32) mo) (mulf (num 0x3DCCCCCD#32) g)
def newV (g vo : FVec F S1x128x1024 .f32) : FVec F S1x128x1024 .f32 := addf (mulf (num 0x3F7FBE77#32) vo) (mulf (num 0x3A83126F#32) (mulf g g))
def change (w g mo vo : FVec F S1x128x1024 .f32) : FVec F S1x128x1024 .f32 :=
  mulf (num 0xBA83126F#32) (addf (divf (divf (newM g mo) (num 0x3F26BD02#32)) (addf (sqrt (divf (newV g vo) (num 0x3C231ACC#32))) (num 0x322BCC77#32)))
    (mulf (num 0x3C23D70A#32) w))

variable (p g0 g1 g2 g3 : Vec F S1x128x1024 .bf16) (w mo vo : FVec F S1x128x1024 .f32)

abbrev tb (v : Vec F S1x128x1024 .bf16) : Vec F S1x128x1024 .bf16 :=
  shapeCast S1x128x1024 (shapeCast S128x1024 v shapeCasts_S1x128x1024_S128x1024) shapeCasts_S128x1024_S1x128x1024
def tf (v : Vec F S1x128x1024 .f32) : Vec F S1x128x1024 .f32 :=
  shapeCast S1x128x1024 (shapeCast S128x1024 v shapeCasts_S1x128x1024_S128x1024) shapeCasts_S128x1024_S1x128x1024

theorem tb_eq (v : Vec F S1x128x1024 .bf16) : tb v = v := shapeCast_shapeCast v _ _
theorem tf_eq (v : Vec F S1x128x1024 .f32) : tf v = v := shapeCast_shapeCast v _ _

/-- The chip's index is zero, so the kernel's choices take the first part from the chip's own and the rest from the others'. -/
theorem pay_grad : k0_pay7 (k0_pay4 0#32 p g0 p g1 p g2) (Scalar.cmpi .eq 0#32 3#32) (k0_pay5 p) g3 = grad p g1 g2 g3 :=
  (show _ = grad (tb p) (tb g1) (tb g2) (tb g3) from rfl).trans (by rw [tb_eq p, tb_eq g1, tb_eq g2, tb_eq g3])

theorem pay_m : k0_pay2 (k0_pay8 (k0_pay4 0#32 p g0 p g1 p g2) (Scalar.cmpi .eq 0#32 3#32) (k0_pay5 p) g3 mo)
    = newM (grad p g1 g2 g3) mo :=
  (show _ = newM (grad (tb p) (tb g1) (tb g2) (tb g3)) (tf mo) from rfl).trans (by rw [tb_eq p, tb_eq g1, tb_eq g2, tb_eq g3]; simp only [tf_eq])

theorem pay_v : k0_pay3 (k0_pay9 (k0_pay4 0#32 p g0 p g1 p g2) (Scalar.cmpi .eq 0#32 3#32) (k0_pay5 p) g3 vo)
    = newV (grad p g1 g2 g3) vo :=
  (show _ = newV (grad (tb p) (tb g1) (tb g2) (tb g3)) (tf vo) from rfl).trans (by rw [tb_eq p, tb_eq g1, tb_eq g2, tb_eq g3]; simp only [tf_eq])

theorem pay_change : k0_pay1 (k0_pay10 (k0_pay4 0#32 p g0 p g1 p g2) (Scalar.cmpi .eq 0#32 3#32) (k0_pay5 p) g3 w mo vo)
    = change w (grad p g1 g2 g3) mo vo :=
  (show _ = change (tf w) (grad (tb p) (tb g1) (tb g2) (tb g3)) (tf mo) (tf vo) from rfl).trans (by rw [tb_eq p, tb_eq g1, tb_eq g2, tb_eq g3]; simp only [tf_eq])

/-- A load of the whole block is the block, one of a part the part. -/
theorem ld_whole {e : EltTy} (x : Vec F S1x128x1024 e) (inb) : View.ld x (Rect.unit (s := S1x128x1024) ![0, 0, 0] ![1, 128, 1024] inb) = x :=
  View.ld_unit_zero hz inb x

theorem ld_part (j : Fin 4) (k : Nat) (hk : j.val = k) (x : Vec F S4x128x1024 .bf16) (inb) :
    View.ld x (Rect.unit (s := S4x128x1024) ![k, 0, 0] ![1, 128, 1024] inb) = part j x := by
  funext y
  show x _ = _
  unfold part
  congr 1
  funext a
  apply Fin.ext
  have h0 : (y 0).val < 1 := (y 0).isLt
  match a with
  | ⟨0, _⟩ => show k + 1 * (y 0).val = j.val; omega
  | ⟨1, _⟩ => show 0 + 1 * (y 1).val = (y 1).val; omega
  | ⟨2, _⟩ => show 0 + 1 * (y 2).val = (y 2).val; omega

end Maths

section Table

variable {F : FTy → Type} [FloatOps F] (m : (ℓ : Loc nD τ sig) → Buf (Elt F) ℓ)

/-- The table that the call is launched with holds the chip's index, zero. -/
theorem tbl_zero : tbl m 0 = fun _ => 0#32 := by
  show Cert.Kernel6Ideal.Gen.V m 0 main_v0 = _
  unfold Cert.Kernel6Ideal.Gen.V
  after_results_simp
  rfl

/-- So the call's own part is the first. -/
theorem own_part (i : grid0.Coords) : cc0_transform_0 inb_S1_S1_0 numel1_S1 (tbl m) i = ![0, 0, 0] := by
  unfold cc0_transform_0 Pipeline.Prefetch.Contents.at
  dsimp only
  rw [tbl_zero]
  have h : (i 0).val = 0 := by have := (i 0).isLt; show _ = _; have h : (i 0).val < 1 := this; omega
  rw [h]
  rfl

theorem ok : Ok m := by
  unfold Ok ok0
  intro i
  rw [own_part]
  exact ⟨by decide, .inr (Affine.block_words_dvd (of_decide_eq_true rfl) (by decide))⟩

end Table

section Tile

variable {F : FTy → Type} [FloatOps F] (c : Dev nD) (i : grid0.Coords) (arg2 : Memref sig .tc .vmem S1x128x1024 .bf16)
  (harg2 : arg2.IsWhole) (arg3 : Memref sig .tc .vmem S4x128x1024 .bf16) (harg3 : arg3.IsWhole) (arg4 : Memref sig .tc .vmem S1x128x1024 .f32)
  (harg4 : arg4.IsWhole) (arg5 : Memref sig .tc .vmem S1x128x1024 .f32) (harg5 : arg5.IsWhole)
  (arg6 : Memref sig .tc .vmem S1x128x1024 .f32) (harg6 : arg6.IsWhole) (arg7 : Memref sig .tc .vmem S1x128x1024 .f32)
  (harg7 : arg7.IsWhole) (arg8 : Memref sig .tc .vmem S1x128x1024 .f32) (harg8 : arg8.IsWhole)
  (arg9 : Memref sig .tc .vmem S1x128x1024 .f32) (harg9 : arg9.IsWhole) (arg10 : Memref sig .tc .vmem S1x128x1024 .f32)
  (harg10 : arg10.IsWhole) (x0 : Vec F S1x128x1024 .bf16) (x1 : Vec F S4x128x1024 .bf16) (x2 x3 x4 : Vec F S1x128x1024 .f32)
  (xt : TbBuf0 (F := F) c tbM0_0) (hx : xt = fun _ => 0#32)

include hx

/-- The summed gradient, -/
theorem out_5 : out0_A_5 c i arg2 harg2 arg3 harg3 arg4 harg4 arg5 harg5 arg6 harg6 arg7 harg7 arg8 harg8
    arg9 harg9 arg10 harg10 x0 x1 x2 x3 x4 xt
    = grad x0 (part 1 x1) (part 2 x1) (part 3 x1) := by
  have hcov := cover0_A_5 c i arg2 harg2 arg3 harg3 arg4 harg4 arg5 harg5 arg6 harg6 arg7 harg7 arg8 harg8
    arg9 harg9 arg10 harg10 x0 x1 x2 x3 x4 xt
  subst hx
  unfold out0_A_5
  rw [View.read_writes_eq_canon _ _ _ hcov]
  unfold kernelRun0_A
  dsimp only
  sl_unfold_words
  simp only [View.readAt_eq_ld, harg2.read_unread, harg3.read_unread, harg4.read_unread, harg5.read_unread, harg6.read_unread]
  rw [View.canon_unit_zero hz]
  simp only [ld_whole]
  rw [ld_part 1 1 rfl, ld_part 2 2 rfl, ld_part 3 3 rfl]
  exact pay_grad _ _ _ _ _

/-- the change of the weight, -/
theorem out_6 : out0_A_6 c i arg2 harg2 arg3 harg3 arg4 harg4 arg5 harg5 arg6 harg6 arg7 harg7 arg8 harg8
    arg9 harg9 arg10 harg10 x0 x1 x2 x3 x4 xt
    = change x2 (grad x0 (part 1 x1) (part 2 x1) (part 3 x1)) x3 x4 := by
  have hcov := cover0_A_6 c i arg2 harg2 arg3 harg3 arg4 harg4 arg5 harg5 arg6 harg6 arg7 harg7 arg8 harg8
    arg9 harg9 arg10 harg10 x0 x1 x2 x3 x4 xt
  subst hx
  unfold out0_A_6
  rw [View.read_writes_eq_canon _ _ _ hcov]
  unfold kernelRun0_A
  dsimp only
  sl_unfold_words
  simp only [View.readAt_eq_ld, harg2.read_unread, harg3.read_unread, harg4.read_unread, harg5.read_unread, harg6.read_unread]
  rw [View.canon_unit_zero hz]
  simp only [ld_whole]
  rw [ld_part 1 1 rfl, ld_part 2 2 rfl, ld_part 3 3 rfl]
  exact pay_change _ _ _ _ _ _ _ _

/-- the first moment -/
theorem out_7 : out0_A_7 c i arg2 harg2 arg3 harg3 arg4 harg4 arg5 harg5 arg6 harg6 arg7 harg7 arg8 harg8
    arg9 harg9 arg10 harg10 x0 x1 x2 x3 x4 xt
    = newM (grad x0 (part 1 x1) (part 2 x1) (part 3 x1)) x3 := by
  have hcov := cover0_A_7 c i arg2 harg2 arg3 harg3 arg4 harg4 arg5 harg5 arg6 harg6 arg7 harg7 arg8 harg8
    arg9 harg9 arg10 harg10 x0 x1 x2 x3 x4 xt
  subst hx
  unfold out0_A_7
  rw [View.read_writes_eq_canon _ _ _ hcov]
  unfold kernelRun0_A
  dsimp only
  sl_unfold_words
  simp only [View.readAt_eq_ld, harg2.read_unread, harg3.read_unread, harg4.read_unread, harg5.read_unread, harg6.read_unread]
  rw [View.canon_unit_zero hz]
  simp only [ld_whole]
  rw [ld_part 1 1 rfl, ld_part 2 2 rfl, ld_part 3 3 rfl]
  exact pay_m _ _ _ _ _ _

/-- and the second. -/
theorem out_8 : out0_A_8 c i arg2 harg2 arg3 harg3 arg4 harg4 arg5 harg5 arg6 harg6 arg7 harg7 arg8 harg8
    arg9 harg9 arg10 harg10 x0 x1 x2 x3 x4 xt
    = newV (grad x0 (part 1 x1) (part 2 x1) (part 3 x1)) x4 := by
  have hcov := cover0_A_8 c i arg2 harg2 arg3 harg3 arg4 harg4 arg5 harg5 arg6 harg6 arg7 harg7 arg8 harg8
    arg9 harg9 arg10 harg10 x0 x1 x2 x3 x4 xt
  subst hx
  unfold out0_A_8
  rw [View.read_writes_eq_canon _ _ _ hcov]
  unfold kernelRun0_A
  dsimp only
  sl_unfold_words
  simp only [View.readAt_eq_ld, harg2.read_unread, harg3.read_unread, harg4.read_unread, harg5.read_unread, harg6.read_unread]
  rw [View.canon_unit_zero hz]
  simp only [ld_whole]
  rw [ld_part 1 1 rfl, ld_part 2 2 rfl, ld_part 3 3 rfl]
  exact pay_v _ _ _ _ _ _

end Tile

section Arrays

variable {F : FTy → Type} [FloatOps F] (m : (ℓ : Loc nD τ sig) → Buf (Elt F) ℓ) (c : Dev nD)

abbrev aP : Vec F S4x128x1024 .bf16 := m ((c : Thread nD τ).loc main_arg0)
abbrev aG : Vec F S4x128x1024 .bf16 := m ((c : Thread nD τ).loc main_arg1)
abbrev aW : Vec F S1x128x1024 .f32 := m ((c : Thread nD τ).loc main_arg2)
abbrev aM : Vec F S1x128x1024 .f32 := m ((c : Thread nD τ).loc main_arg3)
abbrev aV : Vec F S1x128x1024 .f32 := m ((c : Thread nD τ).loc main_arg4)

/-- The whole grid is one point. -/
theorem coord_zero (i : grid0.Coords) : (i 0).val = 0 := by have h : (i 0).val < 1 := (i 0).isLt; omega

theorem index_rest (i : grid0.Coords) (a : Fin 3) : cc0_transform_1 i a = 0 := by
  unfold cc0_transform_1
  dsimp only
  rw [coord_zero i]
  match a with
  | ⟨0, _⟩ => rfl
  | ⟨1, _⟩ => rfl
  | ⟨2, _⟩ => rfl

/-- A block at the origin of the four parts is the first of them. -/
theorem emb_own {E : (⟨3, ![4, 128, 1024]⟩ : Shape).Idx} (y : S1x128x1024.Idx) (f : Fin 3 → ℕ) (hf : f = ![0, 0, 0])
    (h : ∀ a, (E a).val = f a * S1x128x1024.size a + 1 * (y a).val) :
    E = fun a => match a with | ⟨0, _⟩ => (0 : Fin 4) | ⟨1, _⟩ => y 1 | ⟨2, _⟩ => y 2 := by
  subst hf
  have h0 : (y 0).val < 1 := (y 0).isLt
  funext a
  apply Fin.ext
  match a with
  | ⟨0, _⟩ => refine (h 0).trans ?_; show 0 * 1 + 1 * (y 0).val = 0; omega
  | ⟨1, _⟩ => refine (h 1).trans ?_; show 0 * 128 + 1 * (y 1).val = (y 1).val; omega
  | ⟨2, _⟩ => refine (h 2).trans ?_; show 0 * 1024 + 1 * (y 2).val = (y 2).val; omega

/-- The blocks are the arrays, and that of the chip's own sums its own part. -/
theorem blk_p (t : Fin (cfgM m (ok m)).N) : (iblk m (ok m) c 0 t : Vec F S1x128x1024 .bf16) = part 0 (aP m c) := by
  funext y
  unfold iblk
  rw [View.read_apply]
  show Cert.Kernel6Ideal.Gen.V m c main_arg0 _ = _
  rw [V_main_arg0]
  exact congrArg (aP m c) (emb_own y _ (own_part m (grid0.coords t)) fun a => rfl)

/-- Nor does a block at the origin read an array of four such parts otherwise than whole. -/
theorem emb_four {E : (⟨3, ![4, 128, 1024]⟩ : Shape).Idx} (y : S4x128x1024.Idx) (i : grid0.Coords)
    (h : ∀ a, (E a).val = cc0_transform_1 i a * S4x128x1024.size a + 1 * (y a).val) : E = y := by
  funext a
  apply Fin.ext
  rw [h, index_rest]
  omega

theorem blk_g (t : Fin (cfgM m (ok m)).N) : (iblk m (ok m) c 1 t : Vec F S4x128x1024 .bf16) = aG m c := by
  funext y
  unfold iblk
  rw [View.read_apply]
  show Cert.Kernel6Ideal.Gen.V m c main_arg1 _ = _
  rw [V_main_arg1]
  exact congrArg (aG m c) (emb_four y (grid0.coords t) fun a => rfl)

/-- A block at the origin of an array of the weight's shape reads it whole. -/
theorem emb_whole {E : (⟨3, ![1, 128, 1024]⟩ : Shape).Idx} (y : S1x128x1024.Idx) (i : grid0.Coords)
    (h : ∀ a, (E a).val = cc0_transform_1 i a * S1x128x1024.size a + 1 * (y a).val) : E = y := by
  funext a
  apply Fin.ext
  rw [h, index_rest]
  omega

theorem blk_w (t : Fin (cfgM m (ok m)).N) : (iblk m (ok m) c 2 t : Vec F S1x128x1024 .f32) = aW m c := by
  funext y
  unfold iblk
  rw [View.read_apply]
  show Cert.Kernel6Ideal.Gen.V m c main_arg2 _ = _
  rw [V_main_arg2]
  exact congrArg (aW m c) (emb_whole y (grid0.coords t) fun a => rfl)

theorem blk_m (t : Fin (cfgM m (ok m)).N) : (iblk m (ok m) c 3 t : Vec F S1x128x1024 .f32) = aM m c := by
  funext y
  unfold iblk
  rw [View.read_apply]
  show Cert.Kernel6Ideal.Gen.V m c main_arg3 _ = _
  rw [V_main_arg3]
  exact congrArg (aM m c) (emb_whole y (grid0.coords t) fun a => rfl)

theorem blk_v (t : Fin (cfgM m (ok m)).N) : (iblk m (ok m) c 4 t : Vec F S1x128x1024 .f32) = aV m c := by
  funext y
  unfold iblk
  rw [View.read_apply]
  show Cert.Kernel6Ideal.Gen.V m c main_arg4 _ = _
  rw [V_main_arg4]
  exact congrArg (aV m c) (emb_whole y (grid0.coords t) fun a => rfl)

/-- The four results. -/
def resG : Vec F S1x128x1024 .f32 := grad (part 0 (aP m c)) (part 1 (aG m c)) (part 2 (aG m c)) (part 3 (aG m c))
def resD : Vec F S1x128x1024 .f32 := change (aW m c) (resG m c) (aM m c) (aV m c)
def resM : Vec F S1x128x1024 .f32 := newM (resG m c) (aM m c)
def resV : Vec F S1x128x1024 .f32 := newV (resG m c) (aV m c)

/-- What the point leaves of each. -/
theorem left_g (t : Fin (cfgM m (ok m)).N) : (outsAt0 m (ok m) c t).1 = resG m c := by
  unfold outsAt0
  dsimp only
  refine (out_5 (hx := tbl_zero m) ..).trans ?_
  rw [blk_p, blk_g]
  rfl

theorem left_d (t : Fin (cfgM m (ok m)).N) : (outsAt0 m (ok m) c t).2.1 = resD m c := by
  unfold outsAt0
  dsimp only
  refine (out_6 (hx := tbl_zero m) ..).trans ?_
  rw [blk_p, blk_g, blk_w, blk_m, blk_v]
  rfl

theorem left_m (t : Fin (cfgM m (ok m)).N) : (outsAt0 m (ok m) c t).2.2.1 = resM m c := by
  unfold outsAt0
  dsimp only
  refine (out_7 (hx := tbl_zero m) ..).trans ?_
  rw [blk_p, blk_g, blk_m]
  rfl

theorem left_v (t : Fin (cfgM m (ok m)).N) : (outsAt0 m (ok m) c t).2.2.2 = resV m c := by
  unfold outsAt0
  dsimp only
  refine (out_8 (hx := tbl_zero m) ..).trans ?_
  rw [blk_p, blk_g, blk_v]
  rfl

/-- The one block of a result is its whole array. -/
theorem in_block (i : S1x128x1024.Idx) (t : Fin grid0.N) (a : Fin 3) :
    cc0_transform_1 (grid0.coords t) a * S1x128x1024.size a ≤ (i a).val
      ∧ (i a).val < cc0_transform_1 (grid0.coords t) a * S1x128x1024.size a + S1x128x1024.size a := by
  rw [index_rest]
  have h := (i a).isLt
  omega

/-- A piece of a whole array has the elements of its rectangle. -/
theorem mem_piece (b : Ref sig .tc) (r : Rect b.ty.shape) (i : b.ty.shape.Idx) (h : i ∈ r.set) : i ∈ ((View.whole b).slice r).set := by
  rw [View.set_slice_whole]
  exact h

theorem final_g : (dats m (ok m) 0 c).arrAt 5 (cfgM m (ok m)).N = resG m c := by
  refine (dats m (ok m) 0 c).arrAt_eq_of_cover 5 (resG m c) (fun t _ => ?_) fun i => ?_
  · show ((cfgM m (ok m)).win 5).cut (grid0.coords t) ((dats m (ok m) 0 c).after 5 t) = _
    rw [after0_5, left_g]
    funext y
    exact congrArg (resG m c) (emb_whole y (grid0.coords t) fun a => rfl).symm
  · have hN : 0 < grid0.N := by decide
    obtain ⟨t, -⟩ : ∃ t : Fin (cfgM m (ok m)).N, t = ⟨0, hN⟩ := ⟨_, rfl⟩
    refine ⟨t, flush0_5 (adm m (ok m)) t, ?_⟩
    exact mem_piece main_v1_0 _ i (Rect.mem_set_unit.mpr (in_block i t))

theorem final_d : (dats m (ok m) 0 c).arrAt 6 (cfgM m (ok m)).N = resD m c := by
  refine (dats m (ok m) 0 c).arrAt_eq_of_cover 6 (resD m c) (fun t _ => ?_) fun i => ?_
  · show ((cfgM m (ok m)).win 6).cut (grid0.coords t) ((dats m (ok m) 0 c).after 6 t) = _
    rw [after0_6, left_d]
    funext y
    exact congrArg (resD m c) (emb_whole y (grid0.coords t) fun a => rfl).symm
  · have hN : 0 < grid0.N := by decide
    obtain ⟨t, -⟩ : ∃ t : Fin (cfgM m (ok m)).N, t = ⟨0, hN⟩ := ⟨_, rfl⟩
    refine ⟨t, flush0_6 (adm m (ok m)) t, ?_⟩
    exact mem_piece main_v1_1 _ i (Rect.mem_set_unit.mpr (in_block i t))

theorem final_m : (dats m (ok m) 0 c).arrAt 7 (cfgM m (ok m)).N = resM m c := by
  refine (dats m (ok m) 0 c).arrAt_eq_of_cover 7 (resM m c) (fun t _ => ?_) fun i => ?_
  · show ((cfgM m (ok m)).win 7).cut (grid0.coords t) ((dats m (ok m) 0 c).after 7 t) = _
    rw [after0_7, left_m]
    funext y
    exact congrArg (resM m c) (emb_whole y (grid0.coords t) fun a => rfl).symm
  · have hN : 0 < grid0.N := by decide
    obtain ⟨t, -⟩ : ∃ t : Fin (cfgM m (ok m)).N, t = ⟨0, hN⟩ := ⟨_, rfl⟩
    refine ⟨t, flush0_7 (adm m (ok m)) t, ?_⟩
    exact mem_piece main_v1_2 _ i (Rect.mem_set_unit.mpr (in_block i t))

theorem final_v : (dats m (ok m) 0 c).arrAt 8 (cfgM m (ok m)).N = resV m c := by
  refine (dats m (ok m) 0 c).arrAt_eq_of_cover 8 (resV m c) (fun t _ => ?_) fun i => ?_
  · show ((cfgM m (ok m)).win 8).cut (grid0.coords t) ((dats m (ok m) 0 c).after 8 t) = _
    rw [after0_8, left_v]
    funext y
    exact congrArg (resV m c) (emb_whole y (grid0.coords t) fun a => rfl).symm
  · have hN : 0 < grid0.N := by decide
    obtain ⟨t, -⟩ : ∃ t : Fin (cfgM m (ok m)).N, t = ⟨0, hN⟩ := ⟨_, rfl⟩
    refine ⟨t, flush0_8 (adm m (ok m)) t, ?_⟩
    exact mem_piece main_v1_3 _ i (Rect.mem_set_unit.mpr (in_block i t))

/-- The run, read: the results at the sum, the change and the moments, the arguments as they were. -/
theorem run (ρ : Dev nD → PrngReg) : θ_run defs (onTc (τ := τ) (main (F := F))) ⟨m, fun _ => 0, ρ⟩ fun r => ∀ c : Dev nD,
    r.2.mem ((c : Thread nD τ).loc main_v1_0) = resG m c
    ∧ r.2.mem ((c : Thread nD τ).loc main_v1_1) = resD m c
    ∧ r.2.mem ((c : Thread nD τ).loc main_v1_2) = resM m c
    ∧ r.2.mem ((c : Thread nD τ).loc main_v1_3) = resV m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨((h c).1 5).trans (final_g m c), ((h c).1 6).trans (final_d m c), ((h c).1 7).trans (final_m m c),
      ((h c).1 8).trans (final_v m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩) (run_main m ρ (ok m))

end Arrays

end Chip

end
-- ==== Proof.ChipClaims.lean ====
/- The claims about the optimiser's step on a weight whose gradient is summed over the chips. -/
module

public import proofs.«01_k».proof.Defs
public import proofs.«01_k».proof.Proof.ChipTile
public import proofs.«01_k».proof.Proof.Gen.Kernel6.Frame
public import proofs.«01_k».proof.Proof.Gen.Reference6Ideal.Read

@[expose] public section

set_option maxRecDepth 16384

noncomputable section

open Idealize.ShloMosaic Idealize.ShloMosaic.TcCoe Idealize.ShloMosaic.Tactic Idealize.SL.Sem

namespace Chip

namespace Whole

open Cert.Kernel6 Cert.Kernel6.Gen

variable {F : FTy → Type} [FloatOps F] (m : (ℓ : Loc nD τ sig) → Buf (Elt F) ℓ)

/-- The kernel as compiled, too: the table that the call is launched with holds the chip's index, zero. -/
theorem tbl_zero : tbl m 0 = fun _ => 0#32 := by
  show Cert.Kernel6.Gen.V m 0 main_v0 = _
  unfold Cert.Kernel6.Gen.V
  after_results_simp
  rfl

/-- So the call's own part is the first. -/
theorem own_part (i : grid0.Coords) : cc0_transform_0 inb_S1_S1_0 numel1_S1 (tbl m) i = ![0, 0, 0] := by
  unfold cc0_transform_0 Pipeline.Prefetch.Contents.at
  dsimp only
  rw [tbl_zero]
  have h : (i 0).val = 0 := by have := (i 0).isLt; show _ = _; have h : (i 0).val < 1 := this; omega
  rw [h]
  rfl

theorem ok : Ok m := by
  unfold Ok ok0
  intro i
  rw [own_part]
  exact ⟨by decide, .inr (Affine.block_words_dvd (of_decide_eq_true rfl) (by decide))⟩

end Whole

section Ref

open Cert.Reference6Ideal Cert.Reference6Ideal.Gen Cert.Reference6Ideal.Read

variable (p g : Vec Ideal S4x128x1024 .bf16) (w mo vo : Vec Ideal S1x128x1024 .f32)

/-- The kernel's sum, from zero and part by part, is the reference's. -/
theorem grad_ref : grad (part 0 p) (part 1 g) (part 2 g) (part 3 g) = val_main_v6 (F := Ideal) p g := by
  funext i
  rw [val_main_v6_apply, val_main_v1_apply, val_main_v0_apply, val_main_v5_apply, val_main_v4_apply, Fin.sum_univ_three,
    val_main_v3_apply, val_main_v3_apply, val_main_v3_apply, val_main_v2_apply, val_main_v2_apply, val_main_v2_apply]
  have h0 : (i 0).val < 1 := (i 0).isLt
  have e0 : idx_main_v0 i = fun a => match a with | ⟨0, _⟩ => (0 : Fin 4) | ⟨1, _⟩ => i 1 | ⟨2, _⟩ => i 2 := by
    funext a
    match a with
    | ⟨0, _⟩ => exact Fin.ext (show (i 0).val = 0 by omega)
    | ⟨1, _⟩ => rfl
    | ⟨2, _⟩ => rfl
  have e (k : Fin 3) (j : Fin 4) (h : 1 + k.val = j.val) :
      idx_main_v2 (idx_main_v4 (idx_main_v5 i) k) = fun a => match a with | ⟨0, _⟩ => j | ⟨1, _⟩ => i 1 | ⟨2, _⟩ => i 2 := by
    funext a
    match a with
    | ⟨0, _⟩ => exact Fin.ext h
    | ⟨1, _⟩ => rfl
    | ⟨2, _⟩ => rfl
  rw [e0, e 0 1 rfl, e 1 2 rfl, e 2 3 rfl]
  generalize hp : p (fun a => match a with | ⟨0, _⟩ => (0 : Fin 4) | ⟨1, _⟩ => i 1 | ⟨2, _⟩ => i 2) = x
  generalize hx : g (fun a => match a with | ⟨0, _⟩ => (1 : Fin 4) | ⟨1, _⟩ => i 1 | ⟨2, _⟩ => i 2) = x1
  generalize hy : g (fun a => match a with | ⟨0, _⟩ => (2 : Fin 4) | ⟨1, _⟩ => i 1 | ⟨2, _⟩ => i 2) = x2
  generalize hz : g (fun a => match a with | ⟨0, _⟩ => (3 : Fin 4) | ⟨1, _⟩ => i 1 | ⟨2, _⟩ => i 2) = x3
  have l : grad (part 0 p) (part 1 g) (part 2 g) (part 3 g) i = Ideal.ofBits .f32 0x00000000#32 + x + x1 + x2 + x3 := by
    rw [← hp, ← hx, ← hy, ← hz]; rfl
  rw [l]
  show _ = x + (Ideal.ofBits .f32 0x00000000#32 + (x1 + x2 + x3))
  rw [Ideal.ofBits_zero_f32, zero_add, zero_add]
  simp only [add_assoc]

theorem newM_ref : val_main_v11 (F := Ideal) p g mo = newM (F := Ideal) (val_main_v6 (F := Ideal) p g) mo := funext fun _ => rfl
theorem newV_ref : val_main_v17 (F := Ideal) p g vo = newV (F := Ideal) (val_main_v6 (F := Ideal) p g) vo := funext fun _ => rfl
theorem change_ref : val_main_v30 (F := Ideal) p g w mo vo = change (F := Ideal) w (val_main_v6 (F := Ideal) p g) mo vo := funext fun _ => rfl

end Ref

theorem frame_kernel : Cert.quiescent_Kernel6 := fun m ρ _ => Cert.Kernel6.Gen.frame m ρ (Whole.ok m)

theorem frame_ideal : Cert.quiescent_Kernel6Ideal := fun m ρ _ => Cert.Kernel6Ideal.Gen.frame m ρ (ok m)

theorem frame_ref : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The kernel's sum, change and moments are the reference's. -/
theorem value : Cert.algebraic_Kernel6Ideal_Reference6Ideal := by
  intro m g m' g' _ hagree
  refine ⟨resG m, resD m, resM m, resV m, run m g, ?_⟩
  refine (θ_run Cert.Reference6Ideal.defs _ _).mono (fun r h c => ?_) (Cert.Reference6Ideal.Value.run (F := Ideal) m' g')
  obtain ⟨e0, e1, e2, e3, e4⟩ := hagree c
  obtain ⟨r0, r1, r2, r3, rest⟩ := h c
  have eg : resG m c = Cert.Reference6Ideal.Read.val_main_v6 (F := Ideal) (aP m c) (aG m c) := grad_ref _ _
  refine ⟨r0.trans ?_, r1.trans ?_, r2.trans ?_, r3.trans ?_, rest⟩
  · rw [Cert.Reference6Ideal.Read.val_main_v6_eq, e0, e1]
    exact eg.symm
  · rw [Cert.Reference6Ideal.Read.val_main_v30_eq, e0, e1, e2, e3, e4, change_ref]
    unfold resD
    rw [eg]
  · rw [Cert.Reference6Ideal.Read.val_main_v11_eq, e0, e1, e3, newM_ref]
    unfold resM
    rw [eg]
  · rw [Cert.Reference6Ideal.Read.val_main_v17_eq, e0, e1, e4, newV_ref]
    unfold resV
    rw [eg]

end Chip

end
-- ==== Proof.lean ====
module

public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_projection
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_block
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Pre_finite_inputs
public import proofs.«01_k».proof.Proof.AttnClaims
public import proofs.«01_k».proof.Proof.FfnClaims
public import proofs.«01_k».proof.Proof.MemClaims
public import proofs.«01_k».proof.Proof.ProjClaims
public import proofs.«01_k».proof.Proof.SmallClaims
public import proofs.«01_k».proof.Proof.ChipClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_scores.Gen.facts, Cert.Pre_finite_inputs.Gen.facts, Cert.Pre_finite_block.Gen.facts,
    Cert.Pre_finite_projection.Gen.facts,
    Attn.frame_kernel, Attn.frame_ideal, Attn.frame_ideal_pre, Attn.frame_ref, Attn.frame_ref_pre,
    Ffn.frame_kernel, Ffn.frame_ideal, Ffn.frame_ideal_pre, Ffn.frame_ref, Ffn.frame_ref_pre,
    Mem.frame_kernel, Mem.frame_ideal, Mem.frame_ideal_pre, Mem.frame_ref, Mem.frame_ref_pre,
    Proj.frame_kernel, Proj.frame_ideal, Proj.frame_ideal_pre, Proj.frame_ref, Proj.frame_ref_pre,
    Small.Vecs.frame_kernel, Small.Vecs.frame_ideal, Small.Vecs.frame_ref,
    Chip.frame_kernel, Chip.frame_ideal, Chip.frame_ref,
    Small.Gate.frame_kernel, Small.Gate.frame_ideal, Small.Gate.frame_ref,
    trivial, Attn.value, trivial, Ffn.value, trivial, Mem.value, trivial, Proj.value, trivial, Small.Vecs.value,
    trivial, Chip.value, trivial, Small.Gate.value⟩

end Cert.Proof

end
